-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v909_1) = v0 c
          ∧ r.2.mem ((c.tc : Thread Cert.ReferenceIdeal.nD Cert.ReferenceIdeal.τ).loc Cert.ReferenceIdeal.main_v916) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v909_1) = v0 c
          ∧ r.2.mem ((c.tc : Thread Cert.Reference.nD Cert.Reference.τ).loc Cert.Reference.main_v916) = v1 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S32x8192x64 : Shape := ⟨3, ![32, 8192, 64]⟩
abbrev S32x8192 : Shape := ⟨2, ![32, 8192]⟩
abbrev S8192 : Shape := ⟨1, ![8192]⟩
abbrev S4096 : Shape := ⟨1, ![4096]⟩
abbrev S16 : Shape := ⟨1, ![16]⟩
abbrev S1 : Shape := ⟨1, ![1]⟩
abbrev S_ : Shape := ⟨0, ![]⟩
abbrev S1x8192 : Shape := ⟨2, ![1, 8192]⟩

abbrev nBuf : Table → Nat
  | .hbm => 3
  | .local .scVector .vmem => 5
  | _ => 0

abbrev bufTy : (tb : Table) → Fin (nBuf tb) → BufTy
  | .hbm, ⟨0, _⟩ => ⟨S32x8192x64, .f32⟩
  | .hbm, ⟨1, _⟩ => ⟨S32x8192, .i32⟩
  | .hbm, ⟨2, _⟩ => ⟨S32x8192, .i32⟩
  | .local .scVector .vmem, ⟨0, _⟩ => ⟨S8192, .i32⟩
  | .local .scVector .vmem, ⟨1, _⟩ => ⟨S8192, .i32⟩
  | .local .scVector .vmem, ⟨2, _⟩ => ⟨S8192, .i32⟩
  | .local .scVector .vmem, ⟨3, _⟩ => ⟨S8192, .i32⟩
  | .local .scVector .vmem, ⟨4, _⟩ => ⟨S4096, .i32⟩
  | _, _ => ⟨S32x8192x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_0_scv : Ref sig .scVector := ⟨.hbm, 1, rfl⟩
abbrev main_v0_1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_172 : BitVec 32 := 0#32
  let c128_i32 : BitVec 32 := 128#32
  let v670 : BitVec 32 := Scalar.addi c0_i32_172 c128_i32
  let c1_i32_173 : BitVec 32 := 1#32
  ⟨c0_i32_172, v670, c1_i32_173⟩
def k0_off1 (k0_t1 : Fin k0_t1_loop.trips) (c0_i32_975 : BitVec 32) : Fin 1 → Nat :=
  let c0_i32_172 : BitVec 32 := 0#32
  let c1_i32_173 : BitVec 32 := 1#32
  let arg9 : BitVec 32 := Scf.iv c0_i32_172 c1_i32_173 k0_t1
  let c4_i32_974 : BitVec 32 := 4#32
  let v2028 : BitVec 32 := Scalar.muli arg9 c4_i32_974
  let v2029 : BitVec 32 := Scalar.addi v2028 c0_i32_975
  let c16_i32_1022 : BitVec 32 := 16#32
  let v2197 : BitVec 32 := Scalar.muli v2029 c16_i32_1022
  let v2198 : Index := Scalar.indexCast v2197
  ![v2198.toNat]
@[reducible] def k0_t2_loop : Scf.Loop 32 :=
  let c0_i32_178 : BitVec 32 := 0#32
  let c32_i32 : BitVec 32 := 32#32
  let v674 : BitVec 32 := Scalar.addi c0_i32_178 c32_i32
  let c1_i32_179 : BitVec 32 := 1#32
  ⟨c0_i32_178, v674, c1_i32_179⟩
def k0_off2 (k0_t2 : Fin k0_t2_loop.trips) (c0_i32_975 : BitVec 32) : Fin 1 → Nat :=
  let c0_i32_178 : BitVec 32 := 0#32
  let c1_i32_179 : BitVec 32 := 1#32
  let arg9 : BitVec 32 := Scf.iv c0_i32_178 c1_i32_179 k0_t2
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t3_loop : Scf.Loop 32 :=
  let c0_i32_206 : BitVec 32 := 0#32
  let c63_i32 : BitVec 32 := 63#32
  let v740 : BitVec 32 := Scalar.addi c0_i32_206 c63_i32
  let c1_i32_207 : BitVec 32 := 1#32
  ⟨c0_i32_206, v740, c1_i32_207⟩
def k0_off3 (k0_t3 : Fin k0_t3_loop.trips) (c0_i32_976 : BitVec 32) : Fin 1 → Nat :=
  let c0_i32_206 : BitVec 32 := 0#32
  let c1_i32_207 : BitVec 32 := 1#32
  let arg9 : BitVec 32 := Scf.iv c0_i32_206 c1_i32_207 k0_t3
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk1 (arg10 : IVec S16 32) : Prop :=
  (∀ a x, ((![arg10] : Fin 1 → IVec S16 32) a x).toNat < S4096.size a)
theorem k0_idx1_inb : ∀ (arg10 : IVec S16 32) (k0_hw1 : k0_chk1 arg10), ∀ a x, ((![arg10] : Fin 1 → IVec S16 32) a x).toNat < S4096.size a := fun arg10 k0_hw1 => k0_hw1

def k0_chk2 (arg11 : IVec S16 32) : Prop :=
  (∀ a x, ((![arg11] : Fin 1 → IVec S16 32) a x).toNat < S4096.size a)
theorem k0_idx2_inb : ∀ (arg11 : IVec S16 32) (k0_hw2 : k0_chk2 arg11), ∀ a x, ((![arg11] : Fin 1 → IVec S16 32) a x).toNat < S4096.size a := fun arg11 k0_hw2 => k0_hw2

def k0_chk3 (arg12 : IVec S16 32) : Prop :=
  (∀ a x, ((![arg12] : Fin 1 → IVec S16 32) a x).toNat < S4096.size a)
theorem k0_idx3_inb : ∀ (arg12 : IVec S16 32) (k0_hw3 : k0_chk3 arg12), ∀ a x, ((![arg12] : Fin 1 → IVec S16 32) a x).toNat < S4096.size a := fun arg12 k0_hw3 => k0_hw3

def k0_chk4 (arg13 : IVec S16 32) : Prop :=
  (∀ a x, ((![arg13] : Fin 1 → IVec S16 32) a x).toNat < S4096.size a)
theorem k0_idx4_inb : ∀ (arg13 : IVec S16 32) (k0_hw4 : k0_chk4 arg13), ∀ a x, ((![arg13] : Fin 1 → IVec S16 32) a x).toNat < S4096.size a := fun arg13 k0_hw4 => k0_hw4

def k0_chk5 (arg14 : IVec S16 32) : Prop :=
  (∀ a x, ((![arg14] : Fin 1 → IVec S16 32) a x).toNat < S4096.size a)
theorem k0_idx5_inb : ∀ (arg14 : IVec S16 32) (k0_hw5 : k0_chk5 arg14), ∀ a x, ((![arg14] : Fin 1 → IVec S16 32) a x).toNat < S4096.size a := fun arg14 k0_hw5 => k0_hw5

def k0_chk6 (arg15 : IVec S16 32) : Prop :=
  (∀ a x, ((![arg15] : Fin 1 → IVec S16 32) a x).toNat < S4096.size a)
theorem k0_idx6_inb : ∀ (arg15 : IVec S16 32) (k0_hw6 : k0_chk6 arg15), ∀ a x, ((![arg15] : Fin 1 → IVec S16 32) a x).toNat < S4096.size a := fun arg15 k0_hw6 => k0_hw6

def k0_chk7 (arg16 : IVec S16 32) : Prop :=
  (∀ a x, ((![arg16] : Fin 1 → IVec S16 32) a x).toNat < S4096.size a)
theorem k0_idx7_inb : ∀ (arg16 : IVec S16 32) (k0_hw7 : k0_chk7 arg16), ∀ a x, ((![arg16] : Fin 1 → IVec S16 32) a x).toNat < S4096.size a := fun arg16 k0_hw7 => k0_hw7

def k0_chk8 (arg17 : IVec S16 32) : Prop :=
  (∀ a x, ((![arg17] : Fin 1 → IVec S16 32) a x).toNat < S4096.size a)
theorem k0_idx8_inb : ∀ (arg17 : IVec S16 32) (k0_hw8 : k0_chk8 arg17), ∀ a x, ((![arg17] : Fin 1 → IVec S16 32) a x).toNat < S4096.size a := fun arg17 k0_hw8 => k0_hw8

def k0_chk9 (v741_0 : IVec S16 32) : Prop :=
  (∀ a x, ((![v741_0] : Fin 1 → IVec S16 32) a x).toNat < S4096.size a)
theorem k0_idx9_inb : ∀ (v741_0 : IVec S16 32) (k0_hw9 : k0_chk9 v741_0), ∀ a x, ((![v741_0] : Fin 1 → IVec S16 32) a x).toNat < S4096.size a := fun v741_0 k0_hw9 => k0_hw9

def k0_chk10 (v741_1 : IVec S16 32) : Prop :=
  (∀ a x, ((![v741_1] : Fin 1 → IVec S16 32) a x).toNat < S4096.size a)
theorem k0_idx10_inb : ∀ (v741_1 : IVec S16 32) (k0_hw10 : k0_chk10 v741_1), ∀ a x, ((![v741_1] : Fin 1 → IVec S16 32) a x).toNat < S4096.size a := fun v741_1 k0_hw10 => k0_hw10

def k0_chk11 (v741_2 : IVec S16 32) : Prop :=
  (∀ a x, ((![v741_2] : Fin 1 → IVec S16 32) a x).toNat < S4096.size a)
theorem k0_idx11_inb : ∀ (v741_2 : IVec S16 32) (k0_hw11 : k0_chk11 v741_2), ∀ a x, ((![v741_2] : Fin 1 → IVec S16 32) a x).toNat < S4096.size a := fun v741_2 k0_hw11 => k0_hw11

def k0_chk12 (v741_3 : IVec S16 32) : Prop :=
  (∀ a x, ((![v741_3] : Fin 1 → IVec S16 32) a x).toNat < S4096.size a)
theorem k0_idx12_inb : ∀ (v741_3 : IVec S16 32) (k0_hw12 : k0_chk12 v741_3), ∀ a x, ((![v741_3] : Fin 1 → IVec S16 32) a x).toNat < S4096.size a := fun v741_3 k0_hw12 => k0_hw12

def k0_chk13 (v741_4 : IVec S16 32) : Prop :=
  (∀ a x, ((![v741_4] : Fin 1 → IVec S16 32) a x).toNat < S4096.size a)
theorem k0_idx13_inb : ∀ (v741_4 : IVec S16 32) (k0_hw13 : k0_chk13 v741_4), ∀ a x, ((![v741_4] : Fin 1 → IVec S16 32) a x).toNat < S4096.size a := fun v741_4 k0_hw13 => k0_hw13

def k0_chk14 (v741_5 : IVec S16 32) : Prop :=
  (∀ a x, ((![v741_5] : Fin 1 → IVec S16 32) a x).toNat < S4096.size a)
theorem k0_idx14_inb : ∀ (v741_5 : IVec S16 32) (k0_hw14 : k0_chk14 v741_5), ∀ a x, ((![v741_5] : Fin 1 → IVec S16 32) a x).toNat < S4096.size a := fun v741_5 k0_hw14 => k0_hw14

def k0_chk15 (v741_6 : IVec S16 32) : Prop :=
  (∀ a x, ((![v741_6] : Fin 1 → IVec S16 32) a x).toNat < S4096.size a)
theorem k0_idx15_inb : ∀ (v741_6 : IVec S16 32) (k0_hw15 : k0_chk15 v741_6), ∀ a x, ((![v741_6] : Fin 1 → IVec S16 32) a x).toNat < S4096.size a := fun v741_6 k0_hw15 => k0_hw15

def k0_chk16 (v741_7 : IVec S16 32) : Prop :=
  (∀ a x, ((![v741_7] : Fin 1 → IVec S16 32) a x).toNat < S4096.size a)
theorem k0_idx16_inb : ∀ (v741_7 : IVec S16 32) (k0_hw16 : k0_chk16 v741_7), ∀ a x, ((![v741_7] : Fin 1 → IVec S16 32) a x).toNat < S4096.size a := fun v741_7 k0_hw16 => k0_hw16
@[reducible] def k0_t4_loop : Scf.Loop 32 :=
  let c0_i32_210 : BitVec 32 := 0#32
  let c32_i32_211 : BitVec 32 := 32#32
  let v742 : BitVec 32 := Scalar.addi c0_i32_210 c32_i32_211
  let c1_i32_212 : BitVec 32 := 1#32
  ⟨c0_i32_210, v742, c1_i32_212⟩
def k0_off4 (k0_t4 : Fin k0_t4_loop.trips) (c0_i32_975 : BitVec 32) : Fin 1 → Nat :=
  let c0_i32_210 : BitVec 32 := 0#32
  let c1_i32_212 : BitVec 32 := 1#32
  let arg9 : BitVec 32 := Scf.iv c0_i32_210 c1_i32_212 k0_t4
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t5_loop : Scf.Loop 32 :=
  let c0_i32_238 : BitVec 32 := 0#32
  let c127_i32 : BitVec 32 := 127#32
  let v784 : BitVec 32 := Scalar.addi c0_i32_238 c127_i32
  let c1_i32_239 : BitVec 32 := 1#32
  ⟨c0_i32_238, v784, c1_i32_239⟩
def k0_off5 (k0_t5 : Fin k0_t5_loop.trips) (c0_i32_976 : BitVec 32) : Fin 1 → Nat :=
  let c0_i32_238 : BitVec 32 := 0#32
  let c1_i32_239 : BitVec 32 := 1#32
  let arg9 : BitVec 32 := Scf.iv c0_i32_238 c1_i32_239 k0_t5
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk17 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx17_inb : ∀ (arg18 : IVec S16 32) (k0_hw17 : k0_chk17 arg18), ∀ a x, ((![arg18] : Fin 1 → IVec S16 32) a x).toNat < S4096.size a := fun arg18 k0_hw17 => k0_hw17.1
theorem k0_idx21_inb : ∀ (arg18 : IVec S16 32) (k0_hw17 : k0_chk17 arg18), ∀ a x, ((![arg18] : Fin 1 → IVec S16 32) a x).toNat < S4096.size a := fun arg18 k0_hw17 => k0_hw17.2

def k0_chk18 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx18_inb : ∀ (arg19 : IVec S16 32) (k0_hw18 : k0_chk18 arg19), ∀ a x, ((![arg19] : Fin 1 → IVec S16 32) a x).toNat < S4096.size a := fun arg19 k0_hw18 => k0_hw18.1
theorem k0_idx22_inb : ∀ (arg19 : IVec S16 32) (k0_hw18 : k0_chk18 arg19), ∀ a x, ((![arg19] : Fin 1 → IVec S16 32) a x).toNat < S4096.size a := fun arg19 k0_hw18 => k0_hw18.2

def k0_chk19 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx19_inb : ∀ (arg20 : IVec S16 32) (k0_hw19 : k0_chk19 arg20), ∀ a x, ((![arg20] : Fin 1 → IVec S16 32) a x).toNat < S4096.size a := fun arg20 k0_hw19 => k0_hw19.1
theorem k0_idx23_inb : ∀ (arg20 : IVec S16 32) (k0_hw19 : k0_chk19 arg20), ∀ a x, ((![arg20] : Fin 1 → IVec S16 32) a x).toNat < S4096.size a := fun arg20 k0_hw19 => k0_hw19.2

def k0_chk20 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx20_inb : ∀ (arg21 : IVec S16 32) (k0_hw20 : k0_chk20 arg21), ∀ a x, ((![arg21] : Fin 1 → IVec S16 32) a x).toNat < S4096.size a := fun arg21 k0_hw20 => k0_hw20.1
theorem k0_idx24_inb : ∀ (arg21 : IVec S16 32) (k0_hw20 : k0_chk20 arg21), ∀ a x, ((![arg21] : Fin 1 → IVec S16 32) a x).toNat < S4096.size a := fun arg21 k0_hw20 => k0_hw20.2

def k0_chk21 (v2125 : IVec S16 32) : Prop :=
  (∀ a x, ((![v2125] : Fin 1 → IVec S16 32) a x).toNat < S8192.size a) ∧
  (∀ a x, ((![v2125] : Fin 1 → IVec S16 32) a x).toNat < S8192.size a)
theorem k0_idx25_inb : ∀ (v2125 : IVec S16 32) (k0_hw21 : k0_chk21 v2125), ∀ a x, ((![v2125] : Fin 1 → IVec S16 32) a x).toNat < S8192.size a := fun v2125 k0_hw21 => k0_hw21.1
theorem k0_idx26_inb : ∀ (v2125 : IVec S16 32) (k0_hw21 : k0_chk21 v2125), ∀ a x, ((![v2125] : Fin 1 → IVec S16 32) a x).toNat < S8192.size a := fun v2125 k0_hw21 => k0_hw21.2

def k0_chk22 (v2132 : IVec S16 32) : Prop :=
  (∀ a x, ((![v2132] : Fin 1 → IVec S16 32) a x).toNat < S8192.size a) ∧
  (∀ a x, ((![v2132] : Fin 1 → IVec S16 32) a x).toNat < S8192.size a)
theorem k0_idx27_inb : ∀ (v2132 : IVec S16 32) (k0_hw22 : k0_chk22 v2132), ∀ a x, ((![v2132] : Fin 1 → IVec S16 32) a x).toNat < S8192.size a := fun v2132 k0_hw22 => k0_hw22.1
theorem k0_idx28_inb : ∀ (v2132 : IVec S16 32) (k0_hw22 : k0_chk22 v2132), ∀ a x, ((![v2132] : Fin 1 → IVec S16 32) a x).toNat < S8192.size a := fun v2132 k0_hw22 => k0_hw22.2

def k0_chk23 (v2139 : IVec S16 32) : Prop :=
  (∀ a x, ((![v2139] : Fin 1 → IVec S16 32) a x).toNat < S8192.size a) ∧
  (∀ a x, ((![v2139] : Fin 1 → IVec S16 32) a x).toNat < S8192.size a)
theorem k0_idx29_inb : ∀ (v2139 : IVec S16 32) (k0_hw23 : k0_chk23 v2139), ∀ a x, ((![v2139] : Fin 1 → IVec S16 32) a x).toNat < S8192.size a := fun v2139 k0_hw23 => k0_hw23.1
theorem k0_idx30_inb : ∀ (v2139 : IVec S16 32) (k0_hw23 : k0_chk23 v2139), ∀ a x, ((![v2139] : Fin 1 → IVec S16 32) a x).toNat < S8192.size a := fun v2139 k0_hw23 => k0_hw23.2

def k0_chk24 (v2146 : IVec S16 32) : Prop :=
  (∀ a x, ((![v2146] : Fin 1 → IVec S16 32) a x).toNat < S8192.size a) ∧
  (∀ a x, ((![v2146] : Fin 1 → IVec S16 32) a x).toNat < S8192.size a)
theorem k0_idx31_inb : ∀ (v2146 : IVec S16 32) (k0_hw24 : k0_chk24 v2146), ∀ a x, ((![v2146] : Fin 1 → IVec S16 32) a x).toNat < S8192.size a := fun v2146 k0_hw24 => k0_hw24.1
theorem k0_idx32_inb : ∀ (v2146 : IVec S16 32) (k0_hw24 : k0_chk24 v2146), ∀ a x, ((![v2146] : Fin 1 → IVec S16 32) a x).toNat < S8192.size a := fun v2146 k0_hw24 => k0_hw24.2

def k0_chk25 (v785_8 : IVec S16 32) : Prop :=
  (∀ a x, ((![v785_8] : Fin 1 → IVec S16 32) a x).toNat < S4096.size a) ∧
  (∀ a x, ((![v785_8] : Fin 1 → IVec S16 32) a x).toNat < S4096.size a)
theorem k0_idx33_inb : ∀ (v785_8 : IVec S16 32) (k0_hw25 : k0_chk25 v785_8), ∀ a x, ((![v785_8] : Fin 1 → IVec S16 32) a x).toNat < S4096.size a := fun v785_8 k0_hw25 => k0_hw25.1
theorem k0_idx37_inb : ∀ (v785_8 : IVec S16 32) (k0_hw25 : k0_chk25 v785_8), ∀ a x, ((![v785_8] : Fin 1 → IVec S16 32) a x).toNat < S4096.size a := fun v785_8 k0_hw25 => k0_hw25.2

def k0_chk26 (v785_9 : IVec S16 32) : Prop :=
  (∀ a x, ((![v785_9] : Fin 1 → IVec S16 32) a x).toNat < S4096.size a) ∧
  (∀ a x, ((![v785_9] : Fin 1 → IVec S16 32) a x).toNat < S4096.size a)
theorem k0_idx34_inb : ∀ (v785_9 : IVec S16 32) (k0_hw26 : k0_chk26 v785_9), ∀ a x, ((![v785_9] : Fin 1 → IVec S16 32) a x).toNat < S4096.size a := fun v785_9 k0_hw26 => k0_hw26.1
theorem k0_idx38_inb : ∀ (v785_9 : IVec S16 32) (k0_hw26 : k0_chk26 v785_9), ∀ a x, ((![v785_9] : Fin 1 → IVec S16 32) a x).toNat < S4096.size a := fun v785_9 k0_hw26 => k0_hw26.2

def k0_chk27 (v785_10 : IVec S16 32) : Prop :=
  (∀ a x, ((![v785_10] : Fin 1 → IVec S16 32) a x).toNat < S4096.size a) ∧
  (∀ a x, ((![v785_10] : Fin 1 → IVec S16 32) a x).toNat < S4096.size a)
theorem k0_idx35_inb : ∀ (v785_10 : IVec S16 32) (k0_hw27 : k0_chk27 v785_10), ∀ a x, ((![v785_10] : Fin 1 → IVec S16 32) a x).toNat < S4096.size a := fun v785_10 k0_hw27 => k0_hw27.1
theorem k0_idx39_inb : ∀ (v785_10 : IVec S16 32) (k0_hw27 : k0_chk27 v785_10), ∀ a x, ((![v785_10] : Fin 1 → IVec S16 32) a x).toNat < S4096.size a := fun v785_10 k0_hw27 => k0_hw27.2

def k0_chk28 (v785_11 : IVec S16 32) : Prop :=
  (∀ a x, ((![v785_11] : Fin 1 → IVec S16 32) a x).toNat < S4096.size a) ∧
  (∀ a x, ((![v785_11] : Fin 1 → IVec S16 32) a x).toNat < S4096.size a)
theorem k0_idx36_inb : ∀ (v785_11 : IVec S16 32) (k0_hw28 : k0_chk28 v785_11), ∀ a x, ((![v785_11] : Fin 1 → IVec S16 32) a x).toNat < S4096.size a := fun v785_11 k0_hw28 => k0_hw28.1
theorem k0_idx40_inb : ∀ (v785_11 : IVec S16 32) (k0_hw28 : k0_chk28 v785_11), ∀ a x, ((![v785_11] : Fin 1 → IVec S16 32) a x).toNat < S4096.size a := fun v785_11 k0_hw28 => k0_hw28.2

def k0_chk29 (v826 : IVec S16 32) : Prop :=
  (∀ a x, ((![v826] : Fin 1 → IVec S16 32) a x).toNat < S8192.size a) ∧
  (∀ a x, ((![v826] : Fin 1 → IVec S16 32) a x).toNat < S8192.size a)
theorem k0_idx41_inb : ∀ (v826 : IVec S16 32) (k0_hw29 : k0_chk29 v826), ∀ a x, ((![v826] : Fin 1 → IVec S16 32) a x).toNat < S8192.size a := fun v826 k0_hw29 => k0_hw29.1
theorem k0_idx42_inb : ∀ (v826 : IVec S16 32) (k0_hw29 : k0_chk29 v826), ∀ a x, ((![v826] : Fin 1 → IVec S16 32) a x).toNat < S8192.size a := fun v826 k0_hw29 => k0_hw29.2

def k0_chk30 (v833 : IVec S16 32) : Prop :=
  (∀ a x, ((![v833] : Fin 1 → IVec S16 32) a x).toNat < S8192.size a) ∧
  (∀ a x, ((![v833] : Fin 1 → IVec S16 32) a x).toNat < S8192.size a)
theorem k0_idx43_inb : ∀ (v833 : IVec S16 32) (k0_hw30 : k0_chk30 v833), ∀ a x, ((![v833] : Fin 1 → IVec S16 32) a x).toNat < S8192.size a := fun v833 k0_hw30 => k0_hw30.1
theorem k0_idx44_inb : ∀ (v833 : IVec S16 32) (k0_hw30 : k0_chk30 v833), ∀ a x, ((![v833] : Fin 1 → IVec S16 32) a x).toNat < S8192.size a := fun v833 k0_hw30 => k0_hw30.2

def k0_chk31 (v840 : IVec S16 32) : Prop :=
  (∀ a x, ((![v840] : Fin 1 → IVec S16 32) a x).toNat < S8192.size a) ∧
  (∀ a x, ((![v840] : Fin 1 → IVec S16 32) a x).toNat < S8192.size a)
theorem k0_idx45_inb : ∀ (v840 : IVec S16 32) (k0_hw31 : k0_chk31 v840), ∀ a x, ((![v840] : Fin 1 → IVec S16 32) a x).toNat < S8192.size a := fun v840 k0_hw31 => k0_hw31.1
theorem k0_idx46_inb : ∀ (v840 : IVec S16 32) (k0_hw31 : k0_chk31 v840), ∀ a x, ((![v840] : Fin 1 → IVec S16 32) a x).toNat < S8192.size a := fun v840 k0_hw31 => k0_hw31.2

def k0_chk32 (v847 : IVec S16 32) : Prop :=
  (∀ a x, ((![v847] : Fin 1 → IVec S16 32) a x).toNat < S8192.size a) ∧
  (∀ a x, ((![v847] : Fin 1 → IVec S16 32) a x).toNat < S8192.size a)
theorem k0_idx47_inb : ∀ (v847 : IVec S16 32) (k0_hw32 : k0_chk32 v847), ∀ a x, ((![v847] : Fin 1 → IVec S16 32) a x).toNat < S8192.size a := fun v847 k0_hw32 => k0_hw32.1
theorem k0_idx48_inb : ∀ (v847 : IVec S16 32) (k0_hw32 : k0_chk32 v847), ∀ a x, ((![v847] : Fin 1 → IVec S16 32) a x).toNat < S8192.size a := fun v847 k0_hw32 => k0_hw32.2
@[reducible] def k0_t6_loop : Scf.Loop 32 :=
  let c0_i32_266 : BitVec 32 := 0#32
  let c32_i32_267 : BitVec 32 := 32#32
  let v850 : BitVec 32 := Scalar.addi c0_i32_266 c32_i32_267
  let c1_i32_268 : BitVec 32 := 1#32
  ⟨c0_i32_266, v850, c1_i32_268⟩
def k0_off6 (k0_t6 : Fin k0_t6_loop.trips) (c0_i32_975 : BitVec 32) : Fin 1 → Nat :=
  let c0_i32_266 : BitVec 32 := 0#32
  let c1_i32_268 : BitVec 32 := 1#32
  let arg9 : BitVec 32 := Scf.iv c0_i32_266 c1_i32_268 k0_t6
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t7_loop : Scf.Loop 32 :=
  let c0_i32_304 : BitVec 32 := 0#32
  let c63_i32_305 : BitVec 32 := 63#32
  let v916 : BitVec 32 := Scalar.addi c0_i32_304 c63_i32_305
  let c1_i32_306 : BitVec 32 := 1#32
  ⟨c0_i32_304, v916, c1_i32_306⟩
def k0_off7 (k0_t7 : Fin k0_t7_loop.trips) (c0_i32_976 : BitVec 32) : Fin 1 → Nat :=
  let c0_i32_304 : BitVec 32 := 0#32
  let c1_i32_306 : BitVec 32 := 1#32
  let arg9 : BitVec 32 := Scf.iv c0_i32_304 c1_i32_306 k0_t7
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk33 (arg10 : IVec S16 32) : Prop :=
  (∀ a x, ((![arg10] : Fin 1 → IVec S16 32) a x).toNat < S4096.size a)
theorem k0_idx49_inb : ∀ (arg10 : IVec S16 32) (k0_hw33 : k0_chk33 arg10), ∀ a x, ((![arg10] : Fin 1 → IVec S16 32) a x).toNat < S4096.size a := fun arg10 k0_hw33 => k0_hw33

def k0_chk34 (arg11 : IVec S16 32) : Prop :=
  (∀ a x, ((![arg11] : Fin 1 → IVec S16 32) a x).toNat < S4096.size a)
theorem k0_idx50_inb : ∀ (arg11 : IVec S16 32) (k0_hw34 : k0_chk34 arg11), ∀ a x, ((![arg11] : Fin 1 → IVec S16 32) a x).toNat < S4096.size a := fun arg11 k0_hw34 => k0_hw34

def k0_chk35 (arg12 : IVec S16 32) : Prop :=
  (∀ a x, ((![arg12] : Fin 1 → IVec S16 32) a x).toNat < S4096.size a)
theorem k0_idx51_inb : ∀ (arg12 : IVec S16 32) (k0_hw35 : k0_chk35 arg12), ∀ a x, ((![arg12] : Fin 1 → IVec S16 32) a x).toNat < S4096.size a := fun arg12 k0_hw35 => k0_hw35

def k0_chk36 (arg13 : IVec S16 32) : Prop :=
  (∀ a x, ((![arg13] : Fin 1 → IVec S16 32) a x).toNat < S4096.size a)
theorem k0_idx52_inb : ∀ (arg13 : IVec S16 32) (k0_hw36 : k0_chk36 arg13), ∀ a x, ((![arg13] : Fin 1 → IVec S16 32) a x).toNat < S4096.size a := fun arg13 k0_hw36 => k0_hw36

def k0_chk37 (arg14 : IVec S16 32) : Prop :=
  (∀ a x, ((![arg14] : Fin 1 → IVec S16 32) a x).toNat < S4096.size a)
theorem k0_idx53_inb : ∀ (arg14 : IVec S16 32) (k0_hw37 : k0_chk37 arg14), ∀ a x, ((![arg14] : Fin 1 → IVec S16 32) a x).toNat < S4096.size a := fun arg14 k0_hw37 => k0_hw37

def k0_chk38 (arg15 : IVec S16 32) : Prop :=
  (∀ a x, ((![arg15] : Fin 1 → IVec S16 32) a x).toNat < S4096.size a)
theorem k0_idx54_inb : ∀ (arg15 : IVec S16 32) (k0_hw38 : k0_chk38 arg15), ∀ a x, ((![arg15] : Fin 1 → IVec S16 32) a x).toNat < S4096.size a := fun arg15 k0_hw38 => k0_hw38

def k0_chk39 (arg16 : IVec S16 32) : Prop :=
  (∀ a x, ((![arg16] : Fin 1 → IVec S16 32) a x).toNat < S4096.size a)
theorem k0_idx55_inb : ∀ (arg16 : IVec S16 32) (k0_hw39 : k0_chk39 arg16), ∀ a x, ((![arg16] : Fin 1 → IVec S16 32) a x).toNat < S4096.size a := fun arg16 k0_hw39 => k0_hw39

def k0_chk40 (arg17 : IVec S16 32) : Prop :=
  (∀ a x, ((![arg17] : Fin 1 → IVec S16 32) a x).toNat < S4096.size a)
theorem k0_idx56_inb : ∀ (arg17 : IVec S16 32) (k0_hw40 : k0_chk40 arg17), ∀ a x, ((![arg17] : Fin 1 → IVec S16 32) a x).toNat < S4096.size a := fun arg17 k0_hw40 => k0_hw40

def k0_chk41 (v917_0 : IVec S16 32) : Prop :=
  (∀ a x, ((![v917_0] : Fin 1 → IVec S16 32) a x).toNat < S4096.size a)
theorem k0_idx57_inb : ∀ (v917_0 : IVec S16 32) (k0_hw41 : k0_chk41 v917_0), ∀ a x, ((![v917_0] : Fin 1 → IVec S16 32) a x).toNat < S4096.size a := fun v917_0 k0_hw41 => k0_hw41

def k0_chk42 (v917_1 : IVec S16 32) : Prop :=
  (∀ a x, ((![v917_1] : Fin 1 → IVec S16 32) a x).toNat < S4096.size a)
theorem k0_idx58_inb : ∀ (v917_1 : IVec S16 32) (k0_hw42 : k0_chk42 v917_1), ∀ a x, ((![v917_1] : Fin 1 → IVec S16 32) a x).toNat < S4096.size a := fun v917_1 k0_hw42 => k0_hw42

def k0_chk43 (v917_2 : IVec S16 32) : Prop :=
  (∀ a x, ((![v917_2] : Fin 1 → IVec S16 32) a x).toNat < S4096.size a)
theorem k0_idx59_inb : ∀ (v917_2 : IVec S16 32) (k0_hw43 : k0_chk43 v917_2), ∀ a x, ((![v917_2] : Fin 1 → IVec S16 32) a x).toNat < S4096.size a := fun v917_2 k0_hw43 => k0_hw43

def k0_chk44 (v917_3 : IVec S16 32) : Prop :=
  (∀ a x, ((![v917_3] : Fin 1 → IVec S16 32) a x).toNat < S4096.size a)
theorem k0_idx60_inb : ∀ (v917_3 : IVec S16 32) (k0_hw44 : k0_chk44 v917_3), ∀ a x, ((![v917_3] : Fin 1 → IVec S16 32) a x).toNat < S4096.size a := fun v917_3 k0_hw44 => k0_hw44

def k0_chk45 (v917_4 : IVec S16 32) : Prop :=
  (∀ a x, ((![v917_4] : Fin 1 → IVec S16 32) a x).toNat < S4096.size a)
theorem k0_idx61_inb : ∀ (v917_4 : IVec S16 32) (k0_hw45 : k0_chk45 v917_4), ∀ a x, ((![v917_4] : Fin 1 → IVec S16 32) a x).toNat < S4096.size a := fun v917_4 k0_hw45 => k0_hw45

def k0_chk46 (v917_5 : IVec S16 32) : Prop :=
  (∀ a x, ((![v917_5] : Fin 1 → IVec S16 32) a x).toNat < S4096.size a)
theorem k0_idx62_inb : ∀ (v917_5 : IVec S16 32) (k0_hw46 : k0_chk46 v917_5), ∀ a x, ((![v917_5] : Fin 1 → IVec S16 32) a x).toNat < S4096.size a := fun v917_5 k0_hw46 => k0_hw46

def k0_chk47 (v917_6 : IVec S16 32) : Prop :=
  (∀ a x, ((![v917_6] : Fin 1 → IVec S16 32) a x).toNat < S4096.size a)
theorem k0_idx63_inb : ∀ (v917_6 : IVec S16 32) (k0_hw47 : k0_chk47 v917_6), ∀ a x, ((![v917_6] : Fin 1 → IVec S16 32) a x).toNat < S4096.size a := fun v917_6 k0_hw47 => k0_hw47

def k0_chk48 (v917_7 : IVec S16 32) : Prop :=
  (∀ a x, ((![v917_7] : Fin 1 → IVec S16 32) a x).toNat < S4096.size a)
theorem k0_idx64_inb : ∀ (v917_7 : IVec S16 32) (k0_hw48 : k0_chk48 v917_7), ∀ a x, ((![v917_7] : Fin 1 → IVec S16 32) a x).toNat < S4096.size a := fun v917_7 k0_hw48 => k0_hw48
@[reducible] def k0_t8_loop : Scf.Loop 32 :=
  let c0_i32_309 : BitVec 32 := 0#32
  let c32_i32_310 : BitVec 32 := 32#32
  let v918 : BitVec 32 := Scalar.addi c0_i32_309 c32_i32_310
  let c1_i32_311 : BitVec 32 := 1#32
  ⟨c0_i32_309, v918, c1_i32_311⟩
def k0_off8 (k0_t8 : Fin k0_t8_loop.trips) (c0_i32_975 : BitVec 32) : Fin 1 → Nat :=
  let c0_i32_309 : BitVec 32 := 0#32
  let c1_i32_311 : BitVec 32 := 1#32
  let arg9 : BitVec 32 := Scf.iv c0_i32_309 c1_i32_311 k0_t8
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t9_loop : Scf.Loop 32 :=
  let c0_i32_337 : BitVec 32 := 0#32
  let c127_i32_338 : BitVec 32 := 127#32
  let v956 : BitVec 32 := Scalar.addi c0_i32_337 c127_i32_338
  let c1_i32_339 : BitVec 32 := 1#32
  ⟨c0_i32_337, v956, c1_i32_339⟩
def k0_off9 (k0_t9 : Fin k0_t9_loop.trips) (c0_i32_976 : BitVec 32) : Fin 1 → Nat :=
  let c0_i32_337 : BitVec 32 := 0#32
  let c1_i32_339 : BitVec 32 := 1#32
  let arg9 : BitVec 32 := Scf.iv c0_i32_337 c1_i32_339 k0_t9
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk49 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx65_inb : ∀ (arg18 : IVec S16 32) (k0_hw49 : k0_chk49 arg18), ∀ a x, ((![arg18] : Fin 1 → IVec S16 32) a x).toNat < S4096.size a := fun arg18 k0_hw49 => k0_hw49.1
theorem k0_idx69_inb : ∀ (arg18 : IVec S16 32) (k0_hw49 : k0_chk49 arg18), ∀ a x, ((![arg18] : Fin 1 → IVec S16 32) a x).toNat < S4096.size a := fun arg18 k0_hw49 => k0_hw49.2

def k0_chk50 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx66_inb : ∀ (arg19 : IVec S16 32) (k0_hw50 : k0_chk50 arg19), ∀ a x, ((![arg19] : Fin 1 → IVec S16 32) a x).toNat < S4096.size a := fun arg19 k0_hw50 => k0_hw50.1
theorem k0_idx70_inb : ∀ (arg19 : IVec S16 32) (k0_hw50 : k0_chk50 arg19), ∀ a x, ((![arg19] : Fin 1 → IVec S16 32) a x).toNat < S4096.size a := fun arg19 k0_hw50 => k0_hw50.2

def k0_chk51 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx67_inb : ∀ (arg20 : IVec S16 32) (k0_hw51 : k0_chk51 arg20), ∀ a x, ((![arg20] : Fin 1 → IVec S16 32) a x).toNat < S4096.size a := fun arg20 k0_hw51 => k0_hw51.1
theorem k0_idx71_inb : ∀ (arg20 : IVec S16 32) (k0_hw51 : k0_chk51 arg20), ∀ a x, ((![arg20] : Fin 1 → IVec S16 32) a x).toNat < S4096.size a := fun arg20 k0_hw51 => k0_hw51.2

def k0_chk52 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx68_inb : ∀ (arg21 : IVec S16 32) (k0_hw52 : k0_chk52 arg21), ∀ a x, ((![arg21] : Fin 1 → IVec S16 32) a x).toNat < S4096.size a := fun arg21 k0_hw52 => k0_hw52.1
theorem k0_idx72_inb : ∀ (arg21 : IVec S16 32) (k0_hw52 : k0_chk52 arg21), ∀ a x, ((![arg21] : Fin 1 → IVec S16 32) a x).toNat < S4096.size a := fun arg21 k0_hw52 => k0_hw52.2

def k0_chk53 (v2129 : IVec S16 32) : Prop :=
  (∀ a x, ((![v2129] : Fin 1 → IVec S16 32) a x).toNat < S8192.size a) ∧
  (∀ a x, ((![v2129] : Fin 1 → IVec S16 32) a x).toNat < S8192.size a)
theorem k0_idx73_inb : ∀ (v2129 : IVec S16 32) (k0_hw53 : k0_chk53 v2129), ∀ a x, ((![v2129] : Fin 1 → IVec S16 32) a x).toNat < S8192.size a := fun v2129 k0_hw53 => k0_hw53.1
theorem k0_idx74_inb : ∀ (v2129 : IVec S16 32) (k0_hw53 : k0_chk53 v2129), ∀ a x, ((![v2129] : Fin 1 → IVec S16 32) a x).toNat < S8192.size a := fun v2129 k0_hw53 => k0_hw53.2

def k0_chk54 (v2136 : IVec S16 32) : Prop :=
  (∀ a x, ((![v2136] : Fin 1 → IVec S16 32) a x).toNat < S8192.size a) ∧
  (∀ a x, ((![v2136] : Fin 1 → IVec S16 32) a x).toNat < S8192.size a)
theorem k0_idx75_inb : ∀ (v2136 : IVec S16 32) (k0_hw54 : k0_chk54 v2136), ∀ a x, ((![v2136] : Fin 1 → IVec S16 32) a x).toNat < S8192.size a := fun v2136 k0_hw54 => k0_hw54.1
theorem k0_idx76_inb : ∀ (v2136 : IVec S16 32) (k0_hw54 : k0_chk54 v2136), ∀ a x, ((![v2136] : Fin 1 → IVec S16 32) a x).toNat < S8192.size a := fun v2136 k0_hw54 => k0_hw54.2

def k0_chk55 (v2143 : IVec S16 32) : Prop :=
  (∀ a x, ((![v2143] : Fin 1 → IVec S16 32) a x).toNat < S8192.size a) ∧
  (∀ a x, ((![v2143] : Fin 1 → IVec S16 32) a x).toNat < S8192.size a)
theorem k0_idx77_inb : ∀ (v2143 : IVec S16 32) (k0_hw55 : k0_chk55 v2143), ∀ a x, ((![v2143] : Fin 1 → IVec S16 32) a x).toNat < S8192.size a := fun v2143 k0_hw55 => k0_hw55.1
theorem k0_idx78_inb : ∀ (v2143 : IVec S16 32) (k0_hw55 : k0_chk55 v2143), ∀ a x, ((![v2143] : Fin 1 → IVec S16 32) a x).toNat < S8192.size a := fun v2143 k0_hw55 => k0_hw55.2

def k0_chk56 (v2150 : IVec S16 32) : Prop :=
  (∀ a x, ((![v2150] : Fin 1 → IVec S16 32) a x).toNat < S8192.size a) ∧
  (∀ a x, ((![v2150] : Fin 1 → IVec S16 32) a x).toNat < S8192.size a)
theorem k0_idx79_inb : ∀ (v2150 : IVec S16 32) (k0_hw56 : k0_chk56 v2150), ∀ a x, ((![v2150] : Fin 1 → IVec S16 32) a x).toNat < S8192.size a := fun v2150 k0_hw56 => k0_hw56.1
theorem k0_idx80_inb : ∀ (v2150 : IVec S16 32) (k0_hw56 : k0_chk56 v2150), ∀ a x, ((![v2150] : Fin 1 → IVec S16 32) a x).toNat < S8192.size a := fun v2150 k0_hw56 => k0_hw56.2

def k0_chk57 (v957_8 : IVec S16 32) : Prop :=
  (∀ a x, ((![v957_8] : Fin 1 → IVec S16 32) a x).toNat < S4096.size a) ∧
  (∀ a x, ((![v957_8] : Fin 1 → IVec S16 32) a x).toNat < S4096.size a)
theorem k0_idx81_inb : ∀ (v957_8 : IVec S16 32) (k0_hw57 : k0_chk57 v957_8), ∀ a x, ((![v957_8] : Fin 1 → IVec S16 32) a x).toNat < S4096.size a := fun v957_8 k0_hw57 => k0_hw57.1
theorem k0_idx85_inb : ∀ (v957_8 : IVec S16 32) (k0_hw57 : k0_chk57 v957_8), ∀ a x, ((![v957_8] : Fin 1 → IVec S16 32) a x).toNat < S4096.size a := fun v957_8 k0_hw57 => k0_hw57.2

def k0_chk58 (v957_9 : IVec S16 32) : Prop :=
  (∀ a x, ((![v957_9] : Fin 1 → IVec S16 32) a x).toNat < S4096.size a) ∧
  (∀ a x, ((![v957_9] : Fin 1 → IVec S16 32) a x).toNat < S4096.size a)
theorem k0_idx82_inb : ∀ (v957_9 : IVec S16 32) (k0_hw58 : k0_chk58 v957_9), ∀ a x, ((![v957_9] : Fin 1 → IVec S16 32) a x).toNat < S4096.size a := fun v957_9 k0_hw58 => k0_hw58.1
theorem k0_idx86_inb : ∀ (v957_9 : IVec S16 32) (k0_hw58 : k0_chk58 v957_9), ∀ a x, ((![v957_9] : Fin 1 → IVec S16 32) a x).toNat < S4096.size a := fun v957_9 k0_hw58 => k0_hw58.2

def k0_chk59 (v957_10 : IVec S16 32) : Prop :=
  (∀ a x, ((![v957_10] : Fin 1 → IVec S16 32) a x).toNat < S4096.size a) ∧
  (∀ a x, ((![v957_10] : Fin 1 → IVec S16 32) a x).toNat < S4096.size a)
theorem k0_idx83_inb : ∀ (v957_10 : IVec S16 32) (k0_hw59 : k0_chk59 v957_10), ∀ a x, ((![v957_10] : Fin 1 → IVec S16 32) a x).toNat < S4096.size a := fun v957_10 k0_hw59 => k0_hw59.1
theorem k0_idx87_inb : ∀ (v957_10 : IVec S16 32) (k0_hw59 : k0_chk59 v957_10), ∀ a x, ((![v957_10] : Fin 1 → IVec S16 32) a x).toNat < S4096.size a := fun v957_10 k0_hw59 => k0_hw59.2

def k0_chk60 (v957_11 : IVec S16 32) : Prop :=
  (∀ a x, ((![v957_11] : Fin 1 → IVec S16 32) a x).toNat < S4096.size a) ∧
  (∀ a x, ((![v957_11] : Fin 1 → IVec S16 32) a x).toNat < S4096.size a)
theorem k0_idx84_inb : ∀ (v957_11 : IVec S16 32) (k0_hw60 : k0_chk60 v957_11), ∀ a x, ((![v957_11] : Fin 1 → IVec S16 32) a x).toNat < S4096.size a := fun v957_11 k0_hw60 => k0_hw60.1
theorem k0_idx88_inb : ∀ (v957_11 : IVec S16 32) (k0_hw60 : k0_chk60 v957_11), ∀ a x, ((![v957_11] : Fin 1 → IVec S16 32) a x).toNat < S4096.size a := fun v957_11 k0_hw60 => k0_hw60.2

def k0_chk61 (v998 : IVec S16 32) : Prop :=
  (∀ a x, ((![v998] : Fin 1 → IVec S16 32) a x).toNat < S8192.size a) ∧
  (∀ a x, ((![v998] : Fin 1 → IVec S16 32) a x).toNat < S8192.size a)
theorem k0_idx89_inb : ∀ (v998 : IVec S16 32) (k0_hw61 : k0_chk61 v998), ∀ a x, ((![v998] : Fin 1 → IVec S16 32) a x).toNat < S8192.size a := fun v998 k0_hw61 => k0_hw61.1
theorem k0_idx90_inb : ∀ (v998 : IVec S16 32) (k0_hw61 : k0_chk61 v998), ∀ a x, ((![v998] : Fin 1 → IVec S16 32) a x).toNat < S8192.size a := fun v998 k0_hw61 => k0_hw61.2

def k0_chk62 (v1005 : IVec S16 32) : Prop :=
  (∀ a x, ((![v1005] : Fin 1 → IVec S16 32) a x).toNat < S8192.size a) ∧
  (∀ a x, ((![v1005] : Fin 1 → IVec S16 32) a x).toNat < S8192.size a)
theorem k0_idx91_inb : ∀ (v1005 : IVec S16 32) (k0_hw62 : k0_chk62 v1005), ∀ a x, ((![v1005] : Fin 1 → IVec S16 32) a x).toNat < S8192.size a := fun v1005 k0_hw62 => k0_hw62.1
theorem k0_idx92_inb : ∀ (v1005 : IVec S16 32) (k0_hw62 : k0_chk62 v1005), ∀ a x, ((![v1005] : Fin 1 → IVec S16 32) a x).toNat < S8192.size a := fun v1005 k0_hw62 => k0_hw62.2

def k0_chk63 (v1012 : IVec S16 32) : Prop :=
  (∀ a x, ((![v1012] : Fin 1 → IVec S16 32) a x).toNat < S8192.size a) ∧
  (∀ a x, ((![v1012] : Fin 1 → IVec S16 32) a x).toNat < S8192.size a)
theorem k0_idx93_inb : ∀ (v1012 : IVec S16 32) (k0_hw63 : k0_chk63 v1012), ∀ a x, ((![v1012] : Fin 1 → IVec S16 32) a x).toNat < S8192.size a := fun v1012 k0_hw63 => k0_hw63.1
theorem k0_idx94_inb : ∀ (v1012 : IVec S16 32) (k0_hw63 : k0_chk63 v1012), ∀ a x, ((![v1012] : Fin 1 → IVec S16 32) a x).toNat < S8192.size a := fun v1012 k0_hw63 => k0_hw63.2

def k0_chk64 (v1019 : IVec S16 32) : Prop :=
  (∀ a x, ((![v1019] : Fin 1 → IVec S16 32) a x).toNat < S8192.size a) ∧
  (∀ a x, ((![v1019] : Fin 1 → IVec S16 32) a x).toNat < S8192.size a)
theorem k0_idx95_inb : ∀ (v1019 : IVec S16 32) (k0_hw64 : k0_chk64 v1019), ∀ a x, ((![v1019] : Fin 1 → IVec S16 32) a x).toNat < S8192.size a := fun v1019 k0_hw64 => k0_hw64.1
theorem k0_idx96_inb : ∀ (v1019 : IVec S16 32) (k0_hw64 : k0_chk64 v1019), ∀ a x, ((![v1019] : Fin 1 → IVec S16 32) a x).toNat < S8192.size a := fun v1019 k0_hw64 => k0_hw64.2
@[reducible] def k0_t10_loop : Scf.Loop 32 :=
  let c0_i32_368 : BitVec 32 := 0#32
  let c32_i32_369 : BitVec 32 := 32#32
  let v1022 : BitVec 32 := Scalar.addi c0_i32_368 c32_i32_369
  let c1_i32_370 : BitVec 32 := 1#32
  ⟨c0_i32_368, v1022, c1_i32_370⟩
def k0_off10 (k0_t10 : Fin k0_t10_loop.trips) (c0_i32_975 : BitVec 32) : Fin 1 → Nat :=
  let c0_i32_368 : BitVec 32 := 0#32
  let c1_i32_370 : BitVec 32 := 1#32
  let arg9 : BitVec 32 := Scf.iv c0_i32_368 c1_i32_370 k0_t10
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t11_loop : Scf.Loop 32 :=
  let c0_i32_406 : BitVec 32 := 0#32
  let c63_i32_407 : BitVec 32 := 63#32
  let v1088 : BitVec 32 := Scalar.addi c0_i32_406 c63_i32_407
  let c1_i32_408 : BitVec 32 := 1#32
  ⟨c0_i32_406, v1088, c1_i32_408⟩
def k0_off11 (k0_t11 : Fin k0_t11_loop.trips) (c0_i32_976 : BitVec 32) : Fin 1 → Nat :=
  let c0_i32_406 : BitVec 32 := 0#32
  let c1_i32_408 : BitVec 32 := 1#32
  let arg9 : BitVec 32 := Scf.iv c0_i32_406 c1_i32_408 k0_t11
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk65 (arg10 : IVec S16 32) : Prop :=
  (∀ a x, ((![arg10] : Fin 1 → IVec S16 32) a x).toNat < S4096.size a)
theorem k0_idx97_inb : ∀ (arg10 : IVec S16 32) (k0_hw65 : k0_chk65 arg10), ∀ a x, ((![arg10] : Fin 1 → IVec S16 32) a x).toNat < S4096.size a := fun arg10 k0_hw65 => k0_hw65

def k0_chk66 (arg11 : IVec S16 32) : Prop :=
  (∀ a x, ((![arg11] : Fin 1 → IVec S16 32) a x).toNat < S4096.size a)
theorem k0_idx98_inb : ∀ (arg11 : IVec S16 32) (k0_hw66 : k0_chk66 arg11), ∀ a x, ((![arg11] : Fin 1 → IVec S16 32) a x).toNat < S4096.size a := fun arg11 k0_hw66 => k0_hw66

def k0_chk67 (arg12 : IVec S16 32) : Prop :=
  (∀ a x, ((![arg12] : Fin 1 → IVec S16 32) a x).toNat < S4096.size a)
theorem k0_idx99_inb : ∀ (arg12 : IVec S16 32) (k0_hw67 : k0_chk67 arg12), ∀ a x, ((![arg12] : Fin 1 → IVec S16 32) a x).toNat < S4096.size a := fun arg12 k0_hw67 => k0_hw67

def k0_chk68 (arg13 : IVec S16 32) : Prop :=
  (∀ a x, ((![arg13] : Fin 1 → IVec S16 32) a x).toNat < S4096.size a)
theorem k0_idx100_inb : ∀ (arg13 : IVec S16 32) (k0_hw68 : k0_chk68 arg13), ∀ a x, ((![arg13] : Fin 1 → IVec S16 32) a x).toNat < S4096.size a := fun arg13 k0_hw68 => k0_hw68

def k0_chk69 (arg14 : IVec S16 32) : Prop :=
  (∀ a x, ((![arg14] : Fin 1 → IVec S16 32) a x).toNat < S4096.size a)
theorem k0_idx101_inb : ∀ (arg14 : IVec S16 32) (k0_hw69 : k0_chk69 arg14), ∀ a x, ((![arg14] : Fin 1 → IVec S16 32) a x).toNat < S4096.size a := fun arg14 k0_hw69 => k0_hw69

def k0_chk70 (arg15 : IVec S16 32) : Prop :=
  (∀ a x, ((![arg15] : Fin 1 → IVec S16 32) a x).toNat < S4096.size a)
theorem k0_idx102_inb : ∀ (arg15 : IVec S16 32) (k0_hw70 : k0_chk70 arg15), ∀ a x, ((![arg15] : Fin 1 → IVec S16 32) a x).toNat < S4096.size a := fun arg15 k0_hw70 => k0_hw70

def k0_chk71 (arg16 : IVec S16 32) : Prop :=
  (∀ a x, ((![arg16] : Fin 1 → IVec S16 32) a x).toNat < S4096.size a)
theorem k0_idx103_inb : ∀ (arg16 : IVec S16 32) (k0_hw71 : k0_chk71 arg16), ∀ a x, ((![arg16] : Fin 1 → IVec S16 32) a x).toNat < S4096.size a := fun arg16 k0_hw71 => k0_hw71

def k0_chk72 (arg17 : IVec S16 32) : Prop :=
  (∀ a x, ((![arg17] : Fin 1 → IVec S16 32) a x).toNat < S4096.size a)
theorem k0_idx104_inb : ∀ (arg17 : IVec S16 32) (k0_hw72 : k0_chk72 arg17), ∀ a x, ((![arg17] : Fin 1 → IVec S16 32) a x).toNat < S4096.size a := fun arg17 k0_hw72 => k0_hw72

def k0_chk73 (v1089_0 : IVec S16 32) : Prop :=
  (∀ a x, ((![v1089_0] : Fin 1 → IVec S16 32) a x).toNat < S4096.size a)
theorem k0_idx105_inb : ∀ (v1089_0 : IVec S16 32) (k0_hw73 : k0_chk73 v1089_0), ∀ a x, ((![v1089_0] : Fin 1 → IVec S16 32) a x).toNat < S4096.size a := fun v1089_0 k0_hw73 => k0_hw73

def k0_chk74 (v1089_1 : IVec S16 32) : Prop :=
  (∀ a x, ((![v1089_1] : Fin 1 → IVec S16 32) a x).toNat < S4096.size a)
theorem k0_idx106_inb : ∀ (v1089_1 : IVec S16 32) (k0_hw74 : k0_chk74 v1089_1), ∀ a x, ((![v1089_1] : Fin 1 → IVec S16 32) a x).toNat < S4096.size a := fun v1089_1 k0_hw74 => k0_hw74

def k0_chk75 (v1089_2 : IVec S16 32) : Prop :=
  (∀ a x, ((![v1089_2] : Fin 1 → IVec S16 32) a x).toNat < S4096.size a)
theorem k0_idx107_inb : ∀ (v1089_2 : IVec S16 32) (k0_hw75 : k0_chk75 v1089_2), ∀ a x, ((![v1089_2] : Fin 1 → IVec S16 32) a x).toNat < S4096.size a := fun v1089_2 k0_hw75 => k0_hw75

def k0_chk76 (v1089_3 : IVec S16 32) : Prop :=
  (∀ a x, ((![v1089_3] : Fin 1 → IVec S16 32) a x).toNat < S4096.size a)
theorem k0_idx108_inb : ∀ (v1089_3 : IVec S16 32) (k0_hw76 : k0_chk76 v1089_3), ∀ a x, ((![v1089_3] : Fin 1 → IVec S16 32) a x).toNat < S4096.size a := fun v1089_3 k0_hw76 => k0_hw76

def k0_chk77 (v1089_4 : IVec S16 32) : Prop :=
  (∀ a x, ((![v1089_4] : Fin 1 → IVec S16 32) a x).toNat < S4096.size a)
theorem k0_idx109_inb : ∀ (v1089_4 : IVec S16 32) (k0_hw77 : k0_chk77 v1089_4), ∀ a x, ((![v1089_4] : Fin 1 → IVec S16 32) a x).toNat < S4096.size a := fun v1089_4 k0_hw77 => k0_hw77

def k0_chk78 (v1089_5 : IVec S16 32) : Prop :=
  (∀ a x, ((![v1089_5] : Fin 1 → IVec S16 32) a x).toNat < S4096.size a)
theorem k0_idx110_inb : ∀ (v1089_5 : IVec S16 32) (k0_hw78 : k0_chk78 v1089_5), ∀ a x, ((![v1089_5] : Fin 1 → IVec S16 32) a x).toNat < S4096.size a := fun v1089_5 k0_hw78 => k0_hw78

def k0_chk79 (v1089_6 : IVec S16 32) : Prop :=
  (∀ a x, ((![v1089_6] : Fin 1 → IVec S16 32) a x).toNat < S4096.size a)
theorem k0_idx111_inb : ∀ (v1089_6 : IVec S16 32) (k0_hw79 : k0_chk79 v1089_6), ∀ a x, ((![v1089_6] : Fin 1 → IVec S16 32) a x).toNat < S4096.size a := fun v1089_6 k0_hw79 => k0_hw79

def k0_chk80 (v1089_7 : IVec S16 32) : Prop :=
  (∀ a x, ((![v1089_7] : Fin 1 → IVec S16 32) a x).toNat < S4096.size a)
theorem k0_idx112_inb : ∀ (v1089_7 : IVec S16 32) (k0_hw80 : k0_chk80 v1089_7), ∀ a x, ((![v1089_7] : Fin 1 → IVec S16 32) a x).toNat < S4096.size a := fun v1089_7 k0_hw80 => k0_hw80
@[reducible] def k0_t12_loop : Scf.Loop 32 :=
  let c0_i32_411 : BitVec 32 := 0#32
  let c32_i32_412 : BitVec 32 := 32#32
  let v1090 : BitVec 32 := Scalar.addi c0_i32_411 c32_i32_412
  let c1_i32_413 : BitVec 32 := 1#32
  ⟨c0_i32_411, v1090, c1_i32_413⟩
def k0_off12 (k0_t12 : Fin k0_t12_loop.trips) (c0_i32_975 : BitVec 32) : Fin 1 → Nat :=
  let c0_i32_411 : BitVec 32 := 0#32
  let c1_i32_413 : BitVec 32 := 1#32
  let arg9 : BitVec 32 := Scf.iv c0_i32_411 c1_i32_413 k0_t12
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t13_loop : Scf.Loop 32 :=
  let c0_i32_439 : BitVec 32 := 0#32
  let c127_i32_440 : BitVec 32 := 127#32
  let v1128 : BitVec 32 := Scalar.addi c0_i32_439 c127_i32_440
  let c1_i32_441 : BitVec 32 := 1#32
  ⟨c0_i32_439, v1128, c1_i32_441⟩
def k0_off13 (k0_t13 : Fin k0_t13_loop.trips) (c0_i32_976 : BitVec 32) : Fin 1 → Nat :=
  let c0_i32_439 : BitVec 32 := 0#32
  let c1_i32_441 : BitVec 32 := 1#32
  let arg9 : BitVec 32 := Scf.iv c0_i32_439 c1_i32_441 k0_t13
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk81 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx113_inb : ∀ (arg18 : IVec S16 32) (k0_hw81 : k0_chk81 arg18), ∀ a x, ((![arg18] : Fin 1 → IVec S16 32) a x).toNat < S4096.size a := fun arg18 k0_hw81 => k0_hw81.1
theorem k0_idx117_inb : ∀ (arg18 : IVec S16 32) (k0_hw81 : k0_chk81 arg18), ∀ a x, ((![arg18] : Fin 1 → IVec S16 32) a x).toNat < S4096.size a := fun arg18 k0_hw81 => k0_hw81.2

def k0_chk82 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx114_inb : ∀ (arg19 : IVec S16 32) (k0_hw82 : k0_chk82 arg19), ∀ a x, ((![arg19] : Fin 1 → IVec S16 32) a x).toNat < S4096.size a := fun arg19 k0_hw82 => k0_hw82.1
theorem k0_idx118_inb : ∀ (arg19 : IVec S16 32) (k0_hw82 : k0_chk82 arg19), ∀ a x, ((![arg19] : Fin 1 → IVec S16 32) a x).toNat < S4096.size a := fun arg19 k0_hw82 => k0_hw82.2

def k0_chk83 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx115_inb : ∀ (arg20 : IVec S16 32) (k0_hw83 : k0_chk83 arg20), ∀ a x, ((![arg20] : Fin 1 → IVec S16 32) a x).toNat < S4096.size a := fun arg20 k0_hw83 => k0_hw83.1
theorem k0_idx119_inb : ∀ (arg20 : IVec S16 32) (k0_hw83 : k0_chk83 arg20), ∀ a x, ((![arg20] : Fin 1 → IVec S16 32) a x).toNat < S4096.size a := fun arg20 k0_hw83 => k0_hw83.2

def k0_chk84 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx116_inb : ∀ (arg21 : IVec S16 32) (k0_hw84 : k0_chk84 arg21), ∀ a x, ((![arg21] : Fin 1 → IVec S16 32) a x).toNat < S4096.size a := fun arg21 k0_hw84 => k0_hw84.1
theorem k0_idx120_inb : ∀ (arg21 : IVec S16 32) (k0_hw84 : k0_chk84 arg21), ∀ a x, ((![arg21] : Fin 1 → IVec S16 32) a x).toNat < S4096.size a := fun arg21 k0_hw84 => k0_hw84.2

def k0_chk85 (v2129 : IVec S16 32) : Prop :=
  (∀ a x, ((![v2129] : Fin 1 → IVec S16 32) a x).toNat < S8192.size a) ∧
  (∀ a x, ((![v2129] : Fin 1 → IVec S16 32) a x).toNat < S8192.size a)
theorem k0_idx121_inb : ∀ (v2129 : IVec S16 32) (k0_hw85 : k0_chk85 v2129), ∀ a x, ((![v2129] : Fin 1 → IVec S16 32) a x).toNat < S8192.size a := fun v2129 k0_hw85 => k0_hw85.1
theorem k0_idx122_inb : ∀ (v2129 : IVec S16 32) (k0_hw85 : k0_chk85 v2129), ∀ a x, ((![v2129] : Fin 1 → IVec S16 32) a x).toNat < S8192.size a := fun v2129 k0_hw85 => k0_hw85.2

def k0_chk86 (v2136 : IVec S16 32) : Prop :=
  (∀ a x, ((![v2136] : Fin 1 → IVec S16 32) a x).toNat < S8192.size a) ∧
  (∀ a x, ((![v2136] : Fin 1 → IVec S16 32) a x).toNat < S8192.size a)
theorem k0_idx123_inb : ∀ (v2136 : IVec S16 32) (k0_hw86 : k0_chk86 v2136), ∀ a x, ((![v2136] : Fin 1 → IVec S16 32) a x).toNat < S8192.size a := fun v2136 k0_hw86 => k0_hw86.1
theorem k0_idx124_inb : ∀ (v2136 : IVec S16 32) (k0_hw86 : k0_chk86 v2136), ∀ a x, ((![v2136] : Fin 1 → IVec S16 32) a x).toNat < S8192.size a := fun v2136 k0_hw86 => k0_hw86.2

def k0_chk87 (v2143 : IVec S16 32) : Prop :=
  (∀ a x, ((![v2143] : Fin 1 → IVec S16 32) a x).toNat < S8192.size a) ∧
  (∀ a x, ((![v2143] : Fin 1 → IVec S16 32) a x).toNat < S8192.size a)
theorem k0_idx125_inb : ∀ (v2143 : IVec S16 32) (k0_hw87 : k0_chk87 v2143), ∀ a x, ((![v2143] : Fin 1 → IVec S16 32) a x).toNat < S8192.size a := fun v2143 k0_hw87 => k0_hw87.1
theorem k0_idx126_inb : ∀ (v2143 : IVec S16 32) (k0_hw87 : k0_chk87 v2143), ∀ a x, ((![v2143] : Fin 1 → IVec S16 32) a x).toNat < S8192.size a := fun v2143 k0_hw87 => k0_hw87.2

def k0_chk88 (v2150 : IVec S16 32) : Prop :=
  (∀ a x, ((![v2150] : Fin 1 → IVec S16 32) a x).toNat < S8192.size a) ∧
  (∀ a x, ((![v2150] : Fin 1 → IVec S16 32) a x).toNat < S8192.size a)
theorem k0_idx127_inb : ∀ (v2150 : IVec S16 32) (k0_hw88 : k0_chk88 v2150), ∀ a x, ((![v2150] : Fin 1 → IVec S16 32) a x).toNat < S8192.size a := fun v2150 k0_hw88 => k0_hw88.1
theorem k0_idx128_inb : ∀ (v2150 : IVec S16 32) (k0_hw88 : k0_chk88 v2150), ∀ a x, ((![v2150] : Fin 1 → IVec S16 32) a x).toNat < S8192.size a := fun v2150 k0_hw88 => k0_hw88.2

def k0_chk89 (v1129_8 : IVec S16 32) : Prop :=
  (∀ a x, ((![v1129_8] : Fin 1 → IVec S16 32) a x).toNat < S4096.size a) ∧
  (∀ a x, ((![v1129_8] : Fin 1 → IVec S16 32) a x).toNat < S4096.size a)
theorem k0_idx129_inb : ∀ (v1129_8 : IVec S16 32) (k0_hw89 : k0_chk89 v1129_8), ∀ a x, ((![v1129_8] : Fin 1 → IVec S16 32) a x).toNat < S4096.size a := fun v1129_8 k0_hw89 => k0_hw89.1
theorem k0_idx133_inb : ∀ (v1129_8 : IVec S16 32) (k0_hw89 : k0_chk89 v1129_8), ∀ a x, ((![v1129_8] : Fin 1 → IVec S16 32) a x).toNat < S4096.size a := fun v1129_8 k0_hw89 => k0_hw89.2

def k0_chk90 (v1129_9 : IVec S16 32) : Prop :=
  (∀ a x, ((![v1129_9] : Fin 1 → IVec S16 32) a x).toNat < S4096.size a) ∧
  (∀ a x, ((![v1129_9] : Fin 1 → IVec S16 32) a x).toNat < S4096.size a)
theorem k0_idx130_inb : ∀ (v1129_9 : IVec S16 32) (k0_hw90 : k0_chk90 v1129_9), ∀ a x, ((![v1129_9] : Fin 1 → IVec S16 32) a x).toNat < S4096.size a := fun v1129_9 k0_hw90 => k0_hw90.1
theorem k0_idx134_inb : ∀ (v1129_9 : IVec S16 32) (k0_hw90 : k0_chk90 v1129_9), ∀ a x, ((![v1129_9] : Fin 1 → IVec S16 32) a x).toNat < S4096.size a := fun v1129_9 k0_hw90 => k0_hw90.2

def k0_chk91 (v1129_10 : IVec S16 32) : Prop :=
  (∀ a x, ((![v1129_10] : Fin 1 → IVec S16 32) a x).toNat < S4096.size a) ∧
  (∀ a x, ((![v1129_10] : Fin 1 → IVec S16 32) a x).toNat < S4096.size a)
theorem k0_idx131_inb : ∀ (v1129_10 : IVec S16 32) (k0_hw91 : k0_chk91 v1129_10), ∀ a x, ((![v1129_10] : Fin 1 → IVec S16 32) a x).toNat < S4096.size a := fun v1129_10 k0_hw91 => k0_hw91.1
theorem k0_idx135_inb : ∀ (v1129_10 : IVec S16 32) (k0_hw91 : k0_chk91 v1129_10), ∀ a x, ((![v1129_10] : Fin 1 → IVec S16 32) a x).toNat < S4096.size a := fun v1129_10 k0_hw91 => k0_hw91.2

def k0_chk92 (v1129_11 : IVec S16 32) : Prop :=
  (∀ a x, ((![v1129_11] : Fin 1 → IVec S16 32) a x).toNat < S4096.size a) ∧
  (∀ a x, ((![v1129_11] : Fin 1 → IVec S16 32) a x).toNat < S4096.size a)
theorem k0_idx132_inb : ∀ (v1129_11 : IVec S16 32) (k0_hw92 : k0_chk92 v1129_11), ∀ a x, ((![v1129_11] : Fin 1 → IVec S16 32) a x).toNat < S4096.size a := fun v1129_11 k0_hw92 => k0_hw92.1
theorem k0_idx136_inb : ∀ (v1129_11 : IVec S16 32) (k0_hw92 : k0_chk92 v1129_11), ∀ a x, ((![v1129_11] : Fin 1 → IVec S16 32) a x).toNat < S4096.size a := fun v1129_11 k0_hw92 => k0_hw92.2

def k0_chk93 (v1170 : IVec S16 32) : Prop :=
  (∀ a x, ((![v1170] : Fin 1 → IVec S16 32) a x).toNat < S8192.size a) ∧
  (∀ a x, ((![v1170] : Fin 1 → IVec S16 32) a x).toNat < S8192.size a)
theorem k0_idx137_inb : ∀ (v1170 : IVec S16 32) (k0_hw93 : k0_chk93 v1170), ∀ a x, ((![v1170] : Fin 1 → IVec S16 32) a x).toNat < S8192.size a := fun v1170 k0_hw93 => k0_hw93.1
theorem k0_idx138_inb : ∀ (v1170 : IVec S16 32) (k0_hw93 : k0_chk93 v1170), ∀ a x, ((![v1170] : Fin 1 → IVec S16 32) a x).toNat < S8192.size a := fun v1170 k0_hw93 => k0_hw93.2

def k0_chk94 (v1177 : IVec S16 32) : Prop :=
  (∀ a x, ((![v1177] : Fin 1 → IVec S16 32) a x).toNat < S8192.size a) ∧
  (∀ a x, ((![v1177] : Fin 1 → IVec S16 32) a x).toNat < S8192.size a)
theorem k0_idx139_inb : ∀ (v1177 : IVec S16 32) (k0_hw94 : k0_chk94 v1177), ∀ a x, ((![v1177] : Fin 1 → IVec S16 32) a x).toNat < S8192.size a := fun v1177 k0_hw94 => k0_hw94.1
theorem k0_idx140_inb : ∀ (v1177 : IVec S16 32) (k0_hw94 : k0_chk94 v1177), ∀ a x, ((![v1177] : Fin 1 → IVec S16 32) a x).toNat < S8192.size a := fun v1177 k0_hw94 => k0_hw94.2

def k0_chk95 (v1184 : IVec S16 32) : Prop :=
  (∀ a x, ((![v1184] : Fin 1 → IVec S16 32) a x).toNat < S8192.size a) ∧
  (∀ a x, ((![v1184] : Fin 1 → IVec S16 32) a x).toNat < S8192.size a)
theorem k0_idx141_inb : ∀ (v1184 : IVec S16 32) (k0_hw95 : k0_chk95 v1184), ∀ a x, ((![v1184] : Fin 1 → IVec S16 32) a x).toNat < S8192.size a := fun v1184 k0_hw95 => k0_hw95.1
theorem k0_idx142_inb : ∀ (v1184 : IVec S16 32) (k0_hw95 : k0_chk95 v1184), ∀ a x, ((![v1184] : Fin 1 → IVec S16 32) a x).toNat < S8192.size a := fun v1184 k0_hw95 => k0_hw95.2

def k0_chk96 (v1191 : IVec S16 32) : Prop :=
  (∀ a x, ((![v1191] : Fin 1 → IVec S16 32) a x).toNat < S8192.size a) ∧
  (∀ a x, ((![v1191] : Fin 1 → IVec S16 32) a x).toNat < S8192.size a)
theorem k0_idx143_inb : ∀ (v1191 : IVec S16 32) (k0_hw96 : k0_chk96 v1191), ∀ a x, ((![v1191] : Fin 1 → IVec S16 32) a x).toNat < S8192.size a := fun v1191 k0_hw96 => k0_hw96.1
theorem k0_idx144_inb : ∀ (v1191 : IVec S16 32) (k0_hw96 : k0_chk96 v1191), ∀ a x, ((![v1191] : Fin 1 → IVec S16 32) a x).toNat < S8192.size a := fun v1191 k0_hw96 => k0_hw96.2
@[reducible] def k0_t14_loop : Scf.Loop 32 :=
  let c0_i32_470 : BitVec 32 := 0#32
  let c32_i32_471 : BitVec 32 := 32#32
  let v1194 : BitVec 32 := Scalar.addi c0_i32_470 c32_i32_471
  let c1_i32_472 : BitVec 32 := 1#32
  ⟨c0_i32_470, v1194, c1_i32_472⟩
def k0_off14 (k0_t14 : Fin k0_t14_loop.trips) (c0_i32_975 : BitVec 32) : Fin 1 → Nat :=
  let c0_i32_470 : BitVec 32 := 0#32
  let c1_i32_472 : BitVec 32 := 1#32
  let arg9 : BitVec 32 := Scf.iv c0_i32_470 c1_i32_472 k0_t14
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t15_loop : Scf.Loop 32 :=
  let c0_i32_508 : BitVec 32 := 0#32
  let c63_i32_509 : BitVec 32 := 63#32
  let v1260 : BitVec 32 := Scalar.addi c0_i32_508 c63_i32_509
  let c1_i32_510 : BitVec 32 := 1#32
  ⟨c0_i32_508, v1260, c1_i32_510⟩
def k0_off15 (k0_t15 : Fin k0_t15_loop.trips) (c0_i32_976 : BitVec 32) : Fin 1 → Nat :=
  let c0_i32_508 : BitVec 32 := 0#32
  let c1_i32_510 : BitVec 32 := 1#32
  let arg9 : BitVec 32 := Scf.iv c0_i32_508 c1_i32_510 k0_t15
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk97 (arg10 : IVec S16 32) : Prop :=
  (∀ a x, ((![arg10] : Fin 1 → IVec S16 32) a x).toNat < S4096.size a)
theorem k0_idx145_inb : ∀ (arg10 : IVec S16 32) (k0_hw97 : k0_chk97 arg10), ∀ a x, ((![arg10] : Fin 1 → IVec S16 32) a x).toNat < S4096.size a := fun arg10 k0_hw97 => k0_hw97

def k0_chk98 (arg11 : IVec S16 32) : Prop :=
  (∀ a x, ((![arg11] : Fin 1 → IVec S16 32) a x).toNat < S4096.size a)
theorem k0_idx146_inb : ∀ (arg11 : IVec S16 32) (k0_hw98 : k0_chk98 arg11), ∀ a x, ((![arg11] : Fin 1 → IVec S16 32) a x).toNat < S4096.size a := fun arg11 k0_hw98 => k0_hw98

def k0_chk99 (arg12 : IVec S16 32) : Prop :=
  (∀ a x, ((![arg12] : Fin 1 → IVec S16 32) a x).toNat < S4096.size a)
theorem k0_idx147_inb : ∀ (arg12 : IVec S16 32) (k0_hw99 : k0_chk99 arg12), ∀ a x, ((![arg12] : Fin 1 → IVec S16 32) a x).toNat < S4096.size a := fun arg12 k0_hw99 => k0_hw99

def k0_chk100 (arg13 : IVec S16 32) : Prop :=
  (∀ a x, ((![arg13] : Fin 1 → IVec S16 32) a x).toNat < S4096.size a)
theorem k0_idx148_inb : ∀ (arg13 : IVec S16 32) (k0_hw100 : k0_chk100 arg13), ∀ a x, ((![arg13] : Fin 1 → IVec S16 32) a x).toNat < S4096.size a := fun arg13 k0_hw100 => k0_hw100

def k0_chk101 (arg14 : IVec S16 32) : Prop :=
  (∀ a x, ((![arg14] : Fin 1 → IVec S16 32) a x).toNat < S4096.size a)
theorem k0_idx149_inb : ∀ (arg14 : IVec S16 32) (k0_hw101 : k0_chk101 arg14), ∀ a x, ((![arg14] : Fin 1 → IVec S16 32) a x).toNat < S4096.size a := fun arg14 k0_hw101 => k0_hw101

def k0_chk102 (arg15 : IVec S16 32) : Prop :=
  (∀ a x, ((![arg15] : Fin 1 → IVec S16 32) a x).toNat < S4096.size a)
theorem k0_idx150_inb : ∀ (arg15 : IVec S16 32) (k0_hw102 : k0_chk102 arg15), ∀ a x, ((![arg15] : Fin 1 → IVec S16 32) a x).toNat < S4096.size a := fun arg15 k0_hw102 => k0_hw102

def k0_chk103 (arg16 : IVec S16 32) : Prop :=
  (∀ a x, ((![arg16] : Fin 1 → IVec S16 32) a x).toNat < S4096.size a)
theorem k0_idx151_inb : ∀ (arg16 : IVec S16 32) (k0_hw103 : k0_chk103 arg16), ∀ a x, ((![arg16] : Fin 1 → IVec S16 32) a x).toNat < S4096.size a := fun arg16 k0_hw103 => k0_hw103

def k0_chk104 (arg17 : IVec S16 32) : Prop :=
  (∀ a x, ((![arg17] : Fin 1 → IVec S16 32) a x).toNat < S4096.size a)
theorem k0_idx152_inb : ∀ (arg17 : IVec S16 32) (k0_hw104 : k0_chk104 arg17), ∀ a x, ((![arg17] : Fin 1 → IVec S16 32) a x).toNat < S4096.size a := fun arg17 k0_hw104 => k0_hw104

def k0_chk105 (v1261_0 : IVec S16 32) : Prop :=
  (∀ a x, ((![v1261_0] : Fin 1 → IVec S16 32) a x).toNat < S4096.size a)
theorem k0_idx153_inb : ∀ (v1261_0 : IVec S16 32) (k0_hw105 : k0_chk105 v1261_0), ∀ a x, ((![v1261_0] : Fin 1 → IVec S16 32) a x).toNat < S4096.size a := fun v1261_0 k0_hw105 => k0_hw105

def k0_chk106 (v1261_1 : IVec S16 32) : Prop :=
  (∀ a x, ((![v1261_1] : Fin 1 → IVec S16 32) a x).toNat < S4096.size a)
theorem k0_idx154_inb : ∀ (v1261_1 : IVec S16 32) (k0_hw106 : k0_chk106 v1261_1), ∀ a x, ((![v1261_1] : Fin 1 → IVec S16 32) a x).toNat < S4096.size a := fun v1261_1 k0_hw106 => k0_hw106

def k0_chk107 (v1261_2 : IVec S16 32) : Prop :=
  (∀ a x, ((![v1261_2] : Fin 1 → IVec S16 32) a x).toNat < S4096.size a)
theorem k0_idx155_inb : ∀ (v1261_2 : IVec S16 32) (k0_hw107 : k0_chk107 v1261_2), ∀ a x, ((![v1261_2] : Fin 1 → IVec S16 32) a x).toNat < S4096.size a := fun v1261_2 k0_hw107 => k0_hw107

def k0_chk108 (v1261_3 : IVec S16 32) : Prop :=
  (∀ a x, ((![v1261_3] : Fin 1 → IVec S16 32) a x).toNat < S4096.size a)
theorem k0_idx156_inb : ∀ (v1261_3 : IVec S16 32) (k0_hw108 : k0_chk108 v1261_3), ∀ a x, ((![v1261_3] : Fin 1 → IVec S16 32) a x).toNat < S4096.size a := fun v1261_3 k0_hw108 => k0_hw108

def k0_chk109 (v1261_4 : IVec S16 32) : Prop :=
  (∀ a x, ((![v1261_4] : Fin 1 → IVec S16 32) a x).toNat < S4096.size a)
theorem k0_idx157_inb : ∀ (v1261_4 : IVec S16 32) (k0_hw109 : k0_chk109 v1261_4), ∀ a x, ((![v1261_4] : Fin 1 → IVec S16 32) a x).toNat < S4096.size a := fun v1261_4 k0_hw109 => k0_hw109

def k0_chk110 (v1261_5 : IVec S16 32) : Prop :=
  (∀ a x, ((![v1261_5] : Fin 1 → IVec S16 32) a x).toNat < S4096.size a)
theorem k0_idx158_inb : ∀ (v1261_5 : IVec S16 32) (k0_hw110 : k0_chk110 v1261_5), ∀ a x, ((![v1261_5] : Fin 1 → IVec S16 32) a x).toNat < S4096.size a := fun v1261_5 k0_hw110 => k0_hw110

def k0_chk111 (v1261_6 : IVec S16 32) : Prop :=
  (∀ a x, ((![v1261_6] : Fin 1 → IVec S16 32) a x).toNat < S4096.size a)
theorem k0_idx159_inb : ∀ (v1261_6 : IVec S16 32) (k0_hw111 : k0_chk111 v1261_6), ∀ a x, ((![v1261_6] : Fin 1 → IVec S16 32) a x).toNat < S4096.size a := fun v1261_6 k0_hw111 => k0_hw111

def k0_chk112 (v1261_7 : IVec S16 32) : Prop :=
  (∀ a x, ((![v1261_7] : Fin 1 → IVec S16 32) a x).toNat < S4096.size a)
theorem k0_idx160_inb : ∀ (v1261_7 : IVec S16 32) (k0_hw112 : k0_chk112 v1261_7), ∀ a x, ((![v1261_7] : Fin 1 → IVec S16 32) a x).toNat < S4096.size a := fun v1261_7 k0_hw112 => k0_hw112
@[reducible] def k0_t16_loop : Scf.Loop 32 :=
  let c0_i32_513 : BitVec 32 := 0#32
  let c32_i32_514 : BitVec 32 := 32#32
  let v1262 : BitVec 32 := Scalar.addi c0_i32_513 c32_i32_514
  let c1_i32_515 : BitVec 32 := 1#32
  ⟨c0_i32_513, v1262, c1_i32_515⟩
def k0_off16 (k0_t16 : Fin k0_t16_loop.trips) (c0_i32_975 : BitVec 32) : Fin 1 → Nat :=
  let c0_i32_513 : BitVec 32 := 0#32
  let c1_i32_515 : BitVec 32 := 1#32
  let arg9 : BitVec 32 := Scf.iv c0_i32_513 c1_i32_515 k0_t16
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t17_loop : Scf.Loop 32 :=
  let c0_i32_541 : BitVec 32 := 0#32
  let c127_i32_542 : BitVec 32 := 127#32
  let v1300 : BitVec 32 := Scalar.addi c0_i32_541 c127_i32_542
  let c1_i32_543 : BitVec 32 := 1#32
  ⟨c0_i32_541, v1300, c1_i32_543⟩
def k0_off17 (k0_t17 : Fin k0_t17_loop.trips) (c0_i32_976 : BitVec 32) : Fin 1 → Nat :=
  let c0_i32_541 : BitVec 32 := 0#32
  let c1_i32_543 : BitVec 32 := 1#32
  let arg9 : BitVec 32 := Scf.iv c0_i32_541 c1_i32_543 k0_t17
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk113 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx161_inb : ∀ (arg18 : IVec S16 32) (k0_hw113 : k0_chk113 arg18), ∀ a x, ((![arg18] : Fin 1 → IVec S16 32) a x).toNat < S4096.size a := fun arg18 k0_hw113 => k0_hw113.1
theorem k0_idx165_inb : ∀ (arg18 : IVec S16 32) (k0_hw113 : k0_chk113 arg18), ∀ a x, ((![arg18] : Fin 1 → IVec S16 32) a x).toNat < S4096.size a := fun arg18 k0_hw113 => k0_hw113.2

def k0_chk114 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx162_inb : ∀ (arg19 : IVec S16 32) (k0_hw114 : k0_chk114 arg19), ∀ a x, ((![arg19] : Fin 1 → IVec S16 32) a x).toNat < S4096.size a := fun arg19 k0_hw114 => k0_hw114.1
theorem k0_idx166_inb : ∀ (arg19 : IVec S16 32) (k0_hw114 : k0_chk114 arg19), ∀ a x, ((![arg19] : Fin 1 → IVec S16 32) a x).toNat < S4096.size a := fun arg19 k0_hw114 => k0_hw114.2

def k0_chk115 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx163_inb : ∀ (arg20 : IVec S16 32) (k0_hw115 : k0_chk115 arg20), ∀ a x, ((![arg20] : Fin 1 → IVec S16 32) a x).toNat < S4096.size a := fun arg20 k0_hw115 => k0_hw115.1
theorem k0_idx167_inb : ∀ (arg20 : IVec S16 32) (k0_hw115 : k0_chk115 arg20), ∀ a x, ((![arg20] : Fin 1 → IVec S16 32) a x).toNat < S4096.size a := fun arg20 k0_hw115 => k0_hw115.2

def k0_chk116 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx164_inb : ∀ (arg21 : IVec S16 32) (k0_hw116 : k0_chk116 arg21), ∀ a x, ((![arg21] : Fin 1 → IVec S16 32) a x).toNat < S4096.size a := fun arg21 k0_hw116 => k0_hw116.1
theorem k0_idx168_inb : ∀ (arg21 : IVec S16 32) (k0_hw116 : k0_chk116 arg21), ∀ a x, ((![arg21] : Fin 1 → IVec S16 32) a x).toNat < S4096.size a := fun arg21 k0_hw116 => k0_hw116.2

def k0_chk117 (v2129 : IVec S16 32) : Prop :=
  (∀ a x, ((![v2129] : Fin 1 → IVec S16 32) a x).toNat < S8192.size a)
theorem k0_idx169_inb : ∀ (v2129 : IVec S16 32) (k0_hw117 : k0_chk117 v2129), ∀ a x, ((![v2129] : Fin 1 → IVec S16 32) a x).toNat < S8192.size a := fun v2129 k0_hw117 => k0_hw117

def k0_chk118 (v2136 : IVec S16 32) : Prop :=
  (∀ a x, ((![v2136] : Fin 1 → IVec S16 32) a x).toNat < S8192.size a)
theorem k0_idx170_inb : ∀ (v2136 : IVec S16 32) (k0_hw118 : k0_chk118 v2136), ∀ a x, ((![v2136] : Fin 1 → IVec S16 32) a x).toNat < S8192.size a := fun v2136 k0_hw118 => k0_hw118

def k0_chk119 (v2143 : IVec S16 32) : Prop :=
  (∀ a x, ((![v2143] : Fin 1 → IVec S16 32) a x).toNat < S8192.size a)
theorem k0_idx171_inb : ∀ (v2143 : IVec S16 32) (k0_hw119 : k0_chk119 v2143), ∀ a x, ((![v2143] : Fin 1 → IVec S16 32) a x).toNat < S8192.size a := fun v2143 k0_hw119 => k0_hw119

def k0_chk120 (v2150 : IVec S16 32) : Prop :=
  (∀ a x, ((![v2150] : Fin 1 → IVec S16 32) a x).toNat < S8192.size a)
theorem k0_idx172_inb : ∀ (v2150 : IVec S16 32) (k0_hw120 : k0_chk120 v2150), ∀ a x, ((![v2150] : Fin 1 → IVec S16 32) a x).toNat < S8192.size a := fun v2150 k0_hw120 => k0_hw120

def k0_chk121 (v1301_8 : IVec S16 32) : Prop :=
  (∀ a x, ((![v1301_8] : Fin 1 → IVec S16 32) a x).toNat < S4096.size a) ∧
  (∀ a x, ((![v1301_8] : Fin 1 → IVec S16 32) a x).toNat < S4096.size a)
theorem k0_idx173_inb : ∀ (v1301_8 : IVec S16 32) (k0_hw121 : k0_chk121 v1301_8), ∀ a x, ((![v1301_8] : Fin 1 → IVec S16 32) a x).toNat < S4096.size a := fun v1301_8 k0_hw121 => k0_hw121.1
theorem k0_idx177_inb : ∀ (v1301_8 : IVec S16 32) (k0_hw121 : k0_chk121 v1301_8), ∀ a x, ((![v1301_8] : Fin 1 → IVec S16 32) a x).toNat < S4096.size a := fun v1301_8 k0_hw121 => k0_hw121.2

def k0_chk122 (v1301_9 : IVec S16 32) : Prop :=
  (∀ a x, ((![v1301_9] : Fin 1 → IVec S16 32) a x).toNat < S4096.size a) ∧
  (∀ a x, ((![v1301_9] : Fin 1 → IVec S16 32) a x).toNat < S4096.size a)
theorem k0_idx174_inb : ∀ (v1301_9 : IVec S16 32) (k0_hw122 : k0_chk122 v1301_9), ∀ a x, ((![v1301_9] : Fin 1 → IVec S16 32) a x).toNat < S4096.size a := fun v1301_9 k0_hw122 => k0_hw122.1
theorem k0_idx178_inb : ∀ (v1301_9 : IVec S16 32) (k0_hw122 : k0_chk122 v1301_9), ∀ a x, ((![v1301_9] : Fin 1 → IVec S16 32) a x).toNat < S4096.size a := fun v1301_9 k0_hw122 => k0_hw122.2

def k0_chk123 (v1301_10 : IVec S16 32) : Prop :=
  (∀ a x, ((![v1301_10] : Fin 1 → IVec S16 32) a x).toNat < S4096.size a) ∧
  (∀ a x, ((![v1301_10] : Fin 1 → IVec S16 32) a x).toNat < S4096.size a)
theorem k0_idx175_inb : ∀ (v1301_10 : IVec S16 32) (k0_hw123 : k0_chk123 v1301_10), ∀ a x, ((![v1301_10] : Fin 1 → IVec S16 32) a x).toNat < S4096.size a := fun v1301_10 k0_hw123 => k0_hw123.1
theorem k0_idx179_inb : ∀ (v1301_10 : IVec S16 32) (k0_hw123 : k0_chk123 v1301_10), ∀ a x, ((![v1301_10] : Fin 1 → IVec S16 32) a x).toNat < S4096.size a := fun v1301_10 k0_hw123 => k0_hw123.2

def k0_chk124 (v1301_11 : IVec S16 32) : Prop :=
  (∀ a x, ((![v1301_11] : Fin 1 → IVec S16 32) a x).toNat < S4096.size a) ∧
  (∀ a x, ((![v1301_11] : Fin 1 → IVec S16 32) a x).toNat < S4096.size a)
theorem k0_idx176_inb : ∀ (v1301_11 : IVec S16 32) (k0_hw124 : k0_chk124 v1301_11), ∀ a x, ((![v1301_11] : Fin 1 → IVec S16 32) a x).toNat < S4096.size a := fun v1301_11 k0_hw124 => k0_hw124.1
theorem k0_idx180_inb : ∀ (v1301_11 : IVec S16 32) (k0_hw124 : k0_chk124 v1301_11), ∀ a x, ((![v1301_11] : Fin 1 → IVec S16 32) a x).toNat < S4096.size a := fun v1301_11 k0_hw124 => k0_hw124.2

def k0_chk125 (v1342 : IVec S16 32) : Prop :=
  (∀ a x, ((![v1342] : Fin 1 → IVec S16 32) a x).toNat < S8192.size a)
theorem k0_idx181_inb : ∀ (v1342 : IVec S16 32) (k0_hw125 : k0_chk125 v1342), ∀ a x, ((![v1342] : Fin 1 → IVec S16 32) a x).toNat < S8192.size a := fun v1342 k0_hw125 => k0_hw125

def k0_chk126 (v1349 : IVec S16 32) : Prop :=
  (∀ a x, ((![v1349] : Fin 1 → IVec S16 32) a x).toNat < S8192.size a)
theorem k0_idx182_inb : ∀ (v1349 : IVec S16 32) (k0_hw126 : k0_chk126 v1349), ∀ a x, ((![v1349] : Fin 1 → IVec S16 32) a x).toNat < S8192.size a := fun v1349 k0_hw126 => k0_hw126

def k0_chk127 (v1356 : IVec S16 32) : Prop :=
  (∀ a x, ((![v1356] : Fin 1 → IVec S16 32) a x).toNat < S8192.size a)
theorem k0_idx183_inb : ∀ (v1356 : IVec S16 32) (k0_hw127 : k0_chk127 v1356), ∀ a x, ((![v1356] : Fin 1 → IVec S16 32) a x).toNat < S8192.size a := fun v1356 k0_hw127 => k0_hw127

def k0_chk128 (v1363 : IVec S16 32) : Prop :=
  (∀ a x, ((![v1363] : Fin 1 → IVec S16 32) a x).toNat < S8192.size a)
theorem k0_idx184_inb : ∀ (v1363 : IVec S16 32) (k0_hw128 : k0_chk128 v1363), ∀ a x, ((![v1363] : Fin 1 → IVec S16 32) a x).toNat < S8192.size a := fun v1363 k0_hw128 => k0_hw128
@[reducible] def k0_t18_loop : Scf.Loop 32 :=
  let c0_i32_570 : BitVec 32 := 0#32
  let c128_i32_571 : BitVec 32 := 128#32
  let v1364 : BitVec 32 := Scalar.addi c0_i32_570 c128_i32_571
  let c1_i32_572 : BitVec 32 := 1#32
  ⟨c0_i32_570, v1364, c1_i32_572⟩
def k0_off18 (k0_t18 : Fin k0_t18_loop.trips) (c0_i32_975 : BitVec 32) : Fin 1 → Nat :=
  let c0_i32_570 : BitVec 32 := 0#32
  let c1_i32_572 : BitVec 32 := 1#32
  let arg9 : BitVec 32 := Scf.iv c0_i32_570 c1_i32_572 k0_t18
  let c4_i32_974 : BitVec 32 := 4#32
  let v2028 : BitVec 32 := Scalar.muli arg9 c4_i32_974
  let v2029 : BitVec 32 := Scalar.addi v2028 c0_i32_975
  let c16_i32_1022 : BitVec 32 := 16#32
  let v2197 : BitVec 32 := Scalar.muli v2029 c16_i32_1022
  let v2198 : Index := Scalar.indexCast v2197
  ![v2198.toNat]
@[reducible] def k0_t19_loop : Scf.Loop 32 :=
  let c0_i32_577 : BitVec 32 := 0#32
  let c32_i32_578 : BitVec 32 := 32#32
  let v1368 : BitVec 32 := Scalar.addi c0_i32_577 c32_i32_578
  let c1_i32_579 : BitVec 32 := 1#32
  ⟨c0_i32_577, v1368, c1_i32_579⟩
def k0_off19 (k0_t19 : Fin k0_t19_loop.trips) (c0_i32_975 : BitVec 32) : Fin 1 → Nat :=
  let c0_i32_577 : BitVec 32 := 0#32
  let c1_i32_579 : BitVec 32 := 1#32
  let arg9 : BitVec 32 := Scf.iv c0_i32_577 c1_i32_579 k0_t19
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t20_loop : Scf.Loop 32 :=
  let c0_i32_615 : BitVec 32 := 0#32
  let c63_i32_616 : BitVec 32 := 63#32
  let v1434 : BitVec 32 := Scalar.addi c0_i32_615 c63_i32_616
  let c1_i32_617 : BitVec 32 := 1#32
  ⟨c0_i32_615, v1434, c1_i32_617⟩
def k0_off20 (k0_t20 : Fin k0_t20_loop.trips) (c0_i32_976 : BitVec 32) : Fin 1 → Nat :=
  let c0_i32_615 : BitVec 32 := 0#32
  let c1_i32_617 : BitVec 32 := 1#32
  let arg9 : BitVec 32 := Scf.iv c0_i32_615 c1_i32_617 k0_t20
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk129 (arg10 : IVec S16 32) : Prop :=
  (∀ a x, ((![arg10] : Fin 1 → IVec S16 32) a x).toNat < S4096.size a)
theorem k0_idx185_inb : ∀ (arg10 : IVec S16 32) (k0_hw129 : k0_chk129 arg10), ∀ a x, ((![arg10] : Fin 1 → IVec S16 32) a x).toNat < S4096.size a := fun arg10 k0_hw129 => k0_hw129

def k0_chk130 (arg11 : IVec S16 32) : Prop :=
  (∀ a x, ((![arg11] : Fin 1 → IVec S16 32) a x).toNat < S4096.size a)
theorem k0_idx186_inb : ∀ (arg11 : IVec S16 32) (k0_hw130 : k0_chk130 arg11), ∀ a x, ((![arg11] : Fin 1 → IVec S16 32) a x).toNat < S4096.size a := fun arg11 k0_hw130 => k0_hw130

def k0_chk131 (arg12 : IVec S16 32) : Prop :=
  (∀ a x, ((![arg12] : Fin 1 → IVec S16 32) a x).toNat < S4096.size a)
theorem k0_idx187_inb : ∀ (arg12 : IVec S16 32) (k0_hw131 : k0_chk131 arg12), ∀ a x, ((![arg12] : Fin 1 → IVec S16 32) a x).toNat < S4096.size a := fun arg12 k0_hw131 => k0_hw131

def k0_chk132 (arg13 : IVec S16 32) : Prop :=
  (∀ a x, ((![arg13] : Fin 1 → IVec S16 32) a x).toNat < S4096.size a)
theorem k0_idx188_inb : ∀ (arg13 : IVec S16 32) (k0_hw132 : k0_chk132 arg13), ∀ a x, ((![arg13] : Fin 1 → IVec S16 32) a x).toNat < S4096.size a := fun arg13 k0_hw132 => k0_hw132

def k0_chk133 (arg14 : IVec S16 32) : Prop :=
  (∀ a x, ((![arg14] : Fin 1 → IVec S16 32) a x).toNat < S4096.size a)
theorem k0_idx189_inb : ∀ (arg14 : IVec S16 32) (k0_hw133 : k0_chk133 arg14), ∀ a x, ((![arg14] : Fin 1 → IVec S16 32) a x).toNat < S4096.size a := fun arg14 k0_hw133 => k0_hw133

def k0_chk134 (arg15 : IVec S16 32) : Prop :=
  (∀ a x, ((![arg15] : Fin 1 → IVec S16 32) a x).toNat < S4096.size a)
theorem k0_idx190_inb : ∀ (arg15 : IVec S16 32) (k0_hw134 : k0_chk134 arg15), ∀ a x, ((![arg15] : Fin 1 → IVec S16 32) a x).toNat < S4096.size a := fun arg15 k0_hw134 => k0_hw134

def k0_chk135 (arg16 : IVec S16 32) : Prop :=
  (∀ a x, ((![arg16] : Fin 1 → IVec S16 32) a x).toNat < S4096.size a)
theorem k0_idx191_inb : ∀ (arg16 : IVec S16 32) (k0_hw135 : k0_chk135 arg16), ∀ a x, ((![arg16] : Fin 1 → IVec S16 32) a x).toNat < S4096.size a := fun arg16 k0_hw135 => k0_hw135

def k0_chk136 (arg17 : IVec S16 32) : Prop :=
  (∀ a x, ((![arg17] : Fin 1 → IVec S16 32) a x).toNat < S4096.size a)
theorem k0_idx192_inb : ∀ (arg17 : IVec S16 32) (k0_hw136 : k0_chk136 arg17), ∀ a x, ((![arg17] : Fin 1 → IVec S16 32) a x).toNat < S4096.size a := fun arg17 k0_hw136 => k0_hw136

def k0_chk137 (v1435_0 : IVec S16 32) : Prop :=
  (∀ a x, ((![v1435_0] : Fin 1 → IVec S16 32) a x).toNat < S4096.size a)
theorem k0_idx193_inb : ∀ (v1435_0 : IVec S16 32) (k0_hw137 : k0_chk137 v1435_0), ∀ a x, ((![v1435_0] : Fin 1 → IVec S16 32) a x).toNat < S4096.size a := fun v1435_0 k0_hw137 => k0_hw137

def k0_chk138 (v1435_1 : IVec S16 32) : Prop :=
  (∀ a x, ((![v1435_1] : Fin 1 → IVec S16 32) a x).toNat < S4096.size a)
theorem k0_idx194_inb : ∀ (v1435_1 : IVec S16 32) (k0_hw138 : k0_chk138 v1435_1), ∀ a x, ((![v1435_1] : Fin 1 → IVec S16 32) a x).toNat < S4096.size a := fun v1435_1 k0_hw138 => k0_hw138

def k0_chk139 (v1435_2 : IVec S16 32) : Prop :=
  (∀ a x, ((![v1435_2] : Fin 1 → IVec S16 32) a x).toNat < S4096.size a)
theorem k0_idx195_inb : ∀ (v1435_2 : IVec S16 32) (k0_hw139 : k0_chk139 v1435_2), ∀ a x, ((![v1435_2] : Fin 1 → IVec S16 32) a x).toNat < S4096.size a := fun v1435_2 k0_hw139 => k0_hw139

def k0_chk140 (v1435_3 : IVec S16 32) : Prop :=
  (∀ a x, ((![v1435_3] : Fin 1 → IVec S16 32) a x).toNat < S4096.size a)
theorem k0_idx196_inb : ∀ (v1435_3 : IVec S16 32) (k0_hw140 : k0_chk140 v1435_3), ∀ a x, ((![v1435_3] : Fin 1 → IVec S16 32) a x).toNat < S4096.size a := fun v1435_3 k0_hw140 => k0_hw140

def k0_chk141 (v1435_4 : IVec S16 32) : Prop :=
  (∀ a x, ((![v1435_4] : Fin 1 → IVec S16 32) a x).toNat < S4096.size a)
theorem k0_idx197_inb : ∀ (v1435_4 : IVec S16 32) (k0_hw141 : k0_chk141 v1435_4), ∀ a x, ((![v1435_4] : Fin 1 → IVec S16 32) a x).toNat < S4096.size a := fun v1435_4 k0_hw141 => k0_hw141

def k0_chk142 (v1435_5 : IVec S16 32) : Prop :=
  (∀ a x, ((![v1435_5] : Fin 1 → IVec S16 32) a x).toNat < S4096.size a)
theorem k0_idx198_inb : ∀ (v1435_5 : IVec S16 32) (k0_hw142 : k0_chk142 v1435_5), ∀ a x, ((![v1435_5] : Fin 1 → IVec S16 32) a x).toNat < S4096.size a := fun v1435_5 k0_hw142 => k0_hw142

def k0_chk143 (v1435_6 : IVec S16 32) : Prop :=
  (∀ a x, ((![v1435_6] : Fin 1 → IVec S16 32) a x).toNat < S4096.size a)
theorem k0_idx199_inb : ∀ (v1435_6 : IVec S16 32) (k0_hw143 : k0_chk143 v1435_6), ∀ a x, ((![v1435_6] : Fin 1 → IVec S16 32) a x).toNat < S4096.size a := fun v1435_6 k0_hw143 => k0_hw143

def k0_chk144 (v1435_7 : IVec S16 32) : Prop :=
  (∀ a x, ((![v1435_7] : Fin 1 → IVec S16 32) a x).toNat < S4096.size a)
theorem k0_idx200_inb : ∀ (v1435_7 : IVec S16 32) (k0_hw144 : k0_chk144 v1435_7), ∀ a x, ((![v1435_7] : Fin 1 → IVec S16 32) a x).toNat < S4096.size a := fun v1435_7 k0_hw144 => k0_hw144
@[reducible] def k0_t21_loop : Scf.Loop 32 :=
  let c0_i32_620 : BitVec 32 := 0#32
  let c32_i32_621 : BitVec 32 := 32#32
  let v1436 : BitVec 32 := Scalar.addi c0_i32_620 c32_i32_621
  let c1_i32_622 : BitVec 32 := 1#32
  ⟨c0_i32_620, v1436, c1_i32_622⟩
def k0_off21 (k0_t21 : Fin k0_t21_loop.trips) (c0_i32_975 : BitVec 32) : Fin 1 → Nat :=
  let c0_i32_620 : BitVec 32 := 0#32
  let c1_i32_622 : BitVec 32 := 1#32
  let arg9 : BitVec 32 := Scf.iv c0_i32_620 c1_i32_622 k0_t21
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t22_loop : Scf.Loop 32 :=
  let c0_i32_648 : BitVec 32 := 0#32
  let c127_i32_649 : BitVec 32 := 127#32
  let v1474 : BitVec 32 := Scalar.addi c0_i32_648 c127_i32_649
  let c1_i32_650 : BitVec 32 := 1#32
  ⟨c0_i32_648, v1474, c1_i32_650⟩
def k0_off22 (k0_t22 : Fin k0_t22_loop.trips) (c0_i32_976 : BitVec 32) : Fin 1 → Nat :=
  let c0_i32_648 : BitVec 32 := 0#32
  let c1_i32_650 : BitVec 32 := 1#32
  let arg9 : BitVec 32 := Scf.iv c0_i32_648 c1_i32_650 k0_t22
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk145 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx201_inb : ∀ (arg18 : IVec S16 32) (k0_hw145 : k0_chk145 arg18), ∀ a x, ((![arg18] : Fin 1 → IVec S16 32) a x).toNat < S4096.size a := fun arg18 k0_hw145 => k0_hw145.1
theorem k0_idx205_inb : ∀ (arg18 : IVec S16 32) (k0_hw145 : k0_chk145 arg18), ∀ a x, ((![arg18] : Fin 1 → IVec S16 32) a x).toNat < S4096.size a := fun arg18 k0_hw145 => k0_hw145.2

def k0_chk146 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx202_inb : ∀ (arg19 : IVec S16 32) (k0_hw146 : k0_chk146 arg19), ∀ a x, ((![arg19] : Fin 1 → IVec S16 32) a x).toNat < S4096.size a := fun arg19 k0_hw146 => k0_hw146.1
theorem k0_idx206_inb : ∀ (arg19 : IVec S16 32) (k0_hw146 : k0_chk146 arg19), ∀ a x, ((![arg19] : Fin 1 → IVec S16 32) a x).toNat < S4096.size a := fun arg19 k0_hw146 => k0_hw146.2

def k0_chk147 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx203_inb : ∀ (arg20 : IVec S16 32) (k0_hw147 : k0_chk147 arg20), ∀ a x, ((![arg20] : Fin 1 → IVec S16 32) a x).toNat < S4096.size a := fun arg20 k0_hw147 => k0_hw147.1
theorem k0_idx207_inb : ∀ (arg20 : IVec S16 32) (k0_hw147 : k0_chk147 arg20), ∀ a x, ((![arg20] : Fin 1 → IVec S16 32) a x).toNat < S4096.size a := fun arg20 k0_hw147 => k0_hw147.2

def k0_chk148 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx204_inb : ∀ (arg21 : IVec S16 32) (k0_hw148 : k0_chk148 arg21), ∀ a x, ((![arg21] : Fin 1 → IVec S16 32) a x).toNat < S4096.size a := fun arg21 k0_hw148 => k0_hw148.1
theorem k0_idx208_inb : ∀ (arg21 : IVec S16 32) (k0_hw148 : k0_chk148 arg21), ∀ a x, ((![arg21] : Fin 1 → IVec S16 32) a x).toNat < S4096.size a := fun arg21 k0_hw148 => k0_hw148.2

def k0_chk149 (v2129 : IVec S16 32) : Prop :=
  (∀ a x, ((![v2129] : Fin 1 → IVec S16 32) a x).toNat < S8192.size a) ∧
  (∀ a x, ((![v2129] : Fin 1 → IVec S16 32) a x).toNat < S8192.size a)
theorem k0_idx209_inb : ∀ (v2129 : IVec S16 32) (k0_hw149 : k0_chk149 v2129), ∀ a x, ((![v2129] : Fin 1 → IVec S16 32) a x).toNat < S8192.size a := fun v2129 k0_hw149 => k0_hw149.1
theorem k0_idx210_inb : ∀ (v2129 : IVec S16 32) (k0_hw149 : k0_chk149 v2129), ∀ a x, ((![v2129] : Fin 1 → IVec S16 32) a x).toNat < S8192.size a := fun v2129 k0_hw149 => k0_hw149.2

def k0_chk150 (v2136 : IVec S16 32) : Prop :=
  (∀ a x, ((![v2136] : Fin 1 → IVec S16 32) a x).toNat < S8192.size a) ∧
  (∀ a x, ((![v2136] : Fin 1 → IVec S16 32) a x).toNat < S8192.size a)
theorem k0_idx211_inb : ∀ (v2136 : IVec S16 32) (k0_hw150 : k0_chk150 v2136), ∀ a x, ((![v2136] : Fin 1 → IVec S16 32) a x).toNat < S8192.size a := fun v2136 k0_hw150 => k0_hw150.1
theorem k0_idx212_inb : ∀ (v2136 : IVec S16 32) (k0_hw150 : k0_chk150 v2136), ∀ a x, ((![v2136] : Fin 1 → IVec S16 32) a x).toNat < S8192.size a := fun v2136 k0_hw150 => k0_hw150.2

def k0_chk151 (v2143 : IVec S16 32) : Prop :=
  (∀ a x, ((![v2143] : Fin 1 → IVec S16 32) a x).toNat < S8192.size a) ∧
  (∀ a x, ((![v2143] : Fin 1 → IVec S16 32) a x).toNat < S8192.size a)
theorem k0_idx213_inb : ∀ (v2143 : IVec S16 32) (k0_hw151 : k0_chk151 v2143), ∀ a x, ((![v2143] : Fin 1 → IVec S16 32) a x).toNat < S8192.size a := fun v2143 k0_hw151 => k0_hw151.1
theorem k0_idx214_inb : ∀ (v2143 : IVec S16 32) (k0_hw151 : k0_chk151 v2143), ∀ a x, ((![v2143] : Fin 1 → IVec S16 32) a x).toNat < S8192.size a := fun v2143 k0_hw151 => k0_hw151.2

def k0_chk152 (v2150 : IVec S16 32) : Prop :=
  (∀ a x, ((![v2150] : Fin 1 → IVec S16 32) a x).toNat < S8192.size a) ∧
  (∀ a x, ((![v2150] : Fin 1 → IVec S16 32) a x).toNat < S8192.size a)
theorem k0_idx215_inb : ∀ (v2150 : IVec S16 32) (k0_hw152 : k0_chk152 v2150), ∀ a x, ((![v2150] : Fin 1 → IVec S16 32) a x).toNat < S8192.size a := fun v2150 k0_hw152 => k0_hw152.1
theorem k0_idx216_inb : ∀ (v2150 : IVec S16 32) (k0_hw152 : k0_chk152 v2150), ∀ a x, ((![v2150] : Fin 1 → IVec S16 32) a x).toNat < S8192.size a := fun v2150 k0_hw152 => k0_hw152.2

def k0_chk153 (v1475_8 : IVec S16 32) : Prop :=
  (∀ a x, ((![v1475_8] : Fin 1 → IVec S16 32) a x).toNat < S4096.size a) ∧
  (∀ a x, ((![v1475_8] : Fin 1 → IVec S16 32) a x).toNat < S4096.size a)
theorem k0_idx217_inb : ∀ (v1475_8 : IVec S16 32) (k0_hw153 : k0_chk153 v1475_8), ∀ a x, ((![v1475_8] : Fin 1 → IVec S16 32) a x).toNat < S4096.size a := fun v1475_8 k0_hw153 => k0_hw153.1
theorem k0_idx221_inb : ∀ (v1475_8 : IVec S16 32) (k0_hw153 : k0_chk153 v1475_8), ∀ a x, ((![v1475_8] : Fin 1 → IVec S16 32) a x).toNat < S4096.size a := fun v1475_8 k0_hw153 => k0_hw153.2

def k0_chk154 (v1475_9 : IVec S16 32) : Prop :=
  (∀ a x, ((![v1475_9] : Fin 1 → IVec S16 32) a x).toNat < S4096.size a) ∧
  (∀ a x, ((![v1475_9] : Fin 1 → IVec S16 32) a x).toNat < S4096.size a)
theorem k0_idx218_inb : ∀ (v1475_9 : IVec S16 32) (k0_hw154 : k0_chk154 v1475_9), ∀ a x, ((![v1475_9] : Fin 1 → IVec S16 32) a x).toNat < S4096.size a := fun v1475_9 k0_hw154 => k0_hw154.1
theorem k0_idx222_inb : ∀ (v1475_9 : IVec S16 32) (k0_hw154 : k0_chk154 v1475_9), ∀ a x, ((![v1475_9] : Fin 1 → IVec S16 32) a x).toNat < S4096.size a := fun v1475_9 k0_hw154 => k0_hw154.2

def k0_chk155 (v1475_10 : IVec S16 32) : Prop :=
  (∀ a x, ((![v1475_10] : Fin 1 → IVec S16 32) a x).toNat < S4096.size a) ∧
  (∀ a x, ((![v1475_10] : Fin 1 → IVec S16 32) a x).toNat < S4096.size a)
theorem k0_idx219_inb : ∀ (v1475_10 : IVec S16 32) (k0_hw155 : k0_chk155 v1475_10), ∀ a x, ((![v1475_10] : Fin 1 → IVec S16 32) a x).toNat < S4096.size a := fun v1475_10 k0_hw155 => k0_hw155.1
theorem k0_idx223_inb : ∀ (v1475_10 : IVec S16 32) (k0_hw155 : k0_chk155 v1475_10), ∀ a x, ((![v1475_10] : Fin 1 → IVec S16 32) a x).toNat < S4096.size a := fun v1475_10 k0_hw155 => k0_hw155.2

def k0_chk156 (v1475_11 : IVec S16 32) : Prop :=
  (∀ a x, ((![v1475_11] : Fin 1 → IVec S16 32) a x).toNat < S4096.size a) ∧
  (∀ a x, ((![v1475_11] : Fin 1 → IVec S16 32) a x).toNat < S4096.size a)
theorem k0_idx220_inb : ∀ (v1475_11 : IVec S16 32) (k0_hw156 : k0_chk156 v1475_11), ∀ a x, ((![v1475_11] : Fin 1 → IVec S16 32) a x).toNat < S4096.size a := fun v1475_11 k0_hw156 => k0_hw156.1
theorem k0_idx224_inb : ∀ (v1475_11 : IVec S16 32) (k0_hw156 : k0_chk156 v1475_11), ∀ a x, ((![v1475_11] : Fin 1 → IVec S16 32) a x).toNat < S4096.size a := fun v1475_11 k0_hw156 => k0_hw156.2

def k0_chk157 (v1516 : IVec S16 32) : Prop :=
  (∀ a x, ((![v1516] : Fin 1 → IVec S16 32) a x).toNat < S8192.size a) ∧
  (∀ a x, ((![v1516] : Fin 1 → IVec S16 32) a x).toNat < S8192.size a)
theorem k0_idx225_inb : ∀ (v1516 : IVec S16 32) (k0_hw157 : k0_chk157 v1516), ∀ a x, ((![v1516] : Fin 1 → IVec S16 32) a x).toNat < S8192.size a := fun v1516 k0_hw157 => k0_hw157.1
theorem k0_idx226_inb : ∀ (v1516 : IVec S16 32) (k0_hw157 : k0_chk157 v1516), ∀ a x, ((![v1516] : Fin 1 → IVec S16 32) a x).toNat < S8192.size a := fun v1516 k0_hw157 => k0_hw157.2

def k0_chk158 (v1523 : IVec S16 32) : Prop :=
  (∀ a x, ((![v1523] : Fin 1 → IVec S16 32) a x).toNat < S8192.size a) ∧
  (∀ a x, ((![v1523] : Fin 1 → IVec S16 32) a x).toNat < S8192.size a)
theorem k0_idx227_inb : ∀ (v1523 : IVec S16 32) (k0_hw158 : k0_chk158 v1523), ∀ a x, ((![v1523] : Fin 1 → IVec S16 32) a x).toNat < S8192.size a := fun v1523 k0_hw158 => k0_hw158.1
theorem k0_idx228_inb : ∀ (v1523 : IVec S16 32) (k0_hw158 : k0_chk158 v1523), ∀ a x, ((![v1523] : Fin 1 → IVec S16 32) a x).toNat < S8192.size a := fun v1523 k0_hw158 => k0_hw158.2

def k0_chk159 (v1530 : IVec S16 32) : Prop :=
  (∀ a x, ((![v1530] : Fin 1 → IVec S16 32) a x).toNat < S8192.size a) ∧
  (∀ a x, ((![v1530] : Fin 1 → IVec S16 32) a x).toNat < S8192.size a)
theorem k0_idx229_inb : ∀ (v1530 : IVec S16 32) (k0_hw159 : k0_chk159 v1530), ∀ a x, ((![v1530] : Fin 1 → IVec S16 32) a x).toNat < S8192.size a := fun v1530 k0_hw159 => k0_hw159.1
theorem k0_idx230_inb : ∀ (v1530 : IVec S16 32) (k0_hw159 : k0_chk159 v1530), ∀ a x, ((![v1530] : Fin 1 → IVec S16 32) a x).toNat < S8192.size a := fun v1530 k0_hw159 => k0_hw159.2

def k0_chk160 (v1537 : IVec S16 32) : Prop :=
  (∀ a x, ((![v1537] : Fin 1 → IVec S16 32) a x).toNat < S8192.size a) ∧
  (∀ a x, ((![v1537] : Fin 1 → IVec S16 32) a x).toNat < S8192.size a)
theorem k0_idx231_inb : ∀ (v1537 : IVec S16 32) (k0_hw160 : k0_chk160 v1537), ∀ a x, ((![v1537] : Fin 1 → IVec S16 32) a x).toNat < S8192.size a := fun v1537 k0_hw160 => k0_hw160.1
theorem k0_idx232_inb : ∀ (v1537 : IVec S16 32) (k0_hw160 : k0_chk160 v1537), ∀ a x, ((![v1537] : Fin 1 → IVec S16 32) a x).toNat < S8192.size a := fun v1537 k0_hw160 => k0_hw160.2
@[reducible] def k0_t23_loop : Scf.Loop 32 :=
  let c0_i32_679 : BitVec 32 := 0#32
  let c32_i32_680 : BitVec 32 := 32#32
  let v1540 : BitVec 32 := Scalar.addi c0_i32_679 c32_i32_680
  let c1_i32_681 : BitVec 32 := 1#32
  ⟨c0_i32_679, v1540, c1_i32_681⟩
def k0_off23 (k0_t23 : Fin k0_t23_loop.trips) (c0_i32_975 : BitVec 32) : Fin 1 → Nat :=
  let c0_i32_679 : BitVec 32 := 0#32
  let c1_i32_681 : BitVec 32 := 1#32
  let arg9 : BitVec 32 := Scf.iv c0_i32_679 c1_i32_681 k0_t23
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t24_loop : Scf.Loop 32 :=
  let c0_i32_717 : BitVec 32 := 0#32
  let c63_i32_718 : BitVec 32 := 63#32
  let v1606 : BitVec 32 := Scalar.addi c0_i32_717 c63_i32_718
  let c1_i32_719 : BitVec 32 := 1#32
  ⟨c0_i32_717, v1606, c1_i32_719⟩
def k0_off24 (k0_t24 : Fin k0_t24_loop.trips) (c0_i32_976 : BitVec 32) : Fin 1 → Nat :=
  let c0_i32_717 : BitVec 32 := 0#32
  let c1_i32_719 : BitVec 32 := 1#32
  let arg9 : BitVec 32 := Scf.iv c0_i32_717 c1_i32_719 k0_t24
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk161 (arg10 : IVec S16 32) : Prop :=
  (∀ a x, ((![arg10] : Fin 1 → IVec S16 32) a x).toNat < S4096.size a)
theorem k0_idx233_inb : ∀ (arg10 : IVec S16 32) (k0_hw161 : k0_chk161 arg10), ∀ a x, ((![arg10] : Fin 1 → IVec S16 32) a x).toNat < S4096.size a := fun arg10 k0_hw161 => k0_hw161

def k0_chk162 (arg11 : IVec S16 32) : Prop :=
  (∀ a x, ((![arg11] : Fin 1 → IVec S16 32) a x).toNat < S4096.size a)
theorem k0_idx234_inb : ∀ (arg11 : IVec S16 32) (k0_hw162 : k0_chk162 arg11), ∀ a x, ((![arg11] : Fin 1 → IVec S16 32) a x).toNat < S4096.size a := fun arg11 k0_hw162 => k0_hw162

def k0_chk163 (arg12 : IVec S16 32) : Prop :=
  (∀ a x, ((![arg12] : Fin 1 → IVec S16 32) a x).toNat < S4096.size a)
theorem k0_idx235_inb : ∀ (arg12 : IVec S16 32) (k0_hw163 : k0_chk163 arg12), ∀ a x, ((![arg12] : Fin 1 → IVec S16 32) a x).toNat < S4096.size a := fun arg12 k0_hw163 => k0_hw163

def k0_chk164 (arg13 : IVec S16 32) : Prop :=
  (∀ a x, ((![arg13] : Fin 1 → IVec S16 32) a x).toNat < S4096.size a)
theorem k0_idx236_inb : ∀ (arg13 : IVec S16 32) (k0_hw164 : k0_chk164 arg13), ∀ a x, ((![arg13] : Fin 1 → IVec S16 32) a x).toNat < S4096.size a := fun arg13 k0_hw164 => k0_hw164

def k0_chk165 (arg14 : IVec S16 32) : Prop :=
  (∀ a x, ((![arg14] : Fin 1 → IVec S16 32) a x).toNat < S4096.size a)
theorem k0_idx237_inb : ∀ (arg14 : IVec S16 32) (k0_hw165 : k0_chk165 arg14), ∀ a x, ((![arg14] : Fin 1 → IVec S16 32) a x).toNat < S4096.size a := fun arg14 k0_hw165 => k0_hw165

def k0_chk166 (arg15 : IVec S16 32) : Prop :=
  (∀ a x, ((![arg15] : Fin 1 → IVec S16 32) a x).toNat < S4096.size a)
theorem k0_idx238_inb : ∀ (arg15 : IVec S16 32) (k0_hw166 : k0_chk166 arg15), ∀ a x, ((![arg15] : Fin 1 → IVec S16 32) a x).toNat < S4096.size a := fun arg15 k0_hw166 => k0_hw166

def k0_chk167 (arg16 : IVec S16 32) : Prop :=
  (∀ a x, ((![arg16] : Fin 1 → IVec S16 32) a x).toNat < S4096.size a)
theorem k0_idx239_inb : ∀ (arg16 : IVec S16 32) (k0_hw167 : k0_chk167 arg16), ∀ a x, ((![arg16] : Fin 1 → IVec S16 32) a x).toNat < S4096.size a := fun arg16 k0_hw167 => k0_hw167

def k0_chk168 (arg17 : IVec S16 32) : Prop :=
  (∀ a x, ((![arg17] : Fin 1 → IVec S16 32) a x).toNat < S4096.size a)
theorem k0_idx240_inb : ∀ (arg17 : IVec S16 32) (k0_hw168 : k0_chk168 arg17), ∀ a x, ((![arg17] : Fin 1 → IVec S16 32) a x).toNat < S4096.size a := fun arg17 k0_hw168 => k0_hw168

def k0_chk169 (v1607_0 : IVec S16 32) : Prop :=
  (∀ a x, ((![v1607_0] : Fin 1 → IVec S16 32) a x).toNat < S4096.size a)
theorem k0_idx241_inb : ∀ (v1607_0 : IVec S16 32) (k0_hw169 : k0_chk169 v1607_0), ∀ a x, ((![v1607_0] : Fin 1 → IVec S16 32) a x).toNat < S4096.size a := fun v1607_0 k0_hw169 => k0_hw169

def k0_chk170 (v1607_1 : IVec S16 32) : Prop :=
  (∀ a x, ((![v1607_1] : Fin 1 → IVec S16 32) a x).toNat < S4096.size a)
theorem k0_idx242_inb : ∀ (v1607_1 : IVec S16 32) (k0_hw170 : k0_chk170 v1607_1), ∀ a x, ((![v1607_1] : Fin 1 → IVec S16 32) a x).toNat < S4096.size a := fun v1607_1 k0_hw170 => k0_hw170

def k0_chk171 (v1607_2 : IVec S16 32) : Prop :=
  (∀ a x, ((![v1607_2] : Fin 1 → IVec S16 32) a x).toNat < S4096.size a)
theorem k0_idx243_inb : ∀ (v1607_2 : IVec S16 32) (k0_hw171 : k0_chk171 v1607_2), ∀ a x, ((![v1607_2] : Fin 1 → IVec S16 32) a x).toNat < S4096.size a := fun v1607_2 k0_hw171 => k0_hw171

def k0_chk172 (v1607_3 : IVec S16 32) : Prop :=
  (∀ a x, ((![v1607_3] : Fin 1 → IVec S16 32) a x).toNat < S4096.size a)
theorem k0_idx244_inb : ∀ (v1607_3 : IVec S16 32) (k0_hw172 : k0_chk172 v1607_3), ∀ a x, ((![v1607_3] : Fin 1 → IVec S16 32) a x).toNat < S4096.size a := fun v1607_3 k0_hw172 => k0_hw172

def k0_chk173 (v1607_4 : IVec S16 32) : Prop :=
  (∀ a x, ((![v1607_4] : Fin 1 → IVec S16 32) a x).toNat < S4096.size a)
theorem k0_idx245_inb : ∀ (v1607_4 : IVec S16 32) (k0_hw173 : k0_chk173 v1607_4), ∀ a x, ((![v1607_4] : Fin 1 → IVec S16 32) a x).toNat < S4096.size a := fun v1607_4 k0_hw173 => k0_hw173

def k0_chk174 (v1607_5 : IVec S16 32) : Prop :=
  (∀ a x, ((![v1607_5] : Fin 1 → IVec S16 32) a x).toNat < S4096.size a)
theorem k0_idx246_inb : ∀ (v1607_5 : IVec S16 32) (k0_hw174 : k0_chk174 v1607_5), ∀ a x, ((![v1607_5] : Fin 1 → IVec S16 32) a x).toNat < S4096.size a := fun v1607_5 k0_hw174 => k0_hw174

def k0_chk175 (v1607_6 : IVec S16 32) : Prop :=
  (∀ a x, ((![v1607_6] : Fin 1 → IVec S16 32) a x).toNat < S4096.size a)
theorem k0_idx247_inb : ∀ (v1607_6 : IVec S16 32) (k0_hw175 : k0_chk175 v1607_6), ∀ a x, ((![v1607_6] : Fin 1 → IVec S16 32) a x).toNat < S4096.size a := fun v1607_6 k0_hw175 => k0_hw175

def k0_chk176 (v1607_7 : IVec S16 32) : Prop :=
  (∀ a x, ((![v1607_7] : Fin 1 → IVec S16 32) a x).toNat < S4096.size a)
theorem k0_idx248_inb : ∀ (v1607_7 : IVec S16 32) (k0_hw176 : k0_chk176 v1607_7), ∀ a x, ((![v1607_7] : Fin 1 → IVec S16 32) a x).toNat < S4096.size a := fun v1607_7 k0_hw176 => k0_hw176
@[reducible] def k0_t25_loop : Scf.Loop 32 :=
  let c0_i32_722 : BitVec 32 := 0#32
  let c32_i32_723 : BitVec 32 := 32#32
  let v1608 : BitVec 32 := Scalar.addi c0_i32_722 c32_i32_723
  let c1_i32_724 : BitVec 32 := 1#32
  ⟨c0_i32_722, v1608, c1_i32_724⟩
def k0_off25 (k0_t25 : Fin k0_t25_loop.trips) (c0_i32_975 : BitVec 32) : Fin 1 → Nat :=
  let c0_i32_722 : BitVec 32 := 0#32
  let c1_i32_724 : BitVec 32 := 1#32
  let arg9 : BitVec 32 := Scf.iv c0_i32_722 c1_i32_724 k0_t25
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t26_loop : Scf.Loop 32 :=
  let c0_i32_750 : BitVec 32 := 0#32
  let c127_i32_751 : BitVec 32 := 127#32
  let v1646 : BitVec 32 := Scalar.addi c0_i32_750 c127_i32_751
  let c1_i32_752 : BitVec 32 := 1#32
  ⟨c0_i32_750, v1646, c1_i32_752⟩
def k0_off26 (k0_t26 : Fin k0_t26_loop.trips) (c0_i32_976 : BitVec 32) : Fin 1 → Nat :=
  let c0_i32_750 : BitVec 32 := 0#32
  let c1_i32_752 : BitVec 32 := 1#32
  let arg9 : BitVec 32 := Scf.iv c0_i32_750 c1_i32_752 k0_t26
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk177 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx249_inb : ∀ (arg18 : IVec S16 32) (k0_hw177 : k0_chk177 arg18), ∀ a x, ((![arg18] : Fin 1 → IVec S16 32) a x).toNat < S4096.size a := fun arg18 k0_hw177 => k0_hw177.1
theorem k0_idx253_inb : ∀ (arg18 : IVec S16 32) (k0_hw177 : k0_chk177 arg18), ∀ a x, ((![arg18] : Fin 1 → IVec S16 32) a x).toNat < S4096.size a := fun arg18 k0_hw177 => k0_hw177.2

def k0_chk178 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx250_inb : ∀ (arg19 : IVec S16 32) (k0_hw178 : k0_chk178 arg19), ∀ a x, ((![arg19] : Fin 1 → IVec S16 32) a x).toNat < S4096.size a := fun arg19 k0_hw178 => k0_hw178.1
theorem k0_idx254_inb : ∀ (arg19 : IVec S16 32) (k0_hw178 : k0_chk178 arg19), ∀ a x, ((![arg19] : Fin 1 → IVec S16 32) a x).toNat < S4096.size a := fun arg19 k0_hw178 => k0_hw178.2

def k0_chk179 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx251_inb : ∀ (arg20 : IVec S16 32) (k0_hw179 : k0_chk179 arg20), ∀ a x, ((![arg20] : Fin 1 → IVec S16 32) a x).toNat < S4096.size a := fun arg20 k0_hw179 => k0_hw179.1
theorem k0_idx255_inb : ∀ (arg20 : IVec S16 32) (k0_hw179 : k0_chk179 arg20), ∀ a x, ((![arg20] : Fin 1 → IVec S16 32) a x).toNat < S4096.size a := fun arg20 k0_hw179 => k0_hw179.2

def k0_chk180 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx252_inb : ∀ (arg21 : IVec S16 32) (k0_hw180 : k0_chk180 arg21), ∀ a x, ((![arg21] : Fin 1 → IVec S16 32) a x).toNat < S4096.size a := fun arg21 k0_hw180 => k0_hw180.1
theorem k0_idx256_inb : ∀ (arg21 : IVec S16 32) (k0_hw180 : k0_chk180 arg21), ∀ a x, ((![arg21] : Fin 1 → IVec S16 32) a x).toNat < S4096.size a := fun arg21 k0_hw180 => k0_hw180.2

def k0_chk181 (v2129 : IVec S16 32) : Prop :=
  (∀ a x, ((![v2129] : Fin 1 → IVec S16 32) a x).toNat < S8192.size a) ∧
  (∀ a x, ((![v2129] : Fin 1 → IVec S16 32) a x).toNat < S8192.size a)
theorem k0_idx257_inb : ∀ (v2129 : IVec S16 32) (k0_hw181 : k0_chk181 v2129), ∀ a x, ((![v2129] : Fin 1 → IVec S16 32) a x).toNat < S8192.size a := fun v2129 k0_hw181 => k0_hw181.1
theorem k0_idx258_inb : ∀ (v2129 : IVec S16 32) (k0_hw181 : k0_chk181 v2129), ∀ a x, ((![v2129] : Fin 1 → IVec S16 32) a x).toNat < S8192.size a := fun v2129 k0_hw181 => k0_hw181.2

def k0_chk182 (v2136 : IVec S16 32) : Prop :=
  (∀ a x, ((![v2136] : Fin 1 → IVec S16 32) a x).toNat < S8192.size a) ∧
  (∀ a x, ((![v2136] : Fin 1 → IVec S16 32) a x).toNat < S8192.size a)
theorem k0_idx259_inb : ∀ (v2136 : IVec S16 32) (k0_hw182 : k0_chk182 v2136), ∀ a x, ((![v2136] : Fin 1 → IVec S16 32) a x).toNat < S8192.size a := fun v2136 k0_hw182 => k0_hw182.1
theorem k0_idx260_inb : ∀ (v2136 : IVec S16 32) (k0_hw182 : k0_chk182 v2136), ∀ a x, ((![v2136] : Fin 1 → IVec S16 32) a x).toNat < S8192.size a := fun v2136 k0_hw182 => k0_hw182.2

def k0_chk183 (v2143 : IVec S16 32) : Prop :=
  (∀ a x, ((![v2143] : Fin 1 → IVec S16 32) a x).toNat < S8192.size a) ∧
  (∀ a x, ((![v2143] : Fin 1 → IVec S16 32) a x).toNat < S8192.size a)
theorem k0_idx261_inb : ∀ (v2143 : IVec S16 32) (k0_hw183 : k0_chk183 v2143), ∀ a x, ((![v2143] : Fin 1 → IVec S16 32) a x).toNat < S8192.size a := fun v2143 k0_hw183 => k0_hw183.1
theorem k0_idx262_inb : ∀ (v2143 : IVec S16 32) (k0_hw183 : k0_chk183 v2143), ∀ a x, ((![v2143] : Fin 1 → IVec S16 32) a x).toNat < S8192.size a := fun v2143 k0_hw183 => k0_hw183.2

def k0_chk184 (v2150 : IVec S16 32) : Prop :=
  (∀ a x, ((![v2150] : Fin 1 → IVec S16 32) a x).toNat < S8192.size a) ∧
  (∀ a x, ((![v2150] : Fin 1 → IVec S16 32) a x).toNat < S8192.size a)
theorem k0_idx263_inb : ∀ (v2150 : IVec S16 32) (k0_hw184 : k0_chk184 v2150), ∀ a x, ((![v2150] : Fin 1 → IVec S16 32) a x).toNat < S8192.size a := fun v2150 k0_hw184 => k0_hw184.1
theorem k0_idx264_inb : ∀ (v2150 : IVec S16 32) (k0_hw184 : k0_chk184 v2150), ∀ a x, ((![v2150] : Fin 1 → IVec S16 32) a x).toNat < S8192.size a := fun v2150 k0_hw184 => k0_hw184.2

def k0_chk185 (v1647_8 : IVec S16 32) : Prop :=
  (∀ a x, ((![v1647_8] : Fin 1 → IVec S16 32) a x).toNat < S4096.size a) ∧
  (∀ a x, ((![v1647_8] : Fin 1 → IVec S16 32) a x).toNat < S4096.size a)
theorem k0_idx265_inb : ∀ (v1647_8 : IVec S16 32) (k0_hw185 : k0_chk185 v1647_8), ∀ a x, ((![v1647_8] : Fin 1 → IVec S16 32) a x).toNat < S4096.size a := fun v1647_8 k0_hw185 => k0_hw185.1
theorem k0_idx269_inb : ∀ (v1647_8 : IVec S16 32) (k0_hw185 : k0_chk185 v1647_8), ∀ a x, ((![v1647_8] : Fin 1 → IVec S16 32) a x).toNat < S4096.size a := fun v1647_8 k0_hw185 => k0_hw185.2

def k0_chk186 (v1647_9 : IVec S16 32) : Prop :=
  (∀ a x, ((![v1647_9] : Fin 1 → IVec S16 32) a x).toNat < S4096.size a) ∧
  (∀ a x, ((![v1647_9] : Fin 1 → IVec S16 32) a x).toNat < S4096.size a)
theorem k0_idx266_inb : ∀ (v1647_9 : IVec S16 32) (k0_hw186 : k0_chk186 v1647_9), ∀ a x, ((![v1647_9] : Fin 1 → IVec S16 32) a x).toNat < S4096.size a := fun v1647_9 k0_hw186 => k0_hw186.1
theorem k0_idx270_inb : ∀ (v1647_9 : IVec S16 32) (k0_hw186 : k0_chk186 v1647_9), ∀ a x, ((![v1647_9] : Fin 1 → IVec S16 32) a x).toNat < S4096.size a := fun v1647_9 k0_hw186 => k0_hw186.2

def k0_chk187 (v1647_10 : IVec S16 32) : Prop :=
  (∀ a x, ((![v1647_10] : Fin 1 → IVec S16 32) a x).toNat < S4096.size a) ∧
  (∀ a x, ((![v1647_10] : Fin 1 → IVec S16 32) a x).toNat < S4096.size a)
theorem k0_idx267_inb : ∀ (v1647_10 : IVec S16 32) (k0_hw187 : k0_chk187 v1647_10), ∀ a x, ((![v1647_10] : Fin 1 → IVec S16 32) a x).toNat < S4096.size a := fun v1647_10 k0_hw187 => k0_hw187.1
theorem k0_idx271_inb : ∀ (v1647_10 : IVec S16 32) (k0_hw187 : k0_chk187 v1647_10), ∀ a x, ((![v1647_10] : Fin 1 → IVec S16 32) a x).toNat < S4096.size a := fun v1647_10 k0_hw187 => k0_hw187.2

def k0_chk188 (v1647_11 : IVec S16 32) : Prop :=
  (∀ a x, ((![v1647_11] : Fin 1 → IVec S16 32) a x).toNat < S4096.size a) ∧
  (∀ a x, ((![v1647_11] : Fin 1 → IVec S16 32) a x).toNat < S4096.size a)
theorem k0_idx268_inb : ∀ (v1647_11 : IVec S16 32) (k0_hw188 : k0_chk188 v1647_11), ∀ a x, ((![v1647_11] : Fin 1 → IVec S16 32) a x).toNat < S4096.size a := fun v1647_11 k0_hw188 => k0_hw188.1
theorem k0_idx272_inb : ∀ (v1647_11 : IVec S16 32) (k0_hw188 : k0_chk188 v1647_11), ∀ a x, ((![v1647_11] : Fin 1 → IVec S16 32) a x).toNat < S4096.size a := fun v1647_11 k0_hw188 => k0_hw188.2

def k0_chk189 (v1688 : IVec S16 32) : Prop :=
  (∀ a x, ((![v1688] : Fin 1 → IVec S16 32) a x).toNat < S8192.size a) ∧
  (∀ a x, ((![v1688] : Fin 1 → IVec S16 32) a x).toNat < S8192.size a)
theorem k0_idx273_inb : ∀ (v1688 : IVec S16 32) (k0_hw189 : k0_chk189 v1688), ∀ a x, ((![v1688] : Fin 1 → IVec S16 32) a x).toNat < S8192.size a := fun v1688 k0_hw189 => k0_hw189.1
theorem k0_idx274_inb : ∀ (v1688 : IVec S16 32) (k0_hw189 : k0_chk189 v1688), ∀ a x, ((![v1688] : Fin 1 → IVec S16 32) a x).toNat < S8192.size a := fun v1688 k0_hw189 => k0_hw189.2

def k0_chk190 (v1695 : IVec S16 32) : Prop :=
  (∀ a x, ((![v1695] : Fin 1 → IVec S16 32) a x).toNat < S8192.size a) ∧
  (∀ a x, ((![v1695] : Fin 1 → IVec S16 32) a x).toNat < S8192.size a)
theorem k0_idx275_inb : ∀ (v1695 : IVec S16 32) (k0_hw190 : k0_chk190 v1695), ∀ a x, ((![v1695] : Fin 1 → IVec S16 32) a x).toNat < S8192.size a := fun v1695 k0_hw190 => k0_hw190.1
theorem k0_idx276_inb : ∀ (v1695 : IVec S16 32) (k0_hw190 : k0_chk190 v1695), ∀ a x, ((![v1695] : Fin 1 → IVec S16 32) a x).toNat < S8192.size a := fun v1695 k0_hw190 => k0_hw190.2

def k0_chk191 (v1702 : IVec S16 32) : Prop :=
  (∀ a x, ((![v1702] : Fin 1 → IVec S16 32) a x).toNat < S8192.size a) ∧
  (∀ a x, ((![v1702] : Fin 1 → IVec S16 32) a x).toNat < S8192.size a)
theorem k0_idx277_inb : ∀ (v1702 : IVec S16 32) (k0_hw191 : k0_chk191 v1702), ∀ a x, ((![v1702] : Fin 1 → IVec S16 32) a x).toNat < S8192.size a := fun v1702 k0_hw191 => k0_hw191.1
theorem k0_idx278_inb : ∀ (v1702 : IVec S16 32) (k0_hw191 : k0_chk191 v1702), ∀ a x, ((![v1702] : Fin 1 → IVec S16 32) a x).toNat < S8192.size a := fun v1702 k0_hw191 => k0_hw191.2

def k0_chk192 (v1709 : IVec S16 32) : Prop :=
  (∀ a x, ((![v1709] : Fin 1 → IVec S16 32) a x).toNat < S8192.size a) ∧
  (∀ a x, ((![v1709] : Fin 1 → IVec S16 32) a x).toNat < S8192.size a)
theorem k0_idx279_inb : ∀ (v1709 : IVec S16 32) (k0_hw192 : k0_chk192 v1709), ∀ a x, ((![v1709] : Fin 1 → IVec S16 32) a x).toNat < S8192.size a := fun v1709 k0_hw192 => k0_hw192.1
theorem k0_idx280_inb : ∀ (v1709 : IVec S16 32) (k0_hw192 : k0_chk192 v1709), ∀ a x, ((![v1709] : Fin 1 → IVec S16 32) a x).toNat < S8192.size a := fun v1709 k0_hw192 => k0_hw192.2
@[reducible] def k0_t27_loop : Scf.Loop 32 :=
  let c0_i32_781 : BitVec 32 := 0#32
  let c32_i32_782 : BitVec 32 := 32#32
  let v1712 : BitVec 32 := Scalar.addi c0_i32_781 c32_i32_782
  let c1_i32_783 : BitVec 32 := 1#32
  ⟨c0_i32_781, v1712, c1_i32_783⟩
def k0_off27 (k0_t27 : Fin k0_t27_loop.trips) (c0_i32_975 : BitVec 32) : Fin 1 → Nat :=
  let c0_i32_781 : BitVec 32 := 0#32
  let c1_i32_783 : BitVec 32 := 1#32
  let arg9 : BitVec 32 := Scf.iv c0_i32_781 c1_i32_783 k0_t27
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t28_loop : Scf.Loop 32 :=
  let c0_i32_819 : BitVec 32 := 0#32
  let c63_i32_820 : BitVec 32 := 63#32
  let v1778 : BitVec 32 := Scalar.addi c0_i32_819 c63_i32_820
  let c1_i32_821 : BitVec 32 := 1#32
  ⟨c0_i32_819, v1778, c1_i32_821⟩
def k0_off28 (k0_t28 : Fin k0_t28_loop.trips) (c0_i32_976 : BitVec 32) : Fin 1 → Nat :=
  let c0_i32_819 : BitVec 32 := 0#32
  let c1_i32_821 : BitVec 32 := 1#32
  let arg9 : BitVec 32 := Scf.iv c0_i32_819 c1_i32_821 k0_t28
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk193 (arg10 : IVec S16 32) : Prop :=
  (∀ a x, ((![arg10] : Fin 1 → IVec S16 32) a x).toNat < S4096.size a)
theorem k0_idx281_inb : ∀ (arg10 : IVec S16 32) (k0_hw193 : k0_chk193 arg10), ∀ a x, ((![arg10] : Fin 1 → IVec S16 32) a x).toNat < S4096.size a := fun arg10 k0_hw193 => k0_hw193

def k0_chk194 (arg11 : IVec S16 32) : Prop :=
  (∀ a x, ((![arg11] : Fin 1 → IVec S16 32) a x).toNat < S4096.size a)
theorem k0_idx282_inb : ∀ (arg11 : IVec S16 32) (k0_hw194 : k0_chk194 arg11), ∀ a x, ((![arg11] : Fin 1 → IVec S16 32) a x).toNat < S4096.size a := fun arg11 k0_hw194 => k0_hw194

def k0_chk195 (arg12 : IVec S16 32) : Prop :=
  (∀ a x, ((![arg12] : Fin 1 → IVec S16 32) a x).toNat < S4096.size a)
theorem k0_idx283_inb : ∀ (arg12 : IVec S16 32) (k0_hw195 : k0_chk195 arg12), ∀ a x, ((![arg12] : Fin 1 → IVec S16 32) a x).toNat < S4096.size a := fun arg12 k0_hw195 => k0_hw195

def k0_chk196 (arg13 : IVec S16 32) : Prop :=
  (∀ a x, ((![arg13] : Fin 1 → IVec S16 32) a x).toNat < S4096.size a)
theorem k0_idx284_inb : ∀ (arg13 : IVec S16 32) (k0_hw196 : k0_chk196 arg13), ∀ a x, ((![arg13] : Fin 1 → IVec S16 32) a x).toNat < S4096.size a := fun arg13 k0_hw196 => k0_hw196

def k0_chk197 (arg14 : IVec S16 32) : Prop :=
  (∀ a x, ((![arg14] : Fin 1 → IVec S16 32) a x).toNat < S4096.size a)
theorem k0_idx285_inb : ∀ (arg14 : IVec S16 32) (k0_hw197 : k0_chk197 arg14), ∀ a x, ((![arg14] : Fin 1 → IVec S16 32) a x).toNat < S4096.size a := fun arg14 k0_hw197 => k0_hw197

def k0_chk198 (arg15 : IVec S16 32) : Prop :=
  (∀ a x, ((![arg15] : Fin 1 → IVec S16 32) a x).toNat < S4096.size a)
theorem k0_idx286_inb : ∀ (arg15 : IVec S16 32) (k0_hw198 : k0_chk198 arg15), ∀ a x, ((![arg15] : Fin 1 → IVec S16 32) a x).toNat < S4096.size a := fun arg15 k0_hw198 => k0_hw198

def k0_chk199 (arg16 : IVec S16 32) : Prop :=
  (∀ a x, ((![arg16] : Fin 1 → IVec S16 32) a x).toNat < S4096.size a)
theorem k0_idx287_inb : ∀ (arg16 : IVec S16 32) (k0_hw199 : k0_chk199 arg16), ∀ a x, ((![arg16] : Fin 1 → IVec S16 32) a x).toNat < S4096.size a := fun arg16 k0_hw199 => k0_hw199

def k0_chk200 (arg17 : IVec S16 32) : Prop :=
  (∀ a x, ((![arg17] : Fin 1 → IVec S16 32) a x).toNat < S4096.size a)
theorem k0_idx288_inb : ∀ (arg17 : IVec S16 32) (k0_hw200 : k0_chk200 arg17), ∀ a x, ((![arg17] : Fin 1 → IVec S16 32) a x).toNat < S4096.size a := fun arg17 k0_hw200 => k0_hw200

def k0_chk201 (v1779_0 : IVec S16 32) : Prop :=
  (∀ a x, ((![v1779_0] : Fin 1 → IVec S16 32) a x).toNat < S4096.size a)
theorem k0_idx289_inb : ∀ (v1779_0 : IVec S16 32) (k0_hw201 : k0_chk201 v1779_0), ∀ a x, ((![v1779_0] : Fin 1 → IVec S16 32) a x).toNat < S4096.size a := fun v1779_0 k0_hw201 => k0_hw201

def k0_chk202 (v1779_1 : IVec S16 32) : Prop :=
  (∀ a x, ((![v1779_1] : Fin 1 → IVec S16 32) a x).toNat < S4096.size a)
theorem k0_idx290_inb : ∀ (v1779_1 : IVec S16 32) (k0_hw202 : k0_chk202 v1779_1), ∀ a x, ((![v1779_1] : Fin 1 → IVec S16 32) a x).toNat < S4096.size a := fun v1779_1 k0_hw202 => k0_hw202

def k0_chk203 (v1779_2 : IVec S16 32) : Prop :=
  (∀ a x, ((![v1779_2] : Fin 1 → IVec S16 32) a x).toNat < S4096.size a)
theorem k0_idx291_inb : ∀ (v1779_2 : IVec S16 32) (k0_hw203 : k0_chk203 v1779_2), ∀ a x, ((![v1779_2] : Fin 1 → IVec S16 32) a x).toNat < S4096.size a := fun v1779_2 k0_hw203 => k0_hw203

def k0_chk204 (v1779_3 : IVec S16 32) : Prop :=
  (∀ a x, ((![v1779_3] : Fin 1 → IVec S16 32) a x).toNat < S4096.size a)
theorem k0_idx292_inb : ∀ (v1779_3 : IVec S16 32) (k0_hw204 : k0_chk204 v1779_3), ∀ a x, ((![v1779_3] : Fin 1 → IVec S16 32) a x).toNat < S4096.size a := fun v1779_3 k0_hw204 => k0_hw204

def k0_chk205 (v1779_4 : IVec S16 32) : Prop :=
  (∀ a x, ((![v1779_4] : Fin 1 → IVec S16 32) a x).toNat < S4096.size a)
theorem k0_idx293_inb : ∀ (v1779_4 : IVec S16 32) (k0_hw205 : k0_chk205 v1779_4), ∀ a x, ((![v1779_4] : Fin 1 → IVec S16 32) a x).toNat < S4096.size a := fun v1779_4 k0_hw205 => k0_hw205

def k0_chk206 (v1779_5 : IVec S16 32) : Prop :=
  (∀ a x, ((![v1779_5] : Fin 1 → IVec S16 32) a x).toNat < S4096.size a)
theorem k0_idx294_inb : ∀ (v1779_5 : IVec S16 32) (k0_hw206 : k0_chk206 v1779_5), ∀ a x, ((![v1779_5] : Fin 1 → IVec S16 32) a x).toNat < S4096.size a := fun v1779_5 k0_hw206 => k0_hw206

def k0_chk207 (v1779_6 : IVec S16 32) : Prop :=
  (∀ a x, ((![v1779_6] : Fin 1 → IVec S16 32) a x).toNat < S4096.size a)
theorem k0_idx295_inb : ∀ (v1779_6 : IVec S16 32) (k0_hw207 : k0_chk207 v1779_6), ∀ a x, ((![v1779_6] : Fin 1 → IVec S16 32) a x).toNat < S4096.size a := fun v1779_6 k0_hw207 => k0_hw207

def k0_chk208 (v1779_7 : IVec S16 32) : Prop :=
  (∀ a x, ((![v1779_7] : Fin 1 → IVec S16 32) a x).toNat < S4096.size a)
theorem k0_idx296_inb : ∀ (v1779_7 : IVec S16 32) (k0_hw208 : k0_chk208 v1779_7), ∀ a x, ((![v1779_7] : Fin 1 → IVec S16 32) a x).toNat < S4096.size a := fun v1779_7 k0_hw208 => k0_hw208
@[reducible] def k0_t29_loop : Scf.Loop 32 :=
  let c0_i32_824 : BitVec 32 := 0#32
  let c32_i32_825 : BitVec 32 := 32#32
  let v1780 : BitVec 32 := Scalar.addi c0_i32_824 c32_i32_825
  let c1_i32_826 : BitVec 32 := 1#32
  ⟨c0_i32_824, v1780, c1_i32_826⟩
def k0_off29 (k0_t29 : Fin k0_t29_loop.trips) (c0_i32_975 : BitVec 32) : Fin 1 → Nat :=
  let c0_i32_824 : BitVec 32 := 0#32
  let c1_i32_826 : BitVec 32 := 1#32
  let arg9 : BitVec 32 := Scf.iv c0_i32_824 c1_i32_826 k0_t29
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t30_loop : Scf.Loop 32 :=
  let c0_i32_852 : BitVec 32 := 0#32
  let c127_i32_853 : BitVec 32 := 127#32
  let v1818 : BitVec 32 := Scalar.addi c0_i32_852 c127_i32_853
  let c1_i32_854 : BitVec 32 := 1#32
  ⟨c0_i32_852, v1818, c1_i32_854⟩
def k0_off30 (k0_t30 : Fin k0_t30_loop.trips) (c0_i32_976 : BitVec 32) : Fin 1 → Nat :=
  let c0_i32_852 : BitVec 32 := 0#32
  let c1_i32_854 : BitVec 32 := 1#32
  let arg9 : BitVec 32 := Scf.iv c0_i32_852 c1_i32_854 k0_t30
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk209 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx297_inb : ∀ (arg18 : IVec S16 32) (k0_hw209 : k0_chk209 arg18), ∀ a x, ((![arg18] : Fin 1 → IVec S16 32) a x).toNat < S4096.size a := fun arg18 k0_hw209 => k0_hw209.1
theorem k0_idx301_inb : ∀ (arg18 : IVec S16 32) (k0_hw209 : k0_chk209 arg18), ∀ a x, ((![arg18] : Fin 1 → IVec S16 32) a x).toNat < S4096.size a := fun arg18 k0_hw209 => k0_hw209.2

def k0_chk210 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx298_inb : ∀ (arg19 : IVec S16 32) (k0_hw210 : k0_chk210 arg19), ∀ a x, ((![arg19] : Fin 1 → IVec S16 32) a x).toNat < S4096.size a := fun arg19 k0_hw210 => k0_hw210.1
theorem k0_idx302_inb : ∀ (arg19 : IVec S16 32) (k0_hw210 : k0_chk210 arg19), ∀ a x, ((![arg19] : Fin 1 → IVec S16 32) a x).toNat < S4096.size a := fun arg19 k0_hw210 => k0_hw210.2

def k0_chk211 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx299_inb : ∀ (arg20 : IVec S16 32) (k0_hw211 : k0_chk211 arg20), ∀ a x, ((![arg20] : Fin 1 → IVec S16 32) a x).toNat < S4096.size a := fun arg20 k0_hw211 => k0_hw211.1
theorem k0_idx303_inb : ∀ (arg20 : IVec S16 32) (k0_hw211 : k0_chk211 arg20), ∀ a x, ((![arg20] : Fin 1 → IVec S16 32) a x).toNat < S4096.size a := fun arg20 k0_hw211 => k0_hw211.2

def k0_chk212 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx300_inb : ∀ (arg21 : IVec S16 32) (k0_hw212 : k0_chk212 arg21), ∀ a x, ((![arg21] : Fin 1 → IVec S16 32) a x).toNat < S4096.size a := fun arg21 k0_hw212 => k0_hw212.1
theorem k0_idx304_inb : ∀ (arg21 : IVec S16 32) (k0_hw212 : k0_chk212 arg21), ∀ a x, ((![arg21] : Fin 1 → IVec S16 32) a x).toNat < S4096.size a := fun arg21 k0_hw212 => k0_hw212.2

def k0_chk213 (v2129 : IVec S16 32) : Prop :=
  (∀ a x, ((![v2129] : Fin 1 → IVec S16 32) a x).toNat < S8192.size a) ∧
  (∀ a x, ((![v2129] : Fin 1 → IVec S16 32) a x).toNat < S8192.size a)
theorem k0_idx305_inb : ∀ (v2129 : IVec S16 32) (k0_hw213 : k0_chk213 v2129), ∀ a x, ((![v2129] : Fin 1 → IVec S16 32) a x).toNat < S8192.size a := fun v2129 k0_hw213 => k0_hw213.1
theorem k0_idx306_inb : ∀ (v2129 : IVec S16 32) (k0_hw213 : k0_chk213 v2129), ∀ a x, ((![v2129] : Fin 1 → IVec S16 32) a x).toNat < S8192.size a := fun v2129 k0_hw213 => k0_hw213.2

def k0_chk214 (v2136 : IVec S16 32) : Prop :=
  (∀ a x, ((![v2136] : Fin 1 → IVec S16 32) a x).toNat < S8192.size a) ∧
  (∀ a x, ((![v2136] : Fin 1 → IVec S16 32) a x).toNat < S8192.size a)
theorem k0_idx307_inb : ∀ (v2136 : IVec S16 32) (k0_hw214 : k0_chk214 v2136), ∀ a x, ((![v2136] : Fin 1 → IVec S16 32) a x).toNat < S8192.size a := fun v2136 k0_hw214 => k0_hw214.1
theorem k0_idx308_inb : ∀ (v2136 : IVec S16 32) (k0_hw214 : k0_chk214 v2136), ∀ a x, ((![v2136] : Fin 1 → IVec S16 32) a x).toNat < S8192.size a := fun v2136 k0_hw214 => k0_hw214.2

def k0_chk215 (v2143 : IVec S16 32) : Prop :=
  (∀ a x, ((![v2143] : Fin 1 → IVec S16 32) a x).toNat < S8192.size a) ∧
  (∀ a x, ((![v2143] : Fin 1 → IVec S16 32) a x).toNat < S8192.size a)
theorem k0_idx309_inb : ∀ (v2143 : IVec S16 32) (k0_hw215 : k0_chk215 v2143), ∀ a x, ((![v2143] : Fin 1 → IVec S16 32) a x).toNat < S8192.size a := fun v2143 k0_hw215 => k0_hw215.1
theorem k0_idx310_inb : ∀ (v2143 : IVec S16 32) (k0_hw215 : k0_chk215 v2143), ∀ a x, ((![v2143] : Fin 1 → IVec S16 32) a x).toNat < S8192.size a := fun v2143 k0_hw215 => k0_hw215.2

def k0_chk216 (v2150 : IVec S16 32) : Prop :=
  (∀ a x, ((![v2150] : Fin 1 → IVec S16 32) a x).toNat < S8192.size a) ∧
  (∀ a x, ((![v2150] : Fin 1 → IVec S16 32) a x).toNat < S8192.size a)
theorem k0_idx311_inb : ∀ (v2150 : IVec S16 32) (k0_hw216 : k0_chk216 v2150), ∀ a x, ((![v2150] : Fin 1 → IVec S16 32) a x).toNat < S8192.size a := fun v2150 k0_hw216 => k0_hw216.1
theorem k0_idx312_inb : ∀ (v2150 : IVec S16 32) (k0_hw216 : k0_chk216 v2150), ∀ a x, ((![v2150] : Fin 1 → IVec S16 32) a x).toNat < S8192.size a := fun v2150 k0_hw216 => k0_hw216.2

def k0_chk217 (v1819_8 : IVec S16 32) : Prop :=
  (∀ a x, ((![v1819_8] : Fin 1 → IVec S16 32) a x).toNat < S4096.size a) ∧
  (∀ a x, ((![v1819_8] : Fin 1 → IVec S16 32) a x).toNat < S4096.size a)
theorem k0_idx313_inb : ∀ (v1819_8 : IVec S16 32) (k0_hw217 : k0_chk217 v1819_8), ∀ a x, ((![v1819_8] : Fin 1 → IVec S16 32) a x).toNat < S4096.size a := fun v1819_8 k0_hw217 => k0_hw217.1
theorem k0_idx317_inb : ∀ (v1819_8 : IVec S16 32) (k0_hw217 : k0_chk217 v1819_8), ∀ a x, ((![v1819_8] : Fin 1 → IVec S16 32) a x).toNat < S4096.size a := fun v1819_8 k0_hw217 => k0_hw217.2

def k0_chk218 (v1819_9 : IVec S16 32) : Prop :=
  (∀ a x, ((![v1819_9] : Fin 1 → IVec S16 32) a x).toNat < S4096.size a) ∧
  (∀ a x, ((![v1819_9] : Fin 1 → IVec S16 32) a x).toNat < S4096.size a)
theorem k0_idx314_inb : ∀ (v1819_9 : IVec S16 32) (k0_hw218 : k0_chk218 v1819_9), ∀ a x, ((![v1819_9] : Fin 1 → IVec S16 32) a x).toNat < S4096.size a := fun v1819_9 k0_hw218 => k0_hw218.1
theorem k0_idx318_inb : ∀ (v1819_9 : IVec S16 32) (k0_hw218 : k0_chk218 v1819_9), ∀ a x, ((![v1819_9] : Fin 1 → IVec S16 32) a x).toNat < S4096.size a := fun v1819_9 k0_hw218 => k0_hw218.2

def k0_chk219 (v1819_10 : IVec S16 32) : Prop :=
  (∀ a x, ((![v1819_10] : Fin 1 → IVec S16 32) a x).toNat < S4096.size a) ∧
  (∀ a x, ((![v1819_10] : Fin 1 → IVec S16 32) a x).toNat < S4096.size a)
theorem k0_idx315_inb : ∀ (v1819_10 : IVec S16 32) (k0_hw219 : k0_chk219 v1819_10), ∀ a x, ((![v1819_10] : Fin 1 → IVec S16 32) a x).toNat < S4096.size a := fun v1819_10 k0_hw219 => k0_hw219.1
theorem k0_idx319_inb : ∀ (v1819_10 : IVec S16 32) (k0_hw219 : k0_chk219 v1819_10), ∀ a x, ((![v1819_10] : Fin 1 → IVec S16 32) a x).toNat < S4096.size a := fun v1819_10 k0_hw219 => k0_hw219.2

def k0_chk220 (v1819_11 : IVec S16 32) : Prop :=
  (∀ a x, ((![v1819_11] : Fin 1 → IVec S16 32) a x).toNat < S4096.size a) ∧
  (∀ a x, ((![v1819_11] : Fin 1 → IVec S16 32) a x).toNat < S4096.size a)
theorem k0_idx316_inb : ∀ (v1819_11 : IVec S16 32) (k0_hw220 : k0_chk220 v1819_11), ∀ a x, ((![v1819_11] : Fin 1 → IVec S16 32) a x).toNat < S4096.size a := fun v1819_11 k0_hw220 => k0_hw220.1
theorem k0_idx320_inb : ∀ (v1819_11 : IVec S16 32) (k0_hw220 : k0_chk220 v1819_11), ∀ a x, ((![v1819_11] : Fin 1 → IVec S16 32) a x).toNat < S4096.size a := fun v1819_11 k0_hw220 => k0_hw220.2

def k0_chk221 (v1860 : IVec S16 32) : Prop :=
  (∀ a x, ((![v1860] : Fin 1 → IVec S16 32) a x).toNat < S8192.size a) ∧
  (∀ a x, ((![v1860] : Fin 1 → IVec S16 32) a x).toNat < S8192.size a)
theorem k0_idx321_inb : ∀ (v1860 : IVec S16 32) (k0_hw221 : k0_chk221 v1860), ∀ a x, ((![v1860] : Fin 1 → IVec S16 32) a x).toNat < S8192.size a := fun v1860 k0_hw221 => k0_hw221.1
theorem k0_idx322_inb : ∀ (v1860 : IVec S16 32) (k0_hw221 : k0_chk221 v1860), ∀ a x, ((![v1860] : Fin 1 → IVec S16 32) a x).toNat < S8192.size a := fun v1860 k0_hw221 => k0_hw221.2

def k0_chk222 (v1867 : IVec S16 32) : Prop :=
  (∀ a x, ((![v1867] : Fin 1 → IVec S16 32) a x).toNat < S8192.size a) ∧
  (∀ a x, ((![v1867] : Fin 1 → IVec S16 32) a x).toNat < S8192.size a)
theorem k0_idx323_inb : ∀ (v1867 : IVec S16 32) (k0_hw222 : k0_chk222 v1867), ∀ a x, ((![v1867] : Fin 1 → IVec S16 32) a x).toNat < S8192.size a := fun v1867 k0_hw222 => k0_hw222.1
theorem k0_idx324_inb : ∀ (v1867 : IVec S16 32) (k0_hw222 : k0_chk222 v1867), ∀ a x, ((![v1867] : Fin 1 → IVec S16 32) a x).toNat < S8192.size a := fun v1867 k0_hw222 => k0_hw222.2

def k0_chk223 (v1874 : IVec S16 32) : Prop :=
  (∀ a x, ((![v1874] : Fin 1 → IVec S16 32) a x).toNat < S8192.size a) ∧
  (∀ a x, ((![v1874] : Fin 1 → IVec S16 32) a x).toNat < S8192.size a)
theorem k0_idx325_inb : ∀ (v1874 : IVec S16 32) (k0_hw223 : k0_chk223 v1874), ∀ a x, ((![v1874] : Fin 1 → IVec S16 32) a x).toNat < S8192.size a := fun v1874 k0_hw223 => k0_hw223.1
theorem k0_idx326_inb : ∀ (v1874 : IVec S16 32) (k0_hw223 : k0_chk223 v1874), ∀ a x, ((![v1874] : Fin 1 → IVec S16 32) a x).toNat < S8192.size a := fun v1874 k0_hw223 => k0_hw223.2

def k0_chk224 (v1881 : IVec S16 32) : Prop :=
  (∀ a x, ((![v1881] : Fin 1 → IVec S16 32) a x).toNat < S8192.size a) ∧
  (∀ a x, ((![v1881] : Fin 1 → IVec S16 32) a x).toNat < S8192.size a)
theorem k0_idx327_inb : ∀ (v1881 : IVec S16 32) (k0_hw224 : k0_chk224 v1881), ∀ a x, ((![v1881] : Fin 1 → IVec S16 32) a x).toNat < S8192.size a := fun v1881 k0_hw224 => k0_hw224.1
theorem k0_idx328_inb : ∀ (v1881 : IVec S16 32) (k0_hw224 : k0_chk224 v1881), ∀ a x, ((![v1881] : Fin 1 → IVec S16 32) a x).toNat < S8192.size a := fun v1881 k0_hw224 => k0_hw224.2
@[reducible] def k0_t31_loop : Scf.Loop 32 :=
  let c0_i32_883 : BitVec 32 := 0#32
  let c32_i32_884 : BitVec 32 := 32#32
  let v1884 : BitVec 32 := Scalar.addi c0_i32_883 c32_i32_884
  let c1_i32_885 : BitVec 32 := 1#32
  ⟨c0_i32_883, v1884, c1_i32_885⟩
def k0_off31 (k0_t31 : Fin k0_t31_loop.trips) (c0_i32_975 : BitVec 32) : Fin 1 → Nat :=
  let c0_i32_883 : BitVec 32 := 0#32
  let c1_i32_885 : BitVec 32 := 1#32
  let arg9 : BitVec 32 := Scf.iv c0_i32_883 c1_i32_885 k0_t31
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t32_loop : Scf.Loop 32 :=
  let c0_i32_921 : BitVec 32 := 0#32
  let c63_i32_922 : BitVec 32 := 63#32
  let v1950 : BitVec 32 := Scalar.addi c0_i32_921 c63_i32_922
  let c1_i32_923 : BitVec 32 := 1#32
  ⟨c0_i32_921, v1950, c1_i32_923⟩
def k0_off32 (k0_t32 : Fin k0_t32_loop.trips) (c0_i32_976 : BitVec 32) : Fin 1 → Nat :=
  let c0_i32_921 : BitVec 32 := 0#32
  let c1_i32_923 : BitVec 32 := 1#32
  let arg9 : BitVec 32 := Scf.iv c0_i32_921 c1_i32_923 k0_t32
  let c1_i32_974 : BitVec 32 := 1#32
  let v2028 : BitVec 32 := Scalar.addi arg9 c1_i32_974
  let c8_i32_975 : BitVec 32 := 8#32
  let v2029 : BitVec 32 := Scalar.muli v2028 c8_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk225 (arg10 : IVec S16 32) : Prop :=
  (∀ a x, ((![arg10] : Fin 1 → IVec S16 32) a x).toNat < S4096.size a)
theorem k0_idx329_inb : ∀ (arg10 : IVec S16 32) (k0_hw225 : k0_chk225 arg10), ∀ a x, ((![arg10] : Fin 1 → IVec S16 32) a x).toNat < S4096.size a := fun arg10 k0_hw225 => k0_hw225

def k0_chk226 (arg11 : IVec S16 32) : Prop :=
  (∀ a x, ((![arg11] : Fin 1 → IVec S16 32) a x).toNat < S4096.size a)
theorem k0_idx330_inb : ∀ (arg11 : IVec S16 32) (k0_hw226 : k0_chk226 arg11), ∀ a x, ((![arg11] : Fin 1 → IVec S16 32) a x).toNat < S4096.size a := fun arg11 k0_hw226 => k0_hw226

def k0_chk227 (arg12 : IVec S16 32) : Prop :=
  (∀ a x, ((![arg12] : Fin 1 → IVec S16 32) a x).toNat < S4096.size a)
theorem k0_idx331_inb : ∀ (arg12 : IVec S16 32) (k0_hw227 : k0_chk227 arg12), ∀ a x, ((![arg12] : Fin 1 → IVec S16 32) a x).toNat < S4096.size a := fun arg12 k0_hw227 => k0_hw227

def k0_chk228 (arg13 : IVec S16 32) : Prop :=
  (∀ a x, ((![arg13] : Fin 1 → IVec S16 32) a x).toNat < S4096.size a)
theorem k0_idx332_inb : ∀ (arg13 : IVec S16 32) (k0_hw228 : k0_chk228 arg13), ∀ a x, ((![arg13] : Fin 1 → IVec S16 32) a x).toNat < S4096.size a := fun arg13 k0_hw228 => k0_hw228

def k0_chk229 (arg14 : IVec S16 32) : Prop :=
  (∀ a x, ((![arg14] : Fin 1 → IVec S16 32) a x).toNat < S4096.size a)
theorem k0_idx333_inb : ∀ (arg14 : IVec S16 32) (k0_hw229 : k0_chk229 arg14), ∀ a x, ((![arg14] : Fin 1 → IVec S16 32) a x).toNat < S4096.size a := fun arg14 k0_hw229 => k0_hw229

def k0_chk230 (arg15 : IVec S16 32) : Prop :=
  (∀ a x, ((![arg15] : Fin 1 → IVec S16 32) a x).toNat < S4096.size a)
theorem k0_idx334_inb : ∀ (arg15 : IVec S16 32) (k0_hw230 : k0_chk230 arg15), ∀ a x, ((![arg15] : Fin 1 → IVec S16 32) a x).toNat < S4096.size a := fun arg15 k0_hw230 => k0_hw230

def k0_chk231 (arg16 : IVec S16 32) : Prop :=
  (∀ a x, ((![arg16] : Fin 1 → IVec S16 32) a x).toNat < S4096.size a)
theorem k0_idx335_inb : ∀ (arg16 : IVec S16 32) (k0_hw231 : k0_chk231 arg16), ∀ a x, ((![arg16] : Fin 1 → IVec S16 32) a x).toNat < S4096.size a := fun arg16 k0_hw231 => k0_hw231

def k0_chk232 (arg17 : IVec S16 32) : Prop :=
  (∀ a x, ((![arg17] : Fin 1 → IVec S16 32) a x).toNat < S4096.size a)
theorem k0_idx336_inb : ∀ (arg17 : IVec S16 32) (k0_hw232 : k0_chk232 arg17), ∀ a x, ((![arg17] : Fin 1 → IVec S16 32) a x).toNat < S4096.size a := fun arg17 k0_hw232 => k0_hw232

def k0_chk233 (v1951_0 : IVec S16 32) : Prop :=
  (∀ a x, ((![v1951_0] : Fin 1 → IVec S16 32) a x).toNat < S4096.size a)
theorem k0_idx337_inb : ∀ (v1951_0 : IVec S16 32) (k0_hw233 : k0_chk233 v1951_0), ∀ a x, ((![v1951_0] : Fin 1 → IVec S16 32) a x).toNat < S4096.size a := fun v1951_0 k0_hw233 => k0_hw233

def k0_chk234 (v1951_1 : IVec S16 32) : Prop :=
  (∀ a x, ((![v1951_1] : Fin 1 → IVec S16 32) a x).toNat < S4096.size a)
theorem k0_idx338_inb : ∀ (v1951_1 : IVec S16 32) (k0_hw234 : k0_chk234 v1951_1), ∀ a x, ((![v1951_1] : Fin 1 → IVec S16 32) a x).toNat < S4096.size a := fun v1951_1 k0_hw234 => k0_hw234

def k0_chk235 (v1951_2 : IVec S16 32) : Prop :=
  (∀ a x, ((![v1951_2] : Fin 1 → IVec S16 32) a x).toNat < S4096.size a)
theorem k0_idx339_inb : ∀ (v1951_2 : IVec S16 32) (k0_hw235 : k0_chk235 v1951_2), ∀ a x, ((![v1951_2] : Fin 1 → IVec S16 32) a x).toNat < S4096.size a := fun v1951_2 k0_hw235 => k0_hw235

def k0_chk236 (v1951_3 : IVec S16 32) : Prop :=
  (∀ a x, ((![v1951_3] : Fin 1 → IVec S16 32) a x).toNat < S4096.size a)
theorem k0_idx340_inb : ∀ (v1951_3 : IVec S16 32) (k0_hw236 : k0_chk236 v1951_3), ∀ a x, ((![v1951_3] : Fin 1 → IVec S16 32) a x).toNat < S4096.size a := fun v1951_3 k0_hw236 => k0_hw236

def k0_chk237 (v1951_4 : IVec S16 32) : Prop :=
  (∀ a x, ((![v1951_4] : Fin 1 → IVec S16 32) a x).toNat < S4096.size a)
theorem k0_idx341_inb : ∀ (v1951_4 : IVec S16 32) (k0_hw237 : k0_chk237 v1951_4), ∀ a x, ((![v1951_4] : Fin 1 → IVec S16 32) a x).toNat < S4096.size a := fun v1951_4 k0_hw237 => k0_hw237

def k0_chk238 (v1951_5 : IVec S16 32) : Prop :=
  (∀ a x, ((![v1951_5] : Fin 1 → IVec S16 32) a x).toNat < S4096.size a)
theorem k0_idx342_inb : ∀ (v1951_5 : IVec S16 32) (k0_hw238 : k0_chk238 v1951_5), ∀ a x, ((![v1951_5] : Fin 1 → IVec S16 32) a x).toNat < S4096.size a := fun v1951_5 k0_hw238 => k0_hw238

def k0_chk239 (v1951_6 : IVec S16 32) : Prop :=
  (∀ a x, ((![v1951_6] : Fin 1 → IVec S16 32) a x).toNat < S4096.size a)
theorem k0_idx343_inb : ∀ (v1951_6 : IVec S16 32) (k0_hw239 : k0_chk239 v1951_6), ∀ a x, ((![v1951_6] : Fin 1 → IVec S16 32) a x).toNat < S4096.size a := fun v1951_6 k0_hw239 => k0_hw239

def k0_chk240 (v1951_7 : IVec S16 32) : Prop :=
  (∀ a x, ((![v1951_7] : Fin 1 → IVec S16 32) a x).toNat < S4096.size a)
theorem k0_idx344_inb : ∀ (v1951_7 : IVec S16 32) (k0_hw240 : k0_chk240 v1951_7), ∀ a x, ((![v1951_7] : Fin 1 → IVec S16 32) a x).toNat < S4096.size a := fun v1951_7 k0_hw240 => k0_hw240
@[reducible] def k0_t33_loop : Scf.Loop 32 :=
  let c0_i32_926 : BitVec 32 := 0#32
  let c32_i32_927 : BitVec 32 := 32#32
  let v1952 : BitVec 32 := Scalar.addi c0_i32_926 c32_i32_927
  let c1_i32_928 : BitVec 32 := 1#32
  ⟨c0_i32_926, v1952, c1_i32_928⟩
def k0_off33 (k0_t33 : Fin k0_t33_loop.trips) (c0_i32_975 : BitVec 32) : Fin 1 → Nat :=
  let c0_i32_926 : BitVec 32 := 0#32
  let c1_i32_928 : BitVec 32 := 1#32
  let arg9 : BitVec 32 := Scf.iv c0_i32_926 c1_i32_928 k0_t33
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]
@[reducible] def k0_t34_loop : Scf.Loop 32 :=
  let c0_i32_954 : BitVec 32 := 0#32
  let c127_i32_955 : BitVec 32 := 127#32
  let v1990 : BitVec 32 := Scalar.addi c0_i32_954 c127_i32_955
  let c1_i32_956 : BitVec 32 := 1#32
  ⟨c0_i32_954, v1990, c1_i32_956⟩
def k0_off34 (k0_t34 : Fin k0_t34_loop.trips) (c0_i32_976 : BitVec 32) : Fin 1 → Nat :=
  let c0_i32_954 : BitVec 32 := 0#32
  let c1_i32_956 : BitVec 32 := 1#32
  let arg9 : BitVec 32 := Scf.iv c0_i32_954 c1_i32_956 k0_t34
  let c1_i32_974 : BitVec 32 := 1#32
  let v2028 : BitVec 32 := Scalar.addi arg9 c1_i32_974
  let c4_i32_975 : BitVec 32 := 4#32
  let v2029 : BitVec 32 := Scalar.muli v2028 c4_i32_975
  let v2030 : BitVec 32 := Scalar.addi v2029 c0_i32_976
  let c16_i32_977 : BitVec 32 := 16#32
  let v2031 : BitVec 32 := Scalar.muli v2030 c16_i32_977
  let v2032 : Index := Scalar.indexCast v2031
  ![v2032.toNat]

def k0_chk241 (arg18 : IVec S16 32) : Prop :=
  (∀ a x, ((![arg18] : Fin 1 → IVec S16 32) a x).toNat < S4096.size a) ∧
  (∀ a x, ((![arg18] : Fin 1 → IVec S16 32) a x).toNat < S4096.size a)
theorem k0_idx345_inb : ∀ (arg18 : IVec S16 32) (k0_hw241 : k0_chk241 arg18), ∀ a x, ((![arg18] : Fin 1 → IVec S16 32) a x).toNat < S4096.size a := fun arg18 k0_hw241 => k0_hw241.1
theorem k0_idx349_inb : ∀ (arg18 : IVec S16 32) (k0_hw241 : k0_chk241 arg18), ∀ a x, ((![arg18] : Fin 1 → IVec S16 32) a x).toNat < S4096.size a := fun arg18 k0_hw241 => k0_hw241.2

def k0_chk242 (arg19 : IVec S16 32) : Prop :=
  (∀ a x, ((![arg19] : Fin 1 → IVec S16 32) a x).toNat < S4096.size a) ∧
  (∀ a x, ((![arg19] : Fin 1 → IVec S16 32) a x).toNat < S4096.size a)
theorem k0_idx346_inb : ∀ (arg19 : IVec S16 32) (k0_hw242 : k0_chk242 arg19), ∀ a x, ((![arg19] : Fin 1 → IVec S16 32) a x).toNat < S4096.size a := fun arg19 k0_hw242 => k0_hw242.1
theorem k0_idx350_inb : ∀ (arg19 : IVec S16 32) (k0_hw242 : k0_chk242 arg19), ∀ a x, ((![arg19] : Fin 1 → IVec S16 32) a x).toNat < S4096.size a := fun arg19 k0_hw242 => k0_hw242.2

def k0_chk243 (arg20 : IVec S16 32) : Prop :=
  (∀ a x, ((![arg20] : Fin 1 → IVec S16 32) a x).toNat < S4096.size a) ∧
  (∀ a x, ((![arg20] : Fin 1 → IVec S16 32) a x).toNat < S4096.size a)
theorem k0_idx347_inb : ∀ (arg20 : IVec S16 32) (k0_hw243 : k0_chk243 arg20), ∀ a x, ((![arg20] : Fin 1 → IVec S16 32) a x).toNat < S4096.size a := fun arg20 k0_hw243 => k0_hw243.1
theorem k0_idx351_inb : ∀ (arg20 : IVec S16 32) (k0_hw243 : k0_chk243 arg20), ∀ a x, ((![arg20] : Fin 1 → IVec S16 32) a x).toNat < S4096.size a := fun arg20 k0_hw243 => k0_hw243.2

def k0_chk244 (arg21 : IVec S16 32) : Prop :=
  (∀ a x, ((![arg21] : Fin 1 → IVec S16 32) a x).toNat < S4096.size a) ∧
  (∀ a x, ((![arg21] : Fin 1 → IVec S16 32) a x).toNat < S4096.size a)
theorem k0_idx348_inb : ∀ (arg21 : IVec S16 32) (k0_hw244 : k0_chk244 arg21), ∀ a x, ((![arg21] : Fin 1 → IVec S16 32) a x).toNat < S4096.size a := fun arg21 k0_hw244 => k0_hw244.1
theorem k0_idx352_inb : ∀ (arg21 : IVec S16 32) (k0_hw244 : k0_chk244 arg21), ∀ a x, ((![arg21] : Fin 1 → IVec S16 32) a x).toNat < S4096.size a := fun arg21 k0_hw244 => k0_hw244.2

def k0_chk245 (v2089 : IVec S16 32) : Prop :=
  (∀ a x, ((![v2089] : Fin 1 → IVec S16 32) a x).toNat < S8192.size a)
theorem k0_idx353_inb : ∀ (v2089 : IVec S16 32) (k0_hw245 : k0_chk245 v2089), ∀ a x, ((![v2089] : Fin 1 → IVec S16 32) a x).toNat < S8192.size a := fun v2089 k0_hw245 => k0_hw245

def k0_chk246 (v2097 : IVec S16 32) : Prop :=
  (∀ a x, ((![v2097] : Fin 1 → IVec S16 32) a x).toNat < S8192.size a)
theorem k0_idx354_inb : ∀ (v2097 : IVec S16 32) (k0_hw246 : k0_chk246 v2097), ∀ a x, ((![v2097] : Fin 1 → IVec S16 32) a x).toNat < S8192.size a := fun v2097 k0_hw246 => k0_hw246

def k0_chk247 (v2107 : IVec S16 32) : Prop :=
  (∀ a x, ((![v2107] : Fin 1 → IVec S16 32) a x).toNat < S8192.size a)
theorem k0_idx355_inb : ∀ (v2107 : IVec S16 32) (k0_hw247 : k0_chk247 v2107), ∀ a x, ((![v2107] : Fin 1 → IVec S16 32) a x).toNat < S8192.size a := fun v2107 k0_hw247 => k0_hw247

def k0_chk248 (v2122 : IVec S16 32) : Prop :=
  (∀ a x, ((![v2122] : Fin 1 → IVec S16 32) a x).toNat < S8192.size a)
theorem k0_idx356_inb : ∀ (v2122 : IVec S16 32) (k0_hw248 : k0_chk248 v2122), ∀ a x, ((![v2122] : Fin 1 → IVec S16 32) a x).toNat < S8192.size a := fun v2122 k0_hw248 => k0_hw248

def k0_chk249 (v1991_8 : IVec S16 32) : Prop :=
  (∀ a x, ((![v1991_8] : Fin 1 → IVec S16 32) a x).toNat < S4096.size a) ∧
  (∀ a x, ((![v1991_8] : Fin 1 → IVec S16 32) a x).toNat < S4096.size a)
theorem k0_idx357_inb : ∀ (v1991_8 : IVec S16 32) (k0_hw249 : k0_chk249 v1991_8), ∀ a x, ((![v1991_8] : Fin 1 → IVec S16 32) a x).toNat < S4096.size a := fun v1991_8 k0_hw249 => k0_hw249.1
theorem k0_idx361_inb : ∀ (v1991_8 : IVec S16 32) (k0_hw249 : k0_chk249 v1991_8), ∀ a x, ((![v1991_8] : Fin 1 → IVec S16 32) a x).toNat < S4096.size a := fun v1991_8 k0_hw249 => k0_hw249.2

def k0_chk250 (v1991_9 : IVec S16 32) : Prop :=
  (∀ a x, ((![v1991_9] : Fin 1 → IVec S16 32) a x).toNat < S4096.size a) ∧
  (∀ a x, ((![v1991_9] : Fin 1 → IVec S16 32) a x).toNat < S4096.size a)
theorem k0_idx358_inb : ∀ (v1991_9 : IVec S16 32) (k0_hw250 : k0_chk250 v1991_9), ∀ a x, ((![v1991_9] : Fin 1 → IVec S16 32) a x).toNat < S4096.size a := fun v1991_9 k0_hw250 => k0_hw250.1
theorem k0_idx362_inb : ∀ (v1991_9 : IVec S16 32) (k0_hw250 : k0_chk250 v1991_9), ∀ a x, ((![v1991_9] : Fin 1 → IVec S16 32) a x).toNat < S4096.size a := fun v1991_9 k0_hw250 => k0_hw250.2

def k0_chk251 (v1991_10 : IVec S16 32) : Prop :=
  (∀ a x, ((![v1991_10] : Fin 1 → IVec S16 32) a x).toNat < S4096.size a) ∧
  (∀ a x, ((![v1991_10] : Fin 1 → IVec S16 32) a x).toNat < S4096.size a)
theorem k0_idx359_inb : ∀ (v1991_10 : IVec S16 32) (k0_hw251 : k0_chk251 v1991_10), ∀ a x, ((![v1991_10] : Fin 1 → IVec S16 32) a x).toNat < S4096.size a := fun v1991_10 k0_hw251 => k0_hw251.1
theorem k0_idx363_inb : ∀ (v1991_10 : IVec S16 32) (k0_hw251 : k0_chk251 v1991_10), ∀ a x, ((![v1991_10] : Fin 1 → IVec S16 32) a x).toNat < S4096.size a := fun v1991_10 k0_hw251 => k0_hw251.2

def k0_chk252 (v1991_11 : IVec S16 32) : Prop :=
  (∀ a x, ((![v1991_11] : Fin 1 → IVec S16 32) a x).toNat < S4096.size a) ∧
  (∀ a x, ((![v1991_11] : Fin 1 → IVec S16 32) a x).toNat < S4096.size a)
theorem k0_idx360_inb : ∀ (v1991_11 : IVec S16 32) (k0_hw252 : k0_chk252 v1991_11), ∀ a x, ((![v1991_11] : Fin 1 → IVec S16 32) a x).toNat < S4096.size a := fun v1991_11 k0_hw252 => k0_hw252.1
theorem k0_idx364_inb : ∀ (v1991_11 : IVec S16 32) (k0_hw252 : k0_chk252 v1991_11), ∀ a x, ((![v1991_11] : Fin 1 → IVec S16 32) a x).toNat < S4096.size a := fun v1991_11 k0_hw252 => k0_hw252.2

def k0_chk253 (v1992 : IVec S16 32) : Prop :=
  (∀ a x, ((![v1992] : Fin 1 → IVec S16 32) a x).toNat < S8192.size a)
theorem k0_idx365_inb : ∀ (v1992 : IVec S16 32) (k0_hw253 : k0_chk253 v1992), ∀ a x, ((![v1992] : Fin 1 → IVec S16 32) a x).toNat < S8192.size a := fun v1992 k0_hw253 => k0_hw253

def k0_chk254 (v2000 : IVec S16 32) : Prop :=
  (∀ a x, ((![v2000] : Fin 1 → IVec S16 32) a x).toNat < S8192.size a)
theorem k0_idx366_inb : ∀ (v2000 : IVec S16 32) (k0_hw254 : k0_chk254 v2000), ∀ a x, ((![v2000] : Fin 1 → IVec S16 32) a x).toNat < S8192.size a := fun v2000 k0_hw254 => k0_hw254

def k0_chk255 (v2010 : IVec S16 32) : Prop :=
  (∀ a x, ((![v2010] : Fin 1 → IVec S16 32) a x).toNat < S8192.size a)
theorem k0_idx367_inb : ∀ (v2010 : IVec S16 32) (k0_hw255 : k0_chk255 v2010), ∀ a x, ((![v2010] : Fin 1 → IVec S16 32) a x).toNat < S8192.size a := fun v2010 k0_hw255 => k0_hw255

def k0_chk256 (v2025 : IVec S16 32) : Prop :=
  (∀ a x, ((![v2025] : Fin 1 → IVec S16 32) a x).toNat < S8192.size a)
theorem k0_idx368_inb : ∀ (v2025 : IVec S16 32) (k0_hw256 : k0_chk256 v2025), ∀ a x, ((![v2025] : Fin 1 → IVec S16 32) a x).toNat < S8192.size a := fun v2025 k0_hw256 => k0_hw256
@[reducible] def k0_t35_loop : Scf.Loop 32 :=
  let c0_i32_971 : BitVec 32 := 0#32
  let c64_i32 : BitVec 32 := 64#32
  let v2026 : BitVec 32 := Scalar.addi c0_i32_971 c64_i32
  let c1_i32_972 : BitVec 32 := 1#32
  ⟨c0_i32_971, v2026, c1_i32_972⟩
def k0_off35 (k0_t35 : Fin k0_t35_loop.trips) (c0_i32_975 : BitVec 32) : Fin 1 → Nat :=
  let c0_i32_971 : BitVec 32 := 0#32
  let c1_i32_972 : BitVec 32 := 1#32
  let arg9 : BitVec 32 := Scf.iv c0_i32_971 c1_i32_972 k0_t35
  let c8_i32_974 : BitVec 32 := 8#32
  let v2028 : BitVec 32 := Scalar.muli arg9 c8_i32_974
  let v2029 : BitVec 32 := Scalar.addi v2028 c0_i32_975
  let c16_i32_976 : BitVec 32 := 16#32
  let v2030 : BitVec 32 := Scalar.muli v2029 c16_i32_976
  let v2031 : Index := Scalar.indexCast v2030
  ![v2031.toNat]

def k0_chk257 (v2032 : IVec S16 32) : Prop :=
  (∀ a x, ((![v2032] : Fin 1 → IVec S16 32) a x).toNat < S8192.size a)
theorem k0_idx369_inb : ∀ (v2032 : IVec S16 32) (k0_hw257 : k0_chk257 v2032), ∀ a x, ((![v2032] : Fin 1 → IVec S16 32) a x).toNat < S8192.size a := fun v2032 k0_hw257 => k0_hw257

def k0_chk258 (v2037 : IVec S16 32) : Prop :=
  (∀ a x, ((![v2037] : Fin 1 → IVec S16 32) a x).toNat < S8192.size a)
theorem k0_idx370_inb : ∀ (v2037 : IVec S16 32) (k0_hw258 : k0_chk258 v2037), ∀ a x, ((![v2037] : Fin 1 → IVec S16 32) a x).toNat < S8192.size a := fun v2037 k0_hw258 => k0_hw258

def k0_chk259 (v2042 : IVec S16 32) : Prop :=
  (∀ a x, ((![v2042] : Fin 1 → IVec S16 32) a x).toNat < S8192.size a)
theorem k0_idx371_inb : ∀ (v2042 : IVec S16 32) (k0_hw259 : k0_chk259 v2042), ∀ a x, ((![v2042] : Fin 1 → IVec S16 32) a x).toNat < S8192.size a := fun v2042 k0_hw259 => k0_hw259

def k0_chk260 (v2047 : IVec S16 32) : Prop :=
  (∀ a x, ((![v2047] : Fin 1 → IVec S16 32) a x).toNat < S8192.size a)
theorem k0_idx372_inb : ∀ (v2047 : IVec S16 32) (k0_hw260 : k0_chk260 v2047), ∀ a x, ((![v2047] : Fin 1 → IVec S16 32) a x).toNat < S8192.size a := fun v2047 k0_hw260 => k0_hw260

def k0_chk261 (v2052 : IVec S16 32) : Prop :=
  (∀ a x, ((![v2052] : Fin 1 → IVec S16 32) a x).toNat < S8192.size a)
theorem k0_idx373_inb : ∀ (v2052 : IVec S16 32) (k0_hw261 : k0_chk261 v2052), ∀ a x, ((![v2052] : Fin 1 → IVec S16 32) a x).toNat < S8192.size a := fun v2052 k0_hw261 => k0_hw261

def k0_chk262 (v2057 : IVec S16 32) : Prop :=
  (∀ a x, ((![v2057] : Fin 1 → IVec S16 32) a x).toNat < S8192.size a)
theorem k0_idx374_inb : ∀ (v2057 : IVec S16 32) (k0_hw262 : k0_chk262 v2057), ∀ a x, ((![v2057] : Fin 1 → IVec S16 32) a x).toNat < S8192.size a := fun v2057 k0_hw262 => k0_hw262

def k0_chk263 (v2062 : IVec S16 32) : Prop :=
  (∀ a x, ((![v2062] : Fin 1 → IVec S16 32) a x).toNat < S8192.size a)
theorem k0_idx375_inb : ∀ (v2062 : IVec S16 32) (k0_hw263 : k0_chk263 v2062), ∀ a x, ((![v2062] : Fin 1 → IVec S16 32) a x).toNat < S8192.size a := fun v2062 k0_hw263 => k0_hw263

def k0_chk264 (v2067 : IVec S16 32) : Prop :=
  (∀ a x, ((![v2067] : Fin 1 → IVec S16 32) a x).toNat < S8192.size a)
theorem k0_idx376_inb : ∀ (v2067 : IVec S16 32) (k0_hw264 : k0_chk264 v2067), ∀ a x, ((![v2067] : Fin 1 → IVec S16 32) a x).toNat < S8192.size a := fun v2067 k0_hw264 => k0_hw264
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_974_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S32x8192x64 : Shape := ⟨3, ![32, 8192, 64]⟩
abbrev S32 : Shape := ⟨1, ![32]⟩
abbrev S_ : Shape := ⟨0, ![]⟩
abbrev S8192 : Shape := ⟨1, ![8192]⟩
abbrev S32x8192 : Shape := ⟨2, ![32, 8192]⟩
abbrev S32x1 : Shape := ⟨2, ![32, 1]⟩
abbrev S2 : Shape := ⟨1, ![2]⟩
abbrev S1x2 : Shape := ⟨2, ![1, 2]⟩
abbrev S32x2 : Shape := ⟨2, ![32, 2]⟩
abbrev S1x8192x1 : Shape := ⟨3, ![1, 8192, 1]⟩
abbrev S32x8192x1 : Shape := ⟨3, ![32, 8192, 1]⟩
abbrev S1 : Shape := ⟨1, ![1]⟩
abbrev S1x1x1 : Shape := ⟨3, ![1, 1, 1]⟩

abbrev nBuf : Space → Nat
  | .hbm => 1183
  | .vmem => 0
  | .smem => 0
  | _ => 0

abbrev hbmTy0_0 (i : Nat) : BufTy := match i % 128 with
  | 0 => ⟨S32x8192x64, .f32⟩
  | 1 => ⟨S32, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S32, .i32⟩
  | 9 => ⟨S_, .i32⟩
  | 10 => ⟨S32, .i32⟩
  | 11 => ⟨S32, .i32⟩
  | 12 => ⟨S32, .i32⟩
  | 13 => ⟨S_, .i32⟩
  | 14 => ⟨S32, .i32⟩
  | 15 => ⟨S32, .i32⟩
  | 16 => ⟨S_, .i32⟩
  | 17 => ⟨S32, .i32⟩
  | 18 => ⟨S32, .i32⟩
  | 19 => ⟨S32, .i32⟩
  | 20 => ⟨S32, .i32⟩
  | 21 => ⟨S32, .i32⟩
  | 22 => ⟨S_, .i32⟩
  | 23 => ⟨S32, .i32⟩
  | 24 => ⟨S32, .i32⟩
  | 25 => ⟨S_, .i32⟩
  | 26 => ⟨S32, .i32⟩
  | 27 => ⟨S32, .i32⟩
  | 28 => ⟨S32, .i32⟩
  | 29 => ⟨S32, .i32⟩
  | 30 => ⟨S32, .i32⟩
  | 31 => ⟨S_, .i32⟩
  | 32 => ⟨S32, .i32⟩
  | 33 => ⟨S32, .i32⟩
  | 34 => ⟨S_, .i32⟩
  | 35 => ⟨S32, .i32⟩
  | 36 => ⟨S32, .i32⟩
  | 37 => ⟨S32, .i32⟩
  | 38 => ⟨S32, .i32⟩
  | 39 => ⟨S32, .i32⟩
  | 40 => ⟨S_, .i32⟩
  | 41 => ⟨S32, .i32⟩
  | 42 => ⟨S32, .i32⟩
  | 43 => ⟨S_, .i32⟩
  | 44 => ⟨S32, .i32⟩
  | 45 => ⟨S32, .i32⟩
  | 46 => ⟨S32, .i32⟩
  | 47 => ⟨S32, .i32⟩
  | 48 => ⟨S_, .i32⟩
  | 49 => ⟨S32, .i32⟩
  | 50 => ⟨S32, .i32⟩
  | 51 => ⟨S32, .i32⟩
  | 52 => ⟨S32, .i32⟩
  | 53 => ⟨S_, .i32⟩
  | 54 => ⟨S32, .i32⟩
  | 55 => ⟨S32, .i32⟩
  | 56 => ⟨S32, .i32⟩
  | 57 => ⟨S_, .i32⟩
  | 58 => ⟨S32, .i32⟩
  | 59 => ⟨S32, .i32⟩
  | 60 => ⟨S_, .i32⟩
  | 61 => ⟨S32, .i32⟩
  | 62 => ⟨S32, .i32⟩
  | 63 => ⟨S32, .i32⟩
  | 64 => ⟨S32, .i32⟩
  | 65 => ⟨S32, .i32⟩
  | 66 => ⟨S_, .i32⟩
  | 67 => ⟨S32, .i32⟩
  | 68 => ⟨S32, .i32⟩
  | 69 => ⟨S_, .i32⟩
  | 70 => ⟨S32, .i32⟩
  | 71 => ⟨S32, .i32⟩
  | 72 => ⟨S32, .i32⟩
  | 73 => ⟨S32, .i32⟩
  | 74 => ⟨S32, .i32⟩
  | 75 => ⟨S_, .i32⟩
  | 76 => ⟨S32, .i32⟩
  | 77 => ⟨S32, .i32⟩
  | 78 => ⟨S_, .i32⟩
  | 79 => ⟨S32, .i32⟩
  | 80 => ⟨S32, .i32⟩
  | 81 => ⟨S32, .i32⟩
  | 82 => ⟨S32, .i32⟩
  | 83 => ⟨S32, .i32⟩
  | 84 => ⟨S_, .i32⟩
  | 85 => ⟨S32, .i32⟩
  | 86 => ⟨S32, .i32⟩
  | 87 => ⟨S_, .i32⟩
  | 88 => ⟨S32, .i32⟩
  | 89 => ⟨S32, .i32⟩
  | 90 => ⟨S32, .i32⟩
  | 91 => ⟨S32, .i32⟩
  | 92 => ⟨S32, .i32⟩
  | 93 => ⟨S32, .i32⟩
  | 94 => ⟨S_, .i32⟩
  | 95 => ⟨S32, .i32⟩
  | 96 => ⟨S32, .i32⟩
  | 97 => ⟨S_, .i32⟩
  | 98 => ⟨S32, .i32⟩
  | 99 => ⟨S32, .i32⟩
  | 100 => ⟨S32, .i32⟩
  | 101 => ⟨S_, .i32⟩
  | 102 => ⟨S32, .i32⟩
  | 103 => ⟨S32, .i32⟩
  | 104 => ⟨S_, .i32⟩
  | 105 => ⟨S32, .i32⟩
  | 106 => ⟨S32, .i32⟩
  | 107 => ⟨S32, .i32⟩
  | 108 => ⟨S32, .i32⟩
  | 109 => ⟨S32, .i32⟩
  | 110 => ⟨S_, .i32⟩
  | 111 => ⟨S32, .i32⟩
  | 112 => ⟨S32, .i32⟩
  | 113 => ⟨S_, .i32⟩
  | 114 => ⟨S32, .i32⟩
  | 115 => ⟨S32, .i32⟩
  | 116 => ⟨S32, .i32⟩
  | 117 => ⟨S32, .i32⟩
  | 118 => ⟨S32, .i32⟩
  | 119 => ⟨S_, .i32⟩
  | 120 => ⟨S32, .i32⟩
  | 121 => ⟨S32, .i32⟩
  | 122 => ⟨S_, .i32⟩
  | 123 => ⟨S32, .i32⟩
  | 124 => ⟨S32, .i32⟩
  | 125 => ⟨S32, .i32⟩
  | 126 => ⟨S32, .i32⟩
  | 127 => ⟨S32, .i32⟩
  | _ => ⟨S32x8192x64, .f32⟩

abbrev hbmTy0_1 (i : Nat) : BufTy := match i % 128 with
  | 0 => ⟨S_, .i32⟩
  | 1 => ⟨S32, .i32⟩
  | 2 => ⟨S32, .i32⟩
  | 3 => ⟨S_, .i32⟩
  | 4 => ⟨S32, .i32⟩
  | 5 => ⟨S32, .i32⟩
  | 6 => ⟨S32, .i32⟩
  | 7 => ⟨S32, .i32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S32, .i32⟩
  | 16 => ⟨S32, .i32⟩
  | 17 => ⟨S32, .i32⟩
  | 18 => ⟨S_, .i32⟩
  | 19 => ⟨S32, .i32⟩
  | 20 => ⟨S32, .i32⟩
  | 21 => ⟨S_, .i32⟩
  | 22 => ⟨S32, .i32⟩
  | 23 => ⟨S32, .i32⟩
  | 24 => ⟨S32, .i32⟩
  | 25 => ⟨S32, .i32⟩
  | 26 => ⟨S32, .i32⟩
  | 27 => ⟨S_, .i32⟩
  | 28 => ⟨S32, .i32⟩
  | 29 => ⟨S32, .i32⟩
  | 30 => ⟨S_, .i32⟩
  | 31 => ⟨S32, .i32⟩
  | 32 => ⟨S32, .i32⟩
  | 33 => ⟨S32, .i32⟩
  | 34 => ⟨S32, .i32⟩
  | 35 => ⟨S32, .i32⟩
  | 36 => ⟨S_, .i32⟩
  | 37 => ⟨S32, .i32⟩
  | 38 => ⟨S32, .i32⟩
  | 39 => ⟨S_, .i32⟩
  | 40 => ⟨S32, .i32⟩
  | 41 => ⟨S32, .i32⟩
  | 42 => ⟨S32, .i32⟩
  | 43 => ⟨S32, .i32⟩
  | 44 => ⟨S32, .i32⟩
  | 45 => ⟨S_, .i32⟩
  | 46 => ⟨S32, .i32⟩
  | 47 => ⟨S32, .i32⟩
  | 48 => ⟨S_, .i32⟩
  | 49 => ⟨S32, .i32⟩
  | 50 => ⟨S32, .i32⟩
  | 51 => ⟨S32, .i32⟩
  | 52 => ⟨S32, .i32⟩
  | 53 => ⟨S_, .i32⟩
  | 54 => ⟨S32, .i32⟩
  | 55 => ⟨S32, .i32⟩
  | 56 => ⟨S32, .i32⟩
  | 57 => ⟨S32, .i32⟩
  | 58 => ⟨S_, .i32⟩
  | 59 => ⟨S32, .i32⟩
  | 60 => ⟨S32, .i32⟩
  | 61 => ⟨S32, .i32⟩
  | 62 => ⟨S_, .i32⟩
  | 63 => ⟨S32, .i32⟩
  | 64 => ⟨S32, .i32⟩
  | 65 => ⟨S_, .i32⟩
  | 66 => ⟨S32, .i32⟩
  | 67 => ⟨S32, .i32⟩
  | 68 => ⟨S32, .i32⟩
  | 69 => ⟨S32, .i32⟩
  | 70 => ⟨S32, .i32⟩
  | 71 => ⟨S_, .i32⟩
  | 72 => ⟨S32, .i32⟩
  | 73 => ⟨S32, .i32⟩
  | 74 => ⟨S_, .i32⟩
  | 75 => ⟨S32, .i32⟩
  | 76 => ⟨S32, .i32⟩
  | 77 => ⟨S32, .i32⟩
  | 78 => ⟨S32, .i32⟩
  | 79 => ⟨S32, .i32⟩
  | 80 => ⟨S_, .i32⟩
  | 81 => ⟨S32, .i32⟩
  | 82 => ⟨S32, .i32⟩
  | 83 => ⟨S_, .i32⟩
  | 84 => ⟨S32, .i32⟩
  | 85 => ⟨S32, .i32⟩
  | 86 => ⟨S32, .i32⟩
  | 87 => ⟨S32, .i32⟩
  | 88 => ⟨S32, .i32⟩
  | 89 => ⟨S_, .i32⟩
  | 90 => ⟨S32, .i32⟩
  | 91 => ⟨S32, .i32⟩
  | 92 => ⟨S_, .i32⟩
  | 93 => ⟨S32, .i32⟩
  | 94 => ⟨S32, .i32⟩
  | 95 => ⟨S32, .i32⟩
  | 96 => ⟨S32, .i32⟩
  | 97 => ⟨S32, .i32⟩
  | 98 => ⟨S32, .i32⟩
  | 99 => ⟨S_, .i32⟩
  | 100 => ⟨S32, .i32⟩
  | 101 => ⟨S32, .i32⟩
  | 102 => ⟨S_, .i32⟩
  | 103 => ⟨S32, .i32⟩
  | 104 => ⟨S32, .i32⟩
  | 105 => ⟨S8192, .i32⟩
  | 106 => ⟨S32x8192, .i32⟩
  | 107 => ⟨S8192, .i32⟩
  | 108 => ⟨S32x8192, .i32⟩
  | 109 => ⟨S32x1, .i32⟩
  | 110 => ⟨S32x1, .i32⟩
  | 111 => ⟨S2, .i32⟩
  | 112 => ⟨S1x2, .i32⟩
  | 113 => ⟨S32x1, .i32⟩
  | 114 => ⟨S_, .i32⟩
  | 115 => ⟨S32x1, .i32⟩
  | 116 => ⟨S32x1, .i32⟩
  | 117 => ⟨S32x2, .i32⟩
  | 118 => ⟨S32x2, .i32⟩
  | 119 => ⟨S32x2, .i32⟩
  | 120 => ⟨S32x2, .i32⟩
  | 121 => ⟨S32x2, .i32⟩
  | 122 => ⟨S_, .i32⟩
  | 123 => ⟨S32x2, .i32⟩
  | 124 => ⟨S32x2, .i32⟩
  | 125 => ⟨S_, .i32⟩
  | 126 => ⟨S32x2, .i32⟩
  | 127 => ⟨S32x2, .i32⟩
  | _ => ⟨S32x8192x64, .f32⟩

abbrev hbmTy0_2 (i : Nat) : BufTy := match i % 128 with
  | 0 => ⟨S32x2, .i32⟩
  | 1 => ⟨S32x2, .i32⟩
  | 2 => ⟨S32x2, .i32⟩
  | 3 => ⟨S_, .i32⟩
  | 4 => ⟨S32x2, .i32⟩
  | 5 => ⟨S32x2, .i32⟩
  | 6 => ⟨S_, .i32⟩
  | 7 => ⟨S32x2, .i32⟩
  | 8 => ⟨S32x2, .i32⟩
  | 9 => ⟨S32x2, .i32⟩
  | 10 => ⟨S32x2, .i32⟩
  | 11 => ⟨S32x2, .i32⟩
  | 12 => ⟨S_, .i32⟩
  | 13 => ⟨S32x2, .i32⟩
  | 14 => ⟨S32x2, .i32⟩
  | 15 => ⟨S_, .i32⟩
  | 16 => ⟨S32x2, .i32⟩
  | 17 => ⟨S32x2, .i32⟩
  | 18 => ⟨S32x2, .i32⟩
  | 19 => ⟨S32x2, .i32⟩
  | 20 => ⟨S32x2, .i32⟩
  | 21 => ⟨S_, .i32⟩
  | 22 => ⟨S32x2, .i32⟩
  | 23 => ⟨S32x2, .i32⟩
  | 24 => ⟨S_, .i32⟩
  | 25 => ⟨S32x2, .i32⟩
  | 26 => ⟨S32x2, .i32⟩
  | 27 => ⟨S32x2, .i32⟩
  | 28 => ⟨S32x2, .i32⟩
  | 29 => ⟨S32x2, .i32⟩
  | 30 => ⟨S32x2, .i32⟩
  | 31 => ⟨S32x2, .i32⟩
  | 32 => ⟨S32x2, .i32⟩
  | 33 => ⟨S_, .i32⟩
  | 34 => ⟨S32x2, .i32⟩
  | 35 => ⟨S32x2, .i32⟩
  | 36 => ⟨S32x2, .i32⟩
  | 37 => ⟨S_, .i32⟩
  | 38 => ⟨S32x2, .i32⟩
  | 39 => ⟨S32x2, .i32⟩
  | 40 => ⟨S_, .i32⟩
  | 41 => ⟨S32x2, .i32⟩
  | 42 => ⟨S32x2, .i32⟩
  | 43 => ⟨S32x2, .i32⟩
  | 44 => ⟨S32x2, .i32⟩
  | 45 => ⟨S32x2, .i32⟩
  | 46 => ⟨S_, .i32⟩
  | 47 => ⟨S32x2, .i32⟩
  | 48 => ⟨S32x2, .i32⟩
  | 49 => ⟨S_, .i32⟩
  | 50 => ⟨S32x2, .i32⟩
  | 51 => ⟨S32x2, .i32⟩
  | 52 => ⟨S32x2, .i32⟩
  | 53 => ⟨S32x2, .i32⟩
  | 54 => ⟨S32x2, .i32⟩
  | 55 => ⟨S_, .i32⟩
  | 56 => ⟨S32x2, .i32⟩
  | 57 => ⟨S32x2, .i32⟩
  | 58 => ⟨S_, .i32⟩
  | 59 => ⟨S32x2, .i32⟩
  | 60 => ⟨S32x2, .i32⟩
  | 61 => ⟨S32x2, .i32⟩
  | 62 => ⟨S32x2, .i32⟩
  | 63 => ⟨S32x2, .i32⟩
  | 64 => ⟨S_, .i32⟩
  | 65 => ⟨S32x2, .i32⟩
  | 66 => ⟨S32x2, .i32⟩
  | 67 => ⟨S_, .i32⟩
  | 68 => ⟨S32x2, .i32⟩
  | 69 => ⟨S32x2, .i32⟩
  | 70 => ⟨S32x2, .i32⟩
  | 71 => ⟨S32x2, .i32⟩
  | 72 => ⟨S32x2, .i32⟩
  | 73 => ⟨S32x2, .i32⟩
  | 74 => ⟨S32x2, .i32⟩
  | 75 => ⟨S32x2, .i32⟩
  | 76 => ⟨S_, .i32⟩
  | 77 => ⟨S32x2, .i32⟩
  | 78 => ⟨S32x2, .i32⟩
  | 79 => ⟨S32x2, .i32⟩
  | 80 => ⟨S_, .i32⟩
  | 81 => ⟨S32x2, .i32⟩
  | 82 => ⟨S32x2, .i32⟩
  | 83 => ⟨S_, .i32⟩
  | 84 => ⟨S32x2, .i32⟩
  | 85 => ⟨S32x2, .i32⟩
  | 86 => ⟨S32x2, .i32⟩
  | 87 => ⟨S32x2, .i32⟩
  | 88 => ⟨S32x2, .i32⟩
  | 89 => ⟨S_, .i32⟩
  | 90 => ⟨S32x2, .i32⟩
  | 91 => ⟨S32x2, .i32⟩
  | 92 => ⟨S_, .i32⟩
  | 93 => ⟨S32x2, .i32⟩
  | 94 => ⟨S32x2, .i32⟩
  | 95 => ⟨S32x2, .i32⟩
  | 96 => ⟨S32x2, .i32⟩
  | 97 => ⟨S32x2, .i32⟩
  | 98 => ⟨S_, .i32⟩
  | 99 => ⟨S32x2, .i32⟩
  | 100 => ⟨S32x2, .i32⟩
  | 101 => ⟨S_, .i32⟩
  | 102 => ⟨S32x2, .i32⟩
  | 103 => ⟨S32x2, .i32⟩
  | 104 => ⟨S32x2, .i32⟩
  | 105 => ⟨S32x2, .i32⟩
  | 106 => ⟨S32x2, .i32⟩
  | 107 => ⟨S_, .i32⟩
  | 108 => ⟨S32x2, .i32⟩
  | 109 => ⟨S32x2, .i32⟩
  | 110 => ⟨S_, .i32⟩
  | 111 => ⟨S32x2, .i32⟩
  | 112 => ⟨S32x2, .i32⟩
  | 113 => ⟨S32x2, .i32⟩
  | 114 => ⟨S32x2, .i32⟩
  | 115 => ⟨S32x2, .i32⟩
  | 116 => ⟨S32x2, .i32⟩
  | 117 => ⟨S32x2, .i32⟩
  | 118 => ⟨S32x2, .i32⟩
  | 119 => ⟨S_, .i32⟩
  | 120 => ⟨S32x2, .i32⟩
  | 121 => ⟨S32x2, .i32⟩
  | 122 => ⟨S32x2, .i32⟩
  | 123 => ⟨S_, .i32⟩
  | 124 => ⟨S32x2, .i32⟩
  | 125 => ⟨S32x2, .i32⟩
  | 126 => ⟨S_, .i32⟩
  | 127 => ⟨S32x2, .i32⟩
  | _ => ⟨S32x8192x64, .f32⟩

abbrev hbmTy0_3 (i : Nat) : BufTy := match i % 128 with
  | 0 => ⟨S32x2, .i32⟩
  | 1 => ⟨S32x2, .i32⟩
  | 2 => ⟨S32x2, .i32⟩
  | 3 => ⟨S32x2, .i32⟩
  | 4 => ⟨S_, .i32⟩
  | 5 => ⟨S32x2, .i32⟩
  | 6 => ⟨S32x2, .i32⟩
  | 7 => ⟨S_, .i32⟩
  | 8 => ⟨S32x2, .i32⟩
  | 9 => ⟨S32x2, .i32⟩
  | 10 => ⟨S32x2, .i32⟩
  | 11 => ⟨S32x2, .i32⟩
  | 12 => ⟨S32x2, .i32⟩
  | 13 => ⟨S_, .i32⟩
  | 14 => ⟨S32x2, .i32⟩
  | 15 => ⟨S32x2, .i32⟩
  | 16 => ⟨S_, .i32⟩
  | 17 => ⟨S32x2, .i32⟩
  | 18 => ⟨S32x2, .i32⟩
  | 19 => ⟨S32x2, .i32⟩
  | 20 => ⟨S32x2, .i32⟩
  | 21 => ⟨S32x2, .i32⟩
  | 22 => ⟨S_, .i32⟩
  | 23 => ⟨S32x2, .i32⟩
  | 24 => ⟨S32x2, .i32⟩
  | 25 => ⟨S_, .i32⟩
  | 26 => ⟨S32x2, .i32⟩
  | 27 => ⟨S32x2, .i32⟩
  | 28 => ⟨S32x2, .i32⟩
  | 29 => ⟨S32x2, .i32⟩
  | 30 => ⟨S32x2, .i32⟩
  | 31 => ⟨S32x2, .i32⟩
  | 32 => ⟨S32x2, .i32⟩
  | 33 => ⟨S32x2, .i32⟩
  | 34 => ⟨S_, .i32⟩
  | 35 => ⟨S32x2, .i32⟩
  | 36 => ⟨S32x2, .i32⟩
  | 37 => ⟨S32x2, .i32⟩
  | 38 => ⟨S_, .i32⟩
  | 39 => ⟨S32x2, .i32⟩
  | 40 => ⟨S32x2, .i32⟩
  | 41 => ⟨S_, .i32⟩
  | 42 => ⟨S32x2, .i32⟩
  | 43 => ⟨S32x2, .i32⟩
  | 44 => ⟨S32x2, .i32⟩
  | 45 => ⟨S32x2, .i32⟩
  | 46 => ⟨S32x2, .i32⟩
  | 47 => ⟨S_, .i32⟩
  | 48 => ⟨S32x2, .i32⟩
  | 49 => ⟨S32x2, .i32⟩
  | 50 => ⟨S_, .i32⟩
  | 51 => ⟨S32x2, .i32⟩
  | 52 => ⟨S32x2, .i32⟩
  | 53 => ⟨S32x2, .i32⟩
  | 54 => ⟨S32x2, .i32⟩
  | 55 => ⟨S32x2, .i32⟩
  | 56 => ⟨S_, .i32⟩
  | 57 => ⟨S32x2, .i32⟩
  | 58 => ⟨S32x2, .i32⟩
  | 59 => ⟨S_, .i32⟩
  | 60 => ⟨S32x2, .i32⟩
  | 61 => ⟨S32x2, .i32⟩
  | 62 => ⟨S32x2, .i32⟩
  | 63 => ⟨S32x2, .i32⟩
  | 64 => ⟨S32x2, .i32⟩
  | 65 => ⟨S_, .i32⟩
  | 66 => ⟨S32x2, .i32⟩
  | 67 => ⟨S32x2, .i32⟩
  | 68 => ⟨S_, .i32⟩
  | 69 => ⟨S32x2, .i32⟩
  | 70 => ⟨S32x2, .i32⟩
  | 71 => ⟨S32x2, .i32⟩
  | 72 => ⟨S32x2, .i32⟩
  | 73 => ⟨S32x2, .i32⟩
  | 74 => ⟨S32x2, .i32⟩
  | 75 => ⟨S32x2, .i32⟩
  | 76 => ⟨S32x2, .i32⟩
  | 77 => ⟨S_, .i32⟩
  | 78 => ⟨S32x2, .i32⟩
  | 79 => ⟨S32x2, .i32⟩
  | 80 => ⟨S32x1, .i32⟩
  | 81 => ⟨S32, .i32⟩
  | 82 => ⟨S32x1, .i32⟩
  | 83 => ⟨S32, .i32⟩
  | 84 => ⟨S32x1, .i32⟩
  | 85 => ⟨S32x1, .i32⟩
  | 86 => ⟨S32x1, .i32⟩
  | 87 => ⟨S_, .i32⟩
  | 88 => ⟨S32x1, .i32⟩
  | 89 => ⟨S32x1, .i32⟩
  | 90 => ⟨S32x8192, .i32⟩
  | 91 => ⟨S32x8192, .i32⟩
  | 92 => ⟨S32x8192, .i32⟩
  | 93 => ⟨S32x8192, .i32⟩
  | 94 => ⟨S_, .i32⟩
  | 95 => ⟨S32x8192, .i32⟩
  | 96 => ⟨S32x8192, .i32⟩
  | 97 => ⟨S_, .i32⟩
  | 98 => ⟨S32x8192, .i32⟩
  | 99 => ⟨S32x8192, .i32⟩
  | 100 => ⟨S32x8192, .i32⟩
  | 101 => ⟨S32x8192, .i32⟩
  | 102 => ⟨S32x8192, .i32⟩
  | 103 => ⟨S_, .i32⟩
  | 104 => ⟨S32x8192, .i32⟩
  | 105 => ⟨S32x8192, .i32⟩
  | 106 => ⟨S_, .i32⟩
  | 107 => ⟨S32x8192, .i32⟩
  | 108 => ⟨S32x8192, .i32⟩
  | 109 => ⟨S32x8192, .i32⟩
  | 110 => ⟨S32x8192, .i32⟩
  | 111 => ⟨S32x8192, .i32⟩
  | 112 => ⟨S_, .i32⟩
  | 113 => ⟨S32x8192, .i32⟩
  | 114 => ⟨S32x8192, .i32⟩
  | 115 => ⟨S_, .i32⟩
  | 116 => ⟨S32x8192, .i32⟩
  | 117 => ⟨S32x8192, .i32⟩
  | 118 => ⟨S32x8192, .i32⟩
  | 119 => ⟨S32x8192, .i32⟩
  | 120 => ⟨S32x8192, .i32⟩
  | 121 => ⟨S_, .i32⟩
  | 122 => ⟨S32x8192, .i32⟩
  | 123 => ⟨S32x8192, .i32⟩
  | 124 => ⟨S_, .i32⟩
  | 125 => ⟨S32x8192, .i32⟩
  | 126 => ⟨S32x8192, .i32⟩
  | 127 => ⟨S32x8192, .i32⟩
  | _ => ⟨S32x8192x64, .f32⟩

abbrev hbmTy0_4 (i : Nat) : BufTy := match i % 128 with
  | 0 => ⟨S32x8192, .i32⟩
  | 1 => ⟨S32x8192, .i32⟩
  | 2 => ⟨S32x8192, .i32⟩
  | 3 => ⟨S32x8192, .i32⟩
  | 4 => ⟨S32x8192, .i32⟩
  | 5 => ⟨S_, .i32⟩
  | 6 => ⟨S32x8192, .i32⟩
  | 7 => ⟨S32x8192, .i32⟩
  | 8 => ⟨S32x8192, .i32⟩
  | 9 => ⟨S_, .i32⟩
  | 10 => ⟨S32x8192, .i32⟩
  | 11 => ⟨S32x8192, .i32⟩
  | 12 => ⟨S_, .i32⟩
  | 13 => ⟨S32x8192, .i32⟩
  | 14 => ⟨S32x8192, .i32⟩
  | 15 => ⟨S32x8192, .i32⟩
  | 16 => ⟨S32x8192, .i32⟩
  | 17 => ⟨S32x8192, .i32⟩
  | 18 => ⟨S_, .i32⟩
  | 19 => ⟨S32x8192, .i32⟩
  | 20 => ⟨S32x8192, .i32⟩
  | 21 => ⟨S_, .i32⟩
  | 22 => ⟨S32x8192, .i32⟩
  | 23 => ⟨S32x8192, .i32⟩
  | 24 => ⟨S32x8192, .i32⟩
  | 25 => ⟨S32x8192, .i32⟩
  | 26 => ⟨S32x8192, .i32⟩
  | 27 => ⟨S_, .i32⟩
  | 28 => ⟨S32x8192, .i32⟩
  | 29 => ⟨S32x8192, .i32⟩
  | 30 => ⟨S_, .i32⟩
  | 31 => ⟨S32x8192, .i32⟩
  | 32 => ⟨S32x8192, .i32⟩
  | 33 => ⟨S32x8192, .i32⟩
  | 34 => ⟨S32x8192, .i32⟩
  | 35 => ⟨S32x8192, .i32⟩
  | 36 => ⟨S_, .i32⟩
  | 37 => ⟨S32x8192, .i32⟩
  | 38 => ⟨S32x8192, .i32⟩
  | 39 => ⟨S_, .i32⟩
  | 40 => ⟨S32x8192, .i32⟩
  | 41 => ⟨S32x8192, .i32⟩
  | 42 => ⟨S32x8192, .i32⟩
  | 43 => ⟨S32x8192, .i32⟩
  | 44 => ⟨S32x8192, .i32⟩
  | 45 => ⟨S32x8192, .i32⟩
  | 46 => ⟨S32x8192, .i32⟩
  | 47 => ⟨S32x8192, .i32⟩
  | 48 => ⟨S_, .i32⟩
  | 49 => ⟨S32x8192, .i32⟩
  | 50 => ⟨S32x8192, .i32⟩
  | 51 => ⟨S32x8192, .i32⟩
  | 52 => ⟨S_, .i32⟩
  | 53 => ⟨S32x8192, .i32⟩
  | 54 => ⟨S32x8192, .i32⟩
  | 55 => ⟨S_, .i32⟩
  | 56 => ⟨S32x8192, .i32⟩
  | 57 => ⟨S32x8192, .i32⟩
  | 58 => ⟨S32x8192, .i32⟩
  | 59 => ⟨S32x8192, .i32⟩
  | 60 => ⟨S32x8192, .i32⟩
  | 61 => ⟨S_, .i32⟩
  | 62 => ⟨S32x8192, .i32⟩
  | 63 => ⟨S32x8192, .i32⟩
  | 64 => ⟨S_, .i32⟩
  | 65 => ⟨S32x8192, .i32⟩
  | 66 => ⟨S32x8192, .i32⟩
  | 67 => ⟨S32x8192, .i32⟩
  | 68 => ⟨S32x8192, .i32⟩
  | 69 => ⟨S32x8192, .i32⟩
  | 70 => ⟨S_, .i32⟩
  | 71 => ⟨S32x8192, .i32⟩
  | 72 => ⟨S32x8192, .i32⟩
  | 73 => ⟨S_, .i32⟩
  | 74 => ⟨S32x8192, .i32⟩
  | 75 => ⟨S32x8192, .i32⟩
  | 76 => ⟨S32x8192, .i32⟩
  | 77 => ⟨S32x8192, .i32⟩
  | 78 => ⟨S32x8192, .i32⟩
  | 79 => ⟨S_, .i32⟩
  | 80 => ⟨S32x8192, .i32⟩
  | 81 => ⟨S32x8192, .i32⟩
  | 82 => ⟨S_, .i32⟩
  | 83 => ⟨S32x8192, .i32⟩
  | 84 => ⟨S32x8192, .i32⟩
  | 85 => ⟨S32x8192, .i32⟩
  | 86 => ⟨S32x8192, .i32⟩
  | 87 => ⟨S32x8192, .i32⟩
  | 88 => ⟨S32x8192, .i32⟩
  | 89 => ⟨S32x8192, .i32⟩
  | 90 => ⟨S32x8192, .i32⟩
  | 91 => ⟨S_, .i32⟩
  | 92 => ⟨S32x8192, .i32⟩
  | 93 => ⟨S32x8192, .i32⟩
  | 94 => ⟨S32x8192, .i32⟩
  | 95 => ⟨S_, .i32⟩
  | 96 => ⟨S32x8192, .i32⟩
  | 97 => ⟨S32x8192, .i32⟩
  | 98 => ⟨S_, .i32⟩
  | 99 => ⟨S32x8192, .i32⟩
  | 100 => ⟨S32x8192, .i32⟩
  | 101 => ⟨S32x8192, .i32⟩
  | 102 => ⟨S32x8192, .i32⟩
  | 103 => ⟨S32x8192, .i32⟩
  | 104 => ⟨S_, .i32⟩
  | 105 => ⟨S32x8192, .i32⟩
  | 106 => ⟨S32x8192, .i32⟩
  | 107 => ⟨S_, .i32⟩
  | 108 => ⟨S32x8192, .i32⟩
  | 109 => ⟨S32x8192, .i32⟩
  | 110 => ⟨S32x8192, .i32⟩
  | 111 => ⟨S32x8192, .i32⟩
  | 112 => ⟨S32x8192, .i32⟩
  | 113 => ⟨S_, .i32⟩
  | 114 => ⟨S32x8192, .i32⟩
  | 115 => ⟨S32x8192, .i32⟩
  | 116 => ⟨S_, .i32⟩
  | 117 => ⟨S32x8192, .i32⟩
  | 118 => ⟨S32x8192, .i32⟩
  | 119 => ⟨S32x8192, .i32⟩
  | 120 => ⟨S32x8192, .i32⟩
  | 121 => ⟨S32x8192, .i32⟩
  | 122 => ⟨S_, .i32⟩
  | 123 => ⟨S32x8192, .i32⟩
  | 124 => ⟨S32x8192, .i32⟩
  | 125 => ⟨S_, .i32⟩
  | 126 => ⟨S32x8192, .i32⟩
  | 127 => ⟨S32x8192, .i32⟩
  | _ => ⟨S32x8192x64, .f32⟩

abbrev hbmTy0_5 (i : Nat) : BufTy := match i % 128 with
  | 0 => ⟨S32x8192, .i32⟩
  | 1 => ⟨S32x8192, .i32⟩
  | 2 => ⟨S32x8192, .i32⟩
  | 3 => ⟨S32x8192, .i32⟩
  | 4 => ⟨S32x8192, .i32⟩
  | 5 => ⟨S32x8192, .i32⟩
  | 6 => ⟨S_, .i32⟩
  | 7 => ⟨S32x8192, .i32⟩
  | 8 => ⟨S32x8192, .i32⟩
  | 9 => ⟨S32x8192, .i32⟩
  | 10 => ⟨S_, .i32⟩
  | 11 => ⟨S32x8192, .i32⟩
  | 12 => ⟨S32x8192, .i32⟩
  | 13 => ⟨S_, .i32⟩
  | 14 => ⟨S32x8192, .i32⟩
  | 15 => ⟨S32x8192, .i32⟩
  | 16 => ⟨S32x8192, .i32⟩
  | 17 => ⟨S32x8192, .i32⟩
  | 18 => ⟨S32x8192, .i32⟩
  | 19 => ⟨S_, .i32⟩
  | 20 => ⟨S32x8192, .i32⟩
  | 21 => ⟨S32x8192, .i32⟩
  | 22 => ⟨S_, .i32⟩
  | 23 => ⟨S32x8192, .i32⟩
  | 24 => ⟨S32x8192, .i32⟩
  | 25 => ⟨S32x8192, .i32⟩
  | 26 => ⟨S32x8192, .i32⟩
  | 27 => ⟨S32x8192, .i32⟩
  | 28 => ⟨S_, .i32⟩
  | 29 => ⟨S32x8192, .i32⟩
  | 30 => ⟨S32x8192, .i32⟩
  | 31 => ⟨S_, .i32⟩
  | 32 => ⟨S32x8192, .i32⟩
  | 33 => ⟨S32x8192, .i32⟩
  | 34 => ⟨S32x8192, .i32⟩
  | 35 => ⟨S32x8192, .i32⟩
  | 36 => ⟨S32x8192, .i32⟩
  | 37 => ⟨S_, .i32⟩
  | 38 => ⟨S32x8192, .i32⟩
  | 39 => ⟨S32x8192, .i32⟩
  | 40 => ⟨S_, .i32⟩
  | 41 => ⟨S32x8192, .i32⟩
  | 42 => ⟨S32x8192, .i32⟩
  | 43 => ⟨S32x8192, .i32⟩
  | 44 => ⟨S32x8192, .i32⟩
  | 45 => ⟨S32x8192, .i32⟩
  | 46 => ⟨S32x8192, .i32⟩
  | 47 => ⟨S32x8192, .i32⟩
  | 48 => ⟨S32x8192, .i32⟩
  | 49 => ⟨S_, .i32⟩
  | 50 => ⟨S32x8192, .i32⟩
  | 51 => ⟨S32x8192, .i32⟩
  | 52 => ⟨S32x8192, .i32⟩
  | 53 => ⟨S32x8192, .i32⟩
  | 54 => ⟨S32x8192, .i32⟩
  | 55 => ⟨S32x1, .i32⟩
  | 56 => ⟨S32x1, .i32⟩
  | 57 => ⟨S2, .i32⟩
  | 58 => ⟨S1x2, .i32⟩
  | 59 => ⟨S32x1, .i32⟩
  | 60 => ⟨S_, .i32⟩
  | 61 => ⟨S32x1, .i32⟩
  | 62 => ⟨S32x1, .i32⟩
  | 63 => ⟨S32x2, .i32⟩
  | 64 => ⟨S32x2, .i32⟩
  | 65 => ⟨S32x2, .i32⟩
  | 66 => ⟨S32x2, .i32⟩
  | 67 => ⟨S32x2, .i32⟩
  | 68 => ⟨S_, .i32⟩
  | 69 => ⟨S32x2, .i32⟩
  | 70 => ⟨S32x2, .i32⟩
  | 71 => ⟨S_, .i32⟩
  | 72 => ⟨S32x2, .i32⟩
  | 73 => ⟨S32x2, .i32⟩
  | 74 => ⟨S32x2, .i32⟩
  | 75 => ⟨S32x2, .i32⟩
  | 76 => ⟨S32x2, .i32⟩
  | 77 => ⟨S_, .i32⟩
  | 78 => ⟨S32x2, .i32⟩
  | 79 => ⟨S32x2, .i32⟩
  | 80 => ⟨S_, .i32⟩
  | 81 => ⟨S32x2, .i32⟩
  | 82 => ⟨S32x2, .i32⟩
  | 83 => ⟨S32x2, .i32⟩
  | 84 => ⟨S32x2, .i32⟩
  | 85 => ⟨S32x2, .i32⟩
  | 86 => ⟨S_, .i32⟩
  | 87 => ⟨S32x2, .i32⟩
  | 88 => ⟨S32x2, .i32⟩
  | 89 => ⟨S_, .i32⟩
  | 90 => ⟨S32x2, .i32⟩
  | 91 => ⟨S32x2, .i32⟩
  | 92 => ⟨S32x2, .i32⟩
  | 93 => ⟨S32x2, .i32⟩
  | 94 => ⟨S32x2, .i32⟩
  | 95 => ⟨S_, .i32⟩
  | 96 => ⟨S32x2, .i32⟩
  | 97 => ⟨S32x2, .i32⟩
  | 98 => ⟨S_, .i32⟩
  | 99 => ⟨S32x2, .i32⟩
  | 100 => ⟨S32x2, .i32⟩
  | 101 => ⟨S32x2, .i32⟩
  | 102 => ⟨S32x2, .i32⟩
  | 103 => ⟨S32x2, .i32⟩
  | 104 => ⟨S32x2, .i32⟩
  | 105 => ⟨S32x2, .i32⟩
  | 106 => ⟨S32x2, .i32⟩
  | 107 => ⟨S_, .i32⟩
  | 108 => ⟨S32x2, .i32⟩
  | 109 => ⟨S32x2, .i32⟩
  | 110 => ⟨S32x2, .i32⟩
  | 111 => ⟨S_, .i32⟩
  | 112 => ⟨S32x2, .i32⟩
  | 113 => ⟨S32x2, .i32⟩
  | 114 => ⟨S_, .i32⟩
  | 115 => ⟨S32x2, .i32⟩
  | 116 => ⟨S32x2, .i32⟩
  | 117 => ⟨S32x2, .i32⟩
  | 118 => ⟨S32x2, .i32⟩
  | 119 => ⟨S32x2, .i32⟩
  | 120 => ⟨S_, .i32⟩
  | 121 => ⟨S32x2, .i32⟩
  | 122 => ⟨S32x2, .i32⟩
  | 123 => ⟨S_, .i32⟩
  | 124 => ⟨S32x2, .i32⟩
  | 125 => ⟨S32x2, .i32⟩
  | 126 => ⟨S32x2, .i32⟩
  | 127 => ⟨S32x2, .i32⟩
  | _ => ⟨S32x8192x64, .f32⟩

abbrev hbmTy0_6 (i : Nat) : BufTy := match i % 128 with
  | 0 => ⟨S32x2, .i32⟩
  | 1 => ⟨S_, .i32⟩
  | 2 => ⟨S32x2, .i32⟩
  | 3 => ⟨S32x2, .i32⟩
  | 4 => ⟨S_, .i32⟩
  | 5 => ⟨S32x2, .i32⟩
  | 6 => ⟨S32x2, .i32⟩
  | 7 => ⟨S32x2, .i32⟩
  | 8 => ⟨S32x2, .i32⟩
  | 9 => ⟨S32x2, .i32⟩
  | 10 => ⟨S_, .i32⟩
  | 11 => ⟨S32x2, .i32⟩
  | 12 => ⟨S32x2, .i32⟩
  | 13 => ⟨S_, .i32⟩
  | 14 => ⟨S32x2, .i32⟩
  | 15 => ⟨S32x2, .i32⟩
  | 16 => ⟨S32x2, .i32⟩
  | 17 => ⟨S32x2, .i32⟩
  | 18 => ⟨S32x2, .i32⟩
  | 19 => ⟨S32x2, .i32⟩
  | 20 => ⟨S32x2, .i32⟩
  | 21 => ⟨S32x2, .i32⟩
  | 22 => ⟨S_, .i32⟩
  | 23 => ⟨S32x2, .i32⟩
  | 24 => ⟨S32x2, .i32⟩
  | 25 => ⟨S32x2, .i32⟩
  | 26 => ⟨S_, .i32⟩
  | 27 => ⟨S32x2, .i32⟩
  | 28 => ⟨S32x2, .i32⟩
  | 29 => ⟨S_, .i32⟩
  | 30 => ⟨S32x2, .i32⟩
  | 31 => ⟨S32x2, .i32⟩
  | 32 => ⟨S32x2, .i32⟩
  | 33 => ⟨S32x2, .i32⟩
  | 34 => ⟨S32x2, .i32⟩
  | 35 => ⟨S_, .i32⟩
  | 36 => ⟨S32x2, .i32⟩
  | 37 => ⟨S32x2, .i32⟩
  | 38 => ⟨S_, .i32⟩
  | 39 => ⟨S32x2, .i32⟩
  | 40 => ⟨S32x2, .i32⟩
  | 41 => ⟨S32x2, .i32⟩
  | 42 => ⟨S32x2, .i32⟩
  | 43 => ⟨S32x2, .i32⟩
  | 44 => ⟨S_, .i32⟩
  | 45 => ⟨S32x2, .i32⟩
  | 46 => ⟨S32x2, .i32⟩
  | 47 => ⟨S_, .i32⟩
  | 48 => ⟨S32x2, .i32⟩
  | 49 => ⟨S32x2, .i32⟩
  | 50 => ⟨S32x2, .i32⟩
  | 51 => ⟨S32x2, .i32⟩
  | 52 => ⟨S32x2, .i32⟩
  | 53 => ⟨S_, .i32⟩
  | 54 => ⟨S32x2, .i32⟩
  | 55 => ⟨S32x2, .i32⟩
  | 56 => ⟨S_, .i32⟩
  | 57 => ⟨S32x2, .i32⟩
  | 58 => ⟨S32x2, .i32⟩
  | 59 => ⟨S32x2, .i32⟩
  | 60 => ⟨S32x2, .i32⟩
  | 61 => ⟨S32x2, .i32⟩
  | 62 => ⟨S32x2, .i32⟩
  | 63 => ⟨S32x2, .i32⟩
  | 64 => ⟨S32x2, .i32⟩
  | 65 => ⟨S_, .i32⟩
  | 66 => ⟨S32x2, .i32⟩
  | 67 => ⟨S32x2, .i32⟩
  | 68 => ⟨S32x2, .i32⟩
  | 69 => ⟨S_, .i32⟩
  | 70 => ⟨S32x2, .i32⟩
  | 71 => ⟨S32x2, .i32⟩
  | 72 => ⟨S_, .i32⟩
  | 73 => ⟨S32x2, .i32⟩
  | 74 => ⟨S32x2, .i32⟩
  | 75 => ⟨S32x2, .i32⟩
  | 76 => ⟨S32x2, .i32⟩
  | 77 => ⟨S32x2, .i32⟩
  | 78 => ⟨S_, .i32⟩
  | 79 => ⟨S32x2, .i32⟩
  | 80 => ⟨S32x2, .i32⟩
  | 81 => ⟨S_, .i32⟩
  | 82 => ⟨S32x2, .i32⟩
  | 83 => ⟨S32x2, .i32⟩
  | 84 => ⟨S32x2, .i32⟩
  | 85 => ⟨S32x2, .i32⟩
  | 86 => ⟨S32x2, .i32⟩
  | 87 => ⟨S_, .i32⟩
  | 88 => ⟨S32x2, .i32⟩
  | 89 => ⟨S32x2, .i32⟩
  | 90 => ⟨S_, .i32⟩
  | 91 => ⟨S32x2, .i32⟩
  | 92 => ⟨S32x2, .i32⟩
  | 93 => ⟨S32x2, .i32⟩
  | 94 => ⟨S32x2, .i32⟩
  | 95 => ⟨S32x2, .i32⟩
  | 96 => ⟨S_, .i32⟩
  | 97 => ⟨S32x2, .i32⟩
  | 98 => ⟨S32x2, .i32⟩
  | 99 => ⟨S_, .i32⟩
  | 100 => ⟨S32x2, .i32⟩
  | 101 => ⟨S32x2, .i32⟩
  | 102 => ⟨S32x2, .i32⟩
  | 103 => ⟨S32x2, .i32⟩
  | 104 => ⟨S32x2, .i32⟩
  | 105 => ⟨S32x2, .i32⟩
  | 106 => ⟨S32x2, .i32⟩
  | 107 => ⟨S32x2, .i32⟩
  | 108 => ⟨S_, .i32⟩
  | 109 => ⟨S32x2, .i32⟩
  | 110 => ⟨S32x2, .i32⟩
  | 111 => ⟨S32x2, .i32⟩
  | 112 => ⟨S_, .i32⟩
  | 113 => ⟨S32x2, .i32⟩
  | 114 => ⟨S32x2, .i32⟩
  | 115 => ⟨S_, .i32⟩
  | 116 => ⟨S32x2, .i32⟩
  | 117 => ⟨S32x2, .i32⟩
  | 118 => ⟨S32x2, .i32⟩
  | 119 => ⟨S32x2, .i32⟩
  | 120 => ⟨S32x2, .i32⟩
  | 121 => ⟨S_, .i32⟩
  | 122 => ⟨S32x2, .i32⟩
  | 123 => ⟨S32x2, .i32⟩
  | 124 => ⟨S_, .i32⟩
  | 125 => ⟨S32x2, .i32⟩
  | 126 => ⟨S32x2, .i32⟩
  | 127 => ⟨S32x2, .i32⟩
  | _ => ⟨S32x8192x64, .f32⟩

abbrev hbmTy0_7 (i : Nat) : BufTy := match i % 128 with
  | 0 => ⟨S32x2, .i32⟩
  | 1 => ⟨S32x2, .i32⟩
  | 2 => ⟨S_, .i32⟩
  | 3 => ⟨S32x2, .i32⟩
  | 4 => ⟨S32x2, .i32⟩
  | 5 => ⟨S_, .i32⟩
  | 6 => ⟨S32x2, .i32⟩
  | 7 => ⟨S32x2, .i32⟩
  | 8 => ⟨S32x2, .i32⟩
  | 9 => ⟨S32x2, .i32⟩
  | 10 => ⟨S32x2, .i32⟩
  | 11 => ⟨S_, .i32⟩
  | 12 => ⟨S32x2, .i32⟩
  | 13 => ⟨S32x2, .i32⟩
  | 14 => ⟨S_, .i32⟩
  | 15 => ⟨S32x2, .i32⟩
  | 16 => ⟨S32x2, .i32⟩
  | 17 => ⟨S32x2, .i32⟩
  | 18 => ⟨S32x2, .i32⟩
  | 19 => ⟨S32x2, .i32⟩
  | 20 => ⟨S32x2, .i32⟩
  | 21 => ⟨S32x2, .i32⟩
  | 22 => ⟨S32x2, .i32⟩
  | 23 => ⟨S_, .i32⟩
  | 24 => ⟨S32x2, .i32⟩
  | 25 => ⟨S32x2, .i32⟩
  | 26 => ⟨S32x1, .i32⟩
  | 27 => ⟨S32, .i32⟩
  | 28 => ⟨S32x1, .i32⟩
  | 29 => ⟨S32, .i32⟩
  | 30 => ⟨S32x1, .i32⟩
  | 31 => ⟨S32x1, .i32⟩
  | 32 => ⟨S32x1, .i32⟩
  | 33 => ⟨S_, .i32⟩
  | 34 => ⟨S32x1, .i32⟩
  | 35 => ⟨S32x1, .i32⟩
  | 36 => ⟨S32x8192, .i32⟩
  | 37 => ⟨S32x8192, .i32⟩
  | 38 => ⟨S32x8192, .i32⟩
  | 39 => ⟨S32x8192, .i32⟩
  | 40 => ⟨S_, .i32⟩
  | 41 => ⟨S32x8192, .i32⟩
  | 42 => ⟨S32x8192, .i32⟩
  | 43 => ⟨S_, .i32⟩
  | 44 => ⟨S32x8192, .i32⟩
  | 45 => ⟨S32x8192, .i32⟩
  | 46 => ⟨S32x8192, .i32⟩
  | 47 => ⟨S32x8192, .i32⟩
  | 48 => ⟨S32x8192, .i32⟩
  | 49 => ⟨S_, .i32⟩
  | 50 => ⟨S32x8192, .i32⟩
  | 51 => ⟨S32x8192, .i32⟩
  | 52 => ⟨S_, .i32⟩
  | 53 => ⟨S32x8192, .i32⟩
  | 54 => ⟨S32x8192, .i32⟩
  | 55 => ⟨S32x8192, .i32⟩
  | 56 => ⟨S32x8192, .i32⟩
  | 57 => ⟨S32x8192, .i32⟩
  | 58 => ⟨S_, .i32⟩
  | 59 => ⟨S32x8192, .i32⟩
  | 60 => ⟨S32x8192, .i32⟩
  | 61 => ⟨S_, .i32⟩
  | 62 => ⟨S32x8192, .i32⟩
  | 63 => ⟨S32x8192, .i32⟩
  | 64 => ⟨S32x8192, .i32⟩
  | 65 => ⟨S32x8192, .i32⟩
  | 66 => ⟨S32x8192, .i32⟩
  | 67 => ⟨S_, .i32⟩
  | 68 => ⟨S32x8192, .i32⟩
  | 69 => ⟨S32x8192, .i32⟩
  | 70 => ⟨S_, .i32⟩
  | 71 => ⟨S32x8192, .i32⟩
  | 72 => ⟨S32x8192, .i32⟩
  | 73 => ⟨S32x8192, .i32⟩
  | 74 => ⟨S32x8192, .i32⟩
  | 75 => ⟨S32x8192, .i32⟩
  | 76 => ⟨S32x8192, .i32⟩
  | 77 => ⟨S32x8192, .i32⟩
  | 78 => ⟨S32x8192, .i32⟩
  | 79 => ⟨S_, .i32⟩
  | 80 => ⟨S32x8192, .i32⟩
  | 81 => ⟨S32x8192, .i32⟩
  | 82 => ⟨S32x8192, .i32⟩
  | 83 => ⟨S_, .i32⟩
  | 84 => ⟨S32x8192, .i32⟩
  | 85 => ⟨S32x8192, .i32⟩
  | 86 => ⟨S_, .i32⟩
  | 87 => ⟨S32x8192, .i32⟩
  | 88 => ⟨S32x8192, .i32⟩
  | 89 => ⟨S32x8192, .i32⟩
  | 90 => ⟨S32x8192, .i32⟩
  | 91 => ⟨S32x8192, .i32⟩
  | 92 => ⟨S_, .i32⟩
  | 93 => ⟨S32x8192, .i32⟩
  | 94 => ⟨S32x8192, .i32⟩
  | 95 => ⟨S_, .i32⟩
  | 96 => ⟨S32x8192, .i32⟩
  | 97 => ⟨S32x8192, .i32⟩
  | 98 => ⟨S32x8192, .i32⟩
  | 99 => ⟨S32x8192, .i32⟩
  | 100 => ⟨S32x8192, .i32⟩
  | 101 => ⟨S_, .i32⟩
  | 102 => ⟨S32x8192, .i32⟩
  | 103 => ⟨S32x8192, .i32⟩
  | 104 => ⟨S_, .i32⟩
  | 105 => ⟨S32x8192, .i32⟩
  | 106 => ⟨S32x8192, .i32⟩
  | 107 => ⟨S32x8192, .i32⟩
  | 108 => ⟨S32x8192, .i32⟩
  | 109 => ⟨S32x8192, .i32⟩
  | 110 => ⟨S_, .i32⟩
  | 111 => ⟨S32x8192, .i32⟩
  | 112 => ⟨S32x8192, .i32⟩
  | 113 => ⟨S_, .i32⟩
  | 114 => ⟨S32x8192, .i32⟩
  | 115 => ⟨S32x8192, .i32⟩
  | 116 => ⟨S32x8192, .i32⟩
  | 117 => ⟨S32x8192, .i32⟩
  | 118 => ⟨S32x8192, .i32⟩
  | 119 => ⟨S32x8192, .i32⟩
  | 120 => ⟨S32x8192, .i32⟩
  | 121 => ⟨S32x8192, .i32⟩
  | 122 => ⟨S_, .i32⟩
  | 123 => ⟨S32x8192, .i32⟩
  | 124 => ⟨S32x8192, .i32⟩
  | 125 => ⟨S32x8192, .i32⟩
  | 126 => ⟨S_, .i32⟩
  | 127 => ⟨S32x8192, .i32⟩
  | _ => ⟨S32x8192x64, .f32⟩

abbrev hbmTy0_8 (i : Nat) : BufTy := match i % 128 with
  | 0 => ⟨S32x8192, .i32⟩
  | 1 => ⟨S_, .i32⟩
  | 2 => ⟨S32x8192, .i32⟩
  | 3 => ⟨S32x8192, .i32⟩
  | 4 => ⟨S32x8192, .i32⟩
  | 5 => ⟨S32x8192, .i32⟩
  | 6 => ⟨S32x8192, .i32⟩
  | 7 => ⟨S_, .i32⟩
  | 8 => ⟨S32x8192, .i32⟩
  | 9 => ⟨S32x8192, .i32⟩
  | 10 => ⟨S_, .i32⟩
  | 11 => ⟨S32x8192, .i32⟩
  | 12 => ⟨S32x8192, .i32⟩
  | 13 => ⟨S32x8192, .i32⟩
  | 14 => ⟨S32x8192, .i32⟩
  | 15 => ⟨S32x8192, .i32⟩
  | 16 => ⟨S_, .i32⟩
  | 17 => ⟨S32x8192, .i32⟩
  | 18 => ⟨S32x8192, .i32⟩
  | 19 => ⟨S_, .i32⟩
  | 20 => ⟨S32x8192, .i32⟩
  | 21 => ⟨S32x8192, .i32⟩
  | 22 => ⟨S32x8192, .i32⟩
  | 23 => ⟨S32x8192, .i32⟩
  | 24 => ⟨S32x8192, .i32⟩
  | 25 => ⟨S_, .i32⟩
  | 26 => ⟨S32x8192, .i32⟩
  | 27 => ⟨S32x8192, .i32⟩
  | 28 => ⟨S_, .i32⟩
  | 29 => ⟨S32x8192, .i32⟩
  | 30 => ⟨S32x8192, .i32⟩
  | 31 => ⟨S32x8192, .i32⟩
  | 32 => ⟨S32x8192, .i32⟩
  | 33 => ⟨S32x8192, .i32⟩
  | 34 => ⟨S32x8192, .i32⟩
  | 35 => ⟨S32x8192, .i32⟩
  | 36 => ⟨S32x8192, .i32⟩
  | 37 => ⟨S_, .i32⟩
  | 38 => ⟨S32x8192, .i32⟩
  | 39 => ⟨S32x8192, .i32⟩
  | 40 => ⟨S32x8192, .i32⟩
  | 41 => ⟨S_, .i32⟩
  | 42 => ⟨S32x8192, .i32⟩
  | 43 => ⟨S32x8192, .i32⟩
  | 44 => ⟨S_, .i32⟩
  | 45 => ⟨S32x8192, .i32⟩
  | 46 => ⟨S32x8192, .i32⟩
  | 47 => ⟨S32x8192, .i32⟩
  | 48 => ⟨S32x8192, .i32⟩
  | 49 => ⟨S32x8192, .i32⟩
  | 50 => ⟨S_, .i32⟩
  | 51 => ⟨S32x8192, .i32⟩
  | 52 => ⟨S32x8192, .i32⟩
  | 53 => ⟨S_, .i32⟩
  | 54 => ⟨S32x8192, .i32⟩
  | 55 => ⟨S32x8192, .i32⟩
  | 56 => ⟨S32x8192, .i32⟩
  | 57 => ⟨S32x8192, .i32⟩
  | 58 => ⟨S32x8192, .i32⟩
  | 59 => ⟨S_, .i32⟩
  | 60 => ⟨S32x8192, .i32⟩
  | 61 => ⟨S32x8192, .i32⟩
  | 62 => ⟨S_, .i32⟩
  | 63 => ⟨S32x8192, .i32⟩
  | 64 => ⟨S32x8192, .i32⟩
  | 65 => ⟨S32x8192, .i32⟩
  | 66 => ⟨S32x8192, .i32⟩
  | 67 => ⟨S32x8192, .i32⟩
  | 68 => ⟨S_, .i32⟩
  | 69 => ⟨S32x8192, .i32⟩
  | 70 => ⟨S32x8192, .i32⟩
  | 71 => ⟨S_, .i32⟩
  | 72 => ⟨S32x8192, .i32⟩
  | 73 => ⟨S32x8192, .i32⟩
  | 74 => ⟨S32x8192, .i32⟩
  | 75 => ⟨S32x8192, .i32⟩
  | 76 => ⟨S32x8192, .i32⟩
  | 77 => ⟨S32x8192, .i32⟩
  | 78 => ⟨S32x8192, .i32⟩
  | 79 => ⟨S32x8192, .i32⟩
  | 80 => ⟨S_, .i32⟩
  | 81 => ⟨S32x8192, .i32⟩
  | 82 => ⟨S32x8192, .i32⟩
  | 83 => ⟨S32x8192, .i32⟩
  | 84 => ⟨S_, .i32⟩
  | 85 => ⟨S32x8192, .i32⟩
  | 86 => ⟨S32x8192, .i32⟩
  | 87 => ⟨S_, .i32⟩
  | 88 => ⟨S32x8192, .i32⟩
  | 89 => ⟨S32x8192, .i32⟩
  | 90 => ⟨S32x8192, .i32⟩
  | 91 => ⟨S32x8192, .i32⟩
  | 92 => ⟨S32x8192, .i32⟩
  | 93 => ⟨S_, .i32⟩
  | 94 => ⟨S32x8192, .i32⟩
  | 95 => ⟨S32x8192, .i32⟩
  | 96 => ⟨S_, .i32⟩
  | 97 => ⟨S32x8192, .i32⟩
  | 98 => ⟨S32x8192, .i32⟩
  | 99 => ⟨S32x8192, .i32⟩
  | 100 => ⟨S32x8192, .i32⟩
  | 101 => ⟨S32x8192, .i32⟩
  | 102 => ⟨S_, .i32⟩
  | 103 => ⟨S32x8192, .i32⟩
  | 104 => ⟨S32x8192, .i32⟩
  | 105 => ⟨S_, .i32⟩
  | 106 => ⟨S32x8192, .i32⟩
  | 107 => ⟨S32x8192, .i32⟩
  | 108 => ⟨S32x8192, .i32⟩
  | 109 => ⟨S32x8192, .i32⟩
  | 110 => ⟨S32x8192, .i32⟩
  | 111 => ⟨S_, .i32⟩
  | 112 => ⟨S32x8192, .i32⟩
  | 113 => ⟨S32x8192, .i32⟩
  | 114 => ⟨S_, .i32⟩
  | 115 => ⟨S32x8192, .i32⟩
  | 116 => ⟨S32x8192, .i32⟩
  | 117 => ⟨S32x8192, .i32⟩
  | 118 => ⟨S32x8192, .i32⟩
  | 119 => ⟨S32x8192, .i32⟩
  | 120 => ⟨S32x8192, .i32⟩
  | 121 => ⟨S32x8192, .i32⟩
  | 122 => ⟨S32x8192, .i32⟩
  | 123 => ⟨S_, .i32⟩
  | 124 => ⟨S32x8192, .i32⟩
  | 125 => ⟨S32x8192, .i32⟩
  | 126 => ⟨S32x8192, .i32⟩
  | 127 => ⟨S32x8192, .i32⟩
  | _ => ⟨S32x8192x64, .f32⟩

abbrev hbmTy0_9 (i : Nat) : BufTy := match i % 128 with
  | 0 => ⟨S32x8192, .i32⟩
  | 1 => ⟨S8192, .i32⟩
  | 2 => ⟨S1x8192x1, .i32⟩
  | 3 => ⟨S32x8192x1, .i32⟩
  | 4 => ⟨S32x8192x1, .i32⟩
  | 5 => ⟨S_, .i32⟩
  | 6 => ⟨S32x8192x1, .i32⟩
  | 7 => ⟨S32x8192x1, .i1⟩
  | 8 => ⟨S_, .i32⟩
  | 9 => ⟨S32x8192x1, .i32⟩
  | 10 => ⟨S32x8192x1, .i32⟩
  | 11 => ⟨S32x8192x1, .i32⟩
  | 12 => ⟨S1, .i32⟩
  | 13 => ⟨S_, .i32⟩
  | 14 => ⟨S32x8192x1, .i32⟩
  | 15 => ⟨S32x8192x1, .i1⟩
  | 16 => ⟨S1x1x1, .i32⟩
  | 17 => ⟨S32x8192x1, .i32⟩
  | 18 => ⟨S32x8192x1, .i1⟩
  | 19 => ⟨S32x8192x1, .i1⟩
  | 20 => ⟨S_, .i1⟩
  | 21 => ⟨S32x8192, .i1⟩
  | 22 => ⟨S32x8192x1, .i32⟩
  | 23 => ⟨S32x8192x1, .i1⟩
  | 24 => ⟨S_, .i32⟩
  | 25 => ⟨S32x8192x1, .i32⟩
  | 26 => ⟨S32x8192x1, .i32⟩
  | 27 => ⟨S32x8192, .i32⟩
  | 28 => ⟨S32x8192, .i32⟩
  | 29 => ⟨S32x8192, .i32⟩
  | 30 => ⟨S32x8192, .i32⟩
  | _ => ⟨S32x8192x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S32x8192x64, .f32⟩

abbrev bufTy : (tb : Table) → Fin (tcTables nBuf tb) → BufTy
  | .hbm, ⟨i, _⟩ => hbmTy i
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_c_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_4 : Ref sig .tc := ⟨.hbm, 13, rfl⟩
abbrev main_v7 : Ref sig .tc := ⟨.hbm, 14, rfl⟩
abbrev main_v8 : Ref sig .tc := ⟨.hbm, 15, rfl⟩
abbrev main_c_5 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_8 : Ref sig .tc := ⟨.hbm, 31, rfl⟩
abbrev main_v21 : Ref sig .tc := ⟨.hbm, 32, rfl⟩
abbrev main_v22 : Ref sig .tc := ⟨.hbm, 33, rfl⟩
abbrev main_c_9 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_10 : Ref sig .tc := ⟨.hbm, 40, rfl⟩
abbrev main_v28 : Ref sig .tc := ⟨.hbm, 41, rfl⟩
abbrev main_v29 : Ref sig .tc := ⟨.hbm, 42, rfl⟩
abbrev main_c_11 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_12 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_13 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_14 : Ref sig .tc := ⟨.hbm, 57, rfl⟩
abbrev main_v41 : Ref sig .tc := ⟨.hbm, 58, rfl⟩
abbrev main_v42 : Ref sig .tc := ⟨.hbm, 59, rfl⟩
abbrev main_c_15 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_16 : Ref sig .tc := ⟨.hbm, 66, rfl⟩
abbrev main_v48 : Ref sig .tc := ⟨.hbm, 67, rfl⟩
abbrev main_v49 : Ref sig .tc := ⟨.hbm, 68, rfl⟩
abbrev main_c_17 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_18 : Ref sig .tc := ⟨.hbm, 75, rfl⟩
abbrev main_v55 : Ref sig .tc := ⟨.hbm, 76, rfl⟩
abbrev main_v56 : Ref sig .tc := ⟨.hbm, 77, rfl⟩
abbrev main_c_19 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_20 : Ref sig .tc := ⟨.hbm, 84, rfl⟩
abbrev main_v62 : Ref sig .tc := ⟨.hbm, 85, rfl⟩
abbrev main_v63 : Ref sig .tc := ⟨.hbm, 86, rfl⟩
abbrev main_c_21 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_22 : Ref sig .tc := ⟨.hbm, 94, rfl⟩
abbrev main_v70 : Ref sig .tc := ⟨.hbm, 95, rfl⟩
abbrev main_v71 : Ref sig .tc := ⟨.hbm, 96, rfl⟩
abbrev main_c_23 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_24 : Ref sig .tc := ⟨.hbm, 101, rfl⟩
abbrev main_v75 : Ref sig .tc := ⟨.hbm, 102, rfl⟩
abbrev main_v76 : Ref sig .tc := ⟨.hbm, 103, rfl⟩
abbrev main_c_25 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_26 : Ref sig .tc := ⟨.hbm, 110, rfl⟩
abbrev main_v82 : Ref sig .tc := ⟨.hbm, 111, rfl⟩
abbrev main_v83 : Ref sig .tc := ⟨.hbm, 112, rfl⟩
abbrev main_c_27 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_28 : Ref sig .tc := ⟨.hbm, 119, rfl⟩
abbrev main_v89 : Ref sig .tc := ⟨.hbm, 120, rfl⟩
abbrev main_v90 : Ref sig .tc := ⟨.hbm, 121, rfl⟩
abbrev main_c_29 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_30 : Ref sig .tc := ⟨.hbm, 128, rfl⟩
abbrev main_v96 : Ref sig .tc := ⟨.hbm, 129, rfl⟩
abbrev main_v97 : Ref sig .tc := ⟨.hbm, 130, rfl⟩
abbrev main_c_31 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_32 : Ref sig .tc := ⟨.hbm, 136, rfl⟩
abbrev main_v102 : Ref sig .tc := ⟨.hbm, 137, rfl⟩
abbrev main_v103 : Ref sig .tc := ⟨.hbm, 138, rfl⟩
abbrev main_c_33 : Ref sig .tc := ⟨.hbm, 139, rfl⟩
abbrev main_v104 : Ref sig .tc := ⟨.hbm, 140, rfl⟩
abbrev main_v105 : Ref sig .tc := ⟨.hbm, 141, rfl⟩
abbrev main_c_34 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_35 : Ref sig .tc := ⟨.hbm, 146, rfl⟩
abbrev main_v109 : Ref sig .tc := ⟨.hbm, 147, rfl⟩
abbrev main_v110 : Ref sig .tc := ⟨.hbm, 148, rfl⟩
abbrev main_c_36 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_37 : Ref sig .tc := ⟨.hbm, 155, rfl⟩
abbrev main_v116 : Ref sig .tc := ⟨.hbm, 156, rfl⟩
abbrev main_v117 : Ref sig .tc := ⟨.hbm, 157, rfl⟩
abbrev main_c_38 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_c_39 : Ref sig .tc := ⟨.hbm, 164, rfl⟩
abbrev main_v123 : Ref sig .tc := ⟨.hbm, 165, rfl⟩
abbrev main_v124 : Ref sig .tc := ⟨.hbm, 166, rfl⟩
abbrev main_c_40 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_41 : Ref sig .tc := ⟨.hbm, 173, rfl⟩
abbrev main_v130 : Ref sig .tc := ⟨.hbm, 174, rfl⟩
abbrev main_v131 : Ref sig .tc := ⟨.hbm, 175, rfl⟩
abbrev main_c_42 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_43 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_44 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_45 : Ref sig .tc := ⟨.hbm, 190, rfl⟩
abbrev main_v143 : Ref sig .tc := ⟨.hbm, 191, rfl⟩
abbrev main_v144 : Ref sig .tc := ⟨.hbm, 192, rfl⟩
abbrev main_c_46 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_47 : Ref sig .tc := ⟨.hbm, 199, rfl⟩
abbrev main_v150 : Ref sig .tc := ⟨.hbm, 200, rfl⟩
abbrev main_v151 : Ref sig .tc := ⟨.hbm, 201, rfl⟩
abbrev main_c_48 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_c_49 : Ref sig .tc := ⟨.hbm, 208, rfl⟩
abbrev main_v157 : Ref sig .tc := ⟨.hbm, 209, rfl⟩
abbrev main_v158 : Ref sig .tc := ⟨.hbm, 210, rfl⟩
abbrev main_c_50 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_51 : Ref sig .tc := ⟨.hbm, 217, rfl⟩
abbrev main_v164 : Ref sig .tc := ⟨.hbm, 218, rfl⟩
abbrev main_v165 : Ref sig .tc := ⟨.hbm, 219, rfl⟩
abbrev main_c_52 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_c_53 : Ref sig .tc := ⟨.hbm, 227, rfl⟩
abbrev main_v172 : Ref sig .tc := ⟨.hbm, 228, rfl⟩
abbrev main_v173 : Ref sig .tc := ⟨.hbm, 229, rfl⟩
abbrev main_c_54 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_c_55 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_c_56 : Ref sig .tc := ⟨.hbm, 250, rfl⟩
abbrev main_v192 : Ref sig .tc := ⟨.hbm, 251, rfl⟩
abbrev main_v193 : Ref sig .tc := ⟨.hbm, 252, rfl⟩
abbrev main_c_57 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_c_58 : Ref sig .tc := ⟨.hbm, 259, rfl⟩
abbrev main_v199 : Ref sig .tc := ⟨.hbm, 260, rfl⟩
abbrev main_v200 : Ref sig .tc := ⟨.hbm, 261, rfl⟩
abbrev main_c_59 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_c_60 : Ref sig .tc := ⟨.hbm, 268, rfl⟩
abbrev main_v206 : Ref sig .tc := ⟨.hbm, 269, rfl⟩
abbrev main_v207 : Ref sig .tc := ⟨.hbm, 270, rfl⟩
abbrev main_c_61 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_c_62 : Ref sig .tc := ⟨.hbm, 277, rfl⟩
abbrev main_v213 : Ref sig .tc := ⟨.hbm, 278, rfl⟩
abbrev main_v214 : Ref sig .tc := ⟨.hbm, 279, rfl⟩
abbrev main_c_63 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_c_64 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_c_65 : Ref sig .tc := ⟨.hbm, 293, rfl⟩
abbrev main_v226 : Ref sig .tc := ⟨.hbm, 294, rfl⟩
abbrev main_v227 : Ref sig .tc := ⟨.hbm, 295, rfl⟩
abbrev main_c_66 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_c_67 : Ref sig .tc := ⟨.hbm, 302, rfl⟩
abbrev main_v233 : Ref sig .tc := ⟨.hbm, 303, rfl⟩
abbrev main_v234 : Ref sig .tc := ⟨.hbm, 304, rfl⟩
abbrev main_c_68 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_c_69 : Ref sig .tc := ⟨.hbm, 311, rfl⟩
abbrev main_v240 : Ref sig .tc := ⟨.hbm, 312, rfl⟩
abbrev main_v241 : Ref sig .tc := ⟨.hbm, 313, rfl⟩
abbrev main_c_70 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_c_71 : Ref sig .tc := ⟨.hbm, 320, rfl⟩
abbrev main_v247 : Ref sig .tc := ⟨.hbm, 321, rfl⟩
abbrev main_v248 : Ref sig .tc := ⟨.hbm, 322, rfl⟩
abbrev main_c_72 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_c_73 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_c_74 : Ref sig .tc := ⟨.hbm, 336, rfl⟩
abbrev main_v260 : Ref sig .tc := ⟨.hbm, 337, rfl⟩
abbrev main_v261 : Ref sig .tc := ⟨.hbm, 338, rfl⟩
abbrev main_c_75 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_c_76 : Ref sig .tc := ⟨.hbm, 345, rfl⟩
abbrev main_v267 : Ref sig .tc := ⟨.hbm, 346, rfl⟩
abbrev main_v268 : Ref sig .tc := ⟨.hbm, 347, rfl⟩
abbrev main_c_77 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_c_78 : Ref sig .tc := ⟨.hbm, 354, rfl⟩
abbrev main_v274 : Ref sig .tc := ⟨.hbm, 355, rfl⟩
abbrev main_v275 : Ref sig .tc := ⟨.hbm, 356, rfl⟩
abbrev main_c_79 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_c_80 : Ref sig .tc := ⟨.hbm, 363, rfl⟩
abbrev main_v281 : Ref sig .tc := ⟨.hbm, 364, rfl⟩
abbrev main_v282 : Ref sig .tc := ⟨.hbm, 365, rfl⟩
abbrev main_c_81 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_v290 : Ref sig .tc := ⟨.hbm, 374, rfl⟩
abbrev main_c_82 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_c_83 : Ref sig .tc := ⟨.hbm, 379, rfl⟩
abbrev main_v294 : Ref sig .tc := ⟨.hbm, 380, rfl⟩
abbrev main_v295 : Ref sig .tc := ⟨.hbm, 381, rfl⟩
abbrev main_c_84 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_c_85 : Ref sig .tc := ⟨.hbm, 388, rfl⟩
abbrev main_v301 : Ref sig .tc := ⟨.hbm, 389, rfl⟩
abbrev main_v302 : Ref sig .tc := ⟨.hbm, 390, rfl⟩
abbrev main_c_86 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_c_87 : Ref sig .tc := ⟨.hbm, 397, rfl⟩
abbrev main_v308 : Ref sig .tc := ⟨.hbm, 398, rfl⟩
abbrev main_v309 : Ref sig .tc := ⟨.hbm, 399, rfl⟩
abbrev main_c_88 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_c_89 : Ref sig .tc := ⟨.hbm, 406, rfl⟩
abbrev main_v315 : Ref sig .tc := ⟨.hbm, 407, rfl⟩
abbrev main_v316 : Ref sig .tc := ⟨.hbm, 408, rfl⟩
abbrev main_c_90 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_c_91 : Ref sig .tc := ⟨.hbm, 418, rfl⟩
abbrev main_v325 : Ref sig .tc := ⟨.hbm, 419, rfl⟩
abbrev main_v326 : Ref sig .tc := ⟨.hbm, 420, rfl⟩
abbrev main_v327 : Ref sig .tc := ⟨.hbm, 421, rfl⟩
abbrev main_c_92 : Ref sig .tc := ⟨.hbm, 422, rfl⟩
abbrev main_v328 : Ref sig .tc := ⟨.hbm, 423, rfl⟩
abbrev main_v329 : Ref sig .tc := ⟨.hbm, 424, rfl⟩
abbrev main_c_93 : Ref sig .tc := ⟨.hbm, 425, rfl⟩
abbrev main_v330 : Ref sig .tc := ⟨.hbm, 426, rfl⟩
abbrev main_v331 : Ref sig .tc := ⟨.hbm, 427, rfl⟩
abbrev main_v332 : Ref sig .tc := ⟨.hbm, 428, rfl⟩
abbrev main_v333 : Ref sig .tc := ⟨.hbm, 429, rfl⟩
abbrev main_v334 : Ref sig .tc := ⟨.hbm, 430, rfl⟩
abbrev main_c_94 : Ref sig .tc := ⟨.hbm, 431, rfl⟩
abbrev main_v335 : Ref sig .tc := ⟨.hbm, 432, rfl⟩
abbrev main_v336 : Ref sig .tc := ⟨.hbm, 433, rfl⟩
abbrev main_c_95 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_c_96 : Ref sig .tc := ⟨.hbm, 440, rfl⟩
abbrev main_v342 : Ref sig .tc := ⟨.hbm, 441, rfl⟩
abbrev main_v343 : Ref sig .tc := ⟨.hbm, 442, rfl⟩
abbrev main_c_97 : Ref sig .tc := ⟨.hbm, 443, rfl⟩
abbrev main_v344 : Ref sig .tc := ⟨.hbm, 444, rfl⟩
abbrev main_v345 : Ref sig .tc := ⟨.hbm, 445, rfl⟩
abbrev main_v346 : Ref sig .tc := ⟨.hbm, 446, rfl⟩
abbrev main_v347 : Ref sig .tc := ⟨.hbm, 447, rfl⟩
abbrev main_v348 : Ref sig .tc := ⟨.hbm, 448, rfl⟩
abbrev main_c_98 : Ref sig .tc := ⟨.hbm, 449, rfl⟩
abbrev main_v349 : Ref sig .tc := ⟨.hbm, 450, rfl⟩
abbrev main_v350 : Ref sig .tc := ⟨.hbm, 451, rfl⟩
abbrev main_c_99 : Ref sig .tc := ⟨.hbm, 452, rfl⟩
abbrev main_v351 : Ref sig .tc := ⟨.hbm, 453, rfl⟩
abbrev main_v352 : Ref sig .tc := ⟨.hbm, 454, rfl⟩
abbrev main_v353 : Ref sig .tc := ⟨.hbm, 455, rfl⟩
abbrev main_v354 : Ref sig .tc := ⟨.hbm, 456, rfl⟩
abbrev main_v355 : Ref sig .tc := ⟨.hbm, 457, rfl⟩
abbrev main_v356 : Ref sig .tc := ⟨.hbm, 458, rfl⟩
abbrev main_v357 : Ref sig .tc := ⟨.hbm, 459, rfl⟩
abbrev main_v358 : Ref sig .tc := ⟨.hbm, 460, rfl⟩
abbrev main_c_100 : Ref sig .tc := ⟨.hbm, 461, rfl⟩
abbrev main_v359 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_c_101 : Ref sig .tc := ⟨.hbm, 471, rfl⟩
abbrev main_v368 : Ref sig .tc := ⟨.hbm, 472, rfl⟩
abbrev main_v369 : Ref sig .tc := ⟨.hbm, 473, rfl⟩
abbrev main_v370 : Ref sig .tc := ⟨.hbm, 474, rfl⟩
abbrev main_v371 : Ref sig .tc := ⟨.hbm, 475, rfl⟩
abbrev main_v372 : Ref sig .tc := ⟨.hbm, 476, rfl⟩
abbrev main_v373 : Ref sig .tc := ⟨.hbm, 477, rfl⟩
abbrev main_c_102 : Ref sig .tc := ⟨.hbm, 478, rfl⟩
abbrev main_v374 : Ref sig .tc := ⟨.hbm, 479, rfl⟩
abbrev main_v375 : Ref sig .tc := ⟨.hbm, 480, rfl⟩
abbrev main_c_103 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_c_104 : Ref sig .tc := ⟨.hbm, 487, rfl⟩
abbrev main_v381 : Ref sig .tc := ⟨.hbm, 488, rfl⟩
abbrev main_v382 : Ref sig .tc := ⟨.hbm, 489, rfl⟩
abbrev main_c_105 : Ref sig .tc := ⟨.hbm, 490, rfl⟩
abbrev main_v383 : Ref sig .tc := ⟨.hbm, 491, rfl⟩
abbrev main_v384 : Ref sig .tc := ⟨.hbm, 492, rfl⟩
abbrev main_v385 : Ref sig .tc := ⟨.hbm, 493, rfl⟩
abbrev main_v386 : Ref sig .tc := ⟨.hbm, 494, rfl⟩
abbrev main_v387 : Ref sig .tc := ⟨.hbm, 495, rfl⟩
abbrev main_c_106 : Ref sig .tc := ⟨.hbm, 496, rfl⟩
abbrev main_v388 : Ref sig .tc := ⟨.hbm, 497, rfl⟩
abbrev main_v389 : Ref sig .tc := ⟨.hbm, 498, rfl⟩
abbrev main_c_107 : Ref sig .tc := ⟨.hbm, 499, rfl⟩
abbrev main_v390 : Ref sig .tc := ⟨.hbm, 500, rfl⟩
abbrev main_v391 : Ref sig .tc := ⟨.hbm, 501, rfl⟩
abbrev main_v392 : Ref sig .tc := ⟨.hbm, 502, rfl⟩
abbrev main_v393 : Ref sig .tc := ⟨.hbm, 503, rfl⟩
abbrev main_v394 : Ref sig .tc := ⟨.hbm, 504, rfl⟩
abbrev main_c_108 : Ref sig .tc := ⟨.hbm, 505, rfl⟩
abbrev main_v395 : Ref sig .tc := ⟨.hbm, 506, rfl⟩
abbrev main_v396 : Ref sig .tc := ⟨.hbm, 507, rfl⟩
abbrev main_c_109 : Ref sig .tc := ⟨.hbm, 508, rfl⟩
abbrev main_v397 : Ref sig .tc := ⟨.hbm, 509, rfl⟩
abbrev main_v398 : Ref sig .tc := ⟨.hbm, 510, rfl⟩
abbrev main_v399 : Ref sig .tc := ⟨.hbm, 511, rfl⟩
abbrev main_v400 : Ref sig .tc := ⟨.hbm, 512, rfl⟩
abbrev main_v401 : Ref sig .tc := ⟨.hbm, 513, rfl⟩
abbrev main_v402 : Ref sig .tc := ⟨.hbm, 514, rfl⟩
abbrev main_v403 : Ref sig .tc := ⟨.hbm, 515, rfl⟩
abbrev main_v404 : Ref sig .tc := ⟨.hbm, 516, rfl⟩
abbrev main_c_110 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_c_111 : Ref sig .tc := ⟨.hbm, 521, rfl⟩
abbrev main_v408 : Ref sig .tc := ⟨.hbm, 522, rfl⟩
abbrev main_v409 : Ref sig .tc := ⟨.hbm, 523, rfl⟩
abbrev main_c_112 : Ref sig .tc := ⟨.hbm, 524, rfl⟩
abbrev main_v410 : Ref sig .tc := ⟨.hbm, 525, rfl⟩
abbrev main_v411 : Ref sig .tc := ⟨.hbm, 526, rfl⟩
abbrev main_v412 : Ref sig .tc := ⟨.hbm, 527, rfl⟩
abbrev main_v413 : Ref sig .tc := ⟨.hbm, 528, rfl⟩
abbrev main_v414 : Ref sig .tc := ⟨.hbm, 529, rfl⟩
abbrev main_c_113 : Ref sig .tc := ⟨.hbm, 530, rfl⟩
abbrev main_v415 : Ref sig .tc := ⟨.hbm, 531, rfl⟩
abbrev main_v416 : Ref sig .tc := ⟨.hbm, 532, rfl⟩
abbrev main_c_114 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_c_115 : Ref sig .tc := ⟨.hbm, 539, rfl⟩
abbrev main_v422 : Ref sig .tc := ⟨.hbm, 540, rfl⟩
abbrev main_v423 : Ref sig .tc := ⟨.hbm, 541, rfl⟩
abbrev main_c_116 : Ref sig .tc := ⟨.hbm, 542, rfl⟩
abbrev main_v424 : Ref sig .tc := ⟨.hbm, 543, rfl⟩
abbrev main_v425 : Ref sig .tc := ⟨.hbm, 544, rfl⟩
abbrev main_v426 : Ref sig .tc := ⟨.hbm, 545, rfl⟩
abbrev main_v427 : Ref sig .tc := ⟨.hbm, 546, rfl⟩
abbrev main_v428 : Ref sig .tc := ⟨.hbm, 547, rfl⟩
abbrev main_c_117 : Ref sig .tc := ⟨.hbm, 548, rfl⟩
abbrev main_v429 : Ref sig .tc := ⟨.hbm, 549, rfl⟩
abbrev main_v430 : Ref sig .tc := ⟨.hbm, 550, rfl⟩
abbrev main_c_118 : Ref sig .tc := ⟨.hbm, 551, rfl⟩
abbrev main_v431 : Ref sig .tc := ⟨.hbm, 552, rfl⟩
abbrev main_v432 : Ref sig .tc := ⟨.hbm, 553, rfl⟩
abbrev main_v433 : Ref sig .tc := ⟨.hbm, 554, rfl⟩
abbrev main_v434 : Ref sig .tc := ⟨.hbm, 555, rfl⟩
abbrev main_v435 : Ref sig .tc := ⟨.hbm, 556, rfl⟩
abbrev main_v436 : Ref sig .tc := ⟨.hbm, 557, rfl⟩
abbrev main_v437 : Ref sig .tc := ⟨.hbm, 558, rfl⟩
abbrev main_v438 : Ref sig .tc := ⟨.hbm, 559, rfl⟩
abbrev main_c_119 : Ref sig .tc := ⟨.hbm, 560, rfl⟩
abbrev main_v439 : Ref sig .tc := ⟨.hbm, 561, rfl⟩
abbrev main_v440 : Ref sig .tc := ⟨.hbm, 562, rfl⟩
abbrev main_v441 : Ref sig .tc := ⟨.hbm, 563, rfl⟩
abbrev main_c_120 : Ref sig .tc := ⟨.hbm, 564, rfl⟩
abbrev main_v442 : Ref sig .tc := ⟨.hbm, 565, rfl⟩
abbrev main_v443 : Ref sig .tc := ⟨.hbm, 566, rfl⟩
abbrev main_c_121 : Ref sig .tc := ⟨.hbm, 567, rfl⟩
abbrev main_v444 : Ref sig .tc := ⟨.hbm, 568, rfl⟩
abbrev main_v445 : Ref sig .tc := ⟨.hbm, 569, rfl⟩
abbrev main_v446 : Ref sig .tc := ⟨.hbm, 570, rfl⟩
abbrev main_v447 : Ref sig .tc := ⟨.hbm, 571, rfl⟩
abbrev main_v448 : Ref sig .tc := ⟨.hbm, 572, rfl⟩
abbrev main_c_122 : Ref sig .tc := ⟨.hbm, 573, rfl⟩
abbrev main_v449 : Ref sig .tc := ⟨.hbm, 574, rfl⟩
abbrev main_v450 : Ref sig .tc := ⟨.hbm, 575, rfl⟩
abbrev main_c_123 : Ref sig .tc := ⟨.hbm, 576, rfl⟩
abbrev main_v451 : Ref sig .tc := ⟨.hbm, 577, rfl⟩
abbrev main_v452 : Ref sig .tc := ⟨.hbm, 578, rfl⟩
abbrev main_v453 : Ref sig .tc := ⟨.hbm, 579, rfl⟩
abbrev main_v454 : Ref sig .tc := ⟨.hbm, 580, rfl⟩
abbrev main_v455 : Ref sig .tc := ⟨.hbm, 581, rfl⟩
abbrev main_c_124 : Ref sig .tc := ⟨.hbm, 582, rfl⟩
abbrev main_v456 : Ref sig .tc := ⟨.hbm, 583, rfl⟩
abbrev main_v457 : Ref sig .tc := ⟨.hbm, 584, rfl⟩
abbrev main_c_125 : Ref sig .tc := ⟨.hbm, 585, rfl⟩
abbrev main_v458 : Ref sig .tc := ⟨.hbm, 586, rfl⟩
abbrev main_v459 : Ref sig .tc := ⟨.hbm, 587, rfl⟩
abbrev main_v460 : Ref sig .tc := ⟨.hbm, 588, rfl⟩
abbrev main_v461 : Ref sig .tc := ⟨.hbm, 589, rfl⟩
abbrev main_v462 : Ref sig .tc := ⟨.hbm, 590, rfl⟩
abbrev main_c_126 : Ref sig .tc := ⟨.hbm, 591, rfl⟩
abbrev main_v463 : Ref sig .tc := ⟨.hbm, 592, rfl⟩
abbrev main_v464 : Ref sig .tc := ⟨.hbm, 593, rfl⟩
abbrev main_c_127 : Ref sig .tc := ⟨.hbm, 594, rfl⟩
abbrev main_v465 : Ref sig .tc := ⟨.hbm, 595, rfl⟩
abbrev main_v466 : Ref sig .tc := ⟨.hbm, 596, rfl⟩
abbrev main_v467 : Ref sig .tc := ⟨.hbm, 597, rfl⟩
abbrev main_v468 : Ref sig .tc := ⟨.hbm, 598, rfl⟩
abbrev main_v469 : Ref sig .tc := ⟨.hbm, 599, rfl⟩
abbrev main_v470 : Ref sig .tc := ⟨.hbm, 600, rfl⟩
abbrev main_v471 : Ref sig .tc := ⟨.hbm, 601, rfl⟩
abbrev main_v472 : Ref sig .tc := ⟨.hbm, 602, rfl⟩
abbrev main_c_128 : Ref sig .tc := ⟨.hbm, 603, rfl⟩
abbrev main_v473 : Ref sig .tc := ⟨.hbm, 604, rfl⟩
abbrev main_v474 : Ref sig .tc := ⟨.hbm, 605, rfl⟩
abbrev main_v475 : Ref sig .tc := ⟨.hbm, 606, rfl⟩
abbrev main_c_129 : Ref sig .tc := ⟨.hbm, 607, rfl⟩
abbrev main_v476 : Ref sig .tc := ⟨.hbm, 608, rfl⟩
abbrev main_v477 : Ref sig .tc := ⟨.hbm, 609, rfl⟩
abbrev main_c_130 : Ref sig .tc := ⟨.hbm, 610, rfl⟩
abbrev main_v478 : Ref sig .tc := ⟨.hbm, 611, rfl⟩
abbrev main_v479 : Ref sig .tc := ⟨.hbm, 612, rfl⟩
abbrev main_v480 : Ref sig .tc := ⟨.hbm, 613, rfl⟩
abbrev main_v481 : Ref sig .tc := ⟨.hbm, 614, rfl⟩
abbrev main_v482 : Ref sig .tc := ⟨.hbm, 615, rfl⟩
abbrev main_c_131 : Ref sig .tc := ⟨.hbm, 616, rfl⟩
abbrev main_v483 : Ref sig .tc := ⟨.hbm, 617, rfl⟩
abbrev main_v484 : Ref sig .tc := ⟨.hbm, 618, rfl⟩
abbrev main_c_132 : Ref sig .tc := ⟨.hbm, 619, rfl⟩
abbrev main_v485 : Ref sig .tc := ⟨.hbm, 620, rfl⟩
abbrev main_v486 : Ref sig .tc := ⟨.hbm, 621, rfl⟩
abbrev main_v487 : Ref sig .tc := ⟨.hbm, 622, rfl⟩
abbrev main_v488 : Ref sig .tc := ⟨.hbm, 623, rfl⟩
abbrev main_v489 : Ref sig .tc := ⟨.hbm, 624, rfl⟩
abbrev main_c_133 : Ref sig .tc := ⟨.hbm, 625, rfl⟩
abbrev main_v490 : Ref sig .tc := ⟨.hbm, 626, rfl⟩
abbrev main_v491 : Ref sig .tc := ⟨.hbm, 627, rfl⟩
abbrev main_c_134 : Ref sig .tc := ⟨.hbm, 628, rfl⟩
abbrev main_v492 : Ref sig .tc := ⟨.hbm, 629, rfl⟩
abbrev main_v493 : Ref sig .tc := ⟨.hbm, 630, rfl⟩
abbrev main_v494 : Ref sig .tc := ⟨.hbm, 631, rfl⟩
abbrev main_v495 : Ref sig .tc := ⟨.hbm, 632, rfl⟩
abbrev main_v496 : Ref sig .tc := ⟨.hbm, 633, rfl⟩
abbrev main_c_135 : Ref sig .tc := ⟨.hbm, 634, rfl⟩
abbrev main_v497 : Ref sig .tc := ⟨.hbm, 635, rfl⟩
abbrev main_v498 : Ref sig .tc := ⟨.hbm, 636, rfl⟩
abbrev main_c_136 : Ref sig .tc := ⟨.hbm, 637, rfl⟩
abbrev main_v499 : Ref sig .tc := ⟨.hbm, 638, rfl⟩
abbrev main_v500 : Ref sig .tc := ⟨.hbm, 639, rfl⟩
abbrev main_v501 : Ref sig .tc := ⟨.hbm, 640, rfl⟩
abbrev main_v502 : Ref sig .tc := ⟨.hbm, 641, rfl⟩
abbrev main_v503 : Ref sig .tc := ⟨.hbm, 642, rfl⟩
abbrev main_v504 : Ref sig .tc := ⟨.hbm, 643, rfl⟩
abbrev main_v505 : Ref sig .tc := ⟨.hbm, 644, rfl⟩
abbrev main_v506 : Ref sig .tc := ⟨.hbm, 645, rfl⟩
abbrev main_c_137 : Ref sig .tc := ⟨.hbm, 646, rfl⟩
abbrev main_v507 : Ref sig .tc := ⟨.hbm, 647, rfl⟩
abbrev main_v508 : Ref sig .tc := ⟨.hbm, 648, rfl⟩
abbrev main_v509 : Ref sig .tc := ⟨.hbm, 649, rfl⟩
abbrev main_c_138 : Ref sig .tc := ⟨.hbm, 650, rfl⟩
abbrev main_v510 : Ref sig .tc := ⟨.hbm, 651, rfl⟩
abbrev main_v511 : Ref sig .tc := ⟨.hbm, 652, rfl⟩
abbrev main_c_139 : Ref sig .tc := ⟨.hbm, 653, rfl⟩
abbrev main_v512 : Ref sig .tc := ⟨.hbm, 654, rfl⟩
abbrev main_v513 : Ref sig .tc := ⟨.hbm, 655, rfl⟩
abbrev main_v514 : Ref sig .tc := ⟨.hbm, 656, rfl⟩
abbrev main_v515 : Ref sig .tc := ⟨.hbm, 657, rfl⟩
abbrev main_v516 : Ref sig .tc := ⟨.hbm, 658, rfl⟩
abbrev main_c_140 : Ref sig .tc := ⟨.hbm, 659, rfl⟩
abbrev main_v517 : Ref sig .tc := ⟨.hbm, 660, rfl⟩
abbrev main_v518 : Ref sig .tc := ⟨.hbm, 661, rfl⟩
abbrev main_c_141 : Ref sig .tc := ⟨.hbm, 662, rfl⟩
abbrev main_v519 : Ref sig .tc := ⟨.hbm, 663, rfl⟩
abbrev main_v520 : Ref sig .tc := ⟨.hbm, 664, rfl⟩
abbrev main_v521 : Ref sig .tc := ⟨.hbm, 665, rfl⟩
abbrev main_v522 : Ref sig .tc := ⟨.hbm, 666, rfl⟩
abbrev main_v523 : Ref sig .tc := ⟨.hbm, 667, rfl⟩
abbrev main_c_142 : Ref sig .tc := ⟨.hbm, 668, rfl⟩
abbrev main_v524 : Ref sig .tc := ⟨.hbm, 669, rfl⟩
abbrev main_v525 : Ref sig .tc := ⟨.hbm, 670, rfl⟩
abbrev main_c_143 : Ref sig .tc := ⟨.hbm, 671, rfl⟩
abbrev main_v526 : Ref sig .tc := ⟨.hbm, 672, rfl⟩
abbrev main_v527 : Ref sig .tc := ⟨.hbm, 673, rfl⟩
abbrev main_v528 : Ref sig .tc := ⟨.hbm, 674, rfl⟩
abbrev main_v529 : Ref sig .tc := ⟨.hbm, 675, rfl⟩
abbrev main_v530 : Ref sig .tc := ⟨.hbm, 676, rfl⟩
abbrev main_c_144 : Ref sig .tc := ⟨.hbm, 677, rfl⟩
abbrev main_v531 : Ref sig .tc := ⟨.hbm, 678, rfl⟩
abbrev main_v532 : Ref sig .tc := ⟨.hbm, 679, rfl⟩
abbrev main_c_145 : Ref sig .tc := ⟨.hbm, 680, rfl⟩
abbrev main_v533 : Ref sig .tc := ⟨.hbm, 681, rfl⟩
abbrev main_v534 : Ref sig .tc := ⟨.hbm, 682, rfl⟩
abbrev main_v535 : Ref sig .tc := ⟨.hbm, 683, rfl⟩
abbrev main_v536 : Ref sig .tc := ⟨.hbm, 684, rfl⟩
abbrev main_v537 : Ref sig .tc := ⟨.hbm, 685, rfl⟩
abbrev main_v538 : Ref sig .tc := ⟨.hbm, 686, rfl⟩
abbrev main_v539 : Ref sig .tc := ⟨.hbm, 687, rfl⟩
abbrev main_v540 : Ref sig .tc := ⟨.hbm, 688, rfl⟩
abbrev main_c_146 : Ref sig .tc := ⟨.hbm, 689, rfl⟩
abbrev main_v541 : Ref sig .tc := ⟨.hbm, 690, rfl⟩
abbrev main_v542 : Ref sig .tc := ⟨.hbm, 691, rfl⟩
abbrev main_v543 : Ref sig .tc := ⟨.hbm, 692, rfl⟩
abbrev main_v544_0 : Ref sig .tc := ⟨.hbm, 693, rfl⟩
abbrev main_v544_1 : Ref sig .tc := ⟨.hbm, 694, rfl⟩
abbrev main_v545 : Ref sig .tc := ⟨.hbm, 695, rfl⟩
abbrev main_v546 : Ref sig .tc := ⟨.hbm, 696, rfl⟩
abbrev main_v547 : Ref sig .tc := ⟨.hbm, 697, rfl⟩
abbrev main_v548 : Ref sig .tc := ⟨.hbm, 698, rfl⟩
abbrev main_v549 : Ref sig .tc := ⟨.hbm, 699, rfl⟩
abbrev main_c_147 : Ref sig .tc := ⟨.hbm, 700, rfl⟩
abbrev main_v550 : Ref sig .tc := ⟨.hbm, 701, rfl⟩
abbrev main_v551 : Ref sig .tc := ⟨.hbm, 702, rfl⟩
abbrev main_v552 : Ref sig .tc := ⟨.hbm, 703, rfl⟩
abbrev main_v553 : Ref sig .tc := ⟨.hbm, 704, rfl⟩
abbrev main_v554 : Ref sig .tc := ⟨.hbm, 705, rfl⟩
abbrev main_v555 : Ref sig .tc := ⟨.hbm, 706, rfl⟩
abbrev main_v556 : Ref sig .tc := ⟨.hbm, 707, rfl⟩
abbrev main_c_148 : Ref sig .tc := ⟨.hbm, 708, rfl⟩
abbrev main_v557 : Ref sig .tc := ⟨.hbm, 709, rfl⟩
abbrev main_v558 : Ref sig .tc := ⟨.hbm, 710, rfl⟩
abbrev main_c_149 : Ref sig .tc := ⟨.hbm, 711, rfl⟩
abbrev main_v559 : Ref sig .tc := ⟨.hbm, 712, rfl⟩
abbrev main_v560 : Ref sig .tc := ⟨.hbm, 713, rfl⟩
abbrev main_v561 : Ref sig .tc := ⟨.hbm, 714, rfl⟩
abbrev main_v562 : Ref sig .tc := ⟨.hbm, 715, rfl⟩
abbrev main_v563 : Ref sig .tc := ⟨.hbm, 716, rfl⟩
abbrev main_c_150 : Ref sig .tc := ⟨.hbm, 717, rfl⟩
abbrev main_v564 : Ref sig .tc := ⟨.hbm, 718, rfl⟩
abbrev main_v565 : Ref sig .tc := ⟨.hbm, 719, rfl⟩
abbrev main_c_151 : Ref sig .tc := ⟨.hbm, 720, rfl⟩
abbrev main_v566 : Ref sig .tc := ⟨.hbm, 721, rfl⟩
abbrev main_v567 : Ref sig .tc := ⟨.hbm, 722, rfl⟩
abbrev main_v568 : Ref sig .tc := ⟨.hbm, 723, rfl⟩
abbrev main_v569 : Ref sig .tc := ⟨.hbm, 724, rfl⟩
abbrev main_v570 : Ref sig .tc := ⟨.hbm, 725, rfl⟩
abbrev main_c_152 : Ref sig .tc := ⟨.hbm, 726, rfl⟩
abbrev main_v571 : Ref sig .tc := ⟨.hbm, 727, rfl⟩
abbrev main_v572 : Ref sig .tc := ⟨.hbm, 728, rfl⟩
abbrev main_c_153 : Ref sig .tc := ⟨.hbm, 729, rfl⟩
abbrev main_v573 : Ref sig .tc := ⟨.hbm, 730, rfl⟩
abbrev main_v574 : Ref sig .tc := ⟨.hbm, 731, rfl⟩
abbrev main_v575 : Ref sig .tc := ⟨.hbm, 732, rfl⟩
abbrev main_v576 : Ref sig .tc := ⟨.hbm, 733, rfl⟩
abbrev main_v577 : Ref sig .tc := ⟨.hbm, 734, rfl⟩
abbrev main_c_154 : Ref sig .tc := ⟨.hbm, 735, rfl⟩
abbrev main_v578 : Ref sig .tc := ⟨.hbm, 736, rfl⟩
abbrev main_v579 : Ref sig .tc := ⟨.hbm, 737, rfl⟩
abbrev main_c_155 : Ref sig .tc := ⟨.hbm, 738, rfl⟩
abbrev main_v580 : Ref sig .tc := ⟨.hbm, 739, rfl⟩
abbrev main_v581 : Ref sig .tc := ⟨.hbm, 740, rfl⟩
abbrev main_v582 : Ref sig .tc := ⟨.hbm, 741, rfl⟩
abbrev main_v583 : Ref sig .tc := ⟨.hbm, 742, rfl⟩
abbrev main_v584 : Ref sig .tc := ⟨.hbm, 743, rfl⟩
abbrev main_v585 : Ref sig .tc := ⟨.hbm, 744, rfl⟩
abbrev main_v586 : Ref sig .tc := ⟨.hbm, 745, rfl⟩
abbrev main_v587 : Ref sig .tc := ⟨.hbm, 746, rfl⟩
abbrev main_c_156 : Ref sig .tc := ⟨.hbm, 747, rfl⟩
abbrev main_v588 : Ref sig .tc := ⟨.hbm, 748, rfl⟩
abbrev main_v589 : Ref sig .tc := ⟨.hbm, 749, rfl⟩
abbrev main_v590 : Ref sig .tc := ⟨.hbm, 750, rfl⟩
abbrev main_c_157 : Ref sig .tc := ⟨.hbm, 751, rfl⟩
abbrev main_v591 : Ref sig .tc := ⟨.hbm, 752, rfl⟩
abbrev main_v592 : Ref sig .tc := ⟨.hbm, 753, rfl⟩
abbrev main_c_158 : Ref sig .tc := ⟨.hbm, 754, rfl⟩
abbrev main_v593 : Ref sig .tc := ⟨.hbm, 755, rfl⟩
abbrev main_v594 : Ref sig .tc := ⟨.hbm, 756, rfl⟩
abbrev main_v595 : Ref sig .tc := ⟨.hbm, 757, rfl⟩
abbrev main_v596 : Ref sig .tc := ⟨.hbm, 758, rfl⟩
abbrev main_v597 : Ref sig .tc := ⟨.hbm, 759, rfl⟩
abbrev main_c_159 : Ref sig .tc := ⟨.hbm, 760, rfl⟩
abbrev main_v598 : Ref sig .tc := ⟨.hbm, 761, rfl⟩
abbrev main_v599 : Ref sig .tc := ⟨.hbm, 762, rfl⟩
abbrev main_c_160 : Ref sig .tc := ⟨.hbm, 763, rfl⟩
abbrev main_v600 : Ref sig .tc := ⟨.hbm, 764, rfl⟩
abbrev main_v601 : Ref sig .tc := ⟨.hbm, 765, rfl⟩
abbrev main_v602 : Ref sig .tc := ⟨.hbm, 766, rfl⟩
abbrev main_v603 : Ref sig .tc := ⟨.hbm, 767, rfl⟩
abbrev main_v604 : Ref sig .tc := ⟨.hbm, 768, rfl⟩
abbrev main_c_161 : Ref sig .tc := ⟨.hbm, 769, rfl⟩
abbrev main_v605 : Ref sig .tc := ⟨.hbm, 770, rfl⟩
abbrev main_v606 : Ref sig .tc := ⟨.hbm, 771, rfl⟩
abbrev main_c_162 : Ref sig .tc := ⟨.hbm, 772, rfl⟩
abbrev main_v607 : Ref sig .tc := ⟨.hbm, 773, rfl⟩
abbrev main_v608 : Ref sig .tc := ⟨.hbm, 774, rfl⟩
abbrev main_v609 : Ref sig .tc := ⟨.hbm, 775, rfl⟩
abbrev main_v610 : Ref sig .tc := ⟨.hbm, 776, rfl⟩
abbrev main_v611 : Ref sig .tc := ⟨.hbm, 777, rfl⟩
abbrev main_c_163 : Ref sig .tc := ⟨.hbm, 778, rfl⟩
abbrev main_v612 : Ref sig .tc := ⟨.hbm, 779, rfl⟩
abbrev main_v613 : Ref sig .tc := ⟨.hbm, 780, rfl⟩
abbrev main_c_164 : Ref sig .tc := ⟨.hbm, 781, rfl⟩
abbrev main_v614 : Ref sig .tc := ⟨.hbm, 782, rfl⟩
abbrev main_v615 : Ref sig .tc := ⟨.hbm, 783, rfl⟩
abbrev main_v616 : Ref sig .tc := ⟨.hbm, 784, rfl⟩
abbrev main_v617 : Ref sig .tc := ⟨.hbm, 785, rfl⟩
abbrev main_v618 : Ref sig .tc := ⟨.hbm, 786, rfl⟩
abbrev main_v619 : Ref sig .tc := ⟨.hbm, 787, rfl⟩
abbrev main_v620 : Ref sig .tc := ⟨.hbm, 788, rfl⟩
abbrev main_v621 : Ref sig .tc := ⟨.hbm, 789, rfl⟩
abbrev main_c_165 : Ref sig .tc := ⟨.hbm, 790, rfl⟩
abbrev main_v622 : Ref sig .tc := ⟨.hbm, 791, rfl⟩
abbrev main_v623 : Ref sig .tc := ⟨.hbm, 792, rfl⟩
abbrev main_v624 : Ref sig .tc := ⟨.hbm, 793, rfl⟩
abbrev main_c_166 : Ref sig .tc := ⟨.hbm, 794, rfl⟩
abbrev main_v625 : Ref sig .tc := ⟨.hbm, 795, rfl⟩
abbrev main_v626 : Ref sig .tc := ⟨.hbm, 796, rfl⟩
abbrev main_c_167 : Ref sig .tc := ⟨.hbm, 797, rfl⟩
abbrev main_v627 : Ref sig .tc := ⟨.hbm, 798, rfl⟩
abbrev main_v628 : Ref sig .tc := ⟨.hbm, 799, rfl⟩
abbrev main_v629 : Ref sig .tc := ⟨.hbm, 800, rfl⟩
abbrev main_v630 : Ref sig .tc := ⟨.hbm, 801, rfl⟩
abbrev main_v631 : Ref sig .tc := ⟨.hbm, 802, rfl⟩
abbrev main_c_168 : Ref sig .tc := ⟨.hbm, 803, rfl⟩
abbrev main_v632 : Ref sig .tc := ⟨.hbm, 804, rfl⟩
abbrev main_v633 : Ref sig .tc := ⟨.hbm, 805, rfl⟩
abbrev main_c_169 : Ref sig .tc := ⟨.hbm, 806, rfl⟩
abbrev main_v634 : Ref sig .tc := ⟨.hbm, 807, rfl⟩
abbrev main_v635 : Ref sig .tc := ⟨.hbm, 808, rfl⟩
abbrev main_v636 : Ref sig .tc := ⟨.hbm, 809, rfl⟩
abbrev main_v637 : Ref sig .tc := ⟨.hbm, 810, rfl⟩
abbrev main_v638 : Ref sig .tc := ⟨.hbm, 811, rfl⟩
abbrev main_c_170 : Ref sig .tc := ⟨.hbm, 812, rfl⟩
abbrev main_v639 : Ref sig .tc := ⟨.hbm, 813, rfl⟩
abbrev main_v640 : Ref sig .tc := ⟨.hbm, 814, rfl⟩
abbrev main_c_171 : Ref sig .tc := ⟨.hbm, 815, rfl⟩
abbrev main_v641 : Ref sig .tc := ⟨.hbm, 816, rfl⟩
abbrev main_v642 : Ref sig .tc := ⟨.hbm, 817, rfl⟩
abbrev main_v643 : Ref sig .tc := ⟨.hbm, 818, rfl⟩
abbrev main_v644 : Ref sig .tc := ⟨.hbm, 819, rfl⟩
abbrev main_v645 : Ref sig .tc := ⟨.hbm, 820, rfl⟩
abbrev main_c_172 : Ref sig .tc := ⟨.hbm, 821, rfl⟩
abbrev main_v646 : Ref sig .tc := ⟨.hbm, 822, rfl⟩
abbrev main_v647 : Ref sig .tc := ⟨.hbm, 823, rfl⟩
abbrev main_c_173 : Ref sig .tc := ⟨.hbm, 824, rfl⟩
abbrev main_v648 : Ref sig .tc := ⟨.hbm, 825, rfl⟩
abbrev main_v649 : Ref sig .tc := ⟨.hbm, 826, rfl⟩
abbrev main_v650 : Ref sig .tc := ⟨.hbm, 827, rfl⟩
abbrev main_v651 : Ref sig .tc := ⟨.hbm, 828, rfl⟩
abbrev main_v652 : Ref sig .tc := ⟨.hbm, 829, rfl⟩
abbrev main_v653 : Ref sig .tc := ⟨.hbm, 830, rfl⟩
abbrev main_v654 : Ref sig .tc := ⟨.hbm, 831, rfl⟩
abbrev main_v655 : Ref sig .tc := ⟨.hbm, 832, rfl⟩
abbrev main_c_174 : Ref sig .tc := ⟨.hbm, 833, rfl⟩
abbrev main_v656 : Ref sig .tc := ⟨.hbm, 834, rfl⟩
abbrev main_v657 : Ref sig .tc := ⟨.hbm, 835, rfl⟩
abbrev main_v658 : Ref sig .tc := ⟨.hbm, 836, rfl⟩
abbrev main_c_175 : Ref sig .tc := ⟨.hbm, 837, rfl⟩
abbrev main_v659 : Ref sig .tc := ⟨.hbm, 838, rfl⟩
abbrev main_v660 : Ref sig .tc := ⟨.hbm, 839, rfl⟩
abbrev main_c_176 : Ref sig .tc := ⟨.hbm, 840, rfl⟩
abbrev main_v661 : Ref sig .tc := ⟨.hbm, 841, rfl⟩
abbrev main_v662 : Ref sig .tc := ⟨.hbm, 842, rfl⟩
abbrev main_v663 : Ref sig .tc := ⟨.hbm, 843, rfl⟩
abbrev main_v664 : Ref sig .tc := ⟨.hbm, 844, rfl⟩
abbrev main_v665 : Ref sig .tc := ⟨.hbm, 845, rfl⟩
abbrev main_c_177 : Ref sig .tc := ⟨.hbm, 846, rfl⟩
abbrev main_v666 : Ref sig .tc := ⟨.hbm, 847, rfl⟩
abbrev main_v667 : Ref sig .tc := ⟨.hbm, 848, rfl⟩
abbrev main_c_178 : Ref sig .tc := ⟨.hbm, 849, rfl⟩
abbrev main_v668 : Ref sig .tc := ⟨.hbm, 850, rfl⟩
abbrev main_v669 : Ref sig .tc := ⟨.hbm, 851, rfl⟩
abbrev main_v670 : Ref sig .tc := ⟨.hbm, 852, rfl⟩
abbrev main_v671 : Ref sig .tc := ⟨.hbm, 853, rfl⟩
abbrev main_v672 : Ref sig .tc := ⟨.hbm, 854, rfl⟩
abbrev main_c_179 : Ref sig .tc := ⟨.hbm, 855, rfl⟩
abbrev main_v673 : Ref sig .tc := ⟨.hbm, 856, rfl⟩
abbrev main_v674 : Ref sig .tc := ⟨.hbm, 857, rfl⟩
abbrev main_c_180 : Ref sig .tc := ⟨.hbm, 858, rfl⟩
abbrev main_v675 : Ref sig .tc := ⟨.hbm, 859, rfl⟩
abbrev main_v676 : Ref sig .tc := ⟨.hbm, 860, rfl⟩
abbrev main_v677 : Ref sig .tc := ⟨.hbm, 861, rfl⟩
abbrev main_v678 : Ref sig .tc := ⟨.hbm, 862, rfl⟩
abbrev main_v679 : Ref sig .tc := ⟨.hbm, 863, rfl⟩
abbrev main_c_181 : Ref sig .tc := ⟨.hbm, 864, rfl⟩
abbrev main_v680 : Ref sig .tc := ⟨.hbm, 865, rfl⟩
abbrev main_v681 : Ref sig .tc := ⟨.hbm, 866, rfl⟩
abbrev main_c_182 : Ref sig .tc := ⟨.hbm, 867, rfl⟩
abbrev main_v682 : Ref sig .tc := ⟨.hbm, 868, rfl⟩
abbrev main_v683 : Ref sig .tc := ⟨.hbm, 869, rfl⟩
abbrev main_v684 : Ref sig .tc := ⟨.hbm, 870, rfl⟩
abbrev main_v685 : Ref sig .tc := ⟨.hbm, 871, rfl⟩
abbrev main_v686 : Ref sig .tc := ⟨.hbm, 872, rfl⟩
abbrev main_v687 : Ref sig .tc := ⟨.hbm, 873, rfl⟩
abbrev main_v688 : Ref sig .tc := ⟨.hbm, 874, rfl⟩
abbrev main_v689 : Ref sig .tc := ⟨.hbm, 875, rfl⟩
abbrev main_c_183 : Ref sig .tc := ⟨.hbm, 876, rfl⟩
abbrev main_v690 : Ref sig .tc := ⟨.hbm, 877, rfl⟩
abbrev main_v691 : Ref sig .tc := ⟨.hbm, 878, rfl⟩
abbrev main_v692 : Ref sig .tc := ⟨.hbm, 879, rfl⟩
abbrev main_c_184 : Ref sig .tc := ⟨.hbm, 880, rfl⟩
abbrev main_v693 : Ref sig .tc := ⟨.hbm, 881, rfl⟩
abbrev main_v694 : Ref sig .tc := ⟨.hbm, 882, rfl⟩
abbrev main_c_185 : Ref sig .tc := ⟨.hbm, 883, rfl⟩
abbrev main_v695 : Ref sig .tc := ⟨.hbm, 884, rfl⟩
abbrev main_v696 : Ref sig .tc := ⟨.hbm, 885, rfl⟩
abbrev main_v697 : Ref sig .tc := ⟨.hbm, 886, rfl⟩
abbrev main_v698 : Ref sig .tc := ⟨.hbm, 887, rfl⟩
abbrev main_v699 : Ref sig .tc := ⟨.hbm, 888, rfl⟩
abbrev main_c_186 : Ref sig .tc := ⟨.hbm, 889, rfl⟩
abbrev main_v700 : Ref sig .tc := ⟨.hbm, 890, rfl⟩
abbrev main_v701 : Ref sig .tc := ⟨.hbm, 891, rfl⟩
abbrev main_c_187 : Ref sig .tc := ⟨.hbm, 892, rfl⟩
abbrev main_v702 : Ref sig .tc := ⟨.hbm, 893, rfl⟩
abbrev main_v703 : Ref sig .tc := ⟨.hbm, 894, rfl⟩
abbrev main_v704 : Ref sig .tc := ⟨.hbm, 895, rfl⟩
abbrev main_v705 : Ref sig .tc := ⟨.hbm, 896, rfl⟩
abbrev main_v706 : Ref sig .tc := ⟨.hbm, 897, rfl⟩
abbrev main_c_188 : Ref sig .tc := ⟨.hbm, 898, rfl⟩
abbrev main_v707 : Ref sig .tc := ⟨.hbm, 899, rfl⟩
abbrev main_v708 : Ref sig .tc := ⟨.hbm, 900, rfl⟩
abbrev main_c_189 : Ref sig .tc := ⟨.hbm, 901, rfl⟩
abbrev main_v709 : Ref sig .tc := ⟨.hbm, 902, rfl⟩
abbrev main_v710 : Ref sig .tc := ⟨.hbm, 903, rfl⟩
abbrev main_v711 : Ref sig .tc := ⟨.hbm, 904, rfl⟩
abbrev main_v712 : Ref sig .tc := ⟨.hbm, 905, rfl⟩
abbrev main_v713 : Ref sig .tc := ⟨.hbm, 906, rfl⟩
abbrev main_c_190 : Ref sig .tc := ⟨.hbm, 907, rfl⟩
abbrev main_v714 : Ref sig .tc := ⟨.hbm, 908, rfl⟩
abbrev main_v715 : Ref sig .tc := ⟨.hbm, 909, rfl⟩
abbrev main_c_191 : Ref sig .tc := ⟨.hbm, 910, rfl⟩
abbrev main_v716 : Ref sig .tc := ⟨.hbm, 911, rfl⟩
abbrev main_v717 : Ref sig .tc := ⟨.hbm, 912, rfl⟩
abbrev main_v718 : Ref sig .tc := ⟨.hbm, 913, rfl⟩
abbrev main_v719 : Ref sig .tc := ⟨.hbm, 914, rfl⟩
abbrev main_v720 : Ref sig .tc := ⟨.hbm, 915, rfl⟩
abbrev main_v721 : Ref sig .tc := ⟨.hbm, 916, rfl⟩
abbrev main_v722 : Ref sig .tc := ⟨.hbm, 917, rfl⟩
abbrev main_v723 : Ref sig .tc := ⟨.hbm, 918, rfl⟩
abbrev main_c_192 : Ref sig .tc := ⟨.hbm, 919, rfl⟩
abbrev main_v724 : Ref sig .tc := ⟨.hbm, 920, rfl⟩
abbrev main_v725 : Ref sig .tc := ⟨.hbm, 921, rfl⟩
abbrev main_v726 : Ref sig .tc := ⟨.hbm, 922, rfl⟩
abbrev main_v727 : Ref sig .tc := ⟨.hbm, 923, rfl⟩
abbrev main_v728 : Ref sig .tc := ⟨.hbm, 924, rfl⟩
abbrev main_v729 : Ref sig .tc := ⟨.hbm, 925, rfl⟩
abbrev main_v730 : Ref sig .tc := ⟨.hbm, 926, rfl⟩
abbrev main_v731 : Ref sig .tc := ⟨.hbm, 927, rfl⟩
abbrev main_v732 : Ref sig .tc := ⟨.hbm, 928, rfl⟩
abbrev main_c_193 : Ref sig .tc := ⟨.hbm, 929, rfl⟩
abbrev main_v733 : Ref sig .tc := ⟨.hbm, 930, rfl⟩
abbrev main_v734 : Ref sig .tc := ⟨.hbm, 931, rfl⟩
abbrev main_v735 : Ref sig .tc := ⟨.hbm, 932, rfl⟩
abbrev main_v736 : Ref sig .tc := ⟨.hbm, 933, rfl⟩
abbrev main_v737 : Ref sig .tc := ⟨.hbm, 934, rfl⟩
abbrev main_v738 : Ref sig .tc := ⟨.hbm, 935, rfl⟩
abbrev main_c_194 : Ref sig .tc := ⟨.hbm, 936, rfl⟩
abbrev main_v739 : Ref sig .tc := ⟨.hbm, 937, rfl⟩
abbrev main_v740 : Ref sig .tc := ⟨.hbm, 938, rfl⟩
abbrev main_c_195 : Ref sig .tc := ⟨.hbm, 939, rfl⟩
abbrev main_v741 : Ref sig .tc := ⟨.hbm, 940, rfl⟩
abbrev main_v742 : Ref sig .tc := ⟨.hbm, 941, rfl⟩
abbrev main_v743 : Ref sig .tc := ⟨.hbm, 942, rfl⟩
abbrev main_v744 : Ref sig .tc := ⟨.hbm, 943, rfl⟩
abbrev main_v745 : Ref sig .tc := ⟨.hbm, 944, rfl⟩
abbrev main_c_196 : Ref sig .tc := ⟨.hbm, 945, rfl⟩
abbrev main_v746 : Ref sig .tc := ⟨.hbm, 946, rfl⟩
abbrev main_v747 : Ref sig .tc := ⟨.hbm, 947, rfl⟩
abbrev main_c_197 : Ref sig .tc := ⟨.hbm, 948, rfl⟩
abbrev main_v748 : Ref sig .tc := ⟨.hbm, 949, rfl⟩
abbrev main_v749 : Ref sig .tc := ⟨.hbm, 950, rfl⟩
abbrev main_v750 : Ref sig .tc := ⟨.hbm, 951, rfl⟩
abbrev main_v751 : Ref sig .tc := ⟨.hbm, 952, rfl⟩
abbrev main_v752 : Ref sig .tc := ⟨.hbm, 953, rfl⟩
abbrev main_c_198 : Ref sig .tc := ⟨.hbm, 954, rfl⟩
abbrev main_v753 : Ref sig .tc := ⟨.hbm, 955, rfl⟩
abbrev main_v754 : Ref sig .tc := ⟨.hbm, 956, rfl⟩
abbrev main_c_199 : Ref sig .tc := ⟨.hbm, 957, rfl⟩
abbrev main_v755 : Ref sig .tc := ⟨.hbm, 958, rfl⟩
abbrev main_v756 : Ref sig .tc := ⟨.hbm, 959, rfl⟩
abbrev main_v757 : Ref sig .tc := ⟨.hbm, 960, rfl⟩
abbrev main_v758 : Ref sig .tc := ⟨.hbm, 961, rfl⟩
abbrev main_v759 : Ref sig .tc := ⟨.hbm, 962, rfl⟩
abbrev main_c_200 : Ref sig .tc := ⟨.hbm, 963, rfl⟩
abbrev main_v760 : Ref sig .tc := ⟨.hbm, 964, rfl⟩
abbrev main_v761 : Ref sig .tc := ⟨.hbm, 965, rfl⟩
abbrev main_c_201 : Ref sig .tc := ⟨.hbm, 966, rfl⟩
abbrev main_v762 : Ref sig .tc := ⟨.hbm, 967, rfl⟩
abbrev main_v763 : Ref sig .tc := ⟨.hbm, 968, rfl⟩
abbrev main_v764 : Ref sig .tc := ⟨.hbm, 969, rfl⟩
abbrev main_v765 : Ref sig .tc := ⟨.hbm, 970, rfl⟩
abbrev main_v766 : Ref sig .tc := ⟨.hbm, 971, rfl⟩
abbrev main_v767 : Ref sig .tc := ⟨.hbm, 972, rfl⟩
abbrev main_v768 : Ref sig .tc := ⟨.hbm, 973, rfl⟩
abbrev main_v769 : Ref sig .tc := ⟨.hbm, 974, rfl⟩
abbrev main_c_202 : Ref sig .tc := ⟨.hbm, 975, rfl⟩
abbrev main_v770 : Ref sig .tc := ⟨.hbm, 976, rfl⟩
abbrev main_v771 : Ref sig .tc := ⟨.hbm, 977, rfl⟩
abbrev main_v772 : Ref sig .tc := ⟨.hbm, 978, rfl⟩
abbrev main_c_203 : Ref sig .tc := ⟨.hbm, 979, rfl⟩
abbrev main_v773 : Ref sig .tc := ⟨.hbm, 980, rfl⟩
abbrev main_v774 : Ref sig .tc := ⟨.hbm, 981, rfl⟩
abbrev main_c_204 : Ref sig .tc := ⟨.hbm, 982, rfl⟩
abbrev main_v775 : Ref sig .tc := ⟨.hbm, 983, rfl⟩
abbrev main_v776 : Ref sig .tc := ⟨.hbm, 984, rfl⟩
abbrev main_v777 : Ref sig .tc := ⟨.hbm, 985, rfl⟩
abbrev main_v778 : Ref sig .tc := ⟨.hbm, 986, rfl⟩
abbrev main_v779 : Ref sig .tc := ⟨.hbm, 987, rfl⟩
abbrev main_c_205 : Ref sig .tc := ⟨.hbm, 988, rfl⟩
abbrev main_v780 : Ref sig .tc := ⟨.hbm, 989, rfl⟩
abbrev main_v781 : Ref sig .tc := ⟨.hbm, 990, rfl⟩
abbrev main_c_206 : Ref sig .tc := ⟨.hbm, 991, rfl⟩
abbrev main_v782 : Ref sig .tc := ⟨.hbm, 992, rfl⟩
abbrev main_v783 : Ref sig .tc := ⟨.hbm, 993, rfl⟩
abbrev main_v784 : Ref sig .tc := ⟨.hbm, 994, rfl⟩
abbrev main_v785 : Ref sig .tc := ⟨.hbm, 995, rfl⟩
abbrev main_v786 : Ref sig .tc := ⟨.hbm, 996, rfl⟩
abbrev main_c_207 : Ref sig .tc := ⟨.hbm, 997, rfl⟩
abbrev main_v787 : Ref sig .tc := ⟨.hbm, 998, rfl⟩
abbrev main_v788 : Ref sig .tc := ⟨.hbm, 999, rfl⟩
abbrev main_c_208 : Ref sig .tc := ⟨.hbm, 1000, rfl⟩
abbrev main_v789 : Ref sig .tc := ⟨.hbm, 1001, rfl⟩
abbrev main_v790 : Ref sig .tc := ⟨.hbm, 1002, rfl⟩
abbrev main_v791 : Ref sig .tc := ⟨.hbm, 1003, rfl⟩
abbrev main_v792 : Ref sig .tc := ⟨.hbm, 1004, rfl⟩
abbrev main_v793 : Ref sig .tc := ⟨.hbm, 1005, rfl⟩
abbrev main_c_209 : Ref sig .tc := ⟨.hbm, 1006, rfl⟩
abbrev main_v794 : Ref sig .tc := ⟨.hbm, 1007, rfl⟩
abbrev main_v795 : Ref sig .tc := ⟨.hbm, 1008, rfl⟩
abbrev main_c_210 : Ref sig .tc := ⟨.hbm, 1009, rfl⟩
abbrev main_v796 : Ref sig .tc := ⟨.hbm, 1010, rfl⟩
abbrev main_v797 : Ref sig .tc := ⟨.hbm, 1011, rfl⟩
abbrev main_v798 : Ref sig .tc := ⟨.hbm, 1012, rfl⟩
abbrev main_v799 : Ref sig .tc := ⟨.hbm, 1013, rfl⟩
abbrev main_v800 : Ref sig .tc := ⟨.hbm, 1014, rfl⟩
abbrev main_v801 : Ref sig .tc := ⟨.hbm, 1015, rfl⟩
abbrev main_v802 : Ref sig .tc := ⟨.hbm, 1016, rfl⟩
abbrev main_v803 : Ref sig .tc := ⟨.hbm, 1017, rfl⟩
abbrev main_c_211 : Ref sig .tc := ⟨.hbm, 1018, rfl⟩
abbrev main_v804 : Ref sig .tc := ⟨.hbm, 1019, rfl⟩
abbrev main_v805 : Ref sig .tc := ⟨.hbm, 1020, rfl⟩
abbrev main_v806 : Ref sig .tc := ⟨.hbm, 1021, rfl⟩
abbrev main_c_212 : Ref sig .tc := ⟨.hbm, 1022, rfl⟩
abbrev main_v807 : Ref sig .tc := ⟨.hbm, 1023, rfl⟩
abbrev main_v808 : Ref sig .tc := ⟨.hbm, 1024, rfl⟩
abbrev main_c_213 : Ref sig .tc := ⟨.hbm, 1025, rfl⟩
abbrev main_v809 : Ref sig .tc := ⟨.hbm, 1026, rfl⟩
abbrev main_v810 : Ref sig .tc := ⟨.hbm, 1027, rfl⟩
abbrev main_v811 : Ref sig .tc := ⟨.hbm, 1028, rfl⟩
abbrev main_v812 : Ref sig .tc := ⟨.hbm, 1029, rfl⟩
abbrev main_v813 : Ref sig .tc := ⟨.hbm, 1030, rfl⟩
abbrev main_c_214 : Ref sig .tc := ⟨.hbm, 1031, rfl⟩
abbrev main_v814 : Ref sig .tc := ⟨.hbm, 1032, rfl⟩
abbrev main_v815 : Ref sig .tc := ⟨.hbm, 1033, rfl⟩
abbrev main_c_215 : Ref sig .tc := ⟨.hbm, 1034, rfl⟩
abbrev main_v816 : Ref sig .tc := ⟨.hbm, 1035, rfl⟩
abbrev main_v817 : Ref sig .tc := ⟨.hbm, 1036, rfl⟩
abbrev main_v818 : Ref sig .tc := ⟨.hbm, 1037, rfl⟩
abbrev main_v819 : Ref sig .tc := ⟨.hbm, 1038, rfl⟩
abbrev main_v820 : Ref sig .tc := ⟨.hbm, 1039, rfl⟩
abbrev main_c_216 : Ref sig .tc := ⟨.hbm, 1040, rfl⟩
abbrev main_v821 : Ref sig .tc := ⟨.hbm, 1041, rfl⟩
abbrev main_v822 : Ref sig .tc := ⟨.hbm, 1042, rfl⟩
abbrev main_c_217 : Ref sig .tc := ⟨.hbm, 1043, rfl⟩
abbrev main_v823 : Ref sig .tc := ⟨.hbm, 1044, rfl⟩
abbrev main_v824 : Ref sig .tc := ⟨.hbm, 1045, rfl⟩
abbrev main_v825 : Ref sig .tc := ⟨.hbm, 1046, rfl⟩
abbrev main_v826 : Ref sig .tc := ⟨.hbm, 1047, rfl⟩
abbrev main_v827 : Ref sig .tc := ⟨.hbm, 1048, rfl⟩
abbrev main_c_218 : Ref sig .tc := ⟨.hbm, 1049, rfl⟩
abbrev main_v828 : Ref sig .tc := ⟨.hbm, 1050, rfl⟩
abbrev main_v829 : Ref sig .tc := ⟨.hbm, 1051, rfl⟩
abbrev main_c_219 : Ref sig .tc := ⟨.hbm, 1052, rfl⟩
abbrev main_v830 : Ref sig .tc := ⟨.hbm, 1053, rfl⟩
abbrev main_v831 : Ref sig .tc := ⟨.hbm, 1054, rfl⟩
abbrev main_v832 : Ref sig .tc := ⟨.hbm, 1055, rfl⟩
abbrev main_v833 : Ref sig .tc := ⟨.hbm, 1056, rfl⟩
abbrev main_v834 : Ref sig .tc := ⟨.hbm, 1057, rfl⟩
abbrev main_v835 : Ref sig .tc := ⟨.hbm, 1058, rfl⟩
abbrev main_v836 : Ref sig .tc := ⟨.hbm, 1059, rfl⟩
abbrev main_v837 : Ref sig .tc := ⟨.hbm, 1060, rfl⟩
abbrev main_c_220 : Ref sig .tc := ⟨.hbm, 1061, rfl⟩
abbrev main_v838 : Ref sig .tc := ⟨.hbm, 1062, rfl⟩
abbrev main_v839 : Ref sig .tc := ⟨.hbm, 1063, rfl⟩
abbrev main_v840 : Ref sig .tc := ⟨.hbm, 1064, rfl⟩
abbrev main_c_221 : Ref sig .tc := ⟨.hbm, 1065, rfl⟩
abbrev main_v841 : Ref sig .tc := ⟨.hbm, 1066, rfl⟩
abbrev main_v842 : Ref sig .tc := ⟨.hbm, 1067, rfl⟩
abbrev main_c_222 : Ref sig .tc := ⟨.hbm, 1068, rfl⟩
abbrev main_v843 : Ref sig .tc := ⟨.hbm, 1069, rfl⟩
abbrev main_v844 : Ref sig .tc := ⟨.hbm, 1070, rfl⟩
abbrev main_v845 : Ref sig .tc := ⟨.hbm, 1071, rfl⟩
abbrev main_v846 : Ref sig .tc := ⟨.hbm, 1072, rfl⟩
abbrev main_v847 : Ref sig .tc := ⟨.hbm, 1073, rfl⟩
abbrev main_c_223 : Ref sig .tc := ⟨.hbm, 1074, rfl⟩
abbrev main_v848 : Ref sig .tc := ⟨.hbm, 1075, rfl⟩
abbrev main_v849 : Ref sig .tc := ⟨.hbm, 1076, rfl⟩
abbrev main_c_224 : Ref sig .tc := ⟨.hbm, 1077, rfl⟩
abbrev main_v850 : Ref sig .tc := ⟨.hbm, 1078, rfl⟩
abbrev main_v851 : Ref sig .tc := ⟨.hbm, 1079, rfl⟩
abbrev main_v852 : Ref sig .tc := ⟨.hbm, 1080, rfl⟩
abbrev main_v853 : Ref sig .tc := ⟨.hbm, 1081, rfl⟩
abbrev main_v854 : Ref sig .tc := ⟨.hbm, 1082, rfl⟩
abbrev main_c_225 : Ref sig .tc := ⟨.hbm, 1083, rfl⟩
abbrev main_v855 : Ref sig .tc := ⟨.hbm, 1084, rfl⟩
abbrev main_v856 : Ref sig .tc := ⟨.hbm, 1085, rfl⟩
abbrev main_c_226 : Ref sig .tc := ⟨.hbm, 1086, rfl⟩
abbrev main_v857 : Ref sig .tc := ⟨.hbm, 1087, rfl⟩
abbrev main_v858 : Ref sig .tc := ⟨.hbm, 1088, rfl⟩
abbrev main_v859 : Ref sig .tc := ⟨.hbm, 1089, rfl⟩
abbrev main_v860 : Ref sig .tc := ⟨.hbm, 1090, rfl⟩
abbrev main_v861 : Ref sig .tc := ⟨.hbm, 1091, rfl⟩
abbrev main_c_227 : Ref sig .tc := ⟨.hbm, 1092, rfl⟩
abbrev main_v862 : Ref sig .tc := ⟨.hbm, 1093, rfl⟩
abbrev main_v863 : Ref sig .tc := ⟨.hbm, 1094, rfl⟩
abbrev main_c_228 : Ref sig .tc := ⟨.hbm, 1095, rfl⟩
abbrev main_v864 : Ref sig .tc := ⟨.hbm, 1096, rfl⟩
abbrev main_v865 : Ref sig .tc := ⟨.hbm, 1097, rfl⟩
abbrev main_v866 : Ref sig .tc := ⟨.hbm, 1098, rfl⟩
abbrev main_v867 : Ref sig .tc := ⟨.hbm, 1099, rfl⟩
abbrev main_v868 : Ref sig .tc := ⟨.hbm, 1100, rfl⟩
abbrev main_v869 : Ref sig .tc := ⟨.hbm, 1101, rfl⟩
abbrev main_v870 : Ref sig .tc := ⟨.hbm, 1102, rfl⟩
abbrev main_v871 : Ref sig .tc := ⟨.hbm, 1103, rfl⟩
abbrev main_c_229 : Ref sig .tc := ⟨.hbm, 1104, rfl⟩
abbrev main_v872 : Ref sig .tc := ⟨.hbm, 1105, rfl⟩
abbrev main_v873 : Ref sig .tc := ⟨.hbm, 1106, rfl⟩
abbrev main_v874 : Ref sig .tc := ⟨.hbm, 1107, rfl⟩
abbrev main_c_230 : Ref sig .tc := ⟨.hbm, 1108, rfl⟩
abbrev main_v875 : Ref sig .tc := ⟨.hbm, 1109, rfl⟩
abbrev main_v876 : Ref sig .tc := ⟨.hbm, 1110, rfl⟩
abbrev main_c_231 : Ref sig .tc := ⟨.hbm, 1111, rfl⟩
abbrev main_v877 : Ref sig .tc := ⟨.hbm, 1112, rfl⟩
abbrev main_v878 : Ref sig .tc := ⟨.hbm, 1113, rfl⟩
abbrev main_v879 : Ref sig .tc := ⟨.hbm, 1114, rfl⟩
abbrev main_v880 : Ref sig .tc := ⟨.hbm, 1115, rfl⟩
abbrev main_v881 : Ref sig .tc := ⟨.hbm, 1116, rfl⟩
abbrev main_c_232 : Ref sig .tc := ⟨.hbm, 1117, rfl⟩
abbrev main_v882 : Ref sig .tc := ⟨.hbm, 1118, rfl⟩
abbrev main_v883 : Ref sig .tc := ⟨.hbm, 1119, rfl⟩
abbrev main_c_233 : Ref sig .tc := ⟨.hbm, 1120, rfl⟩
abbrev main_v884 : Ref sig .tc := ⟨.hbm, 1121, rfl⟩
abbrev main_v885 : Ref sig .tc := ⟨.hbm, 1122, rfl⟩
abbrev main_v886 : Ref sig .tc := ⟨.hbm, 1123, rfl⟩
abbrev main_v887 : Ref sig .tc := ⟨.hbm, 1124, rfl⟩
abbrev main_v888 : Ref sig .tc := ⟨.hbm, 1125, rfl⟩
abbrev main_c_234 : Ref sig .tc := ⟨.hbm, 1126, rfl⟩
abbrev main_v889 : Ref sig .tc := ⟨.hbm, 1127, rfl⟩
abbrev main_v890 : Ref sig .tc := ⟨.hbm, 1128, rfl⟩
abbrev main_c_235 : Ref sig .tc := ⟨.hbm, 1129, rfl⟩
abbrev main_v891 : Ref sig .tc := ⟨.hbm, 1130, rfl⟩
abbrev main_v892 : Ref sig .tc := ⟨.hbm, 1131, rfl⟩
abbrev main_v893 : Ref sig .tc := ⟨.hbm, 1132, rfl⟩
abbrev main_v894 : Ref sig .tc := ⟨.hbm, 1133, rfl⟩
abbrev main_v895 : Ref sig .tc := ⟨.hbm, 1134, rfl⟩
abbrev main_c_236 : Ref sig .tc := ⟨.hbm, 1135, rfl⟩
abbrev main_v896 : Ref sig .tc := ⟨.hbm, 1136, rfl⟩
abbrev main_v897 : Ref sig .tc := ⟨.hbm, 1137, rfl⟩
abbrev main_c_237 : Ref sig .tc := ⟨.hbm, 1138, rfl⟩
abbrev main_v898 : Ref sig .tc := ⟨.hbm, 1139, rfl⟩
abbrev main_v899 : Ref sig .tc := ⟨.hbm, 1140, rfl⟩
abbrev main_v900 : Ref sig .tc := ⟨.hbm, 1141, rfl⟩
abbrev main_v901 : Ref sig .tc := ⟨.hbm, 1142, rfl⟩
abbrev main_v902 : Ref sig .tc := ⟨.hbm, 1143, rfl⟩
abbrev main_v903 : Ref sig .tc := ⟨.hbm, 1144, rfl⟩
abbrev main_v904 : Ref sig .tc := ⟨.hbm, 1145, rfl⟩
abbrev main_v905 : Ref sig .tc := ⟨.hbm, 1146, rfl⟩
abbrev main_c_238 : Ref sig .tc := ⟨.hbm, 1147, rfl⟩
abbrev main_v906 : Ref sig .tc := ⟨.hbm, 1148, rfl⟩
abbrev main_v907 : Ref sig .tc := ⟨.hbm, 1149, rfl⟩
abbrev main_v908 : Ref sig .tc := ⟨.hbm, 1150, rfl⟩
abbrev main_v909_0 : Ref sig .tc := ⟨.hbm, 1151, rfl⟩
abbrev main_v909_1 : Ref sig .tc := ⟨.hbm, 1152, rfl⟩
abbrev main_v910 : Ref sig .tc := ⟨.hbm, 1153, rfl⟩
abbrev main_v911 : Ref sig .tc := ⟨.hbm, 1154, rfl⟩
abbrev main_v912 : Ref sig .tc := ⟨.hbm, 1155, rfl⟩
abbrev main_v913 : Ref sig .tc := ⟨.hbm, 1156, rfl⟩
abbrev main_call0_c : Ref sig .tc := ⟨.hbm, 1157, rfl⟩
abbrev main_call0_v0 : Ref sig .tc := ⟨.hbm, 1158, rfl⟩
abbrev main_call0_v1 : Ref sig .tc := ⟨.hbm, 1159, rfl⟩
abbrev main_call0_c_0 : Ref sig .tc := ⟨.hbm, 1160, rfl⟩
abbrev main_call0_v2 : Ref sig .tc := ⟨.hbm, 1161, rfl⟩
abbrev main_call0_v3 : Ref sig .tc := ⟨.hbm, 1162, rfl⟩
abbrev main_call0_v4 : Ref sig .tc := ⟨.hbm, 1163, rfl⟩
abbrev main_call0_c_1 : Ref sig .tc := ⟨.hbm, 1164, rfl⟩
abbrev main_call0_c_2 : Ref sig .tc := ⟨.hbm, 1165, rfl⟩
abbrev main_call0_v5 : Ref sig .tc := ⟨.hbm, 1166, rfl⟩
abbrev main_call0_v6 : Ref sig .tc := ⟨.hbm, 1167, rfl⟩
abbrev main_call0_v7 : Ref sig .tc := ⟨.hbm, 1168, rfl⟩
abbrev main_call0_v8 : Ref sig .tc := ⟨.hbm, 1169, rfl⟩
abbrev main_call0_v9 : Ref sig .tc := ⟨.hbm, 1170, rfl⟩
abbrev main_call0_v10 : Ref sig .tc := ⟨.hbm, 1171, rfl⟩
abbrev main_call0_c_3 : Ref sig .tc := ⟨.hbm, 1172, rfl⟩
abbrev main_call0_v11 : Ref sig .tc := ⟨.hbm, 1173, rfl⟩
abbrev main_call0_v12 : Ref sig .tc := ⟨.hbm, 1174, rfl⟩
abbrev main_call0_v13 : Ref sig .tc := ⟨.hbm, 1175, rfl⟩
abbrev main_call0_c_4 : Ref sig .tc := ⟨.hbm, 1176, rfl⟩
abbrev main_call0_v14 : Ref sig .tc := ⟨.hbm, 1177, rfl⟩
abbrev main_v914 : Ref sig .tc := ⟨.hbm, 1178, rfl⟩
abbrev main_v915 : Ref sig .tc := ⟨.hbm, 1179, rfl⟩
abbrev main_call1_v0 : Ref sig .tc := ⟨.hbm, 1180, rfl⟩
abbrev main_call1_v1_0 : Ref sig .tc := ⟨.hbm, 1181, rfl⟩
abbrev main_v916 : Ref sig .tc := ⟨.hbm, 1182, rfl⟩

abbrev nD : Nat := 1
abbrev τ : Topo := Topo.v7x

variable {F : FTy → Type} [FloatOps F]
-- ==== Proof.Code.lean ====
/-
  The kernel's body, written once by its own structure: a hash on vectors of words, a key generator, a radix
  pass (clear, count, scan, scatter) and the final inversion. `BodyEq` shows that the printed body is this
  text. Every definition takes what it runs next as an argument.
-/
module

public import proofs.«01_k».proof.Proof.Gen.KernelIdeal.Skeleton

@[expose] public section

noncomputable section

namespace Cert.Proof

open Cert.KernelIdeal Cert.KernelIdeal.Gen Idealize.ShloMosaic Idealize.SL.Sem

/-! ## The hash, on vectors of words -/

/-- A vector of sixteen words. -/
abbrev V := IVec S16 32

/-- One round: add, rotate left by `r` (`r' = 32 - r`), exclusive or. -/
def mixV (r r' : BitVec 32) (x : V × V) : V × V :=
  (addi x.1 x.2, xori (ori (shli x.2 (broadcast S16 r)) (shrui x.2 (broadcast S16 r'))) (addi x.1 x.2))

/-- Four rounds of the first kind. -/
def oddV (x : V × V) : V × V := mixV 6#32 26#32 (mixV 26#32 6#32 (mixV 15#32 17#32 (mixV 13#32 19#32 x)))

/-- Four rounds of the second kind. -/
def evenV (x : V × V) : V × V := mixV 24#32 8#32 (mixV 16#32 16#32 (mixV 29#32 3#32 (mixV 17#32 15#32 x)))

/-- A key injection. -/
def injV (ka kb : V) (n : BitVec 32) (x : V × V) : V × V := (addi x.1 ka, addi (addi x.2 kb) (broadcast S16 n))

/-- The third key word. -/
def keyV (k1 k2 : V) : V := xori (xori k1 k2) (broadcast S16 466688986#32)

/-- The block cipher of key `(k1, k2)` at `(0, x)`. -/
def tfV (k1 k2 x : V) : V × V :=
  injV (keyV k1 k2) k1 5#32 (oddV (injV k2 (keyV k1 k2) 4#32 (evenV (injV k1 k2 3#32 (oddV
    (injV (keyV k1 k2) k1 2#32 (evenV (injV k2 (keyV k1 k2) 1#32 (oddV (k1, addi x k2))))))))))

/-- Its two words, combined. -/
def tfBitsV (k1 k2 x : V) : V := xori (tfV k1 k2 x).1 (tfV k1 k2 x).2

/-! ## Accesses -/

section
variable {F : FTy → Type} [FloatOps F] {i : grid0.Coords} {α : Type}

/-- A program of the tile `i`. -/
abbrev PR (F : FTy → Type) [FloatOps F] (i : grid0.Coords) (α : Type) :=
  Prog (TpuEff nD τ sig (Elt F) Λ₀ (.scVector ((i 0).castLE hcore0) ((i 1).castLE hsub0))) α

/-- A row of 8192 words in a tile's memory. -/
abbrev M8 := Memref sig .scVector .vmem S8192 .i32
/-- The 4096 counters of a tile. -/
abbrev M4 := Memref sig .scVector .vmem S4096 .i32

/-- Load sixteen words of a row. -/
abbrev ld8 (M : M8) (o : Fin 1 → ℕ) (h : ∀ a, o a + S16.size a ≤ S8192.size a) (K : V → PR F i α) : PR F i α :=
  .op (.load M (Rect.unit (s := S8192) o S16.size h).toLoadRect (View.loadsAt_vmem h_S16)) (show Vec F S16 .i32 → PR F i α from K)

/-- Store sixteen words of a row. -/
abbrev st8 (M : M8) (o : Fin 1 → ℕ) (h : ∀ a, o a + S16.size a ≤ S8192.size a) (v : V) (K : PR F i α) : PR F i α :=
  .op (.store M (Rect.unit (s := S8192) o S16.size h) (v : Vec F S16 .i32) Finset.univ (View.stores_vmem_bits_univ h_S16 rfl) (.inl rfl))
    fun _ => K

/-- Load sixteen counters. -/
abbrev ld4 (M : M4) (o : Fin 1 → ℕ) (h : ∀ a, o a + S16.size a ≤ S4096.size a) (K : V → PR F i α) : PR F i α :=
  .op (.load M (Rect.unit (s := S4096) o S16.size h).toLoadRect (View.loadsAt_vmem h_S16)) (show Vec F S16 .i32 → PR F i α from K)

/-- Store sixteen counters. -/
abbrev st4 (M : M4) (o : Fin 1 → ℕ) (h : ∀ a, o a + S16.size a ≤ S4096.size a) (v : V) (K : PR F i α) : PR F i α :=
  .op (.store M (Rect.unit (s := S4096) o S16.size h) (v : Vec F S16 .i32) Finset.univ (View.stores_vmem_bits_univ h_S16 rfl) (.inl rfl))
    fun _ => K

/-- Every word of `h` is the index of a counter. -/
abbrev In4 (h : V) : Prop := k0_chk1 h
/-- Every word of `h` is an index of a row. -/
abbrev In8 (h : V) : Prop := ∀ a x, ((![h] : Fin 1 → V) a x).toNat < S8192.size a

/-- Check that `h` holds indices of counters. -/
abbrev as4 (h : V) (K : In4 h → PR F i α) : PR F i α := .op (.assume (k0_chk1 h) (k0_chk1.dec h)) fun p => K p.down

/-- Add one to the counters that `h` names. -/
abbrev inc4 (M : M4) (h : V) (hw : In4 h) (K : PR F i α) : PR F i α :=
  (SparseCore.vectorStoreIdx M ![h] ((broadcast S16 1#32 : V) : Vec F S16 .i32) (fun _ => 1#1) true (k0_idx1_inb h hw)
    (View.stores_vmem_bits_univ h_S4096 rfl)) >>= fun _ => K

/-- Read the counters that `h` names. -/
abbrev get4 (M : M4) (h : V) (hw : In4 h) (K : V → PR F i α) : PR F i α :=
  (SparseCore.vectorLoadIdx M ![h] (k0_idx1_inb h hw) (View.loads_vmem h_S4096)) >>= K

/-- Write `v` to the places of a row that `h` names. -/
abbrev put8 (M : M8) (h : V) (hw : In8 h) (v : V) (K : PR F i α) : PR F i α :=
  (SparseCore.vectorStoreIdx M ![h] (v : Vec F S16 .i32) (fun _ => 1#1) false hw
    (View.stores_vmem_bits_univ h_S8192 rfl)) >>= fun _ => K

/-! ## The key generator -/

/-- The lane numbers. -/
abbrev laneV : V := iota .scVector S16 32 [0] iota_S16_d0_w32_scVector
/-- The lane numbers, times 512. -/
abbrev nchV : V := muli laneV (broadcast S16 512#32)

/-- The logical position that trip `t` of a loop of `n` rows a trip holds in its row `u`. -/
def rowV (n u : BitVec 32) (t : BitVec 32) : V := addi nchV (broadcast S16 (Scalar.addi (Scalar.muli t n) u))

/-- A trip of the key generator: four rows. -/
def genBody (M : M8) (k1 k2 : V) (t : Fin k0_t1_loop.trips) (_ : BitVec 32) : PR F i (BitVec 32) :=
  ld8 M (k0_off1 t 0#32) (k0_off1_inb t 0) fun _ =>
  st8 M (k0_off1 t 0#32) (k0_off1_inb t 0) (tfBitsV k1 k2 (rowV 4#32 0#32 (Scf.iv 0#32 1#32 t))) <|
  ld8 M (k0_off1 t 1#32) (k0_off1_inb t 1) fun _ =>
  st8 M (k0_off1 t 1#32) (k0_off1_inb t 1) (tfBitsV k1 k2 (rowV 4#32 1#32 (Scf.iv 0#32 1#32 t))) <|
  ld8 M (k0_off1 t 2#32) (k0_off1_inb t 2) fun _ =>
  st8 M (k0_off1 t 2#32) (k0_off1_inb t 2) (tfBitsV k1 k2 (rowV 4#32 2#32 (Scf.iv 0#32 1#32 t))) <|
  ld8 M (k0_off1 t 3#32) (k0_off1_inb t 3) fun _ =>
  st8 M (k0_off1 t 3#32) (k0_off1_inb t 3) (tfBitsV k1 k2 (rowV 4#32 3#32 (Scf.iv 0#32 1#32 t))) <|
  .ret 0#32

/-! ## A radix pass: clear the counters -/

/-- A trip of the clearing loop. -/
def clrBody (H : M4) (t : Fin k0_t2_loop.trips) (_ : BitVec 32) : PR F i (BitVec 32) :=
  ld4 H (k0_off2 t 0#32) (k0_off2_inb t 0) fun _ => st4 H (k0_off2 t 0#32) (k0_off2_inb t 0) (broadcast S16 0#32) <|
  ld4 H (k0_off2 t 1#32) (k0_off2_inb t 1) fun _ => st4 H (k0_off2 t 1#32) (k0_off2_inb t 1) (broadcast S16 0#32) <|
  ld4 H (k0_off2 t 2#32) (k0_off2_inb t 2) fun _ => st4 H (k0_off2 t 2#32) (k0_off2_inb t 2) (broadcast S16 0#32) <|
  ld4 H (k0_off2 t 3#32) (k0_off2_inb t 3) fun _ => st4 H (k0_off2 t 3#32) (k0_off2_inb t 3) (broadcast S16 0#32) <|
  ld4 H (k0_off2 t 4#32) (k0_off2_inb t 4) fun _ => st4 H (k0_off2 t 4#32) (k0_off2_inb t 4) (broadcast S16 0#32) <|
  ld4 H (k0_off2 t 5#32) (k0_off2_inb t 5) fun _ => st4 H (k0_off2 t 5#32) (k0_off2_inb t 5) (broadcast S16 0#32) <|
  ld4 H (k0_off2 t 6#32) (k0_off2_inb t 6) fun _ => st4 H (k0_off2 t 6#32) (k0_off2_inb t 6) (broadcast S16 0#32) <|
  ld4 H (k0_off2 t 7#32) (k0_off2_inb t 7) fun _ => st4 H (k0_off2 t 7#32) (k0_off2_inb t 7) (broadcast S16 0#32) <|
  .ret 0#32

/-! ## A radix pass: count -/

/-- The counter that each key of a row belongs to: its digit times 16, plus its lane. -/
def digV (sh : BitVec 32) (k : V) : V :=
  addi (muli (andi (shrui k (broadcast S16 sh)) (broadcast S16 255#32)) (broadcast S16 16#32)) laneV

/-- Load eight rows. -/
abbrev ld8x8 (M : M8) (o : Fin 8 → Fin 1 → ℕ) (h : ∀ r a, o r a + S16.size a ≤ S8192.size a)
    (K : V → V → V → V → V → V → V → V → PR F i α) : PR F i α :=
  ld8 M (o 0) (h 0) fun v0 => ld8 M (o 1) (h 1) fun v1 => ld8 M (o 2) (h 2) fun v2 => ld8 M (o 3) (h 3) fun v3 =>
  ld8 M (o 4) (h 4) fun v4 => ld8 M (o 5) (h 5) fun v5 => ld8 M (o 6) (h 6) fun v6 => ld8 M (o 7) (h 7) fun v7 =>
  K v0 v1 v2 v3 v4 v5 v6 v7

/-- Eight vectors. -/
abbrev V8 := V × V × V × V × V × V × V × V

/-- The counters of eight rows. -/
abbrev dig8 (sh : BitVec 32) (v0 v1 v2 v3 v4 v5 v6 v7 : V) : V8 :=
  (digV sh v0, digV sh v1, digV sh v2, digV sh v3, digV sh v4, digV sh v5, digV sh v6, digV sh v7)

/-- Check eight vectors of indices, the last first. -/
abbrev as4x8 (c : V8) (K : In4 c.1 → In4 c.2.1 → In4 c.2.2.1 → In4 c.2.2.2.1 → In4 c.2.2.2.2.1 → In4 c.2.2.2.2.2.1 →
    In4 c.2.2.2.2.2.2.1 → In4 c.2.2.2.2.2.2.2 → PR F i α) : PR F i α :=
  as4 c.2.2.2.2.2.2.2 fun h7 => as4 c.2.2.2.2.2.2.1 fun h6 => as4 c.2.2.2.2.2.1 fun h5 => as4 c.2.2.2.2.1 fun h4 =>
  as4 c.2.2.2.1 fun h3 => as4 c.2.2.1 fun h2 => as4 c.2.1 fun h1 => as4 c.1 fun h0 => K h0 h1 h2 h3 h4 h5 h6 h7

/-- Add one to the counters that eight vectors name. -/
abbrev inc4x8 (H : M4) (c : V8) (h0 : In4 c.1) (h1 : In4 c.2.1) (h2 : In4 c.2.2.1) (h3 : In4 c.2.2.2.1)
    (h4 : In4 c.2.2.2.2.1) (h5 : In4 c.2.2.2.2.2.1) (h6 : In4 c.2.2.2.2.2.2.1) (h7 : In4 c.2.2.2.2.2.2.2)
    (K : PR F i α) : PR F i α :=
  inc4 H c.1 h0 <| inc4 H c.2.1 h1 <| inc4 H c.2.2.1 h2 <| inc4 H c.2.2.2.1 h3 <| inc4 H c.2.2.2.2.1 h4 <|
  inc4 H c.2.2.2.2.2.1 h5 <| inc4 H c.2.2.2.2.2.2.1 h6 <| inc4 H c.2.2.2.2.2.2.2 h7 K

/-- A trip of the counting loop: load the next eight rows, count the eight carried. -/
def cntBody (S : M8) (H : M4) (sh : BitVec 32) (t : Fin k0_t3_loop.trips) (c : V8) : PR F i V8 :=
  as4x8 c fun h0 h1 h2 h3 h4 h5 h6 h7 =>
  ld8x8 S (fun r => k0_off3 t (BitVec.ofNat 32 r.val)) (k0_off3_inb t) fun v0 v1 v2 v3 v4 v5 v6 v7 =>
  inc4x8 H c h0 h1 h2 h3 h4 h5 h6 h7 <| .ret (dig8 sh v0 v1 v2 v3 v4 v5 v6 v7)

/-! ## A radix pass: scan -/

/-- The exclusive running sums of a row of counters, from `c`. -/
def excV (c : BitVec 32) (v : V) : V := addi (subi (scan .sum v) v) (broadcast S16 c)

/-- The running sum past a row of counters, from `c`. -/
def sumV (c : BitVec 32) (v : V) : BitVec 32 :=
  Scalar.addi c (extractAt ![0] (extractStridedSlice S1 ![15] (scan .sum v) slices_S16_o15_S1) inpos_S1_p0)

/-- A trip of the scanning loop. -/
def scnBody (H : M4) (t : Fin k0_t4_loop.trips) (c : BitVec 32) : PR F i (BitVec 32) :=
  ld4 H (k0_off4 t 0#32) (k0_off4_inb t 0) fun v0 => ld4 H (k0_off4 t 1#32) (k0_off4_inb t 1) fun v1 =>
  ld4 H (k0_off4 t 2#32) (k0_off4_inb t 2) fun v2 => ld4 H (k0_off4 t 3#32) (k0_off4_inb t 3) fun v3 =>
  ld4 H (k0_off4 t 4#32) (k0_off4_inb t 4) fun v4 => ld4 H (k0_off4 t 5#32) (k0_off4_inb t 5) fun v5 =>
  ld4 H (k0_off4 t 6#32) (k0_off4_inb t 6) fun v6 => ld4 H (k0_off4 t 7#32) (k0_off4_inb t 7) fun v7 =>
  ld4 H (k0_off4 t 0#32) (k0_off4_inb t 0) fun _ => st4 H (k0_off4 t 0#32) (k0_off4_inb t 0) (excV c v0) <|
  ld4 H (k0_off4 t 1#32) (k0_off4_inb t 1) fun _ => st4 H (k0_off4 t 1#32) (k0_off4_inb t 1) (excV (sumV c v0) v1) <|
  ld4 H (k0_off4 t 2#32) (k0_off4_inb t 2) fun _ => st4 H (k0_off4 t 2#32) (k0_off4_inb t 2) (excV (sumV (sumV c v0) v1) v2) <|
  ld4 H (k0_off4 t 3#32) (k0_off4_inb t 3) fun _ => st4 H (k0_off4 t 3#32) (k0_off4_inb t 3) (excV (sumV (sumV (sumV c v0) v1) v2) v3) <|
  ld4 H (k0_off4 t 4#32) (k0_off4_inb t 4) fun _ =>
    st4 H (k0_off4 t 4#32) (k0_off4_inb t 4) (excV (sumV (sumV (sumV (sumV c v0) v1) v2) v3) v4) <|
  ld4 H (k0_off4 t 5#32) (k0_off4_inb t 5) fun _ =>
    st4 H (k0_off4 t 5#32) (k0_off4_inb t 5) (excV (sumV (sumV (sumV (sumV (sumV c v0) v1) v2) v3) v4) v5) <|
  ld4 H (k0_off4 t 6#32) (k0_off4_inb t 6) fun _ =>
    st4 H (k0_off4 t 6#32) (k0_off4_inb t 6) (excV (sumV (sumV (sumV (sumV (sumV (sumV c v0) v1) v2) v3) v4) v5) v6) <|
  ld4 H (k0_off4 t 7#32) (k0_off4_inb t 7) fun _ =>
    st4 H (k0_off4 t 7#32) (k0_off4_inb t 7) (excV (sumV (sumV (sumV (sumV (sumV (sumV (sumV c v0) v1) v2) v3) v4) v5) v6) v7) <|
  .ret (sumV (sumV (sumV (sumV (sumV (sumV (sumV (sumV c v0) v1) v2) v3) v4) v5) v6) v7)

/-! ## A radix pass: scatter -/

/-- One where two vectors of indices agree. -/
def eqV (a b : V) : V := select (cmpi .eq a b) (broadcast S16 1#32) (broadcast S16 0#32)

/-- The place in a row of the logical position `p`. -/
def physV (p : V) : V :=
  ori (shli (andi p (broadcast S16 511#32)) (broadcast S16 4#32)) (shrui p (broadcast S16 9#32))

/-- The four positions: each base, plus one for every earlier vector that names the same counter. -/
abbrev pos1 (h0 h1 b : V) : V := addi b (eqV h0 h1)
/-- The third position. -/
abbrev pos2 (h0 h1 h2 b : V) : V := addi (addi b (eqV h0 h2)) (eqV h1 h2)
/-- The fourth position. -/
abbrev pos3 (h0 h1 h2 h3 b : V) : V := addi (addi (addi b (eqV h0 h3)) (eqV h1 h3)) (eqV h2 h3)

/-- Write a key and a value to the places that `w` names. -/
abbrev wrKV (Dk Dp : M8) (w k p : V) (K : PR F i α) : PR F i α :=
  .op (.assume (k0_chk21 w) (k0_chk21.dec w)) fun h => put8 Dk w h.down.1 k <| put8 Dp w h.down.1 p K

/-- Write a value to the places that `w` names. -/
abbrev wrP (Dp : M8) (w _k p : V) (K : PR F i α) : PR F i α :=
  .op (.assume (k0_chk117 w) (k0_chk117.dec w)) fun h => put8 Dp w h.down p K

/-- Place four rows of keys and values by their counters, in the layout of a row. -/
def scat (wr : V → V → V → PR F i α → PR F i α) (H : M4) (k0 k1 k2 k3 p0 p1 p2 p3 h0 h1 h2 h3 : V)
    (w0 : In4 h0) (w1 : In4 h1) (w2 : In4 h2) (w3 : In4 h3) (K : PR F i α) : PR F i α :=
  get4 H h0 w0 fun b0 => get4 H h1 w1 fun b1 => get4 H h2 w2 fun b2 => get4 H h3 w3 fun b3 =>
  inc4 H h0 w0 <| inc4 H h1 w1 <| inc4 H h2 w2 <| inc4 H h3 w3 <|
  wr (physV b0) k0 p0 <| wr (physV (pos1 h0 h1 b1)) k1 p1 <|
  wr (physV (pos2 h0 h1 h2 b2)) k2 p2 <| wr (physV (pos3 h0 h1 h2 h3 b3)) k3 p3 K

/-- Place four rows of values by their counters, in order of position. -/
def scatFin (Dp : M8) (H : M4) (p0 p1 p2 p3 h0 h1 h2 h3 : V)
    (w0 : In4 h0) (w1 : In4 h1) (w2 : In4 h2) (w3 : In4 h3) (K : PR F i α) : PR F i α :=
  get4 H h0 w0 fun b0 =>
  .op (.assume (k0_chk117 b0) (k0_chk117.dec b0)) fun u0 =>
  get4 H h1 w1 fun b1 => get4 H h2 w2 fun b2 => get4 H h3 w3 fun b3 =>
  inc4 H h0 w0 <| inc4 H h1 w1 <| inc4 H h2 w2 <| inc4 H h3 w3 <|
  .op (.assume (k0_chk117 (pos1 h0 h1 b1)) (k0_chk117.dec _)) fun u1 =>
  .op (.assume (k0_chk117 (pos2 h0 h1 h2 b2)) (k0_chk117.dec _)) fun u2 =>
  .op (.assume (k0_chk117 (pos3 h0 h1 h2 h3 b3)) (k0_chk117.dec _)) fun u3 =>
  put8 Dp b0 u0.down p0 <| put8 Dp (pos1 h0 h1 b1) u1.down p1 <|
  put8 Dp (pos2 h0 h1 h2 b2) u2.down p2 <| put8 Dp (pos3 h0 h1 h2 h3 b3) u3.down p3 K

/-- What a trip of the scattering loop carries: four rows of keys, of values and of counters. -/
abbrev V12 := V × V × V × V × V × V × V × V × V × V × V × V

/-- The rows of keys and values, with the keys' counters. -/
abbrev mk12 (sh : BitVec 32) (k0 k1 k2 k3 p0 p1 p2 p3 : V) : V12 :=
  (k0, k1, k2, k3, p0, p1, p2, p3, digV sh k0, digV sh k1, digV sh k2, digV sh k3)

/-- Load four rows of keys; a row's values are the logical positions it holds. -/
abbrev ldK (Sk : M8) (t : BitVec 32) (o : Fin 4 → Fin 1 → ℕ) (h : ∀ r a, o r a + S16.size a ≤ S8192.size a)
    (K : V → V → V → V → V → V → V → V → PR F i α) : PR F i α :=
  ld8 Sk (o 0) (h 0) fun k0 => ld8 Sk (o 1) (h 1) fun k1 => ld8 Sk (o 2) (h 2) fun k2 => ld8 Sk (o 3) (h 3) fun k3 =>
  K k0 k1 k2 k3 (rowV 4#32 0#32 t) (rowV 4#32 1#32 t) (rowV 4#32 2#32 t) (rowV 4#32 3#32 t)

/-- Load four rows of keys and of values. -/
abbrev ldKV (Sk Sp : M8) (_t : BitVec 32) (o : Fin 4 → Fin 1 → ℕ) (h : ∀ r a, o r a + S16.size a ≤ S8192.size a)
    (K : V → V → V → V → V → V → V → V → PR F i α) : PR F i α :=
  ld8 Sk (o 0) (h 0) fun k0 => ld8 Sp (o 0) (h 0) fun p0 => ld8 Sk (o 1) (h 1) fun k1 => ld8 Sp (o 1) (h 1) fun p1 =>
  ld8 Sk (o 2) (h 2) fun k2 => ld8 Sp (o 2) (h 2) fun p2 => ld8 Sk (o 3) (h 3) fun k3 => ld8 Sp (o 3) (h 3) fun p3 =>
  K k0 k1 k2 k3 p0 p1 p2 p3

/-- How a pass loads four rows. -/
abbrev Ld (F : FTy → Type) [FloatOps F] (i : grid0.Coords) := ∀ {α : Type}, BitVec 32 → (o : Fin 4 → Fin 1 → ℕ) →
  (∀ r a, o r a + S16.size a ≤ S8192.size a) → (V → V → V → V → V → V → V → V → PR F i α) → PR F i α

/-- How a pass writes a row of keys and values. -/
abbrev Wr (F : FTy → Type) [FloatOps F] (i : grid0.Coords) := ∀ {α : Type}, V → V → V → PR F i α → PR F i α

/-- Check that `h` holds indices of counters, for a read and for an addition. -/
abbrev as4' (h : V) (K : In4 h → PR F i α) : PR F i α := .op (.assume (k0_chk17 h) (k0_chk17.dec h)) fun p => K p.down.1

/-- Check four vectors of indices, the last first. -/
abbrev as4x4 (h0 h1 h2 h3 : V) (K : In4 h0 → In4 h1 → In4 h2 → In4 h3 → PR F i α) : PR F i α :=
  as4' h3 fun w3 => as4' h2 fun w2 => as4' h1 fun w1 => as4' h0 fun w0 => K w0 w1 w2 w3

/-- A trip of the scattering loop: load the next four rows, place the four carried. -/
def prmBody (ld : Ld F i) (wr : Wr F i) (H : M4) (sh : BitVec 32) (t : Fin k0_t5_loop.trips) : V12 → PR F i V12
  | (k0, k1, k2, k3, p0, p1, p2, p3, h0, h1, h2, h3) =>
    as4x4 h0 h1 h2 h3 fun w0 w1 w2 w3 =>
    ld (Scalar.addi (Scf.iv 0#32 1#32 t) 1#32) (fun r => k0_off5 t (BitVec.ofNat 32 r.val)) (k0_off5_inb t)
      fun k0' k1' k2' k3' p0' p1' p2' p3' =>
    scat wr H k0 k1 k2 k3 p0 p1 p2 p3 h0 h1 h2 h3 w0 w1 w2 w3 <|
    .ret (mk12 sh k0' k1' k2' k3' p0' p1' p2' p3')

/-- A trip of the last pass's scattering loop. -/
def finBody (Sk Sp Dp : M8) (H : M4) (sh : BitVec 32) (t : Fin k0_t5_loop.trips) : V12 → PR F i V12
  | (k0, k1, k2, k3, p0, p1, p2, p3, h0, h1, h2, h3) =>
    as4x4 h0 h1 h2 h3 fun w0 w1 w2 w3 =>
    ldKV Sk Sp (Scalar.addi (Scf.iv 0#32 1#32 t) 1#32) (fun r => k0_off5 t (BitVec.ofNat 32 r.val)) (k0_off5_inb t)
      fun k0' k1' k2' k3' p0' p1' p2' p3' =>
    scatFin Dp H p0 p1 p2 p3 h0 h1 h2 h3 w0 w1 w2 w3 <|
    .ret (mk12 sh k0' k1' k2' k3' p0' p1' p2' p3')

/-! ## The passes -/

/-- The rows `0 … 7`. -/
theorem inb8 : ∀ (r : Fin 8) (a : Fin 1), (![16 * r.val] : Fin 1 → ℕ) a + S16.size a ≤ S8192.size a := by decide
/-- The rows `0 … 3`. -/
theorem inb4 : ∀ (r : Fin 4) (a : Fin 1), (![16 * r.val] : Fin 1 → ℕ) a + S16.size a ≤ S8192.size a := by decide

/-- The key generator. -/
def gen (M : M8) (k1 k2 : V) (K : PR F i α) : PR F i α :=
  Scf.Loop.for k0_t1_loop k0_t1_ok 0#32 (genBody M k1 k2) >>= fun _ => K

/-- Clear, count and scan. -/
def cntScan (S : M8) (H : M4) (sh : BitVec 32) (K : PR F i α) : PR F i α :=
  Scf.Loop.for k0_t2_loop k0_t2_ok 0#32 (clrBody H) >>= fun _ =>
  ld8x8 S (fun r => ![16 * r.val]) inb8 fun v0 v1 v2 v3 v4 v5 v6 v7 =>
  Scf.Loop.for k0_t3_loop k0_t3_ok (dig8 sh v0 v1 v2 v3 v4 v5 v6 v7) (cntBody S H sh) >>= fun c =>
  as4x8 c fun h0 h1 h2 h3 h4 h5 h6 h7 => inc4x8 H c h0 h1 h2 h3 h4 h5 h6 h7 <|
  Scf.Loop.for k0_t4_loop k0_t4_ok 0#32 (scnBody H) >>= fun _ => K

/-- A pass that leaves its results in the layout of a row. -/
def pass (S : M8) (ld : Ld F i) (wr : Wr F i) (H : M4) (sh : BitVec 32) (K : PR F i α) : PR F i α :=
  cntScan S H sh <|
  ld 0#32 (fun r => ![16 * r.val]) inb4 fun k0 k1 k2 k3 p0 p1 p2 p3 =>
  Scf.Loop.for k0_t5_loop k0_t5_ok (mk12 sh k0 k1 k2 k3 p0 p1 p2 p3) (prmBody ld wr H sh) >>= fun c =>
  match c with
  | (k0, k1, k2, k3, p0, p1, p2, p3, h0, h1, h2, h3) =>
    as4x4 h0 h1 h2 h3 fun w0 w1 w2 w3 => scat wr H k0 k1 k2 k3 p0 p1 p2 p3 h0 h1 h2 h3 w0 w1 w2 w3 K

/-- The last pass, which leaves its values in order of position. -/
def passFin (Sk Sp Dp : M8) (H : M4) (sh : BitVec 32) (K : PR F i α) : PR F i α :=
  cntScan Sk H sh <|
  ldKV Sk Sp 0#32 (fun r => ![16 * r.val]) inb4 fun k0 k1 k2 k3 p0 p1 p2 p3 =>
  Scf.Loop.for k0_t5_loop k0_t5_ok (mk12 sh k0 k1 k2 k3 p0 p1 p2 p3) (finBody Sk Sp Dp H sh) >>= fun c =>
  match c with
  | (k0, k1, k2, k3, p0, p1, p2, p3, h0, h1, h2, h3) =>
    as4x4 h0 h1 h2 h3 fun w0 w1 w2 w3 => scatFin Dp H p0 p1 p2 p3 h0 h1 h2 h3 w0 w1 w2 w3 K

/-! ## The inversion -/

/-- The places that row `u` of trip `t` of the inversion holds. -/
def seqV (u : BitVec 32) (t : BitVec 32) : V :=
  addi laneV (broadcast S16 (Scalar.muli (Scalar.addi (Scalar.muli t 8#32) u) 16#32))

/-- Load a row and check that it holds indices of a row. -/
abbrev ldIx (S : M8) (o : Fin 1 → ℕ) (h : ∀ a, o a + S16.size a ≤ S8192.size a) (K : (v : V) → In8 v → PR F i α) : PR F i α :=
  ld8 S o h fun v => .op (.assume (k0_chk117 v) (k0_chk117.dec v)) fun p => K v p.down

/-- A trip of the inversion: eight rows of indices, each the place of its own number. -/
def invBody (S D : M8) (t : Fin k0_t35_loop.trips) (_ : BitVec 32) : PR F i (BitVec 32) :=
  ldIx S (k0_off35 t 0#32) (k0_off35_inb t 0) fun v0 h0 => ldIx S (k0_off35 t 1#32) (k0_off35_inb t 1) fun v1 h1 =>
  ldIx S (k0_off35 t 2#32) (k0_off35_inb t 2) fun v2 h2 => ldIx S (k0_off35 t 3#32) (k0_off35_inb t 3) fun v3 h3 =>
  ldIx S (k0_off35 t 4#32) (k0_off35_inb t 4) fun v4 h4 => ldIx S (k0_off35 t 5#32) (k0_off35_inb t 5) fun v5 h5 =>
  ldIx S (k0_off35 t 6#32) (k0_off35_inb t 6) fun v6 h6 => ldIx S (k0_off35 t 7#32) (k0_off35_inb t 7) fun v7 h7 =>
  put8 D v0 h0 (seqV 0#32 (Scf.iv 0#32 1#32 t)) <| put8 D v1 h1 (seqV 1#32 (Scf.iv 0#32 1#32 t)) <|
  put8 D v2 h2 (seqV 2#32 (Scf.iv 0#32 1#32 t)) <| put8 D v3 h3 (seqV 3#32 (Scf.iv 0#32 1#32 t)) <|
  put8 D v4 h4 (seqV 4#32 (Scf.iv 0#32 1#32 t)) <| put8 D v5 h5 (seqV 5#32 (Scf.iv 0#32 1#32 t)) <|
  put8 D v6 h6 (seqV 6#32 (Scf.iv 0#32 1#32 t)) <| put8 D v7 h7 (seqV 7#32 (Scf.iv 0#32 1#32 t)) <| .ret 0#32

/-- The inversion. -/
def inv (S D : M8) (K : PR F i α) : PR F i α :=
  Scf.Loop.for k0_t35_loop k0_t35_ok 0#32 (invBody S D) >>= fun _ => K

/-! ## The whole body -/

/-- A row of a result. -/
abbrev outRow (i : grid0.Coords) (M : Memref sig .scVector .hbm S32x8192 .i32) : Memref sig .scVector .hbm S8192 .i32 :=
  (M.slice (Rect.unit (s := S32x8192) (k0_off36 i) S1x8192.size (k0_off36_inb i)) (fun _ => rfl)).squeeze S8192 squeezes_S1x8192_S8192

/-- The copies of the two rows to the results. -/
def copies (A B : Memref sig .scVector .hbm S32x8192 .i32) (P Q : M8) (hP : P.IsWhole) (hQ : Q.IsWhole)
    (r0 r1 : DmaSems sig S_) : PR F i PUnit :=
  .op (.enqueueDma P (.here (outRow i A)) (.dma r0.sem) hP.wordExact ((View.wordExact_bits rfl).reshape _ _) ⟨Or.inl rfl, trivial⟩) fun _ =>
  .op (.waitDma2 r0.sem P (outRow i A) hP.wordExact ((View.wordExact_bits rfl).reshape _ _)) fun _ =>
  .op (.enqueueDma Q (.here (outRow i B)) (.dma r1.sem) hQ.wordExact ((View.wordExact_bits rfl).reshape _ _) ⟨Or.inl rfl, trivial⟩) fun _ =>
  .op (.waitDma2 r1.sem Q (outRow i B) hQ.wordExact ((View.wordExact_bits rfl).reshape _ _)) .ret

/-- The number of a tile's row. -/
def widW (i : grid0.Coords) : BitVec 32 :=
  Scalar.addi (Scalar.muli (BitVec.ofNat 32 (i 1).val) 2#32) (BitVec.ofNat 32 (i 0).val)

/-- The vector of zeros. -/
abbrev zV : V := broadcast S16 0#32
/-- The key of a row. -/
def kB (i : grid0.Coords) : V × V := tfV zV (addi zV (broadcast S16 42#32)) (addi zV (broadcast S16 (widW i)))
/-- The key of a row's second round. -/
def kN (i : grid0.Coords) : V × V := tfV (kB i).1 (kB i).2 zV
/-- The key of the first round's words. -/
def kS1 (i : grid0.Coords) : V × V := tfV (kB i).1 (kB i).2 (addi zV (broadcast S16 1#32))
/-- The key of the second round's words. -/
def kS2 (i : grid0.Coords) : V × V := tfV (kN i).1 (kN i).2 (addi zV (broadcast S16 1#32))

/-- The body: two rounds of four passes, the inversion, the copies. -/
def body (A B : Memref sig .scVector .hbm S32x8192 .i32) (ka kb pa pb : M8) (hkb : kb.IsWhole) (hpa : pa.IsWhole) (H : M4)
    (r0 r1 : DmaSems sig S_) : PR F i PUnit :=
  gen ka (kS1 i).1 (kS1 i).2 <|
  pass ka (ldK ka) (wrKV kb pb) H 0#32 <|
  pass kb (ldKV kb pb) (wrKV ka pa) H 8#32 <|
  pass ka (ldKV ka pa) (wrKV kb pb) H 16#32 <|
  pass kb (ldKV kb pb) (wrP pa) H 24#32 <|
  gen ka (kS2 i).1 (kS2 i).2 <|
  pass ka (ldKV ka pa) (wrKV kb pb) H 0#32 <|
  pass kb (ldKV kb pb) (wrKV ka pa) H 8#32 <|
  pass ka (ldKV ka pa) (wrKV kb pb) H 16#32 <|
  passFin kb pb pa H 24#32 <|
  inv pa kb <|
  copies A B pa kb hpa hkb r0 r1

end

end Cert.Proof
end
-- ==== Proof.Wp.lean ====
/-
  The rules of a tile's accesses, over the contents of the tile's five buffers as functions of a place's
  number: what a load reads, what a store, an indexed store and an indexed addition leave. Each rule reduces
  the run of a program to the run of the program after its first access.
-/
module

public import proofs.«01_k».proof.Proof.Code
public import Idealize.ShloMosaic.Lib.SparseCore.Quiescent
public import Idealize.ShloMosaic.Lib.SparseCore.Ops
public import Idealize.ShloMosaic.Lib.LaneScatter.Own
public import Idealize.ShloMosaic.Lib.VecWindow
public import Idealize.ShloMosaic.Lib.Tactic

@[expose] public section

noncomputable section

namespace Cert.Proof

open Cert.KernelIdeal Cert.KernelIdeal.Gen Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (raw owns_raw raw_owns)

/-! ## Folds with at most one hit -/

/-- A fold that acts only where `P` holds does nothing on a list where it holds nowhere. -/
theorem foldl_none {α β : Type} (P : β → Prop) [DecidablePred P] (g : α → β → α) :
    ∀ (l : List β) (a : α), (∀ k ∈ l, ¬ P k) → l.foldl (fun a k => if P k then g a k else a) a = a
  | [], _, _ => rfl
  | k :: l, a, h => by
    rw [List.foldl_cons, if_neg (h k (by simp))]
    exact foldl_none P g l a fun k' hk' => h k' (by simp [hk'])

/-- If `P` holds at one entry alone, it acts there once. -/
theorem foldl_one {α β : Type} (P : β → Prop) [DecidablePred P] (g : α → β → α) (k₀ : β) (h₀ : P k₀) :
    ∀ (l : List β) (a : α), l.Nodup → k₀ ∈ l → (∀ k ∈ l, P k → k = k₀) →
      l.foldl (fun a k => if P k then g a k else a) a = g a k₀
  | [], _, _, hm, _ => absurd hm (by simp)
  | k :: l, a, hn, hm, hu => by
    rw [List.foldl_cons]
    by_cases hk : P k
    · obtain rfl := hu k (by simp) hk
      rw [if_pos hk]
      exact foldl_none P g l _ fun k' hk' hP => by
        obtain rfl := hu k' (by simp [hk']) hP
        exact (List.nodup_cons.mp hn).1 hk'
    · rw [if_neg hk]
      refine foldl_one P g k₀ h₀ l a (List.nodup_cons.mp hn).2 ?_ fun k' hk' => hu k' (by simp [hk'])
      rcases List.mem_cons.mp hm with rfl | h
      · exact absurd h₀ hk
      · exact h

/-! ## Contents by number -/

/-- Lane `k`. -/
abbrev ln (k : Fin 16) : S16.Idx := Shape.ofLane (d := ![16]) k

/-- A lane is the one of its number. -/
theorem ln_val (x : S16.Idx) : ln ⟨(x 0).val, (x 0).isLt⟩ = x := by
  funext a; obtain rfl : a = 0 := Fin.eq_zero a; rfl

/-- The row of sixteen contents from `o` on. -/
def rowAt (f : ℕ → BitVec 32) (o : ℕ) : V := fun x => f (o + (x 0).val)

/-- The contents with sixteen words put at `o`. -/
def putAt (f : ℕ → BitVec 32) (o : ℕ) (v : V) : ℕ → BitVec 32 := fun y =>
  if h : o ≤ y ∧ y < o + 16 then v (ln ⟨y - o, by omega⟩) else f y

/-- The contents with `v`'s words put at the places `w` names, a later lane over an earlier. -/
def putIx (f : ℕ → BitVec 32) (w v : V) : ℕ → BitVec 32 := fun y =>
  (List.finRange 16).foldl (fun a k => if (w (ln k)).toNat = y then v (ln k) else a) (f y)

/-- The contents with one added at the places `w` names, once a lane. -/
def incIx (f : ℕ → BitVec 32) (w : V) : ℕ → BitVec 32 := fun y =>
  (List.finRange 16).foldl (fun a k => if (w (ln k)).toNat = y then a + 1#32 else a) (f y)

/-- An indexed store leaves the places alone that it does not name. -/
theorem putIx_miss (f : ℕ → BitVec 32) (w v : V) (y : ℕ) (h : ∀ k : Fin 16, (w (ln k)).toNat ≠ y) : putIx f w v y = f y :=
  foldl_none (fun k : Fin 16 => (w (ln k)).toNat = y) (fun _ k => v (ln k)) _ _ fun k _ => h k

/-- An indexed store puts a lane's value at its place, where no other lane names that place. -/
theorem putIx_hit (f : ℕ → BitVec 32) (w v : V) (k : Fin 16) (h : ∀ k' : Fin 16, (w (ln k')).toNat = (w (ln k)).toNat → k' = k) :
    putIx f w v (w (ln k)).toNat = v (ln k) :=
  foldl_one (fun k' : Fin 16 => (w (ln k')).toNat = (w (ln k)).toNat) (fun _ k => v (ln k)) k rfl _ _ (List.nodup_finRange 16)
    (List.mem_finRange k) fun k' _ => h k'

/-- Where lane `k` names only places that leave remainder `k`, lanes never meet. -/
theorem incIx_eq (f : ℕ → BitVec 32) (w : V) (h : ∀ k : Fin 16, (w (ln k)).toNat % 16 = k.val) (y : ℕ) :
    incIx f w y = if (w (ln ⟨y % 16, Nat.mod_lt _ (by decide)⟩)).toNat = y then f y + 1#32 else f y := by
  by_cases hy : (w (ln ⟨y % 16, Nat.mod_lt _ (by decide)⟩)).toNat = y
  · rw [if_pos hy]
    refine foldl_one (fun k' : Fin 16 => (w (ln k')).toNat = y) (fun a _ => a + 1#32) ⟨y % 16, Nat.mod_lt _ (by decide)⟩ hy _ _
      (List.nodup_finRange 16) (List.mem_finRange _) fun k _ hk => Fin.ext ?_
    show k.val = y % 16
    rw [← hk, h k]
  · rw [if_neg hy]
    refine foldl_none (fun k' : Fin 16 => (w (ln k')).toNat = y) (fun a _ => a + 1#32) _ _ fun k _ hk => hy ?_
    have : k = ⟨y % 16, Nat.mod_lt _ (by decide)⟩ := Fin.ext (by rw [← hk]; exact (h k).symm)
    rw [← this]; exact hk

section
variable {F : FTy → Type} [FloatOps F]

/-- The contents of a buffer of `n` words, as an array. -/
abbrev arr (n : ℕ) (f : ℕ → BitVec 32) : Vec F (⟨1, ![n]⟩ : Shape) .i32 := fun x => f (x 0).val

/-- Indices into a vector agree when their only entries do. -/
theorem idx1_val {n : ℕ} (j j' : (⟨1, ![n]⟩ : Shape).Idx) : (∀ a, (j a).val = (j' a).val) ↔ (j 0).val = (j' 0).val :=
  ⟨fun h => h 0, fun h a => by obtain rfl : a = 0 := Fin.eq_zero a; exact h⟩

/-- A fold over functions, at one argument. -/
theorem foldl_at {α β γ : Type} (y : α) (S : (α → β) → γ → α → β) (s : β → γ → β) (h : ∀ g k, S g k y = s (g y) k) :
    ∀ (l : List γ) (g : α → β), l.foldl S g y = l.foldl s (g y)
  | [], _ => rfl
  | k :: l, g => by rw [List.foldl_cons, List.foldl_cons, foldl_at y S s h l, h]

/-- An indexed store over an array, by number. -/
theorem storeIdx_put {n : ℕ} (f : ℕ → BitVec 32) (w v : V) (h) :
    storeIdx (F := F) (e := .i32) (s := ⟨1, ![n]⟩) (d := ![16]) (arr n f) ![w] v (fun _ => 1#1) false h = arr n (putIx f w v) := by
  funext y
  refine foldl_at y _ _ (fun g k => ?_) _ _
  by_cases hh : (w (ln k)).toNat = (y 0).val
  · rw [if_pos hh]
    exact (congrFun (if_pos (show (1#1 : BitVec 1) = 1 from rfl)) y).trans (if_pos ((idx1_val _ _).mpr hh.symm))
  · rw [if_neg hh]
    exact (congrFun (if_pos (show (1#1 : BitVec 1) = 1 from rfl)) y).trans (if_neg fun e => hh ((idx1_val _ _).mp e).symm)

/-- An indexed addition of ones over an array, by number. -/
theorem storeIdx_inc {n : ℕ} (f : ℕ → BitVec 32) (w : V) (h) :
    storeIdx (F := F) (e := .i32) (s := ⟨1, ![n]⟩) (d := ![16]) (arr n f) ![w] (broadcast S16 1#32 : V) (fun _ => 1#1) true h
      = arr n (incIx f w) := by
  funext y
  refine foldl_at y _ _ (fun g k => ?_) _ _
  by_cases hh : (w (ln k)).toNat = (y 0).val
  · rw [if_pos hh]
    have e : idxAt (s := ⟨1, ![n]⟩) (t := S16) ![w] h (ln k) = y := by
      funext a; obtain rfl : a = 0 := Fin.eq_zero a; exact Fin.ext hh
    refine (congrFun (if_pos (show (1#1 : BitVec 1) = 1 from rfl)) y).trans ((if_pos ((idx1_val _ _).mpr hh.symm)).trans ?_)
    show g (idxAt (s := ⟨1, ![n]⟩) (t := S16) ![w] h (ln k)) + 1#32 = _
    rw [e]
  · rw [if_neg hh]
    exact (congrFun (if_pos (show (1#1 : BitVec 1) = 1 from rfl)) y).trans (if_neg fun e => hh ((idx1_val _ _).mp e).symm)

/-- An indexed load from an array, by number. -/
theorem loadIdx_arr {n : ℕ} (f : ℕ → BitVec 32) (w : V) (h) :
    loadIdx (F := F) (e := .i32) (s := ⟨1, ![n]⟩) (t := S16) (arr n f) ![w] h = (fun x => f (w x).toNat : V) := rfl

/-- A window of an array is the 16 words from its start on. -/
theorem window_arr {n : ℕ} (f : ℕ → BitVec 32) (o : ℕ) (h) :
    VecWindow.window (s := ⟨1, ![n]⟩) (arr (F := F) n f) ![o] S16.size h = rowAt f o := by
  funext x
  show f (o + 1 * (x 0).val) = f (o + (x 0).val)
  rw [Nat.one_mul]

/-- Writing a window of an array writes the 16 words from its start on. -/
theorem put_arr {n : ℕ} (f : ℕ → BitVec 32) (o : ℕ) (v : V) :
    VecWindow.put (s := ⟨1, ![n]⟩) (arr (F := F) n f) ![o] S16.size v = arr n (putAt f o v) := by
  funext y
  unfold VecWindow.put arr putAt
  by_cases h : o ≤ (y 0).val ∧ (y 0).val < o + 16
  · rw [dif_pos h, dif_pos (fun a => by obtain rfl : a = 0 := Fin.eq_zero a; exact h)]
    congr 1; funext a; obtain rfl : a = 0 := Fin.eq_zero a; rfl
  · rw [dif_neg h, dif_neg (fun e => h (e 0))]

/-! ## The rules -/

/-- A tile's buffers: four rows and the counters, each a whole buffer. -/
structure Bufs where
  /-- the rows -/
  row : Fin 4 → M8
  /-- the counters -/
  cnt : M4
  /-- each row is a whole buffer -/
  hrow : ∀ j, (row j).IsWhole
  /-- so are the counters -/
  hcnt : cnt.IsWhole

/-- What the buffers hold. -/
@[ext] structure Conts where
  /-- the rows' words -/
  row : Fin 4 → ℕ → BitVec 32
  /-- the counters -/
  cnt : ℕ → BitVec 32

/-- The contents with row `j` replaced. -/
def Conts.set (σ : Conts) (j : Fin 4) (f : ℕ → BitVec 32) : Conts := { σ with row := fun j' => if j' = j then f else σ.row j' }
/-- The contents with the counters replaced. -/
def Conts.setc (σ : Conts) (f : ℕ → BitVec 32) : Conts := { σ with cnt := f }

/-- What the handshakes and the transfers keep. -/
abbrev UU : Type := URounds (GSem nD τ sig) ℕ × Counters

/-- The resources of a proof about a run. -/
abbrev MM (F : FTy → Type) := MT nD τ sig (HIx 1) (Elt F) ℕ UU ℕ

variable {α : Type} (B : Bufs) (d : Dev nD) (i : grid0.Coords)

/-- The thread of tile `i`. -/
abbrev thr (d : Dev nD) (i : grid0.Coords) : Thread nD τ := (d, .scVector ((i 0).castLE hcore0) ((i 1).castLE hsub0))

/-- Tile `i` holds its buffers at `σ`, and `R`. -/
def Hold (R : sProp (MM F)) (σ : Conts) : sProp (MM F) :=
  iprop((owns (thr d i) (B.row 0) fullShare (arr 8192 (σ.row 0)) ∗ owns (thr d i) (B.row 1) fullShare (arr 8192 (σ.row 1))
    ∗ owns (thr d i) (B.row 2) fullShare (arr 8192 (σ.row 2)) ∗ owns (thr d i) (B.row 3) fullShare (arr 8192 (σ.row 3)))
    ∗ owns (thr d i) B.cnt fullShare (arr 4096 σ.cnt) ∗ R)

variable (R : sProp (MM F))

/-- A row may be taken out and put back changed. -/
theorem hold_row (σ : Conts) (j : Fin 4) :
    Hold B d i R σ ⊢ iprop(owns (thr d i) (B.row j) fullShare (arr 8192 (σ.row j))
      ∗ ∀ f, owns (thr d i) (B.row j) fullShare (arr 8192 f) -∗ Hold B d i R (σ.set j f)) := by
  unfold Hold Conts.set
  match j with
  | 0 =>
    iintro ⟨⟨H0, H1, H2, H3⟩, HR⟩
    isplitl [H0]; · iexact H0
    iintro %f H0
    isplitl [H0 H1 H2 H3]
    · isplitl [H0]; · iexact H0
      isplitl [H1]; · iexact H1
      isplitl [H2]; · iexact H2
      iexact H3
    iexact HR
  | 1 =>
    iintro ⟨⟨H0, H1, H2, H3⟩, HR⟩
    isplitl [H1]; · iexact H1
    iintro %f H1
    isplitl [H0 H1 H2 H3]
    · isplitl [H0]; · iexact H0
      isplitl [H1]; · iexact H1
      isplitl [H2]; · iexact H2
      iexact H3
    iexact HR
  | 2 =>
    iintro ⟨⟨H0, H1, H2, H3⟩, HR⟩
    isplitl [H2]; · iexact H2
    iintro %f H2
    isplitl [H0 H1 H2 H3]
    · isplitl [H0]; · iexact H0
      isplitl [H1]; · iexact H1
      isplitl [H2]; · iexact H2
      iexact H3
    iexact HR
  | 3 =>
    iintro ⟨⟨H0, H1, H2, H3⟩, HR⟩
    isplitl [H3]; · iexact H3
    iintro %f H3
    isplitl [H0 H1 H2 H3]
    · isplitl [H0]; · iexact H0
      isplitl [H1]; · iexact H1
      isplitl [H2]; · iexact H2
      iexact H3
    iexact HR

/-- So may the counters. -/
theorem hold_cnt (σ : Conts) :
    Hold B d i R σ ⊢ iprop(owns (thr d i) B.cnt fullShare (arr 4096 σ.cnt)
      ∗ ∀ f, owns (thr d i) B.cnt fullShare (arr 4096 f) -∗ Hold B d i R (σ.setc f)) := by
  unfold Hold Conts.setc
  iintro ⟨HB, H0, HR⟩
  isplitl [H0]; · iexact H0
  iintro %f H0
  isplitl [HB]; · iexact HB
  isplitl [H0]; · iexact H0
  iexact HR

/-- From `σ` the program `p` runs, nothing faulting, to `Q`. -/
def Runs (σ : Conts) (p : PR F i α) (Q : α → sProp (MM F)) : Prop :=
  Hold B d i R σ ⊢ wp frame (wpE (defs₀ (F := F)) Variants.none (thr d i) none) Set.univ p Q

/-- The buffers hold some contents of which `Φ`. -/
def Post (Φ : α → Conts → Prop) (a : α) : sProp (MM F) := iprop(∃ σ, ⌜Φ a σ⌝ ∗ Hold B d i R σ)

variable {B d i R} {σ : Conts}

/-- A program that returns at once keeps what is held. -/
theorem runs_ret {Φ : α → Conts → Prop} (a : α) (h : Φ a σ) : Runs B d i R σ (.ret a) (Post B d i R Φ) := by
  unfold Runs Post
  rw [wp_ret]
  iintro H
  imodintro
  iexists σ
  isplitr; · ipureintro; exact h
  iexact H

section
variable {sp : Space} {s : Shape} (M : Memref sig .scVector sp s .i32)

/-- The whole rectangle's elements lie where they are. -/
theorem whole_emb (x : (Rect.whole s).shape.Idx) : (Rect.whole s).emb x = x :=
  funext fun a => Fin.ext (by show 0 + 1 * (x a).val = (x a).val; omega)

/-- Access to all of a view is access to the view's elements. -/
theorem whole_set : (M.access (.whole s)).set = M.view.set := by
  show (M.view.slice (.whole s)).set = _
  rw [View.set_slice, Rect.set_whole]; rfl

/-- Reading all of a view is reading the view. -/
theorem whole_read (f : M.view.ty.Contents (Elt F)) : (M.access (.whole s)).read (Elt F) f = M.view.read (Elt F) f := by
  funext x
  exact congrArg (M.view.read (Elt F) f) (whole_emb x)

/-- Having written all of a view, one reads what was written. -/
theorem whole_write (f : M.view.ty.Contents (Elt F)) (x : Vec F s .i32) :
    M.view.read (Elt F) ((M.access (.whole s)).write (Elt F) f x Finset.univ) = x := by
  rw [← whole_read]; exact View.read_write_univ _ _

end

/-- A load of sixteen words. -/
theorem runs_load {n : ℕ} (M : Memref sig .scVector .vmem (⟨1, ![n]⟩ : Shape) .i32) (g : ℕ → BitVec 32)
    (hM : Hold B d i R σ ⊢ iprop(owns (thr d i) M fullShare (arr n g) ∗ (owns (thr d i) M fullShare (arr n g) -∗ Hold B d i R σ)))
    (o : Fin 1 → ℕ) (o' : ℕ) (ho : o = ![o']) (h : ∀ a, o a + S16.size a ≤ (⟨1, ![n]⟩ : Shape).size a) (hl) {K : V → PR F i α} {Q}
    (hK : Runs B d i R σ (K (rowAt g o')) Q) :
    Runs B d i R σ (.op (.load M (Rect.unit (s := ⟨1, ![n]⟩) o S16.size h).toLoadRect hl) (show Vec F S16 .i32 → PR F i α from K)) Q := by
  unfold Runs at hK ⊢
  refine hM.trans ?_
  unfold owns
  iintro ⟨⟨%f, %hf, H⟩, HK⟩
  iapply (wp_load (defs := defs₀ (F := F)) Variants.none (thr d i) none Set.univ (Q := Q) (m := M) (f := f) (q := fullShare)
    (S := M.view.set) (r := (Rect.unit (s := ⟨1, ![n]⟩) o S16.size h).toLoadRect) (hl := hl) (k := (show Vec F S16 .i32 → PR F i α from K))
    (by intro x hx; exact View.set_slice_subset _ _ (by rw [View.set_slice]; exact hx))) $$ H
  iintro H
  have e : M.view.readAt (Elt F) (Rect.unit (s := ⟨1, ![n]⟩) o S16.size h).toLoadRect f = (rowAt g o' : Vec F S16 .i32) := by
    subst ho
    rw [View.readAt_unit M.view f h rfl h, hf]
    exact window_arr (F := F) g o' h
  rw [e]
  iapply hK
  iapply HK
  iexists f
  isplitr; · ipureintro; exact hf
  iexact H

/-- A store of sixteen words. -/
theorem runs_store {n : ℕ} (M : Memref sig .scVector .vmem (⟨1, ![n]⟩ : Shape) .i32) (g : ℕ → BitVec 32) (τ' : (ℕ → BitVec 32) → Conts)
    (hM : Hold B d i R σ ⊢ iprop(owns (thr d i) M fullShare (arr n g) ∗ (∀ f, owns (thr d i) M fullShare (arr n f) -∗ Hold B d i R (τ' f))))
    (o : Fin 1 → ℕ) (o' : ℕ) (ho : o = ![o']) (h : ∀ a, o a + S16.size a ≤ (⟨1, ![n]⟩ : Shape).size a) (v : V) (hx hm) {K : PR F i α} {Q}
    (hK : Runs B d i R (τ' (putAt g o' v)) K Q) :
    Runs B d i R σ (.op (.store M (Rect.unit (s := ⟨1, ![n]⟩) o S16.size h) (v : Vec F S16 .i32) Finset.univ hx hm) (fun _ => K)) Q := by
  unfold Runs at hK ⊢
  refine hM.trans ?_
  unfold owns
  iintro ⟨⟨%f, %hf, H⟩, HK⟩
  iapply (wp_store (defs := defs₀ (F := F)) Variants.none (thr d i) none Set.univ (Q := Q) (m := M) (f := f)
    (r := Rect.unit (s := ⟨1, ![n]⟩) o S16.size h) (w := (v : Vec F S16 .i32)) (Mk := Finset.univ) (hx := hx) (hm := hm)
    (S := M.view.set) (k := fun _ => K) (by intro x hx; exact View.set_slice_subset _ _ hx)) $$ H
  iintro H
  iapply hK
  iapply HK
  iexists _
  isplitr [H]
  · ipureintro
    show M.view.read (Elt F) (M.view.writes (Elt F) f [⟨Rect.unit (s := ⟨1, ![n]⟩) o S16.size h, (v : Vec F S16 .i32)⟩]) = _
    subst ho
    rw [View.read_writes_cons_put M.view f h _ [] rfl, View.writes_nil, hf]
    exact put_arr (F := F) g o' v
  iexact H

/-- An indexed load. -/
theorem runs_get {n : ℕ} (M : Memref sig .scVector .vmem (⟨1, ![n]⟩ : Shape) .i32) (g : ℕ → BitVec 32)
    (hM : Hold B d i R σ ⊢ iprop(owns (thr d i) M fullShare (arr n g) ∗ (owns (thr d i) M fullShare (arr n g) -∗ Hold B d i R σ)))
    (w : V) (hw) (hl) {K : V → PR F i α} {Q} (hK : Runs B d i R σ (K fun x => g (w x).toNat) Q) :
    Runs B d i R σ (SparseCore.vectorLoadIdx (t := S16) M ![w] hw hl >>= (show Vec F S16 .i32 → PR F i α from K)) Q := by
  unfold Runs at hK ⊢
  refine hM.trans ?_
  unfold owns
  iintro ⟨⟨%f, %hf, H⟩, HK⟩
  rw [← whole_set]
  iapply (SparseCore.wp_vectorLoadIdx (defs := defs₀ (F := F)) Variants.none (thr d i) none Set.univ (Q := Q) (base := M) (f := f) (q := fullShare)
    (S := (M.access (.whole _)).set) (idxs := ![w]) (h := hw) (hl := hl) (k := (show Vec F S16 .i32 → PR F i α from K)) subset_rfl) $$ H
  iintro H
  rw [whole_read, hf]
  iapply hK
  iapply HK
  iexists f
  isplitr; · ipureintro; exact hf
  iexact H

/-- An indexed store, or addition. -/
theorem runs_put {n : ℕ} (M : Memref sig .scVector .vmem (⟨1, ![n]⟩ : Shape) .i32) (g g' : ℕ → BitVec 32) (τ' : (ℕ → BitVec 32) → Conts)
    (hM : Hold B d i R σ ⊢ iprop(owns (thr d i) M fullShare (arr n g) ∗ (∀ f, owns (thr d i) M fullShare (arr n f) -∗ Hold B d i R (τ' f))))
    (w v : V) (add : Bool) (hw) (hs)
    (he : storeIdx (F := F) (e := .i32) (s := ⟨1, ![n]⟩) (d := ![16]) (arr n g) ![w] v (fun _ => 1#1) add hw = arr n g')
    {K : PR F i α} {Q} (hK : Runs B d i R (τ' g') K Q) :
    Runs B d i R σ (SparseCore.vectorStoreIdx M ![w] (v : Vec F S16 .i32) (fun _ => 1#1) add hw hs >>= fun _ => K) Q := by
  unfold Runs at hK ⊢
  refine hM.trans ?_
  unfold owns
  iintro ⟨⟨%f, %hf, H⟩, HK⟩
  rw [← whole_set]
  iapply (SparseCore.wp_vectorStoreIdx (defs := defs₀ (F := F)) Variants.none (thr d i) none Set.univ (Q := Q) (base := M) (f := f)
    (idxs := ![w]) (v := (v : Vec F S16 .i32)) (mask := fun _ => 1#1) (add := add) (h := hw) (hs := hs) (k := fun _ => K)) $$ H
  iintro H
  iapply hK
  iapply HK
  iexists _
  isplitr [H]
  · ipureintro
    refine (whole_write M f (storeIdx ((M.access (.whole _)).read (Elt F) f) ![w] (v : Vec F S16 .i32) (fun _ => 1#1) add hw)).trans ?_
    rw [whole_read, hf]; exact he
  iexact H

/-- One buffer can be taken out of what is held, and put back as it was. -/
theorem hold_row_same (σ : Conts) (j : Fin 4) :
    Hold B d i R σ ⊢ iprop(owns (thr d i) (B.row j) fullShare (arr 8192 (σ.row j))
      ∗ (owns (thr d i) (B.row j) fullShare (arr 8192 (σ.row j)) -∗ Hold B d i R σ)) := by
  have e : σ.set j (σ.row j) = σ := by
    unfold Conts.set; congr 1; funext j'; split
    · next h => rw [h]
    · rfl
  iintro H
  ihave H' := (hold_row B d i R σ j) $$ H
  icases H' with ⟨H, HK⟩
  isplitl [H]; · iexact H
  iintro H
  ihave H' := HK $$ %(σ.row j) H
  rw [e]
  iexact H'

/-- The counters can be taken out of what is held, and put back as they were. -/
theorem hold_cnt_same (σ : Conts) :
    Hold B d i R σ ⊢ iprop(owns (thr d i) B.cnt fullShare (arr 4096 σ.cnt)
      ∗ (owns (thr d i) B.cnt fullShare (arr 4096 σ.cnt) -∗ Hold B d i R σ)) := by
  iintro H
  ihave H' := (hold_cnt B d i R σ) $$ H
  icases H' with ⟨H, HK⟩
  isplitl [H]; · iexact H
  iintro H
  ihave H' := HK $$ %(σ.cnt) H
  iexact H'

/-- A load from a buffer gives the 16 words at its place. -/
theorem runs_ld8 (j : Fin 4) {o : Fin 1 → ℕ} {h} {K : V → PR F i α} {Q} (o' : ℕ) (ho : o = ![o'])
    (hK : Runs B d i R σ (K (rowAt (σ.row j) o')) Q) : Runs B d i R σ (ld8 (B.row j) o h K) Q :=
  runs_load (B.row j) (σ.row j) (hold_row_same σ j) o o' ho h _ hK

/-- A store to a buffer changes the 16 words at its place. -/
theorem runs_st8 (j : Fin 4) {o : Fin 1 → ℕ} {h} {v : V} {K : PR F i α} {Q} (o' : ℕ) (ho : o = ![o'])
    (hK : Runs B d i R (σ.set j (putAt (σ.row j) o' v)) K Q) : Runs B d i R σ (st8 (B.row j) o h v K) Q :=
  runs_store (B.row j) (σ.row j) (σ.set j) (hold_row B d i R σ j) o o' ho h v _ _ hK

/-- A load from the counters gives the 16 words at its place. -/
theorem runs_ld4 {o : Fin 1 → ℕ} {h} {K : V → PR F i α} {Q} (o' : ℕ) (ho : o = ![o'])
    (hK : Runs B d i R σ (K (rowAt σ.cnt o')) Q) : Runs B d i R σ (ld4 B.cnt o h K) Q :=
  runs_load B.cnt σ.cnt (hold_cnt_same σ) o o' ho h _ hK

/-- A store to the counters changes the 16 words at its place. -/
theorem runs_st4 {o : Fin 1 → ℕ} {h} {v : V} {K : PR F i α} {Q} (o' : ℕ) (ho : o = ![o'])
    (hK : Runs B d i R (σ.setc (putAt σ.cnt o' v)) K Q) : Runs B d i R σ (st4 B.cnt o h v K) Q :=
  runs_store B.cnt σ.cnt σ.setc (hold_cnt B d i R σ) o o' ho h v _ _ hK

/-- An indexed addition adds one to the counters that it names. -/
theorem runs_inc4 {w : V} {hw} {K : PR F i α} {Q}
    (hK : Runs B d i R (σ.setc (incIx σ.cnt w)) K Q) : Runs B d i R σ (inc4 B.cnt w hw K) Q :=
  runs_put B.cnt σ.cnt _ σ.setc (hold_cnt B d i R σ) w _ true _ _ (storeIdx_inc _ _ _) hK

/-- A gather from the counters gives the words that it names. -/
theorem runs_get4 {w : V} {hw} {K : V → PR F i α} {Q}
    (hK : Runs B d i R σ (K fun x => σ.cnt (w x).toNat) Q) : Runs B d i R σ (get4 B.cnt w hw K) Q :=
  runs_get B.cnt σ.cnt (hold_cnt_same σ) w _ _ hK

/-- A scatter to a buffer puts each lane's word at the place that it names. -/
theorem runs_put8 (j : Fin 4) {w : V} {hw} {v : V} {K : PR F i α} {Q}
    (hK : Runs B d i R (σ.set j (putIx (σ.row j) w v)) K Q) : Runs B d i R σ (put8 (B.row j) w hw v K) Q :=
  runs_put (B.row j) (σ.row j) _ (σ.set j) (hold_row B d i R σ j) w v false _ _ (storeIdx_put _ _ _ _) hK

/-- A check that holds. -/
theorem runs_assume {P : Prop} {dc : Decidable P} {K : PLift P → PR F i α} {Q} (h : P)
    (hK : Runs B d i R σ (K ⟨h⟩) Q) : Runs B d i R σ (.op (.assume P dc) K) Q := by
  unfold Runs
  exact BIBase.Entails.trans hK (wp_assume Variants.none (thr d i) none Set.univ h)

/-- A program, then another. -/
theorem runs_bind {β : Type} {p : PR F i β} {K : β → PR F i α} {Q} (Φ : β → Conts → Prop)
    (hp : Runs B d i R σ p (Post B d i R Φ)) (hK : ∀ b σ', Φ b σ' → Runs B d i R σ' (K b) Q) : Runs B d i R σ (p >>= K) Q := by
  unfold Runs at *
  rw [wp_bind]
  refine hp.trans (wp_mono _ _ _ fun b => ?_)
  unfold Post
  iintro ⟨%σ', %h, H⟩
  iapply (hK b σ' h)
  iexact H

/-- A loop by an invariant, then a program. -/
theorem runs_for {β : Type} {l : Scf.Loop 32} {hok : l.OK} {init : β} {body : Fin l.trips → β → PR F i β} {K : β → PR F i α} {Q}
    (Inv : ℕ → β → Conts → Prop) (h₀ : Inv 0 init σ)
    (hb : ∀ (k : Fin l.trips) a σ', Inv k.val a σ' → Runs B d i R σ' (body k a) (Post B d i R (Inv (k.val + 1))))
    (hK : ∀ a σ', Inv l.trips a σ' → Runs B d i R σ' (K a) Q) : Runs B d i R σ (Scf.Loop.for l hok init body >>= K) Q := by
  refine runs_bind (Inv l.trips) ?_ hK
  unfold Runs at hb ⊢
  iintro H
  iapply (Scf.wp_for frame (wpE (defs₀ (F := F)) Variants.none (thr d i) none) Set.univ l.lb l.ub l.st hok init body
    (fun n a => Post B d i R (Inv n) a) fun k a => by
      conv_lhs => unfold Post
      iintro ⟨%σ', %h, H⟩
      iapply (hb k a σ' h)
      iexact H)
  isplitl [H]
  · unfold Post
    iexists σ
    isplitr; · ipureintro; exact h₀
    iexact H
  · iintro %a H
    iexact H

end

end Cert.Proof
end
-- ==== Proof.Rank.lean ====
/-
  Ranks: the place of each of `n` numbered items in the order of their keys; how sorting digit by digit, each
  time stably, composes to one stable sort; and a counting sort's place of an item as its rank.
-/
module

public import Idealize.ShloMosaic.Lib.Tactic
public import Mathlib.Algebra.BigOperators.Group.Finset.Basic
public import Mathlib.Algebra.BigOperators.Intervals

@[expose] public section

namespace Cert.Proof

open Finset

/-- How many of the first `n` items have a key below that of `p`. -/
def rank (n : ℕ) (κ : ℕ → ℕ) (p : ℕ) : ℕ := ((range n).filter fun p' => κ p' < κ p).card

/-- Ranks are below the number of items. -/
theorem rank_lt {n : ℕ} {κ : ℕ → ℕ} {p : ℕ} (hp : p < n) : rank n κ p < n := by
  have : (range n).filter (fun p' => κ p' < κ p) ⊂ range n := by
    refine (filter_ssubset).mpr ⟨p, mem_range.mpr hp, by simp⟩
  simpa [rank] using card_lt_card this

/-- A smaller key has a smaller rank. -/
theorem rank_mono {n : ℕ} {κ : ℕ → ℕ} {p p' : ℕ} (hp : p < n) (h : κ p < κ p') : rank n κ p < rank n κ p' := by
  refine card_lt_card ((ssubset_iff_of_subset ?_).mpr ⟨p, ?_, ?_⟩)
  · intro x hx
    rw [mem_filter] at hx ⊢
    exact ⟨hx.1, hx.2.trans h⟩
  · rw [mem_filter]; exact ⟨mem_range.mpr hp, h⟩
  · rw [mem_filter]; exact fun e => lt_irrefl _ e.2

/-- Items of different keys have different ranks. -/
theorem rank_inj {n : ℕ} {κ : ℕ → ℕ} (hκ : ∀ p < n, ∀ p' < n, κ p = κ p' → p = p') {p p' : ℕ} (hp : p < n) (hp' : p' < n)
    (h : rank n κ p = rank n κ p') : p = p' := by
  rcases lt_trichotomy (κ p) (κ p') with e | e | e
  · have := rank_mono (n := n) hp e; omega
  · exact hκ p hp p' hp' e
  · have := rank_mono (n := n) hp' e; omega

/-- A map of the first `n` numbers into themselves that never meets is onto. -/
theorem onto_of_inj {n : ℕ} {π : ℕ → ℕ} (hl : ∀ p < n, π p < n) (hi : ∀ p < n, ∀ p' < n, π p = π p' → p = p') {y : ℕ} (hy : y < n) :
    ∃ p < n, π p = y := by
  have h := surjOn_of_injOn_of_card_le (s := range n) (t := range n) π
    (fun p hp => by simpa using hl p (by simpa using hp))
    (fun p hp p' hp' e => hi p (by simpa using hp) p' (by simpa using hp') e) le_rfl
  obtain ⟨p, hp, e⟩ := h (show y ∈ (↑(range n) : Set ℕ) by simpa using hy)
  exact ⟨p, by simpa using hp, e⟩

/-- The rank depends on the order of the keys alone. -/
theorem rank_congr {n : ℕ} {κ κ' : ℕ → ℕ} {p : ℕ} (h : ∀ p' < n, κ p' < κ p ↔ κ' p' < κ' p) : rank n κ p = rank n κ' p := by
  unfold rank
  congr 1
  ext x
  simp only [mem_filter, mem_range]
  exact ⟨fun e => ⟨e.1, (h x e.1).mp e.2⟩, fun e => ⟨e.1, (h x e.1).mpr e.2⟩⟩

/-- Items renumbered keep their ranks. -/
theorem rank_comp {n : ℕ} {π : ℕ → ℕ} (hl : ∀ p < n, π p < n) (hi : ∀ p < n, ∀ p' < n, π p = π p' → p = p') (κ : ℕ → ℕ) (p : ℕ) :
    rank n κ (π p) = rank n (fun p' => κ (π p')) p := by
  unfold rank
  symm
  refine card_bij (fun x _ => π x) ?_ ?_ ?_
  · intro x hx
    simp only [mem_filter, mem_range] at hx ⊢
    exact ⟨hl x hx.1, hx.2⟩
  · intro x hx y hy e
    simp only [mem_filter, mem_range] at hx hy
    exact hi x hx.1 y hy.1 e
  · intro y hy
    simp only [mem_filter, mem_range] at hy
    obtain ⟨x, hx, rfl⟩ := onto_of_inj hl hi hy.1
    exact ⟨x, by simp only [mem_filter, mem_range]; exact ⟨hx, hy.2⟩, rfl⟩

/-- The key of an item in a stable sort by `G`. -/
def stab (n : ℕ) (G : ℕ → ℕ) (p : ℕ) : ℕ := G p * n + p

/-- The keys of a stable sort compare by `G`, then by position. -/
theorem stab_lt {n : ℕ} {G : ℕ → ℕ} {p p' : ℕ} (hp : p < n) (hp' : p' < n) :
    stab n G p < stab n G p' ↔ G p < G p' ∨ (G p = G p' ∧ p < p') := by
  unfold stab
  constructor
  · intro h
    rcases lt_trichotomy (G p) (G p') with e | e | e
    · exact .inl e
    · rw [e] at h; exact .inr ⟨e, by omega⟩
    · have := Nat.mul_le_mul_right n (show G p' + 1 ≤ G p from e)
      rw [Nat.add_mul] at this; omega
  · rintro (e | ⟨e, h⟩)
    · have := Nat.mul_le_mul_right n (show G p + 1 ≤ G p' from e)
      rw [Nat.add_mul] at this; omega
    · rw [e]; omega

/-- Different items have different keys in a stable sort. -/
theorem stab_inj {n : ℕ} {G : ℕ → ℕ} : ∀ p < n, ∀ p' < n, stab n G p = stab n G p' → p = p' := by
  intro p hp p' hp' h
  by_contra hne
  rcases lt_trichotomy p p' with e | e | e
  · rcases lt_trichotomy (G p) (G p') with g | g | g
    · exact absurd ((stab_lt hp hp').mpr (.inl g)) (by omega)
    · exact absurd ((stab_lt hp hp').mpr (.inr ⟨g, e⟩)) (by omega)
    · exact absurd ((stab_lt hp' hp).mpr (.inl g)) (by omega)
  · exact hne e
  · rcases lt_trichotomy (G p) (G p') with g | g | g
    · exact absurd ((stab_lt hp hp').mpr (.inl g)) (by omega)
    · exact absurd ((stab_lt hp' hp).mpr (.inr ⟨g.symm, e⟩)) (by omega)
    · exact absurd ((stab_lt hp' hp).mpr (.inl g)) (by omega)

/-- The place of `p` in the stable sort by `G`. -/
def srt (n : ℕ) (G : ℕ → ℕ) (p : ℕ) : ℕ := rank n (stab n G) p

/-- Places in a stable sort are below the number of items. -/
theorem srt_lt {n : ℕ} {G : ℕ → ℕ} {p : ℕ} (hp : p < n) : srt n G p < n := rank_lt hp

/-- Different items have different places. -/
theorem srt_inj {n : ℕ} {G : ℕ → ℕ} : ∀ p < n, ∀ p' < n, srt n G p = srt n G p' → p = p' :=
  fun _ hp _ hp' h => rank_inj stab_inj hp hp' h

/-- Places compare as the items do: by `G`, then by position. -/
theorem srt_mono {n : ℕ} {G : ℕ → ℕ} {p p' : ℕ} (hp : p < n) (hp' : p' < n) :
    srt n G p < srt n G p' ↔ G p < G p' ∨ (G p = G p' ∧ p < p') := by
  rw [← stab_lt hp hp']
  constructor
  · intro h
    rcases lt_trichotomy (stab n G p) (stab n G p') with e | e | e
    · exact e
    · rw [stab_inj p hp p' hp' e] at h; exact absurd h (lt_irrefl _)
    · have := rank_mono (n := n) hp' e; unfold srt at h; omega
  · exact rank_mono hp

/-- The place depends on the values of `G` at the items alone. -/
theorem srt_congr {n : ℕ} {G G' : ℕ → ℕ} {p : ℕ} (hp : p < n) (h : ∀ p < n, G p = G' p) : srt n G p = srt n G' p :=
  rank_congr fun p' hp' => by unfold stab; rw [h p' hp', h p hp]

/-- Sorting by the low digits, then stably by the next digit, sorts by both. -/
theorem srt_step {n M b : ℕ} {G D : ℕ → ℕ}
    (hD : ∀ p < n, D (srt n (fun p => G p % M) p) = G p / M % b) {p : ℕ} (hp : p < n) :
    srt n D (srt n (fun p => G p % M) p) = srt n (fun p => G p % (M * b)) p := by
  unfold srt at hD ⊢
  rw [rank_comp (π := fun p => rank n (stab n fun p => G p % M) p) (fun p hp => rank_lt hp)
    (fun p hp p' hp' h => rank_inj stab_inj hp hp' h)]
  refine rank_congr fun p' hp' => ?_
  rw [stab_lt (rank_lt hp') (rank_lt hp), stab_lt hp' hp, hD p' hp', hD p hp]
  have hs := srt_mono (G := fun p => G p % M) hp' hp
  unfold srt at hs
  rw [hs, Nat.mod_mul, Nat.mod_mul]
  rcases Nat.eq_zero_or_pos M with hM | hM
  · subst hM; simp
  have h1 := Nat.mod_lt (G p) hM
  have h2 := Nat.mod_lt (G p') hM
  generalize G p % M = a at *
  generalize G p' % M = a' at *
  generalize G p / M % b = c at *
  generalize G p' / M % b = c' at *
  rcases lt_trichotomy c' c with e | e | e
  · have := Nat.mul_le_mul_left M (show c' + 1 ≤ c from e)
    rw [Nat.mul_add] at this
    constructor
    · intro _; left; omega
    · intro _; left; exact e
  · subst e
    constructor
    · rintro (h | ⟨_, h | h⟩)
      · omega
      · left; omega
      · right; omega
    · rintro (h | h)
      · right; exact ⟨rfl, .inl (by omega)⟩
      · right; exact ⟨rfl, .inr (by omega)⟩
  · have := Nat.mul_le_mul_left M (show c + 1 ≤ c' from e)
    rw [Nat.mul_add] at this
    constructor
    · rintro (h | ⟨h, _⟩) <;> omega
    · rintro (h | h) <;> omega

/-! ## The counting sort of 8192 items in sixteen lanes of 512 -/

/-- Of the first `T` items of lane `x % 16`, how many have digit `x / 16`. -/
def cnt (δ : ℕ → ℕ) (T x : ℕ) : ℕ := ((range T).filter fun t => δ (x % 16 * 512 + t) = x / 16).card

/-- The counter of an item. -/
def ctr (δ : ℕ → ℕ) (p : ℕ) : ℕ := δ p * 16 + p / 512

/-- The counts before `x`, summed. -/
def pre (δ : ℕ → ℕ) (x : ℕ) : ℕ := ∑ y ∈ range x, cnt δ 512 y

/-- One more item of the lane adds one to its counter, and nothing to the others. -/
theorem cnt_succ (δ : ℕ → ℕ) (T x : ℕ) :
    cnt δ (T + 1) x = cnt δ T x + if δ (x % 16 * 512 + T) = x / 16 then 1 else 0 := by
  unfold cnt
  rw [range_add_one, filter_insert]
  split
  · rw [card_insert_of_notMem (by simp)]
  · rfl

/-- No items count for nothing. -/
theorem cnt_zero (δ : ℕ → ℕ) (x : ℕ) : cnt δ 0 x = 0 := by simp [cnt]

/-- A count, as the number of items whose counter is `x` and whose row is below `T`. -/
theorem cnt_eq {n : ℕ} (hn : n = 8192) (δ : ℕ → ℕ) (T x : ℕ) (hT : T ≤ 512) (hx : x < 4096) :
    ((range n).filter fun p => ctr δ p = x ∧ p % 512 < T).card = cnt δ T x := by
  unfold cnt
  symm
  refine card_bij (fun t _ => x % 16 * 512 + t) ?_ ?_ ?_
  · intro t ht
    rw [mem_filter, mem_range] at ht ⊢
    unfold ctr
    refine ⟨by omega, ?_, by omega⟩
    rw [ht.2]; omega
  · intro t _ t' _ e
    simpa using e
  · intro p hp
    rw [mem_filter, mem_range] at hp
    unfold ctr at hp
    refine ⟨p % 512, ?_, ?_⟩
    · rw [mem_filter, mem_range]
      refine ⟨hp.2.2, ?_⟩
      have : x % 16 * 512 + p % 512 = p := by omega
      rw [this]; omega
    · show x % 16 * 512 + p % 512 = p
      omega

/-- A sum of counts, as the number of items whose counter is below `x`. -/
theorem pre_eq {n : ℕ} (hn : n = 8192) (δ : ℕ → ℕ) (x : ℕ) (hx : x ≤ 4096) : ((range n).filter fun p => ctr δ p < x).card = pre δ x := by
  induction x with
  | zero => simp [pre]
  | succ x ih =>
    rw [pre, sum_range_succ, ← pre, ← ih (by omega), ← cnt_eq hn δ 512 x le_rfl (by omega), ← card_union_of_disjoint]
    · congr 1
      ext p
      simp only [mem_union, mem_filter, mem_range]
      have : p % 512 < 512 := Nat.mod_lt _ (by omega)
      constructor
      · rintro ⟨h1, h2⟩
        rcases Nat.lt_succ_iff_lt_or_eq.mp h2 with h | h
        · exact .inl ⟨h1, h⟩
        · exact .inr ⟨h1, h, this⟩
      · rintro (⟨h1, h2⟩ | ⟨h1, h2, _⟩)
        · exact ⟨h1, by omega⟩
        · exact ⟨h1, by omega⟩
    · rw [disjoint_left]
      intro p h1 h2
      simp only [mem_filter] at h1 h2
      omega

/-- An item's place: what comes before its counter, then what its counter has counted. -/
def place (δ : ℕ → ℕ) (p : ℕ) : ℕ := pre δ (ctr δ p) + cnt δ (p % 512) (ctr δ p)

/-- It is the item's place in the stable sort by the digit. -/
theorem place_eq {n : ℕ} (hn : n = 8192) (δ : ℕ → ℕ) (hδ : ∀ p < n, δ p < 256) {p : ℕ} (hp : p < n) : place δ p = srt n δ p := by
  have hc : ctr δ p < 4096 := by have := hδ p hp; unfold ctr; omega
  unfold place srt rank
  rw [← pre_eq hn δ _ (by omega), ← cnt_eq hn δ (p % 512) _ (by omega) hc, ← card_union_of_disjoint]
  · congr 1
    ext q
    simp only [mem_union, mem_filter, mem_range]
    unfold stab ctr
    subst hn
    have hq : ∀ q < 8192, q / 512 < 16 := by omega
    constructor
    · rintro (⟨h1, h2⟩ | ⟨h1, h2, h3⟩)
      · refine ⟨h1, ?_⟩; have := hq q h1; have := hq p hp; omega
      · refine ⟨h1, ?_⟩; have := hq q h1; have := hq p hp; omega
    · rintro ⟨h1, h2⟩
      have := hq q h1; have := hq p hp
      by_cases h : δ q * 16 + q / 512 < δ p * 16 + p / 512
      · exact .inl ⟨h1, h⟩
      · exact .inr ⟨h1, by omega, by omega⟩
  · rw [disjoint_left]
    intro q h1 h2
    simp only [mem_filter] at h1 h2
    omega

/-- The counts add up to at most the number of items. -/
theorem pre_lt (δ : ℕ → ℕ) (x : ℕ) (hx : x ≤ 4096) : pre δ x ≤ 8192 := by
  obtain ⟨n, hn⟩ : ∃ n, n = 8192 := ⟨_, rfl⟩
  rw [← pre_eq hn δ x hx, ← hn]
  exact (card_filter_le _ _).trans (by simp)

/-- A lane's counter counts at most its items. -/
theorem cnt_le (δ : ℕ → ℕ) (T x : ℕ) : cnt δ T x ≤ T := (card_filter_le _ _).trans (by simp)

end Cert.Proof
-- ==== Proof.Words.lean ====
/-
  The vectors of a tile, lane by lane: the counter of a key, the place of a position in a row, the running
  sums of a row of counters, and how the counters and the rows change as one row of keys is taken.
-/
module

public import proofs.«01_k».proof.Proof.Wp
public import proofs.«01_k».proof.Proof.Rank

@[expose] public section

noncomputable section

namespace Cert.Proof

open Cert.KernelIdeal Cert.KernelIdeal.Gen Idealize.ShloMosaic

/-! ## Positions -/

/-- Where a row holds logical position `p`: lane `p / 512` of its row `p % 512`. -/
def slot (p : ℕ) : ℕ := p % 512 * 16 + p / 512

/-- Slots are below 8192. -/
theorem slot_lt {p : ℕ} (h : p < 8192) : slot p < 8192 := by unfold slot; omega
/-- Different positions have different slots. -/
theorem slot_inj {p p' : ℕ} (h : p < 8192) (h' : p' < 8192) (e : slot p = slot p') : p = p' := by unfold slot at e; omega

/-- The contents `f` hold `g` in the layout of a row. -/
def Lay (f g : ℕ → BitVec 32) : Prop := ∀ p < 8192, f (slot p) = g p

/-- Row `t` of `g`. -/
def lrow (g : ℕ → BitVec 32) (t : ℕ) : V := fun x => g ((x 0).val * 512 + t)

/-- There are 16 lanes. -/
theorem lane_lt (x : S16.Idx) : (x 0).val < 16 := (x 0).isLt

/-- Loading 16 words from a laid-out buffer gives a row. -/
theorem rowAt_lay {f g : ℕ → BitVec 32} (h : Lay f g) {t : ℕ} (ht : t < 512) : rowAt f (16 * t) = lrow g t := by
  funext x
  have hx := lane_lt x
  unfold rowAt lrow
  rw [← h ((x 0).val * 512 + t) (by omega)]
  congr 1; unfold slot; omega

/-- The lane numbers, at a lane. -/
theorem laneV_apply (x : S16.Idx) : laneV x = BitVec.ofNat 32 (x 0).val := by
  show BitVec.ofNat 32 (0 * 16 + (x 0).val) = _
  rw [Nat.zero_mul, Nat.zero_add]

/-- A loop's counter at trip `k` is `k`. -/
theorem iv_eq (k : ℕ) : Scf.iv 0#32 1#32 k = BitVec.ofNat 32 k := by simp [Scf.iv]

/-- The vector of a row's positions. -/
theorem rowV_eq {n u T : ℕ} :
    rowV (BitVec.ofNat 32 n) (BitVec.ofNat 32 u) (BitVec.ofNat 32 T) = lrow (fun p => BitVec.ofNat 32 p) (n * T + u) := by
  funext x
  show laneV x * 512#32 + (BitVec.ofNat 32 T * BitVec.ofNat 32 n + BitVec.ofNat 32 u) = _
  rw [laneV_apply]
  unfold lrow
  rw [← BitVec.ofNat_mul, ← BitVec.ofNat_mul, ← BitVec.ofNat_add, ← BitVec.ofNat_add, Nat.mul_comm T n]

/-- The vector of 16 consecutive numbers. -/
theorem seqV_eq {u T : ℕ} (x : S16.Idx) :
    seqV (BitVec.ofNat 32 u) (BitVec.ofNat 32 T) x = BitVec.ofNat 32 (16 * (8 * T + u) + (x 0).val) := by
  show laneV x + (BitVec.ofNat 32 T * 8#32 + BitVec.ofNat 32 u) * 16#32 = _
  rw [laneV_apply, ← BitVec.ofNat_mul, ← BitVec.ofNat_add, ← BitVec.ofNat_mul, ← BitVec.ofNat_add]
  congr 1; omega

/-- A small number survives the way into a word and back. -/
theorem toNat_small {n : ℕ} (h : n < 4294967296) : (BitVec.ofNat 32 n).toNat = n := by
  rw [BitVec.toNat_ofNat]; exact Nat.mod_eq_of_lt h

/-- The place of a small position. -/
theorem physV_toNat (w : V) (x : S16.Idx) {y : ℕ} (hy : y < 8192) (hw : w x = BitVec.ofNat 32 y) : (physV w x).toNat = slot y := by
  have e : physV w x = ((BitVec.ofNat 32 y &&& 511#32) <<< 4#32) ||| (BitVec.ofNat 32 y >>> 9#32) := by
    rw [← hw]; rfl
  rw [e]
  have h1 : y &&& 511 = y % 512 := Nat.and_two_pow_sub_one_eq_mod y 9
  simp only [BitVec.toNat_or, BitVec.shiftLeft_eq', BitVec.ushiftRight_eq', BitVec.toNat_shiftLeft, BitVec.toNat_ushiftRight, BitVec.toNat_and, BitVec.toNat_ofNat]
  rw [Nat.mod_eq_of_lt (show y < 2 ^ 32 by omega), show 511 % 2 ^ 32 = 511 from rfl, h1, show 4 % 2 ^ 32 = 4 from rfl, show 9 % 2 ^ 32 = 9 from rfl,
    Nat.shiftRight_eq_div_pow, Nat.shiftLeft_eq, Nat.mod_eq_of_lt (show y % 512 * 2 ^ 4 < 2 ^ 32 by omega)]
  unfold slot
  rw [Nat.mul_comm (y % 512) (2 ^ 4), ← Nat.two_pow_add_eq_or_of_lt (show y / 2 ^ 9 < 2 ^ 4 by omega)]
  omega

/-! ## Digits -/

/-- The digit of key `p` from bit `sh` on. -/
def dgt (sh : BitVec 32) (g : ℕ → BitVec 32) (p : ℕ) : ℕ := (g p).toNat / 2 ^ sh.toNat % 256

/-- Digits are below 256. -/
theorem dgt_lt (sh : BitVec 32) (g : ℕ → BitVec 32) (p : ℕ) : dgt sh g p < 256 := Nat.mod_lt _ (by decide)

/-- The number of the counter that a row's key goes to. -/
theorem digV_toNat {sh : BitVec 32} (hs : sh.toNat < 32) (g : ℕ → BitVec 32) {t : ℕ} (ht : t < 512) (x : S16.Idx) :
    (digV sh (lrow g t) x).toNat = ctr (dgt sh g) ((x 0).val * 512 + t) := by
  have hx := lane_lt x
  have e : digV sh (lrow g t) x = ((g ((x 0).val * 512 + t) >>> sh) &&& 255#32) * 16#32 + BitVec.ofNat 32 (x 0).val := by
    show (IntOp.shrui .vector (g ((x 0).val * 512 + t)) sh &&& 255#32) * 16#32 + laneV x = _
    rw [laneV_apply]; unfold IntOp.shrui; rw [if_pos hs]
  rw [e]
  have h1 : ∀ y, y &&& 255 = y % 256 := fun y => Nat.and_two_pow_sub_one_eq_mod y 8
  have hb := dgt_lt sh g ((x 0).val * 512 + t)
  have h2 : ((g ((x 0).val * 512 + t) >>> sh) &&& 255#32).toNat = dgt sh g ((x 0).val * 512 + t) := by
    rw [BitVec.toNat_and, BitVec.ushiftRight_eq', BitVec.toNat_ushiftRight, Nat.shiftRight_eq_div_pow]
    exact h1 _
  rw [BitVec.toNat_add, BitVec.toNat_mul, h2, toNat_small (show 16 < 4294967296 by omega), toNat_small (by omega)]
  unfold ctr
  omega

/-- It is below 4096. -/
theorem digV_lt {sh : BitVec 32} (hs : sh.toNat < 32) (g : ℕ → BitVec 32) {t : ℕ} (ht : t < 512) (x : S16.Idx) :
    (digV sh (lrow g t) x).toNat < 4096 := by
  rw [digV_toNat hs g ht]
  have hx := lane_lt x
  have := dgt_lt sh g ((x 0).val * 512 + t)
  unfold ctr; omega

/-- Entries below 4096 are in range of the counters. -/
theorem in4_of {h : V} (hh : ∀ x, (h x).toNat < 4096) : In4 h := by
  intro a x
  obtain rfl : a = 0 := Fin.eq_zero a
  exact hh x

/-- Entries below 8192 are in range of a buffer. -/
theorem in8_of {h : V} (hh : ∀ x, (h x).toNat < 8192) : In8 h := by
  intro a x
  obtain rfl : a = 0 := Fin.eq_zero a
  exact hh x

/-! ## Counters -/

/-- The counters stand at `base` plus what the first `N` rows of each lane have counted. -/
def CntIs (base : ℕ → ℕ) (δ : ℕ → ℕ) (N : ℕ) (h : ℕ → BitVec 32) : Prop :=
  ∀ x < 4096, h x = BitVec.ofNat 32 (base x + cnt δ N x)

/-- The indexed addition of a row's counters counts that row. -/
theorem cntIs_inc {base : ℕ → ℕ} {sh : BitVec 32} (hs : sh.toNat < 32) {g : ℕ → BitVec 32} {N : ℕ} (hN : N < 512) {h : ℕ → BitVec 32}
    (H : CntIs base (dgt sh g) N h) : CntIs base (dgt sh g) (N + 1) (incIx h (digV sh (lrow g N))) := by
  intro x hx
  rw [incIx_eq]
  · rw [digV_toNat hs g hN, H x hx, cnt_succ]
    show (if ctr (dgt sh g) (x % 16 * 512 + N) = x then _ else _) = _
    have : (ctr (dgt sh g) (x % 16 * 512 + N) = x) ↔ dgt sh g (x % 16 * 512 + N) = x / 16 := by
      unfold ctr; omega
    by_cases hc : dgt sh g (x % 16 * 512 + N) = x / 16
    · rw [if_pos (this.mpr hc), if_pos hc, ← Nat.add_assoc, BitVec.ofNat_add (base x + cnt (dgt sh g) N x) 1]
    · rw [if_neg fun e => hc (this.mp e), if_neg hc, Nat.add_zero]
  · intro k
    rw [digV_toNat hs g hN]
    show ctr (dgt sh g) (k.val * 512 + N) % 16 = k.val
    unfold ctr; omega

/-! ## Running sums -/

/-- The lanes up to the next are those up to this one, and the next. -/
theorem lanes_upto (j : Fin 15) :
    ((List.finRange 16).filter fun k : Fin 16 => decide (0 < k.val ∧ k.val ≤ j.succ.val))
      = ((List.finRange 16).filter fun k : Fin 16 => decide (0 < k.val ∧ k.val ≤ j.castSucc.val)) ++ [j.succ] := by
  revert j; decide

/-- The running sum of a vector, at a lane given by its number. -/
theorem scan_lane (a : ℕ → ℕ) (v : V) (hv : ∀ x, v x = BitVec.ofNat 32 (a (x 0).val)) (j : Fin 16) :
    scan .sum v (ln j) = BitVec.ofNat 32 (∑ k ∈ Finset.range (j.val + 1), a k) := by
  show ((List.finRange 16).filter fun k : Fin 16 => decide (0 < k.val ∧ k.val ≤ j.val)).foldl
      (fun r k => r + v (ln k)) (v (ln 0)) = _
  induction j using Fin.induction with
  | zero =>
    rw [show ((List.finRange 16).filter fun k : Fin 16 => decide (0 < k.val ∧ k.val ≤ (0 : Fin 16).val)) = [] by decide, hv]
    show BitVec.ofNat 32 (a 0) = _
    simp
  | succ j ih =>
    rw [lanes_upto, List.foldl_append, ih]
    show BitVec.ofNat 32 _ + v (ln j.succ) = _
    rw [hv, ← BitVec.ofNat_add]
    congr 1
    rw [Finset.sum_range_succ _ (j.succ.val)]
    rfl

/-- The running sum of a vector, at a lane. -/
theorem scan_apply (a : ℕ → ℕ) (v : V) (hv : ∀ x, v x = BitVec.ofNat 32 (a (x 0).val)) (x : S16.Idx) :
    scan .sum v x = BitVec.ofNat 32 (∑ k ∈ Finset.range ((x 0).val + 1), a k) := by
  rw [← ln_val x]; exact scan_lane a v hv _

/-- The running sum without the lane itself, with the carry added. -/
theorem excV_apply (c : ℕ) (a : ℕ → ℕ) (v : V) (hv : ∀ x, v x = BitVec.ofNat 32 (a (x 0).val)) (x : S16.Idx) :
    excV (BitVec.ofNat 32 c) v x = BitVec.ofNat 32 (c + ∑ k ∈ Finset.range (x 0).val, a k) := by
  show scan .sum v x - v x + BitVec.ofNat 32 c = _
  rw [scan_apply a v hv, hv, Finset.sum_range_succ, BitVec.ofNat_add, BitVec.add_sub_cancel, ← BitVec.ofNat_add, Nat.add_comm]

/-- The carry after a vector: the carry before, and the sum of the lanes. -/
theorem sumV_eq (c : ℕ) (a : ℕ → ℕ) (v : V) (hv : ∀ x, v x = BitVec.ofNat 32 (a (x 0).val)) :
    sumV (BitVec.ofNat 32 c) v = BitVec.ofNat 32 (c + ∑ k ∈ Finset.range 16, a k) := by
  have e : sumV (BitVec.ofNat 32 c) v = BitVec.ofNat 32 c + scan .sum v (ln 15) := by
    unfold sumV Scalar.addi IntOp.addi extractAt extractStridedSlice
    congr 2
    funext a
    obtain rfl : a = 0 := Fin.eq_zero a
    rfl
  rw [e, scan_apply a v hv, ← BitVec.ofNat_add]
  rfl

/-- The counters below `16 r` are running sums, those from there on counts. -/
def ScnIs (δ : ℕ → ℕ) (r : ℕ) (h : ℕ → BitVec 32) : Prop :=
  ∀ x < 4096, h x = BitVec.ofNat 32 (if x < 16 * r then pre δ x else cnt δ 512 x)

/-- A row of counts. -/
def crow (δ : ℕ → ℕ) (r : ℕ) : V := fun x => BitVec.ofNat 32 (cnt δ 512 (16 * r + (x 0).val))

/-- The sum of the counts before `x + n`, split at `x`. -/
theorem pre_add (δ : ℕ → ℕ) (x n : ℕ) : pre δ (x + n) = pre δ x + ∑ k ∈ Finset.range n, cnt δ 512 (x + k) := by
  unfold pre; exact Finset.sum_range_add _ _ _

/-- Scanning a row of counts moves the carry on by one row. -/
theorem sumV_crow (δ : ℕ → ℕ) (r : ℕ) : sumV (BitVec.ofNat 32 (pre δ (16 * r))) (crow δ r) = BitVec.ofNat 32 (pre δ (16 * (r + 1))) := by
  rw [sumV_eq _ (fun k => cnt δ 512 (16 * r + k)) (crow δ r) fun x => rfl, Nat.mul_add, Nat.mul_one, pre_add]

/-- A row not yet scanned still holds its counts. -/
theorem scnIs_row {δ : ℕ → ℕ} {r₀ r : ℕ} {h : ℕ → BitVec 32} (H : ScnIs δ r₀ h) (hr : r₀ ≤ r) (hr' : r < 256) : rowAt h (16 * r) = crow δ r := by
  funext x
  have hx := lane_lt x
  unfold rowAt crow
  rw [H _ (by omega), if_neg (by omega)]

/-- Storing a row's running sums extends the scanned part by that row. -/
theorem scnIs_put {δ : ℕ → ℕ} {r : ℕ} {h : ℕ → BitVec 32} (H : ScnIs δ r h) (hr : r < 256) :
    ScnIs δ (r + 1) (putAt h (16 * r) (excV (BitVec.ofNat 32 (pre δ (16 * r))) (crow δ r))) := by
  intro x hx
  unfold putAt
  by_cases hc : 16 * r ≤ x ∧ x < 16 * r + 16
  · rw [dif_pos hc, excV_apply _ (fun k => cnt δ 512 (16 * r + k)) (crow δ r) fun x => rfl, if_pos (by omega), ← pre_add]
    congr 2
    show 16 * r + (x - 16 * r) = x
    omega
  · rw [dif_neg hc, H x hx]
    by_cases h1 : x < 16 * r
    · rw [if_pos h1, if_pos (by omega)]
    · rw [if_neg h1, if_neg (by omega)]

/-! ## A row of keys placed -/

/-- The keys of rows below `N` are placed: `f` holds `val p` at `φ` of its place. -/
def Placed (δ : ℕ → ℕ) (φ : ℕ → ℕ) (val : ℕ → BitVec 32) (N : ℕ) (f : ℕ → BitVec 32) : Prop :=
  ∀ p < 8192, p % 512 < N → f (φ (place δ p)) = val p

/-- Scattering row `N` to its places places that row too. -/
theorem placed_put {δ : ℕ → ℕ} {φ : ℕ → ℕ} {val f : ℕ → BitVec 32} {N : ℕ} (hN : N < 512) (H : Placed δ φ val N f)
    (hi : ∀ p < 8192, ∀ p' < 8192, φ (place δ p) = φ (place δ p') → p = p')
    (w : V) (hw : ∀ x : S16.Idx, (w x).toNat = φ (place δ ((x 0).val * 512 + N))) : Placed δ φ val (N + 1) (putIx f w (lrow val N)) := by
  intro p hp hpN
  by_cases h : p % 512 = N
  · have hl : p / 512 < 16 := by omega
    have e : p / 512 * 512 + N = p := by omega
    have hwk := hw (ln ⟨p / 512, hl⟩)
    have e' : (w (ln ⟨p / 512, hl⟩)).toNat = φ (place δ p) := by
      rw [hwk]; show φ (place δ (p / 512 * 512 + N)) = _; rw [e]
    rw [← e', putIx_hit]
    · show val (p / 512 * 512 + N) = _
      rw [e]
    · intro k' hk'
      rw [e', hw (ln k')] at hk'
      have := hi _ (by show k'.val * 512 + N < 8192; omega) _ hp hk'
      refine Fin.ext ?_
      show k'.val = p / 512
      change k'.val * 512 + N = p at this
      omega
  · rw [putIx_miss]
    · exact H p hp (by omega)
    · intro k hk
      rw [hw (ln k)] at hk
      have := hi _ (by show k.val * 512 + N < 8192; omega) _ hp hk
      change k.val * 512 + N = p at this
      omega

/-- One where two counters agree: how many more the later item's counter has counted once the earlier's row is. -/
theorem eqV_apply {sh : BitVec 32} (hs : sh.toNat < 32) (g : ℕ → BitVec 32) {t u : ℕ} (ht : t < 512) (hu : u < 512) (x : S16.Idx) (b : ℕ) :
    BitVec.ofNat 32 (b + cnt (dgt sh g) t (ctr (dgt sh g) ((x 0).val * 512 + u))) + eqV (digV sh (lrow g t)) (digV sh (lrow g u)) x
      = BitVec.ofNat 32 (b + cnt (dgt sh g) (t + 1) (ctr (dgt sh g) ((x 0).val * 512 + u))) := by
  have hx := lane_lt x
  have e : eqV (digV sh (lrow g t)) (digV sh (lrow g u)) x
      = if digV sh (lrow g t) x = digV sh (lrow g u) x then 1#32 else 0#32 := by
    show Scalar.select (BitVec.ofBool (digV sh (lrow g t) x == digV sh (lrow g u) x)) 1#32 0#32 = _
    by_cases h : digV sh (lrow g t) x = digV sh (lrow g u) x
    · rw [if_pos h, h, beq_self_eq_true]; rfl
    · rw [if_neg h, beq_false_of_ne h]; rfl
  rw [e, cnt_succ, ← Nat.add_assoc, BitVec.ofNat_add (b + _)]
  congr 1
  have hc : (digV sh (lrow g t) x = digV sh (lrow g u) x)
      ↔ dgt sh g (ctr (dgt sh g) ((x 0).val * 512 + u) % 16 * 512 + t) = ctr (dgt sh g) ((x 0).val * 512 + u) / 16 := by
    rw [← BitVec.toNat_inj, digV_toNat hs g ht, digV_toNat hs g hu]
    have h1 : ctr (dgt sh g) ((x 0).val * 512 + u) % 16 = (x 0).val := by unfold ctr; omega
    have h2 : ctr (dgt sh g) ((x 0).val * 512 + u) / 16 = dgt sh g ((x 0).val * 512 + u) := by unfold ctr; omega
    rw [h1, h2]
    unfold ctr
    omega
  by_cases h : digV sh (lrow g t) x = digV sh (lrow g u) x
  · rw [if_pos h, if_pos (hc.mp h)]
  · rw [if_neg h, if_neg fun e => h (hc.mpr e)]

end Cert.Proof
end
-- ==== Proof.Passes.lean ====
/-
  The loops of a tile, each by an invariant of what the buffers hold: the key generator, a radix pass, the
  inversion.
-/
module

public import proofs.«01_k».proof.Proof.Words

@[expose] public section

noncomputable section

namespace Cert.Proof

open Cert.KernelIdeal Cert.KernelIdeal.Gen Idealize.ShloMosaic
open Idealize.SL Idealize.SL.RA Idealize.SL.BI
open Idealize.SL.Sem

variable {F : FTy → Type} [FloatOps F] {α : Type} {B : Bufs} {d : Dev nD} {i : grid0.Coords} {R : sProp (MM F)} {σ : Conts}
  {Q : α → sProp (MM F)}

/-- The loop that draws the words makes 128 trips. -/
theorem t1_trips : k0_t1_loop.trips = 128 := by decide
/-- The clearing loop makes 32 trips. -/
theorem t2_trips : k0_t2_loop.trips = 32 := by decide
/-- The counting loop makes 63 trips. -/
theorem t3_trips : k0_t3_loop.trips = 63 := by decide
/-- The scanning loop makes 32 trips. -/
theorem t4_trips : k0_t4_loop.trips = 32 := by decide
/-- The placing loop makes 127 trips. -/
theorem t5_trips : k0_t5_loop.trips = 127 := by decide
/-- The inverting loop makes 64 trips. -/
theorem t35_trips : k0_t35_loop.trips = 64 := by decide

/-- Where a trip of the drawing loop stores its rows. -/
theorem off1 (t : Fin k0_t1_loop.trips) (r : Fin 4) : k0_off1 t (BitVec.ofNat 32 r.val) = ![16 * (4 * t.val + r.val)] :=
  (k0_off1_eq t r).trans (congrArg (fun n => ![n]) (by omega))
/-- Where a trip of the clearing loop stores its rows. -/
theorem off2 (t : Fin k0_t2_loop.trips) (r : Fin 8) : k0_off2 t (BitVec.ofNat 32 r.val) = ![16 * (8 * t.val + r.val)] :=
  (k0_off2_eq t r).trans (congrArg (fun n => ![n]) (by omega))
/-- Where a trip of the counting loop loads the rows of the next. -/
theorem off3 (t : Fin k0_t3_loop.trips) (r : Fin 8) : k0_off3 t (BitVec.ofNat 32 r.val) = ![16 * (8 * (t.val + 1) + r.val)] :=
  (k0_off3_eq t r).trans (congrArg (fun n => ![n]) (by omega))
/-- Where a trip of the scanning loop finds its rows. -/
theorem off4 (t : Fin k0_t4_loop.trips) (r : Fin 8) : k0_off4 t (BitVec.ofNat 32 r.val) = ![16 * (8 * t.val + r.val)] :=
  (k0_off4_eq t r).trans (congrArg (fun n => ![n]) (by omega))
/-- Where a trip of the placing loop loads the rows of the next. -/
theorem off5 (t : Fin k0_t5_loop.trips) (r : Fin 4) : k0_off5 t (BitVec.ofNat 32 r.val) = ![16 * (4 * (t.val + 1) + r.val)] :=
  (k0_off5_eq t r).trans (congrArg (fun n => ![n]) (by omega))
/-- Where a trip of the inverting loop loads its rows. -/
theorem off35 (t : Fin k0_t35_loop.trips) (r : Fin 8) : k0_off35 t (BitVec.ofNat 32 r.val) = ![16 * (8 * t.val + r.val)] :=
  (k0_off35_eq t r).trans (congrArg (fun n => ![n]) (by omega))

/-- A buffer that was set holds what it was set to. -/
theorem set_row_same (σ : Conts) (j : Fin 4) (f : ℕ → BitVec 32) : (σ.set j f).row j = f := if_pos rfl
/-- Setting one buffer leaves the others alone. -/
theorem set_row_ne (σ : Conts) {j j' : Fin 4} (h : j' ≠ j) (f : ℕ → BitVec 32) : (σ.set j f).row j' = σ.row j' := if_neg h

/-! ## The key generator -/

/-- Rows below `N` hold `g`. -/
def Below (g : ℕ → BitVec 32) (N : ℕ) (f : ℕ → BitVec 32) : Prop := ∀ p < 8192, p % 512 < N → f (slot p) = g p

/-- Storing row `N` extends what holds below it by one row. -/
theorem below_put {g f : ℕ → BitVec 32} {N : ℕ} (H : Below g N f) : Below g (N + 1) (putAt f (16 * N) (lrow g N)) := by
  intro p hp h
  unfold putAt
  by_cases hc : 16 * N ≤ slot p ∧ slot p < 16 * N + 16
  · rw [dif_pos hc]
    show g ((slot p - 16 * N) * 512 + N) = g p
    congr 1; unfold slot at *; omega
  · rw [dif_neg hc]
    refine H p hp ?_
    unfold slot at hc; omega

/-- The drawing loop leaves the words in the buffer, in the layout of a row, and all else alone. -/
theorem runs_gen (j : Fin 4) {k1 k2 : V} (g : ℕ → BitVec 32) {K : PR F i α}
    (hg : ∀ T < 512, tfBitsV k1 k2 (lrow (fun p => BitVec.ofNat 32 p) T) = lrow g T)
    (hK : ∀ σ', σ'.cnt = σ.cnt → (∀ j', j' ≠ j → σ'.row j' = σ.row j') → Lay (σ'.row j) g → Runs B d i R σ' K Q) :
    Runs B d i R σ (gen (B.row j) k1 k2 K) Q := by
  unfold gen
  refine runs_for (fun N _ σ' => σ'.cnt = σ.cnt ∧ (∀ j', j' ≠ j → σ'.row j' = σ.row j') ∧ Below g (4 * N) (σ'.row j))
    ⟨rfl, fun _ _ => rfl, fun p _ h => by omega⟩ ?_ ?_
  · rintro t a σ' ⟨h1, h2, h3⟩
    have ht : t.val < 128 := t1_trips ▸ t.isLt
    unfold genBody
    rw [iv_eq]
    have e : ∀ u < 4, tfBitsV k1 k2 (rowV 4#32 (BitVec.ofNat 32 u) (BitVec.ofNat 32 t.val)) = lrow g (4 * t.val + u) := by
      intro u hu; rw [rowV_eq (n := 4), hg _ (by omega)]
    refine runs_ld8 j _ (off1 t 0) (runs_st8 j _ (off1 t 0) (runs_ld8 j _ (off1 t 1) (runs_st8 j _ (off1 t 1)
      (runs_ld8 j _ (off1 t 2) (runs_st8 j _ (off1 t 2) (runs_ld8 j _ (off1 t 3) (runs_st8 j _ (off1 t 3) (runs_ret _ ?_))))))))
    rw [e 0 (by omega), e 1 (by omega), e 2 (by omega), e 3 (by omega)]
    simp only [set_row_same]
    refine ⟨h1, fun j' hj => ?_, ?_⟩
    · rw [set_row_ne _ hj, set_row_ne _ hj, set_row_ne _ hj, set_row_ne _ hj, h2 j' hj]
    · exact below_put (N := 4 * t.val + 3) (below_put (N := 4 * t.val + 2) (below_put (N := 4 * t.val + 1) (below_put h3)))
  · rintro a σ' ⟨h1, h2, h3⟩
    refine hK σ' h1 h2 fun p hp => h3 p hp ?_
    rw [t1_trips]; omega

/-! ## A pass: clear, count, scan -/

/-- The counters below `16 N` are zero. -/
def ClrIs (N : ℕ) (h : ℕ → BitVec 32) : Prop := ∀ x < 16 * N, h x = 0#32

/-- Storing zeros at row `N` clears one row more. -/
theorem clrIs_put {N : ℕ} {h : ℕ → BitVec 32} (H : ClrIs N h) : ClrIs (N + 1) (putAt h (16 * N) (broadcast S16 0#32)) := by
  intro x hx
  unfold putAt
  by_cases hc : 16 * N ≤ x ∧ x < 16 * N + 16
  · rw [dif_pos hc]; rfl
  · rw [dif_neg hc]; exact H x (by omega)

/-- The clearing loop leaves every counter at zero. -/
theorem runs_clr {K : BitVec 32 → PR F i α} (hK : ∀ a σ', σ'.row = σ.row → ClrIs 256 σ'.cnt → Runs B d i R σ' (K a) Q) :
    Runs B d i R σ (Scf.Loop.for k0_t2_loop k0_t2_ok 0#32 (clrBody B.cnt) >>= K) Q := by
  refine runs_for (fun N _ σ' => σ'.row = σ.row ∧ ClrIs (8 * N) σ'.cnt) ⟨rfl, fun x h => by omega⟩ ?_ ?_
  · rintro t a σ' ⟨h1, h2⟩
    unfold clrBody
    refine runs_ld4 _ (off2 t 0) (runs_st4 _ (off2 t 0) (runs_ld4 _ (off2 t 1) (runs_st4 _ (off2 t 1) (runs_ld4 _ (off2 t 2)
      (runs_st4 _ (off2 t 2) (runs_ld4 _ (off2 t 3) (runs_st4 _ (off2 t 3) (runs_ld4 _ (off2 t 4) (runs_st4 _ (off2 t 4)
      (runs_ld4 _ (off2 t 5) (runs_st4 _ (off2 t 5) (runs_ld4 _ (off2 t 6) (runs_st4 _ (off2 t 6) (runs_ld4 _ (off2 t 7)
      (runs_st4 _ (off2 t 7) (runs_ret _ ?_))))))))))))))))
    exact ⟨h1, clrIs_put (N := 8 * t.val + 7) (clrIs_put (N := 8 * t.val + 6) (clrIs_put (N := 8 * t.val + 5) (clrIs_put (N := 8 * t.val + 4)
      (clrIs_put (N := 8 * t.val + 3) (clrIs_put (N := 8 * t.val + 2) (clrIs_put (N := 8 * t.val + 1) (clrIs_put h2)))))))⟩
  · rintro a σ' ⟨h1, h2⟩
    exact hK a σ' h1 (by rw [t2_trips] at h2; exact h2)

/-- Eight vectors of counters, from row `N` on. -/
def rows8 (sh : BitVec 32) (g : ℕ → BitVec 32) (N : ℕ) : V8 :=
  dig8 sh (lrow g N) (lrow g (N + 1)) (lrow g (N + 2)) (lrow g (N + 3)) (lrow g (N + 4)) (lrow g (N + 5)) (lrow g (N + 6)) (lrow g (N + 7))

section
variable {sh : BitVec 32} {g : ℕ → BitVec 32}

/-- Eight loads from a laid-out buffer give eight rows. -/
theorem runs_ld8x8 {S : Fin 4} (hL : Lay (σ.row S) g) {o : Fin 8 → Fin 1 → ℕ} {h} {N : ℕ} (hN : N + 8 ≤ 512)
    (ho : ∀ r : Fin 8, o r = ![16 * (N + r.val)]) {K : V → V → V → V → V → V → V → V → PR F i α}
    (hK : Runs B d i R σ (K (lrow g N) (lrow g (N + 1)) (lrow g (N + 2)) (lrow g (N + 3)) (lrow g (N + 4)) (lrow g (N + 5)) (lrow g (N + 6))
      (lrow g (N + 7))) Q) : Runs B d i R σ (ld8x8 (B.row S) o h K) Q := by
  refine runs_ld8 S _ (ho 0) (runs_ld8 S _ (ho 1) (runs_ld8 S _ (ho 2) (runs_ld8 S _ (ho 3) (runs_ld8 S _ (ho 4) (runs_ld8 S _ (ho 5)
    (runs_ld8 S _ (ho 6) (runs_ld8 S _ (ho 7) ?_)))))))
  rw [rowAt_lay hL (show N + (0 : Fin 8).val < 512 by show N + 0 < 512; omega), rowAt_lay hL (show N + (1 : Fin 8).val < 512 by show N + 1 < 512; omega),
    rowAt_lay hL (show N + (2 : Fin 8).val < 512 by show N + 2 < 512; omega), rowAt_lay hL (show N + (3 : Fin 8).val < 512 by show N + 3 < 512; omega),
    rowAt_lay hL (show N + (4 : Fin 8).val < 512 by show N + 4 < 512; omega), rowAt_lay hL (show N + (5 : Fin 8).val < 512 by show N + 5 < 512; omega),
    rowAt_lay hL (show N + (6 : Fin 8).val < 512 by show N + 6 < 512; omega), rowAt_lay hL (show N + (7 : Fin 8).val < 512 by show N + 7 < 512; omega)]
  exact hK

/-- The counters' numbers that a row of keys gives are in range. -/
theorem dig_in4 (hs : sh.toNat < 32) {N : ℕ} (hN : N < 512) : In4 (digV sh (lrow g N)) := in4_of fun x => digV_lt hs g hN x

/-- The eight range conditions of a counting trip hold. -/
theorem runs_as4x8 (hs : sh.toNat < 32) {N : ℕ} (hN : N + 8 ≤ 512)
    {K : In4 (rows8 sh g N).1 → In4 (rows8 sh g N).2.1 → In4 (rows8 sh g N).2.2.1 → In4 (rows8 sh g N).2.2.2.1 → In4 (rows8 sh g N).2.2.2.2.1 →
      In4 (rows8 sh g N).2.2.2.2.2.1 → In4 (rows8 sh g N).2.2.2.2.2.2.1 → In4 (rows8 sh g N).2.2.2.2.2.2.2 → PR F i α}
    (hK : ∀ h0 h1 h2 h3 h4 h5 h6 h7, Runs B d i R σ (K h0 h1 h2 h3 h4 h5 h6 h7) Q) : Runs B d i R σ (as4x8 (rows8 sh g N) K) Q :=
  runs_assume (dig_in4 hs (by omega)) (runs_assume (dig_in4 hs (by omega)) (runs_assume (dig_in4 hs (by omega)) (runs_assume (dig_in4 hs (by omega))
    (runs_assume (dig_in4 hs (by omega)) (runs_assume (dig_in4 hs (by omega)) (runs_assume (dig_in4 hs (by omega)) (runs_assume (dig_in4 hs (by omega))
      (hK _ _ _ _ _ _ _ _))))))))

/-- Eight indexed additions count eight rows more. -/
theorem runs_inc4x8 (hs : sh.toNat < 32) {base : ℕ → ℕ} {N : ℕ} (hN : N + 8 ≤ 512) (hc : CntIs base (dgt sh g) N σ.cnt) {h0 h1 h2 h3 h4 h5 h6 h7} {K : PR F i α}
    (hK : ∀ σ', σ'.row = σ.row → CntIs base (dgt sh g) (N + 8) σ'.cnt → Runs B d i R σ' K Q) :
    Runs B d i R σ (inc4x8 B.cnt (rows8 sh g N) h0 h1 h2 h3 h4 h5 h6 h7 K) Q := by
  refine runs_inc4 (runs_inc4 (runs_inc4 (runs_inc4 (runs_inc4 (runs_inc4 (runs_inc4 (runs_inc4 (hK _ rfl ?_))))))))
  exact cntIs_inc hs (N := N + 7) (by omega) (cntIs_inc hs (N := N + 6) (by omega) (cntIs_inc hs (N := N + 5) (by omega)
    (cntIs_inc hs (N := N + 4) (by omega) (cntIs_inc hs (N := N + 3) (by omega) (cntIs_inc hs (N := N + 2) (by omega)
    (cntIs_inc hs (N := N + 1) (by omega) (cntIs_inc hs (N := N) (by omega) hc)))))))

/-- The scanning loop turns the counts into the sums of the counts before. -/
theorem runs_scn {K : BitVec 32 → PR F i α} {δ : ℕ → ℕ} (h₀ : CntIs (fun _ => 0) δ 512 σ.cnt)
    (hK : ∀ a σ', σ'.row = σ.row → CntIs (pre δ) δ 0 σ'.cnt → Runs B d i R σ' (K a) Q) :
    Runs B d i R σ (Scf.Loop.for k0_t4_loop k0_t4_ok 0#32 (scnBody B.cnt) >>= K) Q := by
  refine runs_for (fun N c σ' => c = BitVec.ofNat 32 (pre δ (16 * (8 * N))) ∧ σ'.row = σ.row ∧ ScnIs δ (8 * N) σ'.cnt)
    ⟨rfl, rfl, fun x hx => by rw [h₀ x hx, Nat.zero_add, if_neg (by omega)]⟩ ?_ ?_
  · rintro t c σ' ⟨rfl, h1, h2⟩
    have ht : t.val < 32 := lt_of_lt_of_eq t.isLt t4_trips
    unfold scnBody
    refine runs_ld4 _ (off4 t 0) (runs_ld4 _ (off4 t 1) (runs_ld4 _ (off4 t 2) (runs_ld4 _ (off4 t 3) (runs_ld4 _ (off4 t 4) (runs_ld4 _ (off4 t 5)
      (runs_ld4 _ (off4 t 6) (runs_ld4 _ (off4 t 7) ?_)))))))
    rw [scnIs_row h2 (r := 8 * t.val + (0 : Fin 8).val) (by omega) (by show 8 * t.val + 0 < 256; omega),
      scnIs_row h2 (r := 8 * t.val + (1 : Fin 8).val) (by omega) (by show 8 * t.val + 1 < 256; omega),
      scnIs_row h2 (r := 8 * t.val + (2 : Fin 8).val) (by omega) (by show 8 * t.val + 2 < 256; omega),
      scnIs_row h2 (r := 8 * t.val + (3 : Fin 8).val) (by omega) (by show 8 * t.val + 3 < 256; omega),
      scnIs_row h2 (r := 8 * t.val + (4 : Fin 8).val) (by omega) (by show 8 * t.val + 4 < 256; omega),
      scnIs_row h2 (r := 8 * t.val + (5 : Fin 8).val) (by omega) (by show 8 * t.val + 5 < 256; omega),
      scnIs_row h2 (r := 8 * t.val + (6 : Fin 8).val) (by omega) (by show 8 * t.val + 6 < 256; omega),
      scnIs_row h2 (r := 8 * t.val + (7 : Fin 8).val) (by omega) (by show 8 * t.val + 7 < 256; omega)]
    have s0 : sumV (BitVec.ofNat 32 (pre δ (16 * (8 * t.val)))) (crow δ (8 * t.val + (0 : Fin 8).val)) = BitVec.ofNat 32 (pre δ (16 * (8 * t.val + 1))) :=
      sumV_crow δ (8 * t.val)
    have s1 : sumV (BitVec.ofNat 32 (pre δ (16 * (8 * t.val + 1)))) (crow δ (8 * t.val + (1 : Fin 8).val)) = BitVec.ofNat 32 (pre δ (16 * (8 * t.val + 2))) :=
      sumV_crow δ (8 * t.val + 1)
    have s2 : sumV (BitVec.ofNat 32 (pre δ (16 * (8 * t.val + 2)))) (crow δ (8 * t.val + (2 : Fin 8).val)) = BitVec.ofNat 32 (pre δ (16 * (8 * t.val + 3))) :=
      sumV_crow δ (8 * t.val + 2)
    have s3 : sumV (BitVec.ofNat 32 (pre δ (16 * (8 * t.val + 3)))) (crow δ (8 * t.val + (3 : Fin 8).val)) = BitVec.ofNat 32 (pre δ (16 * (8 * t.val + 4))) :=
      sumV_crow δ (8 * t.val + 3)
    have s4 : sumV (BitVec.ofNat 32 (pre δ (16 * (8 * t.val + 4)))) (crow δ (8 * t.val + (4 : Fin 8).val)) = BitVec.ofNat 32 (pre δ (16 * (8 * t.val + 5))) :=
      sumV_crow δ (8 * t.val + 4)
    have s5 : sumV (BitVec.ofNat 32 (pre δ (16 * (8 * t.val + 5)))) (crow δ (8 * t.val + (5 : Fin 8).val)) = BitVec.ofNat 32 (pre δ (16 * (8 * t.val + 6))) :=
      sumV_crow δ (8 * t.val + 5)
    have s6 : sumV (BitVec.ofNat 32 (pre δ (16 * (8 * t.val + 6)))) (crow δ (8 * t.val + (6 : Fin 8).val)) = BitVec.ofNat 32 (pre δ (16 * (8 * t.val + 7))) :=
      sumV_crow δ (8 * t.val + 6)
    have s7 : sumV (BitVec.ofNat 32 (pre δ (16 * (8 * t.val + 7)))) (crow δ (8 * t.val + (7 : Fin 8).val)) = BitVec.ofNat 32 (pre δ (16 * (8 * (t.val + 1)))) :=
      sumV_crow δ (8 * t.val + 7)
    rw [s0, s1, s2, s3, s4, s5, s6, s7]
    refine runs_ld4 _ (off4 t 0) (runs_st4 _ (off4 t 0) (runs_ld4 _ (off4 t 1) (runs_st4 _ (off4 t 1) (runs_ld4 _ (off4 t 2)
      (runs_st4 _ (off4 t 2) (runs_ld4 _ (off4 t 3) (runs_st4 _ (off4 t 3) (runs_ld4 _ (off4 t 4) (runs_st4 _ (off4 t 4)
      (runs_ld4 _ (off4 t 5) (runs_st4 _ (off4 t 5) (runs_ld4 _ (off4 t 6) (runs_st4 _ (off4 t 6) (runs_ld4 _ (off4 t 7)
      (runs_st4 _ (off4 t 7) (runs_ret _ ?_))))))))))))))))
    exact ⟨rfl, h1, scnIs_put (r := 8 * t.val + 7) (scnIs_put (r := 8 * t.val + 6) (scnIs_put (r := 8 * t.val + 5) (scnIs_put (r := 8 * t.val + 4)
      (scnIs_put (r := 8 * t.val + 3) (scnIs_put (r := 8 * t.val + 2) (scnIs_put (r := 8 * t.val + 1) (scnIs_put (r := 8 * t.val) h2 (by omega)) (by omega))
      (by omega)) (by omega)) (by omega)) (by omega)) (by omega)) (by omega)⟩
  · rintro a σ' ⟨_, h1, h2⟩
    refine hK a σ' h1 fun x hx => ?_
    rw [t4_trips] at h2
    rw [h2 x hx, if_pos (by omega), cnt_zero, Nat.add_zero]

/-- Clearing, counting and scanning leave each counter at the first place of its items. -/
theorem runs_cntScan (hs : sh.toNat < 32) {S : Fin 4} (hL : Lay (σ.row S) g) {K : PR F i α}
    (hK : ∀ σ', σ'.row = σ.row → CntIs (pre (dgt sh g)) (dgt sh g) 0 σ'.cnt → Runs B d i R σ' K Q) :
    Runs B d i R σ (cntScan (B.row S) B.cnt sh K) Q := by
  unfold cntScan
  refine runs_clr fun a σ₁ e₁ h₁ => ?_
  have hL₁ : Lay (σ₁.row S) g := by rw [e₁]; exact hL
  refine runs_ld8x8 hL₁ (N := 0) (by omega) (fun r => by simp) ?_
  refine runs_for (fun N c σ' => c = rows8 sh g (8 * N) ∧ σ'.row = σ.row ∧ CntIs (fun _ => 0) (dgt sh g) (8 * N) σ'.cnt)
    ⟨rfl, e₁, fun x hx => by rw [h₁ x (by omega), cnt_zero]⟩ ?_ ?_
  · rintro t c σ' ⟨rfl, e, h⟩
    have ht : t.val < 63 := t3_trips ▸ t.isLt
    unfold cntBody
    refine runs_as4x8 hs (by omega) fun h0 h1 h2 h3 h4 h5 h6 h7 => ?_
    have hL' : Lay (σ'.row S) g := by rw [e]; exact hL
    refine runs_ld8x8 hL' (N := 8 * (t.val + 1)) (by omega) (off3 t) ?_
    refine runs_inc4x8 hs (by omega) h fun σ'' e' h' => runs_ret _ ?_
    exact ⟨rfl, e'.trans e, h'⟩
  · rintro c σ' ⟨rfl, e, h⟩
    rw [t3_trips] at h ⊢
    refine runs_as4x8 hs (by omega) fun h0 h1 h2 h3 h4 h5 h6 h7 => ?_
    refine runs_inc4x8 hs (by omega) h fun σ'' e' h' => ?_
    exact runs_scn h' fun a σ₃ e₃ h₃ => hK σ₃ (e₃.trans (e'.trans e)) h₃

end

end Cert.Proof
end
-- ==== Proof.Scatter.lean ====
/-
  A radix pass, whole: the loop that places the rows by the counters, after the count and the scan. And the
  inversion of a permutation.
-/
module

public import proofs.«01_k».proof.Proof.Passes

@[expose] public section

noncomputable section

namespace Cert.Proof

open Cert.KernelIdeal Cert.KernelIdeal.Gen Idealize.ShloMosaic
open Idealize.SL Idealize.SL.RA Idealize.SL.BI
open Idealize.SL.Sem

variable {F : FTy → Type} [FloatOps F] {α : Type} {B : Bufs} {d : Dev nD} {i : grid0.Coords} {R : sProp (MM F)} {σ : Conts}
  {Q : α → sProp (MM F)}

/-! ## Positions from counters -/

section
variable {sh : BitVec 32} {g : ℕ → BitVec 32}

/-- The counter of row `v`'s items, when rows below `k` have been counted on it. -/
def wAt (δ : ℕ → ℕ) (k v : ℕ) : V := fun x => BitVec.ofNat 32 (pre δ (ctr δ ((x 0).val * 512 + v)) + cnt δ k (ctr δ ((x 0).val * 512 + v)))

/-- The places gathered for a row are those after the rows counted so far. -/
theorem wAt_get (hs : sh.toNat < 32) {N v : ℕ} (hv : v < 512) {c : ℕ → BitVec 32} (hc : CntIs (pre (dgt sh g)) (dgt sh g) N c) :
    (fun x => c (digV sh (lrow g v) x).toNat : V) = wAt (dgt sh g) N v := by
  funext x
  show c _ = _
  rw [hc _ (digV_lt hs g hv x), digV_toNat hs g hv]; rfl

/-- Adding one where two rows' counters agree accounts for one row more. -/
theorem wAt_add (hs : sh.toNat < 32) {k v : ℕ} (hk : k < 512) (hv : v < 512) :
    addi (wAt (dgt sh g) k v) (eqV (digV sh (lrow g k)) (digV sh (lrow g v))) = wAt (dgt sh g) (k + 1) v :=
  funext fun x => eqV_apply hs g hk hv x _

/-- Places are below 8192. -/
theorem place_lt (sh : BitVec 32) (g : ℕ → BitVec 32) {p : ℕ} (hp : p < 8192) : place (dgt sh g) p < 8192 := by
  rw [place_eq rfl (dgt sh g) (fun p _ => dgt_lt sh g p) hp]; exact srt_lt hp

/-- Different items have different places. -/
theorem place_inj (sh : BitVec 32) (g : ℕ → BitVec 32) {p p' : ℕ} (hp : p < 8192) (hp' : p' < 8192)
    (h : place (dgt sh g) p = place (dgt sh g) p') : p = p' := by
  rw [place_eq rfl (dgt sh g) (fun p _ => dgt_lt sh g p) hp, place_eq rfl (dgt sh g) (fun p _ => dgt_lt sh g p) hp'] at h
  exact srt_inj p hp p' hp' h

/-- With all rows before it counted, a row's entry is the place of its item. -/
theorem wAt_place {δ : ℕ → ℕ} {v : ℕ} (hv : v < 512) (x : S16.Idx) : wAt δ v v x = BitVec.ofNat 32 (place δ ((x 0).val * 512 + v)) := by
  have hx := lane_lt x
  unfold wAt place
  rw [show ((x 0).val * 512 + v) % 512 = v by omega]

/-- The same, as a number. -/
theorem wAt_toNat {v : ℕ} (hv : v < 512) (x : S16.Idx) :
    (wAt (dgt sh g) v v x).toNat = place (dgt sh g) ((x 0).val * 512 + v) := by
  have hx := lane_lt x
  rw [wAt_place hv, toNat_small]
  have := place_lt sh g (p := (x 0).val * 512 + v) (by omega)
  omega

/-- The slot of the place, as a number. -/
theorem phys_toNat {v : ℕ} (hv : v < 512) (x : S16.Idx) :
    (physV (wAt (dgt sh g) v v) x).toNat = slot (place (dgt sh g) ((x 0).val * 512 + v)) := by
  have hx := lane_lt x
  exact physV_toNat _ x (place_lt sh g (by omega)) (wAt_place hv x)

/-! ## Placing four rows -/

/-- How a pass places four rows. -/
abbrev Sc (F : FTy → Type) [FloatOps F] (i : grid0.Coords) := ∀ {α : Type}, (k0 k1 k2 k3 p0 p1 p2 p3 h0 h1 h2 h3 : V) →
  In4 h0 → In4 h1 → In4 h2 → In4 h3 → PR F i α → PR F i α

/-- `sc` places rows `N … N + 3` of keys `g` and values `v`: `Done` tells what the rows hold after how many. -/
def Scatters (B : Bufs) (d : Dev nD) (R : sProp (MM F)) (sh : BitVec 32) (g v : ℕ → BitVec 32) (Done : ℕ → (Fin 4 → ℕ → BitVec 32) → Prop)
    (sc : Sc F i) : Prop :=
  ∀ {α : Type} {σ : Conts} {K : PR F i α} {Q : α → sProp (MM F)} (N : ℕ) (w0 w1 w2 w3), N + 4 ≤ 512 →
    CntIs (pre (dgt sh g)) (dgt sh g) N σ.cnt → Done N σ.row →
    (∀ σ', CntIs (pre (dgt sh g)) (dgt sh g) (N + 4) σ'.cnt → Done (N + 4) σ'.row → Runs B d i R σ' K Q) →
    Runs B d i R σ (sc (lrow g N) (lrow g (N + 1)) (lrow g (N + 2)) (lrow g (N + 3)) (lrow v N) (lrow v (N + 1)) (lrow v (N + 2)) (lrow v (N + 3))
      (digV sh (lrow g N)) (digV sh (lrow g (N + 1))) (digV sh (lrow g (N + 2))) (digV sh (lrow g (N + 3))) w0 w1 w2 w3 K) Q

/-- `wr` writes a row of keys and values to their places. -/
def Writes (B : Bufs) (d : Dev nD) (R : sProp (MM F)) (sh : BitVec 32) (g v : ℕ → BitVec 32) (Done : ℕ → (Fin 4 → ℕ → BitVec 32) → Prop)
    (wr : Wr F i) : Prop :=
  ∀ {α : Type} {σ : Conts} {K : PR F i α} {Q : α → sProp (MM F)} (N : ℕ) (w : V), N < 512 → Done N σ.row →
    (∀ x : S16.Idx, (w x).toNat = slot (place (dgt sh g) ((x 0).val * 512 + N))) →
    (∀ σ', σ'.cnt = σ.cnt → Done (N + 1) σ'.row → Runs B d i R σ' K Q) → Runs B d i R σ (wr w (lrow g N) (lrow v N) K) Q

/-- `ld` loads four rows of keys and values, whatever has been placed. -/
def Loads (B : Bufs) (d : Dev nD) (R : sProp (MM F)) (g v : ℕ → BitVec 32) (Done : ℕ → (Fin 4 → ℕ → BitVec 32) → Prop) (ld : Ld F i) : Prop :=
  ∀ {α : Type} {σ : Conts} {K : V → V → V → V → V → V → V → V → PR F i α} {Q : α → sProp (MM F)} (N T : ℕ) {o : Fin 4 → Fin 1 → ℕ} {h},
    T < 128 → (∀ r : Fin 4, o r = ![16 * (4 * T + r.val)]) → Done N σ.row →
    Runs B d i R σ (K (lrow g (4 * T)) (lrow g (4 * T + 1)) (lrow g (4 * T + 2)) (lrow g (4 * T + 3)) (lrow v (4 * T)) (lrow v (4 * T + 1))
      (lrow v (4 * T + 2)) (lrow v (4 * T + 3))) Q →
    Runs B d i R σ (ld (BitVec.ofNat 32 T) o h K) Q

variable {v : ℕ → BitVec 32} {Done : ℕ → (Fin 4 → ℕ → BitVec 32) → Prop}

/-- The scattering step of a pass that stores in the row layout places four rows more. -/
theorem scatters_scat (hs : sh.toNat < 32) {wr : Wr F i} (hw : Writes B d R sh g v Done wr) : Scatters B d R sh g v Done (scat wr B.cnt) := by
  intro α σ K Q N w0 w1 w2 w3 hN hc hd hK
  unfold scat
  refine runs_get4 (runs_get4 (runs_get4 (runs_get4 ?_)))
  rw [wAt_get hs (v := N) (by omega) hc, wAt_get hs (v := N + 1) (by omega) hc, wAt_get hs (v := N + 2) (by omega) hc,
    wAt_get hs (v := N + 3) (by omega) hc]
  rw [show pos1 (digV sh (lrow g N)) (digV sh (lrow g (N + 1))) (wAt (dgt sh g) N (N + 1)) = wAt (dgt sh g) (N + 1) (N + 1) from
      wAt_add hs (by omega) (by omega),
    show pos2 (digV sh (lrow g N)) (digV sh (lrow g (N + 1))) (digV sh (lrow g (N + 2))) (wAt (dgt sh g) N (N + 2)) = wAt (dgt sh g) (N + 2) (N + 2) by
      unfold pos2; rw [wAt_add hs (by omega) (by omega), wAt_add hs (by omega) (by omega)],
    show pos3 (digV sh (lrow g N)) (digV sh (lrow g (N + 1))) (digV sh (lrow g (N + 2))) (digV sh (lrow g (N + 3))) (wAt (dgt sh g) N (N + 3))
        = wAt (dgt sh g) (N + 3) (N + 3) by
      unfold pos3; rw [wAt_add hs (by omega) (by omega), wAt_add hs (by omega) (by omega), wAt_add hs (by omega) (by omega)]]
  refine runs_inc4 (runs_inc4 (runs_inc4 (runs_inc4 ?_)))
  have hc' := cntIs_inc hs (N := N + 3) (by omega) (cntIs_inc hs (N := N + 2) (by omega) (cntIs_inc hs (N := N + 1) (by omega)
    (cntIs_inc hs (N := N) (by omega) hc)))
  refine hw N _ (by omega) hd (phys_toNat (by omega)) fun σ1 e1 d1 => ?_
  refine hw (N + 1) _ (by omega) d1 (phys_toNat (by omega)) fun σ2 e2 d2 => ?_
  refine hw (N + 2) _ (by omega) d2 (phys_toNat (by omega)) fun σ3 e3 d3 => ?_
  refine hw (N + 3) _ (by omega) d3 (phys_toNat (by omega)) fun σ4 e4 d4 => ?_
  refine hK σ4 ?_ d4
  rw [e4, e3, e2, e1]
  exact hc'

/-- The scattering step of the last pass, which stores in plain order, places four rows more. -/
theorem scatters_fin (hs : sh.toNat < 32) {Dp : Fin 4}
    (hp : ∀ (N : ℕ) (σ : Conts) (w : V), N < 512 → Done N σ.row → (∀ x : S16.Idx, (w x).toNat = place (dgt sh g) ((x 0).val * 512 + N)) →
      Done (N + 1) (σ.set Dp (putIx (σ.row Dp) w (lrow v N))).row) :
    Scatters (F := F) (i := i) B d R sh g v Done (fun _ _ _ _ p0 p1 p2 p3 h0 h1 h2 h3 w0 w1 w2 w3 K =>
      scatFin (B.row Dp) B.cnt p0 p1 p2 p3 h0 h1 h2 h3 w0 w1 w2 w3 K) := by
  intro α σ K Q N w0 w1 w2 w3 hN hc hd hK
  have hin : ∀ n < 512, In8 (wAt (dgt sh g) n n) := fun n hn => in8_of fun x => by
    have hx := lane_lt x
    rw [wAt_toNat hn]; exact place_lt sh g (by omega)
  unfold scatFin
  have e0 := wAt_get (g := g) hs (v := N) (by omega) hc
  have e1 : pos1 (digV sh (lrow g N)) (digV sh (lrow g (N + 1))) (fun x => σ.cnt (digV sh (lrow g (N + 1)) x).toNat)
      = wAt (dgt sh g) (N + 1) (N + 1) := by
    unfold pos1
    rw [wAt_get hs (by omega) hc, wAt_add hs (by omega) (by omega)]
  have e2 : pos2 (digV sh (lrow g N)) (digV sh (lrow g (N + 1))) (digV sh (lrow g (N + 2))) (fun x => σ.cnt (digV sh (lrow g (N + 2)) x).toNat)
      = wAt (dgt sh g) (N + 2) (N + 2) := by
    unfold pos2
    rw [wAt_get hs (by omega) hc, wAt_add hs (by omega) (by omega), wAt_add hs (by omega) (by omega)]
  have e3 : pos3 (digV sh (lrow g N)) (digV sh (lrow g (N + 1))) (digV sh (lrow g (N + 2))) (digV sh (lrow g (N + 3)))
      (fun x => σ.cnt (digV sh (lrow g (N + 3)) x).toNat) = wAt (dgt sh g) (N + 3) (N + 3) := by
    unfold pos3
    rw [wAt_get hs (by omega) hc, wAt_add hs (by omega) (by omega), wAt_add hs (by omega) (by omega), wAt_add hs (by omega) (by omega)]
  refine runs_get4 (runs_assume (by rw [e0]; exact hin N (by omega)) (runs_get4 (runs_get4 (runs_get4
    (runs_inc4 (runs_inc4 (runs_inc4 (runs_inc4 (runs_assume (by rw [e1]; exact hin _ (by omega)) (runs_assume (by rw [e2]; exact hin _ (by omega))
      (runs_assume (by rw [e3]; exact hin _ (by omega)) (runs_put8 Dp (runs_put8 Dp (runs_put8 Dp (runs_put8 Dp ?_)))))))))))))))
  have hc' := cntIs_inc hs (N := N + 3) (by omega) (cntIs_inc hs (N := N + 2) (by omega) (cntIs_inc hs (N := N + 1) (by omega)
    (cntIs_inc hs (N := N) (by omega) hc)))
  refine hK _ hc' ?_
  refine hp (N + 3) _ _ (by omega) (hp (N + 2) _ _ (by omega) (hp (N + 1) _ _ (by omega) (hp N _ _ (by omega) hd ?_) ?_) ?_) ?_
  · intro x; exact (congrArg BitVec.toNat (congrFun e0 x)).trans (wAt_toNat (by omega) x)
  · intro x; rw [e1]; exact wAt_toNat (by omega) x
  · intro x; rw [e2]; exact wAt_toNat (by omega) x
  · intro x; rw [e3]; exact wAt_toNat (by omega) x

/-! ## The loop -/

/-- Four rows of keys and values, with their counters. -/
def rows4 (sh : BitVec 32) (g v : ℕ → BitVec 32) (N : ℕ) : V12 :=
  mk12 sh (lrow g N) (lrow g (N + 1)) (lrow g (N + 2)) (lrow g (N + 3)) (lrow v N) (lrow v (N + 1)) (lrow v (N + 2)) (lrow v (N + 3))

/-- A trip: check, load the next four rows, place the four carried. -/
def trip (ld : Ld F i) (sc : Sc F i) (sh : BitVec 32) (t : Fin k0_t5_loop.trips) : V12 → PR F i V12
  | (k0, k1, k2, k3, p0, p1, p2, p3, h0, h1, h2, h3) =>
    as4x4 h0 h1 h2 h3 fun w0 w1 w2 w3 =>
    ld (Scalar.addi (Scf.iv 0#32 1#32 t) 1#32) (fun r => k0_off5 t (BitVec.ofNat 32 r.val)) (k0_off5_inb t)
      fun k0' k1' k2' k3' p0' p1' p2' p3' =>
    sc k0 k1 k2 k3 p0 p1 p2 p3 h0 h1 h2 h3 w0 w1 w2 w3 <|
    .ret (mk12 sh k0' k1' k2' k3' p0' p1' p2' p3')

/-- The whole of the placing. -/
def trips (ld : Ld F i) (sc : Sc F i) (sh : BitVec 32) (K : PR F i α) : PR F i α :=
  ld 0#32 (fun r => ![16 * r.val]) inb4 fun k0 k1 k2 k3 p0 p1 p2 p3 =>
  Scf.Loop.for k0_t5_loop k0_t5_ok (mk12 sh k0 k1 k2 k3 p0 p1 p2 p3) (trip ld sc sh) >>= fun c =>
  match c with
  | (k0, k1, k2, k3, p0, p1, p2, p3, h0, h1, h2, h3) =>
    as4x4 h0 h1 h2 h3 fun w0 w1 w2 w3 => sc k0 k1 k2 k3 p0 p1 p2 p3 h0 h1 h2 h3 w0 w1 w2 w3 K

/-- The four range conditions of a placing trip hold. -/
theorem runs_as4x4 (hs : sh.toNat < 32) {N : ℕ} (hN : N + 4 ≤ 512)
    {K : In4 (digV sh (lrow g N)) → In4 (digV sh (lrow g (N + 1))) → In4 (digV sh (lrow g (N + 2))) → In4 (digV sh (lrow g (N + 3))) → PR F i α}
    (hK : ∀ h0 h1 h2 h3, Runs B d i R σ (K h0 h1 h2 h3) Q) :
    Runs B d i R σ (as4x4 (digV sh (lrow g N)) (digV sh (lrow g (N + 1))) (digV sh (lrow g (N + 2))) (digV sh (lrow g (N + 3))) K) Q := by
  have h : ∀ n < 512, k0_chk17 (digV sh (lrow g n)) := fun n hn => ⟨dig_in4 hs hn, dig_in4 hs hn⟩
  exact runs_assume (h _ (by omega)) (runs_assume (h _ (by omega)) (runs_assume (h _ (by omega)) (runs_assume (h _ (by omega)) (hK _ _ _ _))))

/-- The placing loop, with its first loads and its last scatters, places all 512 rows. -/
theorem runs_trips (hs : sh.toNat < 32) {ld : Ld F i} {sc : Sc F i} (hl : Loads B d R g v Done ld) (hsc : Scatters B d R sh g v Done sc)
    (hc : CntIs (pre (dgt sh g)) (dgt sh g) 0 σ.cnt) (hd : Done 0 σ.row) {K : PR F i α}
    (hK : ∀ σ', Done 512 σ'.row → Runs B d i R σ' K Q) : Runs B d i R σ (trips ld sc sh K) Q := by
  unfold trips
  refine hl 0 0 (by omega) (fun r => by simp) hd ?_
  refine runs_for (fun N c σ' => c = rows4 sh g v (4 * N) ∧ CntIs (pre (dgt sh g)) (dgt sh g) (4 * N) σ'.cnt ∧ Done (4 * N) σ'.row)
    ⟨rfl, hc, hd⟩ ?_ ?_
  · rintro t c σ' ⟨rfl, h1, h2⟩
    have ht : t.val < 127 := lt_of_lt_of_eq t.isLt t5_trips
    have e : Scalar.addi (Scf.iv 0#32 1#32 t) 1#32 = BitVec.ofNat 32 (t.val + 1) := by
      rw [iv_eq]; exact (BitVec.ofNat_add t.val 1).symm
    unfold trip rows4
    refine runs_as4x4 hs (by omega) fun w0 w1 w2 w3 => ?_
    rw [e]
    refine hl (4 * t.val) (t.val + 1) (by omega) (off5 t) h2 ?_
    refine hsc (4 * t.val) w0 w1 w2 w3 (by omega) h1 h2 fun σ'' h1' h2' => runs_ret _ ?_
    exact ⟨rfl, h1', h2'⟩
  · rintro c σ' ⟨rfl, h1, h2⟩
    rw [t5_trips] at h1 h2 ⊢
    unfold rows4
    refine runs_as4x4 hs (by omega) fun w0 w1 w2 w3 => ?_
    exact hsc _ w0 w1 w2 w3 (by omega) h1 h2 fun σ'' h1' h2' => hK σ'' h2'

/-- A pass is its count and scan, then its placing. -/
theorem pass_eq (S : M8) (ld : Ld F i) (wr : Wr F i) (H : M4) (sh : BitVec 32) (K : PR F i α) :
    pass S ld wr H sh K = cntScan S H sh (trips ld (scat wr H) sh K) := rfl

/-- The last pass is counting, scanning and the placing loop. -/
theorem passFin_eq (Sk Sp Dp : M8) (H : M4) (sh : BitVec 32) (K : PR F i α) :
    passFin Sk Sp Dp H sh K = cntScan Sk H sh (trips (ldKV Sk Sp) (fun _ _ _ _ p0 p1 p2 p3 h0 h1 h2 h3 w0 w1 w2 w3 K =>
      scatFin Dp H p0 p1 p2 p3 h0 h1 h2 h3 w0 w1 w2 w3 K) sh K) := rfl

/-! ## The passes -/

/-- A trip's rows are rows of the buffer. -/
theorem row_lt {N : ℕ} {r : ℕ} (hr : r < 4) {T : ℕ} (hT : T < 128) : 4 * T + r < 512 := by omega

/-- Loading keys alone: the values are the positions. -/
theorem loads_K {S : Fin 4} {Done : ℕ → (Fin 4 → ℕ → BitVec 32) → Prop} (h : ∀ N ρ, Done N ρ → Lay (ρ S) g) :
    Loads (F := F) (i := i) B d R g (fun p => BitVec.ofNat 32 p) Done (ldK (B.row S)) := by
  intro α σ K Q N T o hh hT ho hd hK
  have hL := h _ _ hd
  refine runs_ld8 S _ (ho 0) (runs_ld8 S _ (ho 1) (runs_ld8 S _ (ho 2) (runs_ld8 S _ (ho 3) ?_)))
  rw [rowAt_lay hL (show 4 * T + (0 : Fin 4).val < 512 from row_lt (N := 0) (by decide) hT), rowAt_lay hL (show 4 * T + (1 : Fin 4).val < 512 from row_lt (N := 0) (by decide) hT),
    rowAt_lay hL (show 4 * T + (2 : Fin 4).val < 512 from row_lt (N := 0) (by decide) hT), rowAt_lay hL (show 4 * T + (3 : Fin 4).val < 512 from row_lt (N := 0) (by decide) hT),
    rowV_eq (n := 4) (u := 0), rowV_eq (n := 4) (u := 1), rowV_eq (n := 4) (u := 2), rowV_eq (n := 4) (u := 3)]
  exact hK

/-- Loading keys and values. -/
theorem loads_KV {S P : Fin 4} {Done : ℕ → (Fin 4 → ℕ → BitVec 32) → Prop} (h : ∀ N ρ, Done N ρ → Lay (ρ S) g) (h' : ∀ N ρ, Done N ρ → Lay (ρ P) v) :
    Loads (F := F) (i := i) B d R g v Done (ldKV (B.row S) (B.row P)) := by
  intro α σ K Q N T o hh hT ho hd hK
  have hL := h _ _ hd
  have hP := h' _ _ hd
  refine runs_ld8 S _ (ho 0) (runs_ld8 P _ (ho 0) (runs_ld8 S _ (ho 1) (runs_ld8 P _ (ho 1) (runs_ld8 S _ (ho 2) (runs_ld8 P _ (ho 2)
    (runs_ld8 S _ (ho 3) (runs_ld8 P _ (ho 3) ?_)))))))
  have b : ∀ r : Fin 4, 4 * T + r.val < 512 := fun r => row_lt (N := 0) r.isLt hT
  rw [rowAt_lay hL (b 0), rowAt_lay hL (b 1), rowAt_lay hL (b 2), rowAt_lay hL (b 3), rowAt_lay hP (b 0), rowAt_lay hP (b 1), rowAt_lay hP (b 2),
    rowAt_lay hP (b 3)]
  exact hK

/-- What the rows hold, rows below `N` placed: keys in `Dk`, values in `Dp`, the others as `ρ`. -/
def DoneKV (ρ : Fin 4 → ℕ → BitVec 32) (sh : BitVec 32) (g v : ℕ → BitVec 32) (Dk Dp : Fin 4) (N : ℕ) (ρ' : Fin 4 → ℕ → BitVec 32) : Prop :=
  (∀ j, j ≠ Dk → j ≠ Dp → ρ' j = ρ j) ∧ Placed (dgt sh g) slot g N (ρ' Dk) ∧ Placed (dgt sh g) slot v N (ρ' Dp)

/-- The same, of values alone, in a layout `φ`. -/
def DoneP (ρ : Fin 4 → ℕ → BitVec 32) (sh : BitVec 32) (g v : ℕ → BitVec 32) (φ : ℕ → ℕ) (Dp : Fin 4) (N : ℕ) (ρ' : Fin 4 → ℕ → BitVec 32) : Prop :=
  (∀ j, j ≠ Dp → ρ' j = ρ j) ∧ Placed (dgt sh g) φ v N (ρ' Dp)

/-- Different items go to different slots. -/
theorem slot_place_inj (sh : BitVec 32) (g : ℕ → BitVec 32) : ∀ p < 8192, ∀ p' < 8192, slot (place (dgt sh g) p) = slot (place (dgt sh g) p') → p = p' :=
  fun p hp p' hp' e => place_inj sh g hp hp' (slot_inj (place_lt sh g hp) (place_lt sh g hp') e)

/-- The slots of a row's places are in range. -/
theorem slot_in8 {w : V} {N : ℕ} (hN : N < 512) (hw : ∀ x : S16.Idx, (w x).toNat = slot (place (dgt sh g) ((x 0).val * 512 + N))) : In8 w :=
  in8_of fun x => by
    have hx := lane_lt x
    rw [hw]; exact slot_lt (place_lt sh g (by omega))

/-- Storing a row's keys and elements at their slots places both. -/
theorem writes_KV {ρ : Fin 4 → ℕ → BitVec 32} {Dk Dp : Fin 4} (hne : Dk ≠ Dp) :
    Writes (F := F) (i := i) B d R sh g v (DoneKV ρ sh g v Dk Dp) (wrKV (B.row Dk) (B.row Dp)) := by
  intro α σ K Q N w hN ⟨hf, h1, h2⟩ hw hK
  refine runs_assume ⟨slot_in8 hN hw, slot_in8 hN hw⟩ (runs_put8 Dk (runs_put8 Dp (hK _ rfl ⟨fun j hj hj' => ?_, ?_, ?_⟩)))
  · rw [set_row_ne _ hj', set_row_ne _ hj, hf j hj hj']
  · rw [set_row_ne _ hne, set_row_same]; exact placed_put hN h1 (slot_place_inj sh g) w hw
  · rw [set_row_same, set_row_ne _ hne.symm]; exact placed_put hN h2 (slot_place_inj sh g) w hw

/-- Storing a row's elements at their slots places them. -/
theorem writes_P {ρ : Fin 4 → ℕ → BitVec 32} {Dp : Fin 4} :
    Writes (F := F) (i := i) B d R sh g v (DoneP ρ sh g v slot Dp) (wrP (B.row Dp)) := by
  intro α σ K Q N w hN ⟨hf, h2⟩ hw hK
  refine runs_assume (slot_in8 hN hw) (runs_put8 Dp (hK _ rfl ⟨fun j hj => ?_, ?_⟩))
  · rw [set_row_ne _ hj, hf j hj]
  · rw [set_row_same]; exact placed_put hN h2 (slot_place_inj sh g) w hw

/-- With no rows, nothing need be placed. -/
theorem placed_zero {δ φ : ℕ → ℕ} {val f : ℕ → BitVec 32} : Placed δ φ val 0 f := fun p _ h => absurd h (Nat.not_lt_zero _)

/-- What a finished pass leaves in a row. -/
theorem placed_all {δ φ : ℕ → ℕ} {val f : ℕ → BitVec 32} (h : Placed δ φ val 512 f) : ∀ p < 8192, f (φ (place δ p)) = val p :=
  fun p hp => h p hp (Nat.mod_lt _ (by decide))

/-- A pass over keys alone. -/
theorem runs_pass_first (hs : sh.toNat < 32) {S Dk Dp : Fin 4} (hne : Dk ≠ Dp) (hk : S ≠ Dk) (hp : S ≠ Dp) (hS : Lay (σ.row S) g) {K : PR F i α}
    (hK : ∀ σ', DoneKV σ.row sh g (fun p => BitVec.ofNat 32 p) Dk Dp 512 σ'.row → Runs B d i R σ' K Q) :
    Runs B d i R σ (pass (B.row S) (ldK (B.row S)) (wrKV (B.row Dk) (B.row Dp)) B.cnt sh K) Q := by
  rw [pass_eq]
  refine runs_cntScan hs hS fun σ1 e1 h1 => ?_
  refine runs_trips hs (Done := DoneKV σ.row sh g _ Dk Dp) (loads_K fun N ρ h => ?_) (scatters_scat hs (writes_KV hne)) h1
    ⟨fun j _ _ => by rw [e1], placed_zero, placed_zero⟩ hK
  rw [h.1 S hk hp]; exact hS

/-- A pass over keys and values. -/
theorem runs_pass_KV (hs : sh.toNat < 32) {S P Dk Dp : Fin 4} (hne : Dk ≠ Dp) (hk : S ≠ Dk) (hp : S ≠ Dp) (hk' : P ≠ Dk) (hp' : P ≠ Dp)
    (hS : Lay (σ.row S) g) (hP : Lay (σ.row P) v) {K : PR F i α}
    (hK : ∀ σ', DoneKV σ.row sh g v Dk Dp 512 σ'.row → Runs B d i R σ' K Q) :
    Runs B d i R σ (pass (B.row S) (ldKV (B.row S) (B.row P)) (wrKV (B.row Dk) (B.row Dp)) B.cnt sh K) Q := by
  rw [pass_eq]
  refine runs_cntScan hs hS fun σ1 e1 h1 => ?_
  refine runs_trips hs (Done := DoneKV σ.row sh g v Dk Dp) (loads_KV (fun N ρ h => ?_) fun N ρ h => ?_) (scatters_scat hs (writes_KV hne)) h1
    ⟨fun j _ _ => by rw [e1], placed_zero, placed_zero⟩ hK
  · rw [h.1 S hk hp]; exact hS
  · rw [h.1 P hk' hp']; exact hP

/-- A pass over keys and values that leaves values alone. -/
theorem runs_pass_P (hs : sh.toNat < 32) {S P Dp : Fin 4} (hp : S ≠ Dp) (hp' : P ≠ Dp) (hS : Lay (σ.row S) g) (hP : Lay (σ.row P) v) {K : PR F i α}
    (hK : ∀ σ', DoneP σ.row sh g v slot Dp 512 σ'.row → Runs B d i R σ' K Q) :
    Runs B d i R σ (pass (B.row S) (ldKV (B.row S) (B.row P)) (wrP (B.row Dp)) B.cnt sh K) Q := by
  rw [pass_eq]
  refine runs_cntScan hs hS fun σ1 e1 h1 => ?_
  refine runs_trips hs (Done := DoneP σ.row sh g v slot Dp) (loads_KV (fun N ρ h => ?_) fun N ρ h => ?_) (scatters_scat hs writes_P) h1
    ⟨fun j _ => by rw [e1], placed_zero⟩ hK
  · rw [h.1 S hp]; exact hS
  · rw [h.1 P hp']; exact hP

/-- The last pass. -/
theorem runs_passFin (hs : sh.toNat < 32) {S P Dp : Fin 4} (hp : S ≠ Dp) (hp' : P ≠ Dp) (hS : Lay (σ.row S) g) (hP : Lay (σ.row P) v) {K : PR F i α}
    (hK : ∀ σ', DoneP σ.row sh g v id Dp 512 σ'.row → Runs B d i R σ' K Q) :
    Runs B d i R σ (passFin (B.row S) (B.row P) (B.row Dp) B.cnt sh K) Q := by
  rw [passFin_eq]
  refine runs_cntScan hs hS fun σ1 e1 h1 => ?_
  refine runs_trips hs (Done := DoneP σ.row sh g v id Dp) (loads_KV (fun N ρ h => ?_) fun N ρ h => ?_) (scatters_fin (v := v) hs fun N σ w hN h hw => ⟨fun j hj => ?_, ?_⟩) h1
    ⟨fun j _ => by rw [e1], placed_zero⟩ hK
  · rw [h.1 S hp]; exact hS
  · rw [h.1 P hp']; exact hP
  · rw [set_row_ne _ hj, h.1 j hj]
  · rw [set_row_same]; exact placed_put hN h.2 (fun p hp p' hp' e => place_inj sh g hp hp' e) w hw

end

/-! ## The inversion -/

/-- The places named by the first `n` words of `s` hold their numbers. -/
def InvIs (s : ℕ → BitVec 32) (n : ℕ) (f : ℕ → BitVec 32) : Prop := ∀ y < n, f (s y).toNat = BitVec.ofNat 32 y

/-- Storing 16 numbers at the permutation's values extends the inverse by them. -/
theorem invIs_put {s f : ℕ → BitVec 32} {N : ℕ} (hN : N < 512) (hi : ∀ y < 8192, ∀ y' < 8192, (s y).toNat = (s y').toNat → y = y')
    (H : InvIs s (16 * N) f) (v : V) (hv : ∀ x : S16.Idx, v x = BitVec.ofNat 32 (16 * N + (x 0).val)) :
    InvIs s (16 * (N + 1)) (putIx f (rowAt s (16 * N)) v) := by
  intro y hy
  by_cases hc : y < 16 * N
  · rw [putIx_miss, H y hc]
    intro k hk
    have h1 : (rowAt s (16 * N) (ln k)).toNat = (s (16 * N + k.val)).toNat := rfl
    rw [h1] at hk
    have := hi _ (by have := k.isLt; omega) _ (by omega) hk
    omega
  · obtain ⟨k, rfl⟩ : ∃ k : Fin 16, y = 16 * N + k.val := ⟨⟨y - 16 * N, by omega⟩, by show y = 16 * N + (y - 16 * N); omega⟩
    have e : (s (16 * N + k.val)).toNat = (rowAt s (16 * N) (ln k)).toNat := rfl
    rw [e, putIx_hit, hv]
    · rfl
    · intro k' h
      have h' : (s (16 * N + k'.val)).toNat = (s (16 * N + k.val)).toNat := h
      have := hi _ (by have := k'.isLt; omega) _ (by omega) h'
      exact Fin.ext (by omega)

/-- The inverting loop leaves the inverse of the permutation. -/
theorem runs_inv {S D : Fin 4} (hne : S ≠ D) (hl : ∀ y < 8192, (σ.row S y).toNat < 8192)
    (hi : ∀ y < 8192, ∀ y' < 8192, (σ.row S y).toNat = (σ.row S y').toNat → y = y') {K : PR F i α}
    (hK : ∀ σ', σ'.row S = σ.row S → InvIs (σ.row S) 8192 (σ'.row D) → Runs B d i R σ' K Q) :
    Runs B d i R σ (inv (B.row S) (B.row D) K) Q := by
  unfold inv
  refine runs_for (fun N _ σ' => σ'.row S = σ.row S ∧ InvIs (σ.row S) (16 * (8 * N)) (σ'.row D)) ⟨rfl, fun y h => by omega⟩ ?_ ?_
  · rintro t a σ' ⟨h1, h2⟩
    have ht : t.val < 64 := lt_of_lt_of_eq t.isLt t35_trips
    unfold invBody
    rw [iv_eq]
    have hin : ∀ N < 512, In8 (rowAt (σ'.row S) (16 * N)) := fun N hN => in8_of fun x => by
      have hx := lane_lt x
      rw [h1]; exact hl _ (by omega)
    have b : ∀ r : Fin 8, 8 * t.val + r.val < 512 := fun r => by have := r.isLt; omega
    refine runs_ld8 S _ (off35 t 0) (runs_assume (hin _ (b 0)) (runs_ld8 S _ (off35 t 1) (runs_assume (hin _ (b 1)) (runs_ld8 S _ (off35 t 2)
      (runs_assume (hin _ (b 2)) (runs_ld8 S _ (off35 t 3) (runs_assume (hin _ (b 3)) (runs_ld8 S _ (off35 t 4) (runs_assume (hin _ (b 4))
      (runs_ld8 S _ (off35 t 5) (runs_assume (hin _ (b 5)) (runs_ld8 S _ (off35 t 6) (runs_assume (hin _ (b 6)) (runs_ld8 S _ (off35 t 7)
      (runs_assume (hin _ (b 7)) ?_)))))))))))))))
    refine runs_put8 D (runs_put8 D (runs_put8 D (runs_put8 D (runs_put8 D (runs_put8 D (runs_put8 D (runs_put8 D (runs_ret _ ⟨?_, ?_⟩))))))))
    · simp only [set_row_ne _ hne]; exact h1
    · simp only [set_row_same]
      rw [h1]
      exact invIs_put (N := 8 * t.val + 7) (b 7) hi (invIs_put (N := 8 * t.val + 6) (b 6) hi (invIs_put (N := 8 * t.val + 5) (b 5) hi
        (invIs_put (N := 8 * t.val + 4) (b 4) hi (invIs_put (N := 8 * t.val + 3) (b 3) hi (invIs_put (N := 8 * t.val + 2) (b 2) hi
        (invIs_put (N := 8 * t.val + 1) (b 1) hi (invIs_put (N := 8 * t.val) (b 0) hi h2 _ (fun x => seqV_eq x)) _ (fun x => seqV_eq x))
        _ (fun x => seqV_eq x)) _ (fun x => seqV_eq x)) _ (fun x => seqV_eq x)) _ (fun x => seqV_eq x)) _ (fun x => seqV_eq x)) _ (fun x => seqV_eq x)
  · rintro a σ' ⟨h1, h2⟩
    rw [t35_trips] at h2
    exact hK σ' h1 h2

end Cert.Proof
end
-- ==== Proof.Value.lean ====
/-
  What the results are: the hash on words, the two rounds of random words, and the positions their sorts give.
-/
module

public import proofs.«01_k».proof.Proof.Rank
public import Idealize.ShloMosaic.PureOps.Vector

@[expose] public section

namespace Cert.Proof

/-! ## The hash, on words -/

/-- One round: add, rotate left by `r` (`r' = 32 - r`), exclusive or. -/
def mixS (r r' : BitVec 32) (x : BitVec 32 × BitVec 32) : BitVec 32 × BitVec 32 :=
  (x.1 + x.2, (x.2 <<< r ||| x.2 >>> r') ^^^ (x.1 + x.2))

/-- Four rounds of the first kind. -/
def oddS (x : BitVec 32 × BitVec 32) : BitVec 32 × BitVec 32 :=
  mixS 6#32 26#32 (mixS 26#32 6#32 (mixS 15#32 17#32 (mixS 13#32 19#32 x)))

/-- Four rounds of the second kind. -/
def evenS (x : BitVec 32 × BitVec 32) : BitVec 32 × BitVec 32 :=
  mixS 24#32 8#32 (mixS 16#32 16#32 (mixS 29#32 3#32 (mixS 17#32 15#32 x)))

/-- A key injection. -/
def injS (ka kb n : BitVec 32) (x : BitVec 32 × BitVec 32) : BitVec 32 × BitVec 32 := (x.1 + ka, x.2 + kb + n)

/-- The third key word. -/
def keyS (k1 k2 : BitVec 32) : BitVec 32 := k1 ^^^ k2 ^^^ 466688986#32

/-- The block cipher of key `(k1, k2)` at `(0, x)`. -/
def tfS (k1 k2 x : BitVec 32) : BitVec 32 × BitVec 32 :=
  injS (keyS k1 k2) k1 5#32 (oddS (injS k2 (keyS k1 k2) 4#32 (evenS (injS k1 k2 3#32 (oddS
    (injS (keyS k1 k2) k1 2#32 (evenS (injS k2 (keyS k1 k2) 1#32 (oddS (k1, x + k2))))))))))

/-- Its two words, combined. -/
def tfBitsS (k : BitVec 32 × BitVec 32) (x : BitVec 32) : BitVec 32 := (tfS k.1 k.2 x).1 ^^^ (tfS k.1 k.2 x).2

/-! ## The random words of a row -/

/-- The key of row `b`. -/
def keyB (b : ℕ) : BitVec 32 × BitVec 32 := tfS 0#32 42#32 (BitVec.ofNat 32 b)
/-- The key the second round starts from. -/
def keyN (b : ℕ) : BitVec 32 × BitVec 32 := tfS (keyB b).1 (keyB b).2 0#32
/-- The key of the first round's words. -/
def key1 (b : ℕ) : BitVec 32 × BitVec 32 := tfS (keyB b).1 (keyB b).2 1#32
/-- The key of the second round's words. -/
def key2 (b : ℕ) : BitVec 32 × BitVec 32 := tfS (keyN b).1 (keyN b).2 1#32

/-- The first round's words. -/
def bits1 (b p : ℕ) : BitVec 32 := tfBitsS (key1 b) (BitVec.ofNat 32 p)
/-- The second round's words. -/
def bits2 (b p : ℕ) : BitVec 32 := tfBitsS (key2 b) (BitVec.ofNat 32 p)

/-- Where the stable sort of `8192` words puts word `p`. -/
def ord (g : ℕ → BitVec 32) (p : ℕ) : ℕ := srt 8192 (fun p => (g p).toNat) p

/-- Places are below 8192. -/
theorem ord_lt {g : ℕ → BitVec 32} {p : ℕ} (hp : p < 8192) : ord g p < 8192 := srt_lt hp

/-- Different positions have different places. -/
theorem ord_inj {g : ℕ → BitVec 32} {p p' : ℕ} (hp : p < 8192) (hp' : p' < 8192) (h : ord g p = ord g p') : p = p' := srt_inj p hp p' hp' h

/-- Where row `b`'s permutation puts number `p`. -/
def dest (b p : ℕ) : ℕ := ord (bits2 b) (ord (bits1 b) p)

/-- The permutation stays below 8192. -/
theorem dest_lt {b p : ℕ} (hp : p < 8192) : dest b p < 8192 := ord_lt (ord_lt hp)

/-- The permutation takes different numbers to different places. -/
theorem dest_inj {b p p' : ℕ} (hp : p < 8192) (hp' : p' < 8192) (h : dest b p = dest b p') : p = p' :=
  ord_inj hp hp' (ord_inj (ord_lt hp) (ord_lt hp') h)

/-- Every position is some number's. -/
theorem dest_onto {b y : ℕ} (hy : y < 8192) : ∃ p < 8192, dest b p = y :=
  onto_of_inj (fun _ hp => dest_lt hp) (fun _ hp _ hp' h => dest_inj hp hp' h) hy

end Cert.Proof
-- ==== Proof.Round.lean ====
/-
  The body of a tile, up to its copies: the first row of values ends as the row's permutation, the second row of
  keys as that permutation's inverse.
-/
module

public import proofs.«01_k».proof.Proof.Scatter
public import proofs.«01_k».proof.Proof.Value

@[expose] public section

noncomputable section

namespace Cert.Proof

open Cert.KernelIdeal Cert.KernelIdeal.Gen Idealize.ShloMosaic
open Idealize.SL Idealize.SL.RA Idealize.SL.BI
open Idealize.SL.Sem

/-! ## The hash, lane by lane -/

section Hash
variable (y : S16.Idx)

/-- A pair of vectors, at a lane. -/
def at2 (p : V × V) : BitVec 32 × BitVec 32 := (p.1 y, p.2 y)

/-- A left shift by a constant, at a lane. -/
theorem shli_at (x : V) {r : BitVec 32} (hr : r.toNat < 32) : shli x (broadcast S16 r) y = x y <<< r := by
  show IntOp.shli .vector (x y) r = _
  unfold IntOp.shli; rw [if_pos hr]

/-- A right shift by a constant, at a lane. -/
theorem shrui_at (x : V) {r : BitVec 32} (hr : r.toNat < 32) : shrui x (broadcast S16 r) y = x y >>> r := by
  show IntOp.shrui .vector (x y) r = _
  unfold IntOp.shrui; rw [if_pos hr]

/-- One round of the cipher, at a lane. -/
theorem mixV_at {r r' : BitVec 32} (hr : r.toNat < 32) (hr' : r'.toNat < 32) (p : V × V) : at2 y (mixV r r' p) = mixS r r' (at2 y p) := by
  unfold at2 mixV mixS
  refine Prod.ext rfl ?_
  show (shli p.2 (broadcast S16 r) y ||| shrui p.2 (broadcast S16 r') y) ^^^ (p.1 y + p.2 y) = _
  rw [shli_at y _ hr, shrui_at y _ hr']

/-- Four rounds of the first kind, at a lane. -/
theorem oddV_at (p : V × V) : at2 y (oddV p) = oddS (at2 y p) := by
  unfold oddV oddS
  rw [mixV_at y (by decide) (by decide), mixV_at y (by decide) (by decide), mixV_at y (by decide) (by decide), mixV_at y (by decide) (by decide)]

/-- Four rounds of the second kind, at a lane. -/
theorem evenV_at (p : V × V) : at2 y (evenV p) = evenS (at2 y p) := by
  unfold evenV evenS
  rw [mixV_at y (by decide) (by decide), mixV_at y (by decide) (by decide), mixV_at y (by decide) (by decide), mixV_at y (by decide) (by decide)]

/-- A key injection, at a lane. -/
theorem injV_at (ka kb : V) (n : BitVec 32) (p : V × V) : at2 y (injV ka kb n p) = injS (ka y) (kb y) n (at2 y p) := rfl

/-- The third key word, at a lane. -/
theorem keyV_at (k1 k2 : V) : keyV k1 k2 y = keyS (k1 y) (k2 y) := rfl

/-- The cipher, at a lane. -/
theorem tfV_at (k1 k2 x : V) : at2 y (tfV k1 k2 x) = tfS (k1 y) (k2 y) (x y) := by
  unfold tfV tfS
  rw [injV_at, oddV_at, injV_at, evenV_at, injV_at, oddV_at, injV_at, evenV_at, injV_at, oddV_at, keyV_at]
  rfl

/-- The random word, at a lane. -/
theorem tfBitsV_at (k1 k2 x : V) : tfBitsV k1 k2 x y = tfBitsS (k1 y, k2 y) (x y) := by
  have h := tfV_at y k1 k2 x
  have h1 : (tfV k1 k2 x).1 y = (tfS (k1 y) (k2 y) (x y)).1 := congrArg Prod.fst h
  have h2 : (tfV k1 k2 x).2 y = (tfS (k1 y) (k2 y) (x y)).2 := congrArg Prod.snd h
  unfold tfBitsV tfBitsS
  show (tfV k1 k2 x).1 y ^^^ (tfV k1 k2 x).2 y = _
  rw [h1, h2]

end Hash

/-- The row of tile `i`. -/
def wid (i : grid0.Coords) : ℕ := (i 1).val * 2 + (i 0).val

/-- The tile's number, as a word. -/
theorem widW_eq (i : grid0.Coords) : widW i = BitVec.ofNat 32 (wid i) := by
  show BitVec.ofNat 32 (i 1).val * BitVec.ofNat 32 2 + BitVec.ofNat 32 (i 0).val = _
  rw [← BitVec.ofNat_mul, ← BitVec.ofNat_add]; rfl

/-- Every lane holds the key of the tile's row. -/
theorem kB_at (i : grid0.Coords) (y : S16.Idx) : at2 y (kB i) = keyB (wid i) := by
  unfold kB keyB
  rw [tfV_at, widW_eq]
  congr 1 <;> exact BitVec.zero_add _

/-- Every lane holds the key that the second round starts from. -/
theorem kN_at (i : grid0.Coords) (y : S16.Idx) : at2 y (kN i) = keyN (wid i) := by
  unfold kN keyN
  rw [tfV_at, ← kB_at i y]; rfl

/-- Every lane holds the key of the first round's words. -/
theorem kS1_at (i : grid0.Coords) (y : S16.Idx) : at2 y (kS1 i) = key1 (wid i) := by
  unfold kS1 key1
  rw [tfV_at, ← kB_at i y]
  congr 1

/-- Every lane holds the key of the second round's words. -/
theorem kS2_at (i : grid0.Coords) (y : S16.Idx) : at2 y (kS2 i) = key2 (wid i) := by
  unfold kS2 key2
  rw [tfV_at, ← kN_at i y]
  congr 1

/-- The first drawing loop's vectors are the rows of the first round's words. -/
theorem gen1 (i : grid0.Coords) : ∀ T < 512, tfBitsV (kS1 i).1 (kS1 i).2 (lrow (fun p => BitVec.ofNat 32 p) T) = lrow (bits1 (wid i)) T := by
  intro T _; funext y
  rw [tfBitsV_at]
  exact congrArg (fun k => tfBitsS k (BitVec.ofNat 32 ((y 0).val * 512 + T))) (kS1_at i y)

/-- The second drawing loop's vectors are the rows of the second round's words. -/
theorem gen2 (i : grid0.Coords) : ∀ T < 512, tfBitsV (kS2 i).1 (kS2 i).2 (lrow (fun p => BitVec.ofNat 32 p) T) = lrow (bits2 (wid i)) T := by
  intro T _; funext y
  rw [tfBitsV_at]
  exact congrArg (fun k => tfBitsS k (BitVec.ofNat 32 ((y 0).val * 512 + T))) (kS2_at i y)

/-! ## Sorting by more and more digits -/

/-- Where the stable sort of `n` words by their remainders modulo `M` puts word `p`. -/
def part (n M : ℕ) (g : ℕ → BitVec 32) (p : ℕ) : ℕ := srt n (fun p => (g p).toNat % M) p

/-- `f` holds `val` in the order of the sort of `g` modulo `M`. -/
def InOrd (n M : ℕ) (g : ℕ → BitVec 32) {β : Type} (val : ℕ → β) (f : ℕ → β) : Prop := ∀ p < n, f (part n M g p) = val p

/-- Sorting by no digits leaves every item in its place. -/
theorem part_one {n : ℕ} (g : ℕ → BitVec 32) {p : ℕ} (hp : p < n) : part n 1 g p = p := by
  unfold part srt rank
  rw [show (Finset.range n).filter (fun p' => stab n (fun p => (g p).toNat % 1) p' < stab n (fun p => (g p).toNat % 1) p) = Finset.range p from ?_,
    Finset.card_range]
  ext x
  rw [Finset.mem_filter, Finset.mem_range, Finset.mem_range]
  unfold stab
  simp only [Nat.mod_one, Nat.zero_mul, Nat.zero_add]
  omega

/-- At the start everything is in the order of no digits. -/
theorem inOrd_one {n : ℕ} (g : ℕ → BitVec 32) {β : Type} (val : ℕ → β) : InOrd n 1 g val val := fun p hp => by rw [part_one g hp]

/-- Sorting by all 32 bits is the stable sort by the words. -/
theorem part_full {n : ℕ} (g : ℕ → BitVec 32) {p : ℕ} (hp : p < n) : part n (2 ^ 32) g p = srt n (fun p => (g p).toNat) p :=
  srt_congr hp fun p _ => Nat.mod_eq_of_lt (g p).isLt

/-- A pass by the next digit puts items that are in order by the lower digits in order by both. -/
theorem inOrd_step {n : ℕ} (hn : n = 8192) {sh : BitVec 32} {g k v : ℕ → BitVec 32} {val : ℕ → BitVec 32}
    (hk : InOrd n (2 ^ sh.toNat) g g k) (hv : InOrd n (2 ^ sh.toNat) g val v) {f : ℕ → BitVec 32}
    (hf : ∀ q < n, f (place (dgt sh k) q) = v q) : InOrd n (2 ^ sh.toNat * 256) g val f := by
  intro p hp
  have h := srt_step (n := n) (M := 2 ^ sh.toNat) (b := 256) (G := fun p => (g p).toNat) (D := dgt sh k) (fun p hp => by
    show (k (part n (2 ^ sh.toNat) g p)).toNat / 2 ^ sh.toNat % 256 = _
    rw [hk p hp]) hp
  have hq : part n (2 ^ sh.toNat) g p < n := srt_lt hp
  rw [← hv p hp, ← hf _ hq, place_eq hn (dgt sh k) (fun q _ => dgt_lt sh k q) hq]
  exact congrArg f h.symm

/-- The same, the results in the layout of a row. -/
theorem inOrd_slot {n : ℕ} (hn : n = 8192) {sh : BitVec 32} {M : ℕ} (hM : M = 2 ^ sh.toNat * 256) {g k v : ℕ → BitVec 32} {val : ℕ → BitVec 32}
    (hk : InOrd n (2 ^ sh.toNat) g g k) (hv : InOrd n (2 ^ sh.toNat) g val v) {f : ℕ → BitVec 32}
    (hf : Placed (dgt sh k) slot v 512 f) : InOrd n M g val fun x => f (slot x) := by
  subst hn hM
  exact inOrd_step rfl hk hv (f := fun x => f (slot x)) (placed_all hf)

/-- Contents are laid out as what they hold at the slots. -/
theorem lay_self (f : ℕ → BitVec 32) : Lay f fun x => f (slot x) := fun _ _ => rfl

/-! ## The body -/

variable {F : FTy → Type} [FloatOps F] {B : Bufs} {d : Dev nD} {i : grid0.Coords} {R : sProp (MM F)} {σ : Conts}
  {Q : PUnit → sProp (MM F)}

set_option maxHeartbeats 2000000 in
/-- The body runs if its copies do, from rows that hold the permutation and its inverse. -/
theorem runs_body {A A' : Memref sig .scVector .hbm S32x8192 .i32} {hkb : (B.row 1).IsWhole} {hpa : (B.row 2).IsWhole} {r0 r1 : DmaSems sig S_}
    (hK : ∀ σ', (∀ p < 8192, σ'.row 2 (dest (wid i) p) = BitVec.ofNat 32 p) → (∀ p < 8192, σ'.row 1 p = BitVec.ofNat 32 (dest (wid i) p)) →
      Runs B d i R σ' (copies A A' (B.row 2) (B.row 1) hpa hkb r0 r1) Q) :
    Runs B d i R σ (body A A' (B.row 0) (B.row 1) (B.row 2) (B.row 3) hkb hpa B.cnt r0 r1) Q := by
  obtain ⟨n, hn⟩ : ∃ n, n = 8192 := ⟨_, rfl⟩
  unfold body
  refine runs_gen 0 _ (gen1 i) fun σ0 _ _ h0 => ?_
  -- the first round
  refine runs_pass_first (by decide) (S := 0) (Dk := 1) (Dp := 3) (by decide) (by decide) (by decide) h0 fun σ1 ⟨_, k1, v1⟩ => ?_
  have K1 := inOrd_slot hn (M := 2 ^ 8) rfl (inOrd_one (bits1 (wid i)) (bits1 (wid i))) (inOrd_one _ _) k1
  have V1 := inOrd_slot hn (M := 2 ^ 8) rfl (inOrd_one (bits1 (wid i)) (bits1 (wid i))) (inOrd_one _ _) v1
  refine runs_pass_KV (by decide) (S := 1) (P := 3) (Dk := 0) (Dp := 2) (by decide) (by decide) (by decide) (by decide) (by decide)
    (lay_self _) (lay_self _) fun σ2 ⟨_, k2, v2⟩ => ?_
  have K2 := inOrd_slot hn (sh := 8#32) (M := 2 ^ 16) rfl K1 K1 k2
  have V2 := inOrd_slot hn (sh := 8#32) (M := 2 ^ 16) rfl K1 V1 v2
  refine runs_pass_KV (by decide) (S := 0) (P := 2) (Dk := 1) (Dp := 3) (by decide) (by decide) (by decide) (by decide) (by decide)
    (lay_self _) (lay_self _) fun σ3 ⟨_, k3, v3⟩ => ?_
  have K3 := inOrd_slot hn (sh := 16#32) (M := 2 ^ 24) rfl K2 K2 k3
  have V3 := inOrd_slot hn (sh := 16#32) (M := 2 ^ 24) rfl K2 V2 v3
  refine runs_pass_P (by decide) (S := 1) (P := 3) (Dp := 2) (by decide) (by decide) (lay_self _) (lay_self _) fun σ4 ⟨_, v4⟩ => ?_
  have V4 := inOrd_slot hn (sh := 24#32) (M := 2 ^ 32) rfl K3 V3 v4
  have W4 : ∀ p < n, σ4.row 2 (slot (ord (bits1 (wid i)) p)) = BitVec.ofNat 32 p := fun p hp => by
    have e : ord (bits1 (wid i)) p = part n (2 ^ 32) (bits1 (wid i)) p := by rw [part_full _ hp]; unfold ord; rw [hn]
    rw [e]; exact V4 p hp
  -- the second round
  refine runs_gen 0 _ (gen2 i) fun σ5 _ f5 h5 => ?_
  refine runs_pass_KV (by decide) (S := 0) (P := 2) (Dk := 1) (Dp := 3) (by decide) (by decide) (by decide) (by decide) (by decide)
    h5 (lay_self _) fun σ6 ⟨_, k6, v6⟩ => ?_
  have K6 := inOrd_slot hn (M := 2 ^ 8) rfl (inOrd_one (bits2 (wid i)) (bits2 (wid i))) (inOrd_one _ _) k6
  have V6 := inOrd_slot hn (M := 2 ^ 8) rfl (inOrd_one (bits2 (wid i)) (bits2 (wid i))) (inOrd_one _ _) v6
  refine runs_pass_KV (by decide) (S := 1) (P := 3) (Dk := 0) (Dp := 2) (by decide) (by decide) (by decide) (by decide) (by decide)
    (lay_self _) (lay_self _) fun σ7 ⟨_, k7, v7⟩ => ?_
  have K7 := inOrd_slot hn (sh := 8#32) (M := 2 ^ 16) rfl K6 K6 k7
  have V7 := inOrd_slot hn (sh := 8#32) (M := 2 ^ 16) rfl K6 V6 v7
  refine runs_pass_KV (by decide) (S := 0) (P := 2) (Dk := 1) (Dp := 3) (by decide) (by decide) (by decide) (by decide) (by decide)
    (lay_self _) (lay_self _) fun σ8 ⟨_, k8, v8⟩ => ?_
  have K8 := inOrd_slot hn (sh := 16#32) (M := 2 ^ 24) rfl K7 K7 k8
  have V8 := inOrd_slot hn (sh := 16#32) (M := 2 ^ 24) rfl K7 V7 v8
  refine runs_passFin (by decide) (S := 1) (P := 3) (Dp := 2) (by decide) (by decide) (lay_self _) (lay_self _) fun σ9 ⟨_, v9⟩ => ?_
  have V9 := inOrd_step hn (sh := 24#32) K8 V8 (f := σ9.row 2) (by subst hn; exact placed_all v9)
  have W9 : ∀ p < n, σ9.row 2 (ord (bits2 (wid i)) p) = σ5.row 2 (slot p) := fun p hp => by
    have e : ord (bits2 (wid i)) p = part n (2 ^ 32) (bits2 (wid i)) p := by rw [part_full _ hp]; unfold ord; rw [hn]
    rw [e]; exact V9 p hp
  subst hn
  have W : ∀ p < 8192, σ9.row 2 (dest (wid i) p) = BitVec.ofNat 32 p := fun p hp => by
    unfold dest
    rw [W9 _ (ord_lt hp), f5 2 (by decide), W4 p hp]
  have N : ∀ p < 8192, (σ9.row 2 (dest (wid i) p)).toNat = p := fun p hp => by rw [W p hp]; exact toNat_small (by omega)
  refine runs_inv (S := 2) (D := 1) (by decide) (fun y hy => ?_) (fun y hy y' hy' e => ?_) fun σ10 e10 h10 => ?_
  · obtain ⟨p, hp, rfl⟩ := dest_onto (b := wid i) hy
    rw [N p hp]; exact hp
  · obtain ⟨p, hp, rfl⟩ := dest_onto (b := wid i) hy
    obtain ⟨p', hp', rfl⟩ := dest_onto (b := wid i) hy'
    rw [N p hp, N p' hp'] at e
    rw [e]
  · refine hK σ10 (fun p hp => ?_) fun p hp => ?_
    · rw [e10]; exact W p hp
    · have := h10 _ (dest_lt (b := wid i) hp)
      rw [N p hp] at this
      exact this

end Cert.Proof
end
-- ==== Proof.BodyEq.lean ====
module

public import proofs.«01_k».proof.Proof.Code

@[expose] public section

noncomputable section

namespace Cert.Proof

open Cert.KernelIdeal Cert.KernelIdeal.Gen Idealize.ShloMosaic Idealize.SL.Sem

variable {F : FTy → Type} [FloatOps F]

variable (i : grid0.Coords) (arg2 : Memref sig .scVector .hbm S32x8192 .i32) (harg2 : arg2.IsWhole) (arg3 : Memref sig .scVector .hbm S32x8192 .i32) (harg3 : arg3.IsWhole) (arg4 : Memref sig .scVector .vmem S8192 .i32) (harg4 : arg4.IsWhole) (arg5 : Memref sig .scVector .vmem S8192 .i32) (harg5 : arg5.IsWhole) (arg6 : Memref sig .scVector .vmem S8192 .i32) (harg6 : arg6.IsWhole) (arg7 : Memref sig .scVector .vmem S8192 .i32) (harg7 : arg7.IsWhole) (arg8 : Memref sig .scVector .vmem S4096 .i32) (harg8 : arg8.IsWhole) (r0 : DmaSems sig S_) (r1 : DmaSems sig S_)

section
attribute [local irreducible] addi xori ori shli shrui broadcast muli andi select cmpi scan subi
set_option maxHeartbeats 8000000

/-- Loop 1's trip is the key generator's. -/
theorem t1_eq (x0 x1 x2 x3 x4 x5) : k0_t1_body (F := F) i arg2 harg2 arg3 harg3 arg4 harg4 arg5 harg5 arg6 harg6 arg7 harg7 arg8 harg8 r0 r1 nchV x0 x1 x2 x3 x4 x5 = genBody arg4 x1 x2 := by
  funext t x; rfl

/-- Loop 2's trip is the clearing loop's. -/
theorem t2_eq (x0 x1 x2 x3 x4 x5) : k0_t2_body (F := F) i arg2 harg2 arg3 harg3 arg4 harg4 arg5 harg5 arg6 harg6 arg7 harg7 arg8 harg8 r0 r1 nchV x0 x1 x2 x3 x4 x5 = clrBody arg8 := by
  funext t x; rfl

/-- Loop 3's trip is the counting loop's. -/
theorem t3_eq (x0 x1 x2 x3 x4 x5 x6 x7) : k0_t3_body (F := F) i arg2 harg2 arg3 harg3 arg4 harg4 arg5 harg5 arg6 harg6 arg7 harg7 arg8 harg8 r0 r1 laneV nchV (broadcast S16 1#32) x0 x1 x2 x3 x4 x5 x6 x7 255#32 = cntBody arg4 arg8 0#32 := by
  funext t ⟨c0, c1, c2, c3, c4, c5, c6, c7⟩; rfl

/-- Loop 4's trip is the scanning loop's. -/
theorem t4_eq (x0 x1 x2 x3 x4 x5 x6 x7) : k0_t4_body (F := F) i arg2 harg2 arg3 harg3 arg4 harg4 arg5 harg5 arg6 harg6 arg7 harg7 arg8 harg8 r0 r1 laneV nchV (broadcast S16 1#32) x0 x1 x2 x3 x4 x5 x6 x7 255#32 = scnBody arg8 := by
  funext t x; rfl

/-- Loop 5's trip is the scattering loop's. -/
theorem t5_eq (x0 x1 x2 x3) : k0_t5_body (F := F) i arg2 harg2 arg3 harg3 arg4 harg4 arg5 harg5 arg6 harg6 arg7 harg7 arg8 harg8 r0 r1 laneV nchV (broadcast S16 1#32) x0 x1 x2 x3 = prmBody (ldK arg4) (wrKV arg5 arg7) arg8 0#32 := by
  funext t ⟨c0, c1, c2, c3, c4, c5, c6, c7, c8, c9, c10, c11⟩; rfl

/-- Loop 6's trip is the clearing loop's. -/
theorem t6_eq (x0 x1 x2 x3 x4 x5 x6 x7 x8 x9 x10 x11 x12) : k0_t6_body (F := F) i arg2 harg2 arg3 harg3 arg4 harg4 arg5 harg5 arg6 harg6 arg7 harg7 arg8 harg8 r0 r1 x0 x1 x2 x3 x4 x5 x6 x7 x8 x9 x10 x11 x12 = clrBody arg8 := by
  funext t x; rfl

/-- Loop 7's trip is the counting loop's. -/
theorem t7_eq (x0 x1 x2 x3 x4 x5 x6 x7) : k0_t7_body (F := F) i arg2 harg2 arg3 harg3 arg4 harg4 arg5 harg5 arg6 harg6 arg7 harg7 arg8 harg8 r0 r1 laneV (broadcast S16 1#32) x0 x1 x2 x3 x4 x5 x6 x7 = cntBody arg5 arg8 8#32 := by
  funext t ⟨c0, c1, c2, c3, c4, c5, c6, c7⟩; rfl

/-- Loop 8's trip is the scanning loop's. -/
theorem t8_eq (x0 x1 x2 x3 x4 x5 x6 x7) : k0_t8_body (F := F) i arg2 harg2 arg3 harg3 arg4 harg4 arg5 harg5 arg6 harg6 arg7 harg7 arg8 harg8 r0 r1 laneV (broadcast S16 1#32) x0 x1 x2 x3 x4 x5 x6 x7 = scnBody arg8 := by
  funext t x; rfl

/-- Loop 9's trip is the scattering loop's. -/
theorem t9_eq (x0 x1 x2 x3 x4 x5 x6 x7 x8 x9 x10 x11) : k0_t9_body (F := F) i arg2 harg2 arg3 harg3 arg4 harg4 arg5 harg5 arg6 harg6 arg7 harg7 arg8 harg8 r0 r1 laneV (broadcast S16 1#32) x0 x1 x2 x3 x4 x5 x6 x7 x8 x9 x10 x11 8#32 255#32 1#32 = prmBody (ldKV arg5 arg7) (wrKV arg4 arg6) arg8 8#32 := by
  funext t ⟨c0, c1, c2, c3, c4, c5, c6, c7, c8, c9, c10, c11⟩; rfl

/-- Loop 10's trip is the clearing loop's. -/
theorem t10_eq : k0_t10_body (F := F) i arg2 harg2 arg3 harg3 arg4 harg4 arg5 harg5 arg6 harg6 arg7 harg7 arg8 harg8 r0 r1 laneV (broadcast S16 0#32) 0#32 0#32 32#32 = clrBody arg8 := by
  funext t x; rfl

/-- Loop 11's trip is the counting loop's. -/
theorem t11_eq (x0 x1 x2 x3 x4 x5 x6 x7) : k0_t11_body (F := F) i arg2 harg2 arg3 harg3 arg4 harg4 arg5 harg5 arg6 harg6 arg7 harg7 arg8 harg8 r0 r1 laneV (broadcast S16 1#32) x0 x1 x2 x3 x4 x5 x6 x7 = cntBody arg4 arg8 16#32 := by
  funext t ⟨c0, c1, c2, c3, c4, c5, c6, c7⟩; rfl

/-- Loop 12's trip is the scanning loop's. -/
theorem t12_eq (x0 x1 x2 x3 x4 x5 x6 x7) : k0_t12_body (F := F) i arg2 harg2 arg3 harg3 arg4 harg4 arg5 harg5 arg6 harg6 arg7 harg7 arg8 harg8 r0 r1 laneV (broadcast S16 1#32) x0 x1 x2 x3 x4 x5 x6 x7 = scnBody arg8 := by
  funext t x; rfl

/-- Loop 13's trip is the scattering loop's. -/
theorem t13_eq (x0 x1 x2 x3 x4 x5 x6 x7 x8 x9 x10 x11) : k0_t13_body (F := F) i arg2 harg2 arg3 harg3 arg4 harg4 arg5 harg5 arg6 harg6 arg7 harg7 arg8 harg8 r0 r1 laneV (broadcast S16 1#32) x0 x1 x2 x3 x4 x5 x6 x7 x8 x9 x10 x11 = prmBody (ldKV arg4 arg6) (wrKV arg5 arg7) arg8 16#32 := by
  funext t ⟨c0, c1, c2, c3, c4, c5, c6, c7, c8, c9, c10, c11⟩; rfl

/-- Loop 14's trip is the clearing loop's. -/
theorem t14_eq (x0 x1 x2) : k0_t14_body (F := F) i arg2 harg2 arg3 harg3 arg4 harg4 arg5 harg5 arg6 harg6 arg7 harg7 arg8 harg8 r0 r1 laneV x0 x1 x2 = clrBody arg8 := by
  funext t x; rfl

/-- Loop 15's trip is the counting loop's. -/
theorem t15_eq (x0 x1 x2 x3 x4 x5 x6 x7) : k0_t15_body (F := F) i arg2 harg2 arg3 harg3 arg4 harg4 arg5 harg5 arg6 harg6 arg7 harg7 arg8 harg8 r0 r1 laneV (broadcast S16 1#32) x0 x1 x2 x3 x4 x5 x6 x7 = cntBody arg5 arg8 24#32 := by
  funext t ⟨c0, c1, c2, c3, c4, c5, c6, c7⟩; rfl

/-- Loop 16's trip is the scanning loop's. -/
theorem t16_eq (x0 x1 x2 x3 x4 x5 x6 x7 x8 x9 x10) : k0_t16_body (F := F) i arg2 harg2 arg3 harg3 arg4 harg4 arg5 harg5 arg6 harg6 arg7 harg7 arg8 harg8 r0 r1 laneV (broadcast S16 1#32) x0 x1 x2 x3 x4 x5 x6 x7 x8 x9 x10 = scnBody arg8 := by
  funext t x; rfl

/-- Loop 17's trip is the scattering loop's. -/
theorem t17_eq (x0 x1 x2 x3 x4 x5 x6 x7 x8) : k0_t17_body (F := F) i arg2 harg2 arg3 harg3 arg4 harg4 arg5 harg5 arg6 harg6 arg7 harg7 arg8 harg8 r0 r1 laneV (broadcast S16 1#32) x0 x1 x2 x3 x4 x5 x6 x7 x8 16#32 = prmBody (ldKV arg5 arg7) (wrP arg6) arg8 24#32 := by
  funext t ⟨c0, c1, c2, c3, c4, c5, c6, c7, c8, c9, c10, c11⟩; rfl

/-- Loop 18's trip is the key generator's. -/
theorem t18_eq (x0 x1 x2 x3 x4) : k0_t18_body (F := F) i arg2 harg2 arg3 harg3 arg4 harg4 arg5 harg5 arg6 harg6 arg7 harg7 arg8 harg8 r0 r1 laneV nchV x0 x1 x2 x3 x4 = genBody arg4 x0 x1 := by
  funext t x; rfl

/-- Loop 19's trip is the clearing loop's. -/
theorem t19_eq (x0 x1 x2 x3 x4) : k0_t19_body (F := F) i arg2 harg2 arg3 harg3 arg4 harg4 arg5 harg5 arg6 harg6 arg7 harg7 arg8 harg8 r0 r1 laneV nchV x0 x1 x2 x3 x4 = clrBody arg8 := by
  funext t x; rfl

/-- Loop 20's trip is the counting loop's. -/
theorem t20_eq (x0 x1 x2 x3 x4 x5 x6 x7) : k0_t20_body (F := F) i arg2 harg2 arg3 harg3 arg4 harg4 arg5 harg5 arg6 harg6 arg7 harg7 arg8 harg8 r0 r1 laneV (broadcast S16 1#32) x0 x1 x2 x3 x4 x5 x6 x7 16#32 = cntBody arg4 arg8 0#32 := by
  funext t ⟨c0, c1, c2, c3, c4, c5, c6, c7⟩; rfl

/-- Loop 21's trip is the scanning loop's. -/
theorem t21_eq (x0 x1 x2 x3 x4 x5 x6 x7) : k0_t21_body (F := F) i arg2 harg2 arg3 harg3 arg4 harg4 arg5 harg5 arg6 harg6 arg7 harg7 arg8 harg8 r0 r1 laneV (broadcast S16 1#32) x0 x1 x2 x3 x4 x5 x6 x7 16#32 = scnBody arg8 := by
  funext t x; rfl

/-- Loop 22's trip is the scattering loop's. -/
theorem t22_eq (x0 x1 x2 x3 x4 x5 x6) : k0_t22_body (F := F) i arg2 harg2 arg3 harg3 arg4 harg4 arg5 harg5 arg6 harg6 arg7 harg7 arg8 harg8 r0 r1 laneV (broadcast S16 1#32) x0 x1 x2 x3 x4 x5 x6 = prmBody (ldKV arg4 arg6) (wrKV arg5 arg7) arg8 0#32 := by
  funext t ⟨c0, c1, c2, c3, c4, c5, c6, c7, c8, c9, c10, c11⟩; rfl

/-- Loop 23's trip is the clearing loop's. -/
theorem t23_eq (x0 x1 x2 x3 x4 x5) : k0_t23_body (F := F) i arg2 harg2 arg3 harg3 arg4 harg4 arg5 harg5 arg6 harg6 arg7 harg7 arg8 harg8 r0 r1 x0 x1 x2 x3 x4 x5 = clrBody arg8 := by
  funext t x; rfl

/-- Loop 24's trip is the counting loop's. -/
theorem t24_eq (x0 x1 x2 x3 x4 x5 x6 x7) : k0_t24_body (F := F) i arg2 harg2 arg3 harg3 arg4 harg4 arg5 harg5 arg6 harg6 arg7 harg7 arg8 harg8 r0 r1 laneV (broadcast S16 1#32) x0 x1 x2 x3 x4 x5 x6 x7 16#32 = cntBody arg5 arg8 8#32 := by
  funext t ⟨c0, c1, c2, c3, c4, c5, c6, c7⟩; rfl

/-- Loop 25's trip is the scanning loop's. -/
theorem t25_eq (x0 x1 x2 x3 x4 x5 x6 x7) : k0_t25_body (F := F) i arg2 harg2 arg3 harg3 arg4 harg4 arg5 harg5 arg6 harg6 arg7 harg7 arg8 harg8 r0 r1 laneV (broadcast S16 1#32) x0 x1 x2 x3 x4 x5 x6 x7 16#32 = scnBody arg8 := by
  funext t x; rfl

/-- Loop 26's trip is the scattering loop's. -/
theorem t26_eq (x0 x1 x2 x3) : k0_t26_body (F := F) i arg2 harg2 arg3 harg3 arg4 harg4 arg5 harg5 arg6 harg6 arg7 harg7 arg8 harg8 r0 r1 laneV (broadcast S16 1#32) x0 x1 x2 x3 = prmBody (ldKV arg5 arg7) (wrKV arg4 arg6) arg8 8#32 := by
  funext t ⟨c0, c1, c2, c3, c4, c5, c6, c7, c8, c9, c10, c11⟩; rfl

/-- Loop 27's trip is the clearing loop's. -/
theorem t27_eq (x0 x1 x2 x3 x4 x5 x6 x7 x8 x9) : k0_t27_body (F := F) i arg2 harg2 arg3 harg3 arg4 harg4 arg5 harg5 arg6 harg6 arg7 harg7 arg8 harg8 r0 r1 x0 x1 x2 x3 x4 x5 x6 x7 x8 x9 = clrBody arg8 := by
  funext t x; rfl

/-- Loop 28's trip is the counting loop's. -/
theorem t28_eq (x0 x1 x2 x3 x4 x5 x6 x7) : k0_t28_body (F := F) i arg2 harg2 arg3 harg3 arg4 harg4 arg5 harg5 arg6 harg6 arg7 harg7 arg8 harg8 r0 r1 laneV (broadcast S16 1#32) x0 x1 x2 x3 x4 x5 x6 x7 16#32 = cntBody arg4 arg8 16#32 := by
  funext t ⟨c0, c1, c2, c3, c4, c5, c6, c7⟩; rfl

/-- Loop 29's trip is the scanning loop's. -/
theorem t29_eq (x0 x1 x2 x3 x4 x5 x6 x7) : k0_t29_body (F := F) i arg2 harg2 arg3 harg3 arg4 harg4 arg5 harg5 arg6 harg6 arg7 harg7 arg8 harg8 r0 r1 laneV (broadcast S16 1#32) x0 x1 x2 x3 x4 x5 x6 x7 16#32 = scnBody arg8 := by
  funext t x; rfl

/-- Loop 30's trip is the scattering loop's. -/
theorem t30_eq (x0 x1 x2) : k0_t30_body (F := F) i arg2 harg2 arg3 harg3 arg4 harg4 arg5 harg5 arg6 harg6 arg7 harg7 arg8 harg8 r0 r1 laneV (broadcast S16 1#32) x0 x1 x2 = prmBody (ldKV arg4 arg6) (wrKV arg5 arg7) arg8 16#32 := by
  funext t ⟨c0, c1, c2, c3, c4, c5, c6, c7, c8, c9, c10, c11⟩; rfl

/-- Loop 31's trip is the clearing loop's. -/
theorem t31_eq (x0 x1 x2 x3 x4 x5 x6 x7 x8 x9 x10 x11 x12) : k0_t31_body (F := F) i arg2 harg2 arg3 harg3 arg4 harg4 arg5 harg5 arg6 harg6 arg7 harg7 arg8 harg8 r0 r1 x0 x1 x2 x3 x4 x5 x6 x7 x8 x9 x10 x11 x12 = clrBody arg8 := by
  funext t x; rfl

/-- Loop 32's trip is the counting loop's. -/
theorem t32_eq (x0 x1 x2 x3 x4 x5 x6 x7) : k0_t32_body (F := F) i arg2 harg2 arg3 harg3 arg4 harg4 arg5 harg5 arg6 harg6 arg7 harg7 arg8 harg8 r0 r1 laneV (broadcast S16 1#32) x0 x1 x2 x3 x4 x5 x6 x7 16#32 = cntBody arg5 arg8 24#32 := by
  funext t ⟨c0, c1, c2, c3, c4, c5, c6, c7⟩; rfl

/-- Loop 33's trip is the scanning loop's. -/
theorem t33_eq : k0_t33_body (F := F) i arg2 harg2 arg3 harg3 arg4 harg4 arg5 harg5 arg6 harg6 arg7 harg7 arg8 harg8 r0 r1 laneV 0#32 0#32 32#32 = scnBody arg8 := by
  funext t x; rfl

/-- Loop 34's trip is the scattering loop's. -/
theorem t34_eq (x0 x1 x2 x3 x4 x5 x6 x7 x8 x9 x10 x11) : k0_t34_body (F := F) i arg2 harg2 arg3 harg3 arg4 harg4 arg5 harg5 arg6 harg6 arg7 harg7 arg8 harg8 r0 r1 laneV (broadcast S16 1#32) x0 x1 x2 x3 x4 x5 x6 x7 x8 x9 x10 x11 = finBody arg5 arg7 arg6 arg8 24#32 := by
  funext t ⟨c0, c1, c2, c3, c4, c5, c6, c7, c8, c9, c10, c11⟩; rfl

/-- Loop 35's trip is the inversion's. -/
theorem t35_eq : k0_t35_body (F := F) i arg2 harg2 arg3 harg3 arg4 harg4 arg5 harg5 arg6 harg6 arg7 harg7 arg8 harg8 r0 r1 laneV = invBody arg6 arg5 := by
  funext t x; rfl

/-! ## The whole body -/

/-- An operation, then a program. -/
theorem lift_bind {i : grid0.Coords} {α β : Type} (e : TpuEff nD τ sig (Elt F) Λ₀ (.scVector ((i 0).castLE hcore0) ((i 1).castLE hsub0)) β)
    (K : β → PR F i α) : (Prog.lift e >>= K) = .op e K := rfl

/-- An operation of a piece, then a program. -/
theorem op_bind {i : grid0.Coords} {α β γ : Type} (e : TpuEff nD τ sig (Elt F) Λ₀ (.scVector ((i 0).castLE hcore0) ((i 1).castLE hsub0)) γ)
    (k : γ → PR F i β) (K : β → PR F i α) : (Prog.op e k >>= K) = Prog.op e fun x => k x >>= K := rfl

/-- Two programs that begin with the same operation. -/
theorem op_congr {i : grid0.Coords} {α β : Type} {e : TpuEff nD τ sig (Elt F) Λ₀ (.scVector ((i 0).castLE hcore0) ((i 1).castLE hsub0)) β}
    {k k' : β → PR F i α} (h : ∀ x, k x = k' x) : (Prog.op e k : PR F i α) = Prog.op e k' := by rw [funext h]

/-- Two programs that begin with the same piece. -/
theorem bd_congr {i : grid0.Coords} {α β : Type} {x y : PR F i β} {k k' : β → PR F i α} (e : x = y) (h : ∀ x, k x = k' x) :
    (x >>= k) = (y >>= k') := by rw [e, funext h]

/-- The first part with loops: the first keys, the cleared counters, eight rows. -/
def part111 : PR F i (Σ' (v666 : IVec S16 32) (v669 : IVec S16 32) (v673 : IVec S16 32) (v677 : Vec F S16 .i32) (v678 : Vec F S16 .i32) (v679 : Vec F S16 .i32) (v680 : Vec F S16 .i32) (v681 : Vec F S16 .i32) (v682 : Vec F S16 .i32) (v683 : Vec F S16 .i32) (v685 : IVec S16 32), BitVec 32) := do
  let v671 : BitVec 32 ← Scf.Loop.for k0_t1_loop k0_t1_ok 0#32 (genBody arg4 (kS1 i).1 (kS1 i).2)
  let v675 : BitVec 32 ← Scf.Loop.for k0_t2_loop k0_t2_ok 0#32 (clrBody arg8)
  let v676 : Vec F S16 .i32 ← Prog.lift (.load arg4 (Rect.unit (s := S8192) ![0] S16.size inb_S8192_S16_0).toLoadRect (View.loadsAt_vmem h_S16))
  let v677 : Vec F S16 .i32 ← Prog.lift (.load arg4 (Rect.unit (s := S8192) ![16] S16.size inb_S8192_S16_16).toLoadRect (View.loadsAt_vmem h_S16))
  let v678 : Vec F S16 .i32 ← Prog.lift (.load arg4 (Rect.unit (s := S8192) ![32] S16.size inb_S8192_S16_32).toLoadRect (View.loadsAt_vmem h_S16))
  let v679 : Vec F S16 .i32 ← Prog.lift (.load arg4 (Rect.unit (s := S8192) ![48] S16.size inb_S8192_S16_48).toLoadRect (View.loadsAt_vmem h_S16))
  let v680 : Vec F S16 .i32 ← Prog.lift (.load arg4 (Rect.unit (s := S8192) ![64] S16.size inb_S8192_S16_64).toLoadRect (View.loadsAt_vmem h_S16))
  let v681 : Vec F S16 .i32 ← Prog.lift (.load arg4 (Rect.unit (s := S8192) ![80] S16.size inb_S8192_S16_80).toLoadRect (View.loadsAt_vmem h_S16))
  let v682 : Vec F S16 .i32 ← Prog.lift (.load arg4 (Rect.unit (s := S8192) ![96] S16.size inb_S8192_S16_96).toLoadRect (View.loadsAt_vmem h_S16))
  let v683 : Vec F S16 .i32 ← Prog.lift (.load arg4 (Rect.unit (s := S8192) ![112] S16.size inb_S8192_S16_112).toLoadRect (View.loadsAt_vmem h_S16))
  pure ⟨(kS2 i).1, (kS2 i).2, k0_pay836, v677, v678, v679, v680, v681, v682, v683, k0_pay837 v676, 255#32⟩

/-- The printed body is `body`. -/
theorem body_eq : cc0__sc_body (F := F) i arg2 harg2 arg3 harg3 arg4 harg4 arg5 harg5 arg6 harg6 arg7 harg7 arg8 harg8 r0 r1
    = body arg2 arg3 arg4 arg5 arg6 arg7 harg5 harg6 arg8 r0 r1 := by
  rw [cc0__sc_body_eq_skeleton, cc0__sc_body_skel, k0_part152_eq_skeleton, k0_part152_skel]
  simp only [bind_assoc, pure_bind, lift_bind, op_bind]
  simp only [k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, k0_part110_eq_skeleton, k0_part110_skel, bind_assoc, pure_bind, lift_bind, op_bind]
  generalize h : k0_part111 i arg2 harg2 arg3 harg3 arg4 harg4 arg5 harg5 arg6 harg6 arg7 harg7 arg8 harg8 r0 r1 _ _ _ _ _ _ _ = p
  have e : p = part111 i arg4 arg8 := by
    rw [← h, k0_part111_eq_skeleton, k0_part111_skel]
    refine bd_congr (F := F) (i := i) (congrArg (Scf.Loop.for k0_t1_loop k0_t1_ok _) (t1_eq ..)) fun _ => ?_
    refine bd_congr (F := F) (i := i) (congrArg (Scf.Loop.for k0_t2_loop k0_t2_ok _) (t2_eq ..)) fun _ => ?_
    rfl
  subst e; clear h
  simp only [part111, bind_assoc, pure_bind, lift_bind, op_bind]
  iterate 2 refine bd_congr (F := F) (i := i) rfl fun _ => ?_
  iterate 8 refine op_congr (F := F) (i := i) fun _ => ?_
  simp only [k0_part112_eq_skeleton, k0_part112_skel, bind_assoc, pure_bind, lift_bind, op_bind]
  simp only [k0_part113_eq_skeleton, k0_part113_skel, bind_assoc, pure_bind, lift_bind, op_bind]
  refine bd_congr (F := F) (i := i) (congrArg (Scf.Loop.for k0_t3_loop k0_t3_ok _) (t3_eq ..)) fun ⟨c0, c1, c2, c3, c4, c5, c6, c7⟩ => ?_
  simp only [bind_assoc, pure_bind, lift_bind, op_bind]
  iterate 8 refine op_congr (F := F) (i := i) fun _ => ?_
  iterate 8 refine bd_congr (F := F) (i := i) rfl fun _ => ?_
  refine bd_congr (F := F) (i := i) (congrArg (Scf.Loop.for k0_t4_loop k0_t4_ok _) (t4_eq ..)) fun _ => ?_
  refine op_congr (F := F) (i := i) fun _ => ?_
  simp only [k0_part114_eq_skeleton, k0_part114_skel, bind_assoc, pure_bind, lift_bind, op_bind]
  iterate 3 refine op_congr (F := F) (i := i) fun _ => ?_
  refine bd_congr (F := F) (i := i) (congrArg (Scf.Loop.for k0_t5_loop k0_t5_ok _) (t5_eq ..)) fun ⟨c0, c1, c2, c3, c4, c5, c6, c7, c8, c9, c10, c11⟩ => ?_
  simp only [bind_assoc, pure_bind, lift_bind, op_bind]
  iterate 4 refine op_congr (F := F) (i := i) fun _ => ?_
  simp only [k0_part115_eq_skeleton, k0_part115_skel, bind_assoc, pure_bind, lift_bind, op_bind]
  iterate 8 refine bd_congr (F := F) (i := i) rfl fun _ => ?_
  simp only [k0_part116_eq_skeleton, k0_part116_skel, bind_assoc, pure_bind, lift_bind, op_bind]
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine bd_congr (F := F) (i := i) (congrArg (Scf.Loop.for k0_t6_loop k0_t6_ok _) (t6_eq ..)) fun _ => ?_
  iterate 3 refine op_congr (F := F) (i := i) fun _ => ?_
  simp only [k0_part117_eq_skeleton, k0_part117_skel, bind_assoc, pure_bind, lift_bind, op_bind]
  iterate 5 refine op_congr (F := F) (i := i) fun _ => ?_
  simp only [k0_part118_eq_skeleton, k0_part118_skel, bind_assoc, pure_bind, lift_bind, op_bind]
  refine bd_congr (F := F) (i := i) (congrArg (Scf.Loop.for k0_t7_loop k0_t7_ok _) (t7_eq ..)) fun ⟨c0, c1, c2, c3, c4, c5, c6, c7⟩ => ?_
  simp only [bind_assoc, pure_bind, lift_bind, op_bind]
  iterate 8 refine op_congr (F := F) (i := i) fun _ => ?_
  iterate 8 refine bd_congr (F := F) (i := i) rfl fun _ => ?_
  refine bd_congr (F := F) (i := i) (congrArg (Scf.Loop.for k0_t8_loop k0_t8_ok _) (t8_eq ..)) fun _ => ?_
  simp only [k0_part119_eq_skeleton, k0_part119_skel, bind_assoc, pure_bind, lift_bind, op_bind]
  iterate 8 refine op_congr (F := F) (i := i) fun _ => ?_
  simp only [k0_part120_eq_skeleton, k0_part120_skel, bind_assoc, pure_bind, lift_bind, op_bind]
  refine bd_congr (F := F) (i := i) (congrArg (Scf.Loop.for k0_t9_loop k0_t9_ok _) (t9_eq ..)) fun ⟨c0, c1, c2, c3, c4, c5, c6, c7, c8, c9, c10, c11⟩ => ?_
  simp only [bind_assoc, pure_bind, lift_bind, op_bind]
  iterate 4 refine op_congr (F := F) (i := i) fun _ => ?_
  iterate 8 refine bd_congr (F := F) (i := i) rfl fun _ => ?_
  simp only [k0_part121_eq_skeleton, k0_part121_skel, bind_assoc, pure_bind, lift_bind, op_bind]
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  simp only [k0_part122_eq_skeleton, k0_part122_skel, bind_assoc, pure_bind, lift_bind, op_bind]
  refine bd_congr (F := F) (i := i) (congrArg (Scf.Loop.for k0_t10_loop k0_t10_ok _) (t10_eq ..)) fun _ => ?_
  iterate 8 refine op_congr (F := F) (i := i) fun _ => ?_
  simp only [k0_part123_eq_skeleton, k0_part123_skel, bind_assoc, pure_bind, lift_bind, op_bind]
  refine bd_congr (F := F) (i := i) (congrArg (Scf.Loop.for k0_t11_loop k0_t11_ok _) (t11_eq ..)) fun ⟨c0, c1, c2, c3, c4, c5, c6, c7⟩ => ?_
  simp only [bind_assoc, pure_bind, lift_bind, op_bind]
  iterate 8 refine op_congr (F := F) (i := i) fun _ => ?_
  iterate 4 refine bd_congr (F := F) (i := i) rfl fun _ => ?_
  simp only [k0_part124_eq_skeleton, k0_part124_skel, bind_assoc, pure_bind, lift_bind, op_bind]
  iterate 4 refine bd_congr (F := F) (i := i) rfl fun _ => ?_
  refine bd_congr (F := F) (i := i) (congrArg (Scf.Loop.for k0_t12_loop k0_t12_ok _) (t12_eq ..)) fun _ => ?_
  iterate 8 refine op_congr (F := F) (i := i) fun _ => ?_
  simp only [k0_part125_eq_skeleton, k0_part125_skel, bind_assoc, pure_bind, lift_bind, op_bind]
  refine bd_congr (F := F) (i := i) (congrArg (Scf.Loop.for k0_t13_loop k0_t13_ok _) (t13_eq ..)) fun ⟨c0, c1, c2, c3, c4, c5, c6, c7, c8, c9, c10, c11⟩ => ?_
  simp only [bind_assoc, pure_bind, lift_bind, op_bind]
  iterate 4 refine op_congr (F := F) (i := i) fun _ => ?_
  iterate 8 refine bd_congr (F := F) (i := i) rfl fun _ => ?_
  simp only [k0_part126_eq_skeleton, k0_part126_skel, bind_assoc, pure_bind, lift_bind, op_bind]
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  simp only [k0_part127_eq_skeleton, k0_part127_skel, bind_assoc, pure_bind, lift_bind, op_bind]
  refine op_congr (F := F) (i := i) fun _ => ?_
  iterate 2 refine bd_congr (F := F) (i := i) rfl fun _ => ?_
  refine bd_congr (F := F) (i := i) (congrArg (Scf.Loop.for k0_t14_loop k0_t14_ok _) (t14_eq ..)) fun _ => ?_
  iterate 8 refine op_congr (F := F) (i := i) fun _ => ?_
  simp only [k0_part128_eq_skeleton, k0_part128_skel, bind_assoc, pure_bind, lift_bind, op_bind]
  refine bd_congr (F := F) (i := i) (congrArg (Scf.Loop.for k0_t15_loop k0_t15_ok _) (t15_eq ..)) fun ⟨c0, c1, c2, c3, c4, c5, c6, c7⟩ => ?_
  simp only [bind_assoc, pure_bind, lift_bind, op_bind]
  iterate 3 refine op_congr (F := F) (i := i) fun _ => ?_
  simp only [k0_part129_eq_skeleton, k0_part129_skel, bind_assoc, pure_bind, lift_bind, op_bind]
  iterate 5 refine op_congr (F := F) (i := i) fun _ => ?_
  iterate 8 refine bd_congr (F := F) (i := i) rfl fun _ => ?_
  refine bd_congr (F := F) (i := i) (congrArg (Scf.Loop.for k0_t16_loop k0_t16_ok _) (t16_eq ..)) fun _ => ?_
  iterate 6 refine op_congr (F := F) (i := i) fun _ => ?_
  simp only [k0_part130_eq_skeleton, k0_part130_skel, bind_assoc, pure_bind, lift_bind, op_bind]
  iterate 2 refine op_congr (F := F) (i := i) fun _ => ?_
  refine bd_congr (F := F) (i := i) (congrArg (Scf.Loop.for k0_t17_loop k0_t17_ok _) (t17_eq ..)) fun ⟨c0, c1, c2, c3, c4, c5, c6, c7, c8, c9, c10, c11⟩ => ?_
  simp only [bind_assoc, pure_bind, lift_bind, op_bind]
  iterate 4 refine op_congr (F := F) (i := i) fun _ => ?_
  iterate 8 refine bd_congr (F := F) (i := i) rfl fun _ => ?_
  simp only [k0_part131_eq_skeleton, k0_part131_skel, bind_assoc, pure_bind, lift_bind, op_bind]
  refine op_congr (F := F) (i := i) fun _ => ?_
  refine bd_congr (F := F) (i := i) rfl fun _ => ?_
  refine op_congr (F := F) (i := i) fun _ => ?_
  refine bd_congr (F := F) (i := i) rfl fun _ => ?_
  refine op_congr (F := F) (i := i) fun _ => ?_
  refine bd_congr (F := F) (i := i) rfl fun _ => ?_
  simp only [k0_part132_eq_skeleton, k0_part132_skel, bind_assoc, pure_bind, lift_bind, op_bind]
  refine op_congr (F := F) (i := i) fun _ => ?_
  refine bd_congr (F := F) (i := i) rfl fun _ => ?_
  refine bd_congr (F := F) (i := i) (congrArg (Scf.Loop.for k0_t18_loop k0_t18_ok _) (t18_eq ..)) fun _ => ?_
  refine bd_congr (F := F) (i := i) (congrArg (Scf.Loop.for k0_t19_loop k0_t19_ok _) (t19_eq ..)) fun _ => ?_
  iterate 8 refine op_congr (F := F) (i := i) fun _ => ?_
  simp only [k0_part133_eq_skeleton, k0_part133_skel, bind_assoc, pure_bind, lift_bind, op_bind]
  simp only [k0_part134_eq_skeleton, k0_part134_skel, bind_assoc, pure_bind, lift_bind, op_bind]
  refine bd_congr (F := F) (i := i) (congrArg (Scf.Loop.for k0_t20_loop k0_t20_ok _) (t20_eq ..)) fun ⟨c0, c1, c2, c3, c4, c5, c6, c7⟩ => ?_
  simp only [bind_assoc, pure_bind, lift_bind, op_bind]
  iterate 8 refine op_congr (F := F) (i := i) fun _ => ?_
  iterate 8 refine bd_congr (F := F) (i := i) rfl fun _ => ?_
  refine bd_congr (F := F) (i := i) (congrArg (Scf.Loop.for k0_t21_loop k0_t21_ok _) (t21_eq ..)) fun _ => ?_
  iterate 4 refine op_congr (F := F) (i := i) fun _ => ?_
  simp only [k0_part135_eq_skeleton, k0_part135_skel, bind_assoc, pure_bind, lift_bind, op_bind]
  iterate 4 refine op_congr (F := F) (i := i) fun _ => ?_
  refine bd_congr (F := F) (i := i) (congrArg (Scf.Loop.for k0_t22_loop k0_t22_ok _) (t22_eq ..)) fun ⟨c0, c1, c2, c3, c4, c5, c6, c7, c8, c9, c10, c11⟩ => ?_
  simp only [bind_assoc, pure_bind, lift_bind, op_bind]
  iterate 4 refine op_congr (F := F) (i := i) fun _ => ?_
  iterate 8 refine bd_congr (F := F) (i := i) rfl fun _ => ?_
  simp only [k0_part136_eq_skeleton, k0_part136_skel, bind_assoc, pure_bind, lift_bind, op_bind]
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  simp only [k0_part137_eq_skeleton, k0_part137_skel, bind_assoc, pure_bind, lift_bind, op_bind]
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine bd_congr (F := F) (i := i) (congrArg (Scf.Loop.for k0_t23_loop k0_t23_ok _) (t23_eq ..)) fun _ => ?_
  iterate 8 refine op_congr (F := F) (i := i) fun _ => ?_
  simp only [k0_part138_eq_skeleton, k0_part138_skel, bind_assoc, pure_bind, lift_bind, op_bind]
  simp only [k0_part139_eq_skeleton, k0_part139_skel, bind_assoc, pure_bind, lift_bind, op_bind]
  refine bd_congr (F := F) (i := i) (congrArg (Scf.Loop.for k0_t24_loop k0_t24_ok _) (t24_eq ..)) fun ⟨c0, c1, c2, c3, c4, c5, c6, c7⟩ => ?_
  simp only [bind_assoc, pure_bind, lift_bind, op_bind]
  iterate 8 refine op_congr (F := F) (i := i) fun _ => ?_
  iterate 8 refine bd_congr (F := F) (i := i) rfl fun _ => ?_
  refine bd_congr (F := F) (i := i) (congrArg (Scf.Loop.for k0_t25_loop k0_t25_ok _) (t25_eq ..)) fun _ => ?_
  iterate 3 refine op_congr (F := F) (i := i) fun _ => ?_
  simp only [k0_part140_eq_skeleton, k0_part140_skel, bind_assoc, pure_bind, lift_bind, op_bind]
  iterate 5 refine op_congr (F := F) (i := i) fun _ => ?_
  refine bd_congr (F := F) (i := i) (congrArg (Scf.Loop.for k0_t26_loop k0_t26_ok _) (t26_eq ..)) fun ⟨c0, c1, c2, c3, c4, c5, c6, c7, c8, c9, c10, c11⟩ => ?_
  simp only [bind_assoc, pure_bind, lift_bind, op_bind]
  iterate 4 refine op_congr (F := F) (i := i) fun _ => ?_
  iterate 6 refine bd_congr (F := F) (i := i) rfl fun _ => ?_
  simp only [k0_part141_eq_skeleton, k0_part141_skel, bind_assoc, pure_bind, lift_bind, op_bind]
  iterate 2 refine bd_congr (F := F) (i := i) rfl fun _ => ?_
  refine op_congr (F := F) (i := i) fun _ => ?_
  iterate 2 refine bd_congr (F := F) (i := i) rfl fun _ => ?_
  simp only [k0_part142_eq_skeleton, k0_part142_skel, bind_assoc, pure_bind, lift_bind, op_bind]
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine bd_congr (F := F) (i := i) (congrArg (Scf.Loop.for k0_t27_loop k0_t27_ok _) (t27_eq ..)) fun _ => ?_
  iterate 6 refine op_congr (F := F) (i := i) fun _ => ?_
  simp only [k0_part143_eq_skeleton, k0_part143_skel, bind_assoc, pure_bind, lift_bind, op_bind]
  iterate 2 refine op_congr (F := F) (i := i) fun _ => ?_
  simp only [k0_part144_eq_skeleton, k0_part144_skel, bind_assoc, pure_bind, lift_bind, op_bind]
  refine bd_congr (F := F) (i := i) (congrArg (Scf.Loop.for k0_t28_loop k0_t28_ok _) (t28_eq ..)) fun ⟨c0, c1, c2, c3, c4, c5, c6, c7⟩ => ?_
  simp only [bind_assoc, pure_bind, lift_bind, op_bind]
  iterate 8 refine op_congr (F := F) (i := i) fun _ => ?_
  iterate 8 refine bd_congr (F := F) (i := i) rfl fun _ => ?_
  refine bd_congr (F := F) (i := i) (congrArg (Scf.Loop.for k0_t29_loop k0_t29_ok _) (t29_eq ..)) fun _ => ?_
  iterate 2 refine op_congr (F := F) (i := i) fun _ => ?_
  simp only [k0_part145_eq_skeleton, k0_part145_skel, bind_assoc, pure_bind, lift_bind, op_bind]
  iterate 6 refine op_congr (F := F) (i := i) fun _ => ?_
  refine bd_congr (F := F) (i := i) (congrArg (Scf.Loop.for k0_t30_loop k0_t30_ok _) (t30_eq ..)) fun ⟨c0, c1, c2, c3, c4, c5, c6, c7, c8, c9, c10, c11⟩ => ?_
  simp only [bind_assoc, pure_bind, lift_bind, op_bind]
  refine op_congr (F := F) (i := i) fun _ => ?_
  simp only [k0_part146_eq_skeleton, k0_part146_skel, bind_assoc, pure_bind, lift_bind, op_bind]
  iterate 3 refine op_congr (F := F) (i := i) fun _ => ?_
  iterate 8 refine bd_congr (F := F) (i := i) rfl fun _ => ?_
  simp only [k0_part147_eq_skeleton, k0_part147_skel, bind_assoc, pure_bind, lift_bind, op_bind]
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine op_congr (F := F) (i := i) fun _ => ?_
  iterate 2 refine bd_congr (F := F) (i := i) rfl fun _ => ?_
  refine bd_congr (F := F) (i := i) (congrArg (Scf.Loop.for k0_t31_loop k0_t31_ok _) (t31_eq ..)) fun _ => ?_
  refine op_congr (F := F) (i := i) fun _ => ?_
  simp only [k0_part148_eq_skeleton, k0_part148_skel, bind_assoc, pure_bind, lift_bind, op_bind]
  iterate 7 refine op_congr (F := F) (i := i) fun _ => ?_
  simp only [k0_part149_eq_skeleton, k0_part149_skel, bind_assoc, pure_bind, lift_bind, op_bind]
  refine bd_congr (F := F) (i := i) (congrArg (Scf.Loop.for k0_t32_loop k0_t32_ok _) (t32_eq ..)) fun ⟨c0, c1, c2, c3, c4, c5, c6, c7⟩ => ?_
  simp only [bind_assoc, pure_bind, lift_bind, op_bind]
  iterate 8 refine op_congr (F := F) (i := i) fun _ => ?_
  iterate 8 refine bd_congr (F := F) (i := i) rfl fun _ => ?_
  simp only [k0_part150_eq_skeleton, k0_part150_skel, bind_assoc, pure_bind, lift_bind, op_bind]
  refine bd_congr (F := F) (i := i) (congrArg (Scf.Loop.for k0_t33_loop k0_t33_ok _) (t33_eq ..)) fun _ => ?_
  iterate 8 refine op_congr (F := F) (i := i) fun _ => ?_
  simp only [k0_part151_eq_skeleton, k0_part151_skel, bind_assoc, pure_bind, lift_bind, op_bind]
  refine bd_congr (F := F) (i := i) (congrArg (Scf.Loop.for k0_t34_loop k0_t34_ok _) (t34_eq ..)) fun ⟨c0, c1, c2, c3, c4, c5, c6, c7, c8, c9, c10, c11⟩ => ?_
  simp only [bind_assoc, pure_bind, lift_bind, op_bind]
  iterate 4 refine op_congr (F := F) (i := i) fun _ => ?_
  refine bd_congr (F := F) (i := i) rfl fun _ => ?_
  refine op_congr (F := F) (i := i) fun _ => ?_
  iterate 7 refine bd_congr (F := F) (i := i) rfl fun _ => ?_
  iterate 2 refine op_congr (F := F) (i := i) fun _ => ?_
  refine op_congr (F := F) (i := i) fun _ => ?_
  iterate 4 refine bd_congr (F := F) (i := i) rfl fun _ => ?_
  refine bd_congr (F := F) (i := i) (congrArg (Scf.Loop.for k0_t35_loop k0_t35_ok _) (t35_eq ..)) fun _ => ?_
  iterate 4 refine op_congr (F := F) (i := i) fun _ => ?_
  rfl
end

end Cert.Proof
end
-- ==== Proof.Tile.lean ====
/-
  A tile's run: from its row of each result, at any contents, to the row's permutation in the first and the
  permutation's inverse in the second.
-/
module

public import proofs.«01_k».proof.Proof.Round
public import proofs.«01_k».proof.Proof.BodyEq
public import Idealize.ShloMosaic.Lib.SparseCore.Stream
public import Idealize.ShloMosaic.Lib.StableHlo.Run
public import Idealize.ShloMosaic.Lib.Pipeline.Kit

@[expose] public section

noncomputable section

namespace Cert.Proof

open Cert.KernelIdeal Cert.KernelIdeal.Gen Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The results -/

/-- The number at place `n` of row `b`'s permutation. -/
def permN (b n : ℕ) : ℕ := if h : n < 8192 then (dest_onto (b := b) h).choose else 0

/-- The permutation's values are below 8192. -/
theorem permN_lt {b n : ℕ} : permN b n < 8192 := by
  unfold permN; split
  · next h => exact (dest_onto (b := b) h).choose_spec.1
  · decide

/-- The number at a place is one that goes to that place. -/
theorem dest_permN {b n : ℕ} (h : n < 8192) : dest b (permN b n) = n := by
  unfold permN; rw [dif_pos h]; exact (dest_onto (b := b) h).choose_spec.2

/-- At the place that a number goes to stands that number. -/
theorem permN_dest {b p : ℕ} (h : p < 8192) : permN b (dest b p) = p :=
  dest_inj permN_lt h (dest_permN (dest_lt h))

/-- The array of the permutations: row `b` has at place `n` the number that is put there. -/
def perms : S32x8192.Idx → BitVec 32 := fun x => BitVec.ofNat 32 (permN (x 0).val (x 1).val)
/-- The array of their inverses: row `b` has at `p` the place where `p` is put. -/
def invs : S32x8192.Idx → BitVec 32 := fun x => BitVec.ofNat 32 (dest (x 0).val (x 1).val)

/-! ## The program as the launch sees it -/

/-- The labels of the program. -/
abbrev ΛP : Labels := Pipeline.Sig Λ₀ (Fin 0) fun p => (pcfgs (F := F) p).Adm
/-- The program's SparseCore launch. -/
abbrev K : SparseCore.Cfg τ sig (ΛP (F := F)) 1 := sc (F := F)
/-- A SparseCore of the launch has 16 tiles. -/
theorem nSub_zero : (K (F := F)).nSub 0 = 16 := rfl
/-- The program's definitions. -/
abbrev D [FloatOps F] : Defs nD τ sig (Elt F) (ΛP (F := F)) := Pipeline.defs pcfgs defs₀
/-- No variants at the launch's own level. -/
abbrev 𝒱₀ : Variants := Variants.none
/-- The same, for the whole program. -/
abbrev 𝒱 : Variants := 𝒱₀.lift
/-- The only variant. -/
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' ghost state lies. -/
abbrev EH : Emb (URounds (GSem nD τ sig) ℕ) (MT nD τ sig (HIx 1) (Elt F) ℕ UU ℕ) := embL

/-! ## The rows of the results -/

/-- The argument. -/
abbrev zLoc (d : Dev nD) : Loc nD τ sig := (SparseCore.T d).loc main_arg0
/-- The first result. -/
abbrev aLoc (d : Dev nD) : Loc nD τ sig := (SparseCore.T d).loc main_v0_0
/-- The second result. -/
abbrev bLoc (d : Dev nD) : Loc nD τ sig := (SparseCore.T d).loc main_v0_1

local notation "aV" => (Memref.whole Cert.KernelIdeal.main_v0_0_scv : Memref Cert.KernelIdeal.sig Kind.scVector Space.hbm Cert.KernelIdeal.S32x8192 EltTy.i32)
local notation "bV" => (Memref.whole Cert.KernelIdeal.main_v0_1_scv : Memref Cert.KernelIdeal.sig Kind.scVector Space.hbm Cert.KernelIdeal.S32x8192 EltTy.i32)
local notation "s0V" => (Memref.whole Cert.KernelIdeal.cc0_scratch0 : Memref Cert.KernelIdeal.sig Kind.scVector Space.vmem Cert.KernelIdeal.S8192 EltTy.i32)
local notation "s1V" => (Memref.whole Cert.KernelIdeal.cc0_scratch1 : Memref Cert.KernelIdeal.sig Kind.scVector Space.vmem Cert.KernelIdeal.S8192 EltTy.i32)
local notation "s2V" => (Memref.whole Cert.KernelIdeal.cc0_scratch2 : Memref Cert.KernelIdeal.sig Kind.scVector Space.vmem Cert.KernelIdeal.S8192 EltTy.i32)
local notation "s3V" => (Memref.whole Cert.KernelIdeal.cc0_scratch3 : Memref Cert.KernelIdeal.sig Kind.scVector Space.vmem Cert.KernelIdeal.S8192 EltTy.i32)
local notation "hV" => (Memref.whole Cert.KernelIdeal.cc0_scratch4 : Memref Cert.KernelIdeal.sig Kind.scVector Space.vmem Cert.KernelIdeal.S4096 EltTy.i32)

/-- The places of row `r`. -/
def rowSet (r : ℕ) : Finset S32x8192.Idx := Finset.univ.filter fun x => (x 0).val = r

/-- An element is in a row when its first index is the row's number. -/
theorem mem_rowSet {r : ℕ} {x : S32x8192.Idx} : x ∈ rowSet r ↔ (x 0).val = r := by simp [rowSet]

section Tile

variable (d : Dev nD) (i : grid0.Coords)

/-- The SparseCore of a tile. -/
abbrev cV (i : grid0.Coords) : Fin τ.nSC := (i 0).castLE hcore0
/-- The number of a tile on its SparseCore. -/
abbrev jV (i : grid0.Coords) : Fin τ.nSub := (i 1).castLE hsub0

/-- The tiles' numbers are below 32. -/
theorem wid_lt : wid i < 32 := by
  have h0 : (i 0).val < 2 := (i 0).isLt
  have h1 : (i 1).val < 16 := (i 1).isLt
  unfold wid; omega

/-- Place `n` of a row of a result. -/
abbrev at1 (y : S8192.Idx) : S32x8192.Idx := fun a => match a with
  | ⟨0, _⟩ => (⟨wid i, wid_lt i⟩ : Fin 32)
  | ⟨1, _⟩ => (⟨(y 0).val, (y 0).isLt⟩ : Fin 8192)

/-- The tile's row of the first result, place by place. -/
theorem emb_a (y : S8192.Idx) : (outRow i aV).view.emb y = at1 i y := by
  show (Rect.unit (s := S32x8192) (k0_off36 i) S1x8192.size (k0_off36_inb i)).emb
    (Shape.reshapeEquiv squeezes_S1x8192_S8192.numel_eq y) = _
  rw [show Shape.reshapeEquiv squeezes_S1x8192_S8192.numel_eq y = Fin.cons ⟨0, Nat.one_pos⟩ y from
    Shape.reshapeEquiv_cons_one (d := ![8192]) squeezes_S1x8192_S8192.numel_eq y]
  funext a
  refine Fin.ext ?_
  match a with
  | ⟨0, _⟩ =>
    show k0_off36 i 0 + 1 * 0 = wid i
    rw [k0_off36_eq]; simp [wid]; omega
  | ⟨1, _⟩ =>
    show k0_off36 i 1 + 1 * (y 0).val = (y 0).val
    rw [k0_off36_eq]; simp

/-- The row of the first result that a tile writes. -/
theorem set_a : (outRow i aV).view.set = rowSet (wid i) := by
  ext x
  rw [mem_rowSet]
  constructor
  · intro h
    obtain ⟨y, -, rfl⟩ := Finset.mem_map.mp h
    rw [emb_a]
  · intro h
    refine Finset.mem_map.mpr ⟨fun a => match a with | ⟨0, _⟩ => (⟨(x 1).val, (x 1).isLt⟩ : Fin 8192), Finset.mem_univ _, (emb_a i _).trans ?_⟩
    funext a
    refine Fin.ext ?_
    match a with
    | ⟨0, _⟩ => exact h.symm
    | ⟨1, _⟩ => rfl

/-- Where an element of the tile's row lies in the second result. -/
theorem emb_b (y : S8192.Idx) : (outRow i bV).view.emb y = at1 i y := emb_a i y
/-- The row of the second result that a tile writes. -/
theorem set_b : (outRow i bV).view.set = rowSet (wid i) := set_a i

/-- Holding a tile's view of the first result is holding its row. -/
theorem pts_a (f : Buf (Elt F) (aLoc d)) :
    ((outRow i aV).view.loc (SparseCore.V d (cV i) (jV i)) ↦[(outRow i aV).view.set]{fullShare} f : sProp (MM F)) = aLoc d ↦[rowSet (wid i)]{fullShare} f := by
  rw [set_a]
/-- Holding a tile's view of the second result is holding its row. -/
theorem pts_b (f : Buf (Elt F) (bLoc d)) :
    ((outRow i bV).view.loc (SparseCore.V d (cV i) (jV i)) ↦[(outRow i bV).view.set]{fullShare} f : sProp (MM F)) = bLoc d ↦[rowSet (wid i)]{fullShare} f := by
  rw [set_b]

/-- The semaphore of the first copy. -/
abbrev cAcell : GSem nD τ sig := (SparseCore.V d (cV i) (jV i), .dma cc0_scoped0.sem)
/-- The semaphore of the second copy. -/
abbrev cBcell : GSem nD τ sig := (SparseCore.V d (cV i) (jV i), .dma cc0_scoped1.sem)

/-- What is left of a tile's semaphores beside the copies' two. -/
abbrev semsRest : sProp (MM F) :=
  bigSep (((ownCells (SparseCore.V d (cV i) (jV i))).erase (cAcell d i)).erase (cBcell d i)) fun g => semVal g 0

/-- The two copies' semaphores are among the tile's own. -/
theorem ownSems0_V : (ownSems0 (SparseCore.V d (cV i) (jV i)) : sProp (MM F))
    = iprop(semVal (cAcell d i) 0 ∗ semVal (cBcell d i) 0 ∗ semsRest d i) := by
  unfold SparseCore.Cfg.ownSems0
  rw [SparseCore.bigSep_erase' ((mem_ownCells (g := cAcell d i)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d i)).mpr ⟨rfl, by
      show (SemLoc.dma cc0_scoped1.sem : SemLoc sig).isScoped .scVector = true; decide⟩⟩)]

/-- A tile's name of one of its own buffers. -/
abbrev dr (b : Ref sig .scVector) : DevRef τ sig := (Proc.scVector (cV i) (jV i)).devRef b

/-- What is left of a tile's buffers beside the kernel's five. -/
abbrev bufsRest : sProp (MM F) :=
  bigSep ((((((ownRefs (τ := τ) (.scVector (cV i) (jV i))).erase (dr i cc0_scratch0)).erase (dr i cc0_scratch1)).erase (dr i cc0_scratch2)).erase
      (dr i cc0_scratch3)).erase (dr i cc0_scratch4)) fun b => iprop(∃ f, ((d, b) : Loc nD τ sig) ↦{fullShare} f)

/-- The kernel's five buffers are among the tile's own. -/
theorem ownBufs_V : (ownBufs (SparseCore.V d (cV i) (jV i)) : sProp (MM F))
    = iprop((∃ f, (SparseCore.V d (cV i) (jV i)).loc cc0_scratch0 ↦{fullShare} f) ∗ (∃ f, (SparseCore.V d (cV i) (jV i)).loc cc0_scratch1 ↦{fullShare} f)
        ∗ (∃ f, (SparseCore.V d (cV i) (jV i)).loc cc0_scratch2 ↦{fullShare} f) ∗ (∃ f, (SparseCore.V d (cV i) (jV i)).loc cc0_scratch3 ↦{fullShare} f)
        ∗ (∃ f, (SparseCore.V d (cV i) (jV i)).loc cc0_scratch4 ↦{fullShare} f) ∗ bufsRest d i) := by
  have own : ∀ b : Ref sig .scVector, (dr i b).owner = .proc (Proc.scVector (cV i) (jV i)) → dr i b ∈ ownRefs (τ := τ) (.scVector (cV i) (jV i)) :=
    fun b h => SparseCore.Cfg.mem_ownRefs_of_owner (p := Proc.scVector (cV i) (jV i)) (b := dr i b) h
  have ne : ∀ {b b' : Ref sig .scVector}, b ≠ b' → dr i b ≠ dr i b' := fun h e => h (Proc.devRef_injective _ e)
  unfold SparseCore.Cfg.ownBufs
  refine (SparseCore.bigSep_erase' (own cc0_scratch0 rfl)).trans ?_
  rw [SparseCore.bigSep_erase' (Finset.mem_erase.mpr ⟨ne (b := cc0_scratch1) (by decide), own cc0_scratch1 rfl⟩),
    SparseCore.bigSep_erase' (Finset.mem_erase.mpr ⟨ne (b := cc0_scratch2) (by decide), Finset.mem_erase.mpr ⟨ne (b := cc0_scratch2) (by decide), own cc0_scratch2 rfl⟩⟩),
    SparseCore.bigSep_erase' (Finset.mem_erase.mpr ⟨ne (b := cc0_scratch3) (by decide), Finset.mem_erase.mpr ⟨ne (b := cc0_scratch3) (by decide),
      Finset.mem_erase.mpr ⟨ne (b := cc0_scratch3) (by decide), own cc0_scratch3 rfl⟩⟩⟩),
    SparseCore.bigSep_erase' (Finset.mem_erase.mpr ⟨ne (b := cc0_scratch4) (by decide), Finset.mem_erase.mpr ⟨ne (b := cc0_scratch4) (by decide),
      Finset.mem_erase.mpr ⟨ne (b := cc0_scratch4) (by decide), Finset.mem_erase.mpr ⟨ne (b := cc0_scratch4) (by decide), own cc0_scratch4 rfl⟩⟩⟩⟩)]

variable [FloatOps F]

/-- A whole row written over a tile's row of an array of words, where it lies. -/
theorem row_written (v : View sig .scVector .hbm S8192 .i32) (f : v.ty.Contents (Elt F)) (w : S8192.Idx → BitVec 32) (y : S8192.Idx) :
    v.read (Elt F) (v.writes (Elt F) f [⟨Rect.whole S8192, w⟩]) y = w y :=
  congrFun (View.read_writes_full (Val := Elt F) v f (off := fun _ => 0) (fun a => (Nat.zero_add _).le) w []) y

/-- After the first copy the row holds the values that were copied. -/
theorem a_written (f g : S32x8192.Idx → BitVec 32) (w : S8192.Idx → BitVec 32) (hw : ∀ y, w y = g (at1 i y)) :
    ∀ x ∈ rowSet (wid i), (outRow i aV).view.writes (Elt F) f [⟨Rect.whole S8192, w⟩] x = g x := by
  intro x hx
  rw [← set_a] at hx
  obtain ⟨y, -, rfl⟩ := Finset.mem_map.mp hx
  have h := row_written (F := F) (outRow i aV).view f w y
  rw [View.read_apply, cast_eq] at h
  exact (h.trans (hw y)).trans (congrArg g (emb_a i y).symm)

/-- After the second copy the row holds the values that were copied. -/
theorem b_written (f g : S32x8192.Idx → BitVec 32) (w : S8192.Idx → BitVec 32) (hw : ∀ y, w y = g (at1 i y)) :
    ∀ x ∈ rowSet (wid i), (outRow i bV).view.writes (Elt F) f [⟨Rect.whole S8192, w⟩] x = g x := by
  intro x hx
  rw [← set_b] at hx
  obtain ⟨y, -, rfl⟩ := Finset.mem_map.mp hx
  have h := row_written (F := F) (outRow i bV).view f w y
  rw [View.read_apply, cast_eq] at h
  exact (h.trans (hw y)).trans (congrArg g (emb_b i y).symm)

set_option maxHeartbeats 1000000 in
/-- The two copies: each row of the results ends as the buffer copied to it. -/
theorem copies_wp (O : CellTallies nD τ sig (HIx 1)) (W : Waits sig (HIx 1)) (hO : ∀ g, O g none = 0)
    (fa : Buf (Elt F) (aLoc d)) (fb : Buf (Elt F) (bLoc d)) (fP fQ : S8192.Idx → BitVec 32)
    (hP : ∀ y, fP y = perms (at1 i y)) (hQ : ∀ y, fQ y = invs (at1 i y)) (h0 h1) :
    iprop(levAts (K (F := F)).L (K (F := F)).lev ∗ (aLoc d ↦[rowSet (wid i)]{fullShare} fa) ∗ (bLoc d ↦[rowSet (wid i)]{fullShare} fb)
        ∗ ((s2V).view.loc (SparseCore.V d (cV i) (jV i)) ↦{fullShare} fP) ∗ ((s1V).view.loc (SparseCore.V d (cV i) (jV i)) ↦{fullShare} fQ)
        ∗ semVal (cAcell d i) 0 ∗ semVal (cBcell d i) 0 ∗ owes (SparseCore.V d (cV i) (jV i)) O W)
      ⊢ (wp frame (wpE (defs₀ (F := F)) 𝒱₀ (SparseCore.V d (cV i) (jV i)) none) Set.univ
          (copies (F := F) (i := i) aV bV s2V s1V h0 h1 cc0_scoped0 cc0_scoped1)
          fun _ => iprop((aLoc d ↦[rowSet (wid i)]{fullShare} perms) ∗ (bLoc d ↦[rowSet (wid i)]{fullShare} invs)
            ∗ ((s2V).view.loc (SparseCore.V d (cV i) (jV i)) ↦{fullShare} fP) ∗ ((s1V).view.loc (SparseCore.V d (cV i) (jV i)) ↦{fullShare} fQ)
            ∗ semVal (cAcell d i) 0 ∗ semVal (cBcell d i) 0
            ∗ ∃ W', ⌜∀ p ∈ W', p ∈ W ∨ p.2 = none⌝ ∗ owes (SparseCore.V d (cV i) (jV i)) O W') : sProp (MM F)) := by
  unfold copies
  iintro ⟨#Hlv, Ha, Hb, HP, HQ, HsA, HsB, HO⟩
  ihave Hmw := (show levAts (K (F := F)).L (K (F := F)).lev ⊢ Transfers.MayWaits (SparseCore.V d (cV i) (jV i)) (default : HIx 1) O from
    (K (F := F)).mayWaits_none (thr := SparseCore.V d (cV i) (jV i)) hO) $$ Hlv
  ihave Ha' := (Entails.of_eq (pts_a (F := F) d i _).symm) $$ Ha
  ihave Hb' := (Entails.of_eq (pts_b (F := F) d i _).symm) $$ Hb
  sl_exec
  sl_step
  have eP : ∀ y, copies_wp.sl.dma0 (F := F) fP y = perms (at1 i y) := hP
  have eQ : ∀ y, copies_wp.sl.dma0_1 (F := F) fQ y = invs (at1 i y) := hQ
  ihave Ha := (Entails.of_eq ((pts_a (F := F) d i _).trans (pointsTo_congr (g := perms) (a_written (F := F) i fa perms _ eP)))) $$ Ha'
  ihave Hb := (Entails.of_eq ((pts_b (F := F) d i _).trans (pointsTo_congr (g := invs) (b_written (F := F) i fb invs _ eQ)))) $$ Hb'
  isplitl [Ha]; · iexact Ha
  isplitl [Hb]; · iexact Hb
  isplitl [HP]; · iexact HP
  isplitl [HQ]; · iexact HQ
  isplitl [HsA]; · iexact HsA
  isplitl [HsB]; · iexact HsB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-! ## The tile's run -/

/-- The kernel's buffers. -/
def B₀ : Bufs where
  row := fun | 0 => s0V | 1 => s1V | 2 => s2V | 3 => s3V
  cnt := hV
  hrow := fun | 0 => Memref.isWhole_whole _ | 1 => Memref.isWhole_whole _ | 2 => Memref.isWhole_whole _ | 3 => Memref.isWhole_whole _
  hcnt := Memref.isWhole_whole _

/-- A row's words by number. -/
def wordsOf {n : ℕ} (f : (⟨1, ![n]⟩ : Shape).Idx → BitVec 32) (k : ℕ) : BitVec 32 := if h : k < n then f (fun a => match a with | ⟨0, _⟩ => (⟨k, h⟩ : Fin n)) else 0

/-- An array, read as words and written again, is itself. -/
theorem arr_wordsOf {n : ℕ} (f : (⟨1, ![n]⟩ : Shape).Idx → BitVec 32) : (arr (F := F) n (wordsOf f) : (⟨1, ![n]⟩ : Shape).Idx → BitVec 32) = f := by
  funext x
  have hx : (x 0).val < n := (x 0).isLt
  show wordsOf f (x 0).val = f x
  unfold wordsOf
  rw [dif_pos hx]
  congr 1
  funext a
  match a with
  | ⟨0, _⟩ => rfl

/-- A whole buffer, as the tile owns it. -/
theorem own_whole (b : Ref sig .scVector) (f : Buf (Elt F) ((SparseCore.V d (cV i) (jV i)).loc b)) :
    ((SparseCore.V d (cV i) (jV i)).loc b ↦{fullShare} f : sProp (MM F))
      ⊢ owns (SparseCore.V d (cV i) (jV i)) (Memref.whole b) fullShare f := by
  unfold owns
  iintro H
  iexists f; isplitr
  · ipureintro; exact View.read_whole _ _
  · iapply (Entails.of_eq (show ((SparseCore.V d (cV i) (jV i)).loc b ↦{fullShare} f : sProp (MM F))
      = (Memref.whole b).view.loc (SparseCore.V d (cV i) (jV i)) ↦[(Memref.whole b).view.set]{fullShare} f from by
        rw [show (Memref.whole b).view.set = Finset.univ from View.set_whole _])) $$ H

/-- Holding a whole buffer through its view is holding it. -/
theorem whole_own (b : Ref sig .scVector) (x : Buf (Elt F) ((SparseCore.V d (cV i) (jV i)).loc b)) :
    (owns (SparseCore.V d (cV i) (jV i)) (Memref.whole b) fullShare x : sProp (MM F))
      ⊢ ((SparseCore.V d (cV i) (jV i)).loc b ↦{fullShare} x) := by
  unfold owns
  iintro ⟨%f, %e, H⟩
  have e' : f = x := (View.read_whole b f).symm.trans e
  subst e'
  iapply (Entails.of_eq (show ((SparseCore.V d (cV i) (jV i)).loc b ↦{fullShare} f : sProp (MM F))
      = (Memref.whole b).view.loc (SparseCore.V d (cV i) (jV i)) ↦[(Memref.whole b).view.set]{fullShare} f from by
        rw [show (Memref.whole b).view.set = Finset.univ from View.set_whole _]).symm) $$ H

/-- What a tile holds beside its buffers while it works. -/
abbrev Rest (O : CellTallies nD τ sig (HIx 1)) (W : Waits sig (HIx 1)) (fa : Buf (Elt F) (aLoc d)) (fb : Buf (Elt F) (bLoc d)) : sProp (MM F) :=
  iprop(levAts (K (F := F)).L (K (F := F)).lev ∗ (aLoc d ↦[rowSet (wid i)]{fullShare} fa) ∗ (bLoc d ↦[rowSet (wid i)]{fullShare} fb)
    ∗ semVal (cAcell d i) 0 ∗ semVal (cBcell d i) 0 ∗ semsRest d i ∗ bufsRest d i ∗ owes (SparseCore.V d (cV i) (jV i)) O W)

/-- What a tile leaves. -/
abbrev Left (O : CellTallies nD τ sig (HIx 1)) (W : Waits sig (HIx 1)) : sProp (MM F) :=
  iprop(((aLoc d ↦[rowSet (wid i)]{fullShare} perms) ∗ (bLoc d ↦[rowSet (wid i)]{fullShare} invs))
    ∗ scopedBufs (SparseCore.V d (cV i) (jV i)) ∗ scopedSems0 (SparseCore.V d (cV i) (jV i))
    ∗ ∃ W', ⌜∀ p ∈ W', p ∈ W ∨ p.2 = none⌝ ∗ owes (SparseCore.V d (cV i) (jV i)) O W')

/-- The copies, from the buffers as the body leaves them. -/
theorem runs_copies (O : CellTallies nD τ sig (HIx 1)) (W : Waits sig (HIx 1)) (hO : ∀ g, O g none = 0)
    (fa : Buf (Elt F) (aLoc d)) (fb : Buf (Elt F) (bLoc d)) (σ : Conts) (h0 h1)
    (hP : ∀ p < 8192, σ.row 2 (dest (wid i) p) = BitVec.ofNat 32 p) (hQ : ∀ p < 8192, σ.row 1 p = BitVec.ofNat 32 (dest (wid i) p)) :
    Runs B₀ d i (Rest d i O W fa fb) σ (copies (F := F) (i := i) aV bV s2V s1V h0 h1 cc0_scoped0 cc0_scoped1) fun _ => Left d i O W := by
  have eP : ∀ y, (arr (F := F) 8192 (σ.row 2) : S8192.Idx → BitVec 32) y = perms (at1 i y) := fun y => by
    have hy : (y 0).val < 8192 := (y 0).isLt
    show σ.row 2 (y 0).val = BitVec.ofNat 32 (permN (wid i) (y 0).val)
    rw [← hP _ permN_lt, dest_permN hy]
  have eQ : ∀ y, (arr (F := F) 8192 (σ.row 1) : S8192.Idx → BitVec 32) y = invs (at1 i y) := fun y => hQ _ (y 0).isLt
  unfold Runs Hold Left Rest
  rw [(K (F := F)).scopedBufs_V facts d (cV i) (jV i), SparseCore.Cfg.scopedSems0_V (Val := Elt F) d (cV i) (jV i), ownSems0_V, ownBufs_V]
  iintro ⟨⟨H0, H1, H2, H3⟩, Hc, ⟨#Hlv, Ha, Hb, HsA, HsB, Hsems, Hbufs, HO⟩⟩
  ihave H0 := (show (owns (thr d i) (B₀.row 0) fullShare (arr 8192 (σ.row 0)) : sProp (MM F)) ⊢ _ from
    whole_own (F := F) d i cc0_scratch0 (arr 8192 (σ.row 0))) $$ H0
  ihave H1 := (show (owns (thr d i) (B₀.row 1) fullShare (arr 8192 (σ.row 1)) : sProp (MM F)) ⊢ _ from
    whole_own (F := F) d i cc0_scratch1 (arr 8192 (σ.row 1))) $$ H1
  ihave H2 := (show (owns (thr d i) (B₀.row 2) fullShare (arr 8192 (σ.row 2)) : sProp (MM F)) ⊢ _ from
    whole_own (F := F) d i cc0_scratch2 (arr 8192 (σ.row 2))) $$ H2
  ihave H3 := (show (owns (thr d i) (B₀.row 3) fullShare (arr 8192 (σ.row 3)) : sProp (MM F)) ⊢ _ from
    whole_own (F := F) d i cc0_scratch3 (arr 8192 (σ.row 3))) $$ H3
  ihave Hc := (show (owns (thr d i) B₀.cnt fullShare (arr 4096 σ.cnt) : sProp (MM F)) ⊢ _ from
    whole_own (F := F) d i cc0_scratch4 (arr 4096 σ.cnt)) $$ Hc
  iapply (wp_wand_r frame _ _)
  isplitl [Ha Hb H2 H1 HsA HsB HO]
  · iapply (copies_wp d i O W hO fa fb (arr (F := F) 8192 (σ.row 2)) (arr (F := F) 8192 (σ.row 1)) eP eQ h0 h1)
    isplitr; · iexact Hlv
    isplitl [Ha]; · iexact Ha
    isplitl [Hb]; · iexact Hb
    isplitl [H2]; · iexact H2
    isplitl [H1]; · iexact H1
    isplitl [HsA]; · iexact HsA
    isplitl [HsB]; · iexact HsB
    iexact HO
  iintro %u ⟨Ha, Hb, H2, H1, HsA, HsB, HO⟩
  isplitl [Ha Hb]
  · isplitl [Ha]; · iexact Ha
    iexact Hb
  isplitl [H0 H1 H2 H3 Hc Hbufs]
  · isplitl [H0]; · iexists _; iexact H0
    isplitl [H1]; · iexists _; iexact H1
    isplitl [H2]; · iexists _; iexact H2
    isplitl [H3]; · iexists _; iexact H3
    isplitl [Hc]; · iexists _; iexact Hc
    iexact Hbufs
  isplitl [HsA HsB Hsems]
  · isplitl [HsA]; · iexact HsA
    isplitl [HsB]; · iexact HsB
    iexact Hsems
  iexact HO

/-- A tile's run: its row of the first result ends as the permutation, of the second as the inverse. -/
theorem tile_body (O : CellTallies nD τ sig (HIx 1)) (W : Waits sig (HIx 1)) (hO : ∀ g, O g none = 0)
    (fa : Buf (Elt F) (aLoc d)) (fb : Buf (Elt F) (bLoc d)) :
    iprop(levAts (K (F := F)).L (K (F := F)).lev ∗ emp
        ∗ ((aLoc d ↦[rowSet (wid i)]{fullShare} fa) ∗ (bLoc d ↦[rowSet (wid i)]{fullShare} fb))
        ∗ scopedBufs (SparseCore.V d (cV i) (jV i)) ∗ scopedSems0 (SparseCore.V d (cV i) (jV i)) ∗ owes (SparseCore.V d (cV i) (jV i)) O W)
      ⊢ (wp frame (wpE (defs₀ (F := F)) 𝒱₀ (SparseCore.V d (cV i) (jV i)) none) Set.univ
          (cc0__sc_body i aV (Memref.isWhole_whole _) bV (Memref.isWhole_whole _) s0V (Memref.isWhole_whole _) s1V (Memref.isWhole_whole _)
            s2V (Memref.isWhole_whole _) s3V (Memref.isWhole_whole _) hV (Memref.isWhole_whole _) cc0_scoped0 cc0_scoped1)
          fun _ => Left d i O W : sProp (MM F)) := by
  rw [body_eq, (K (F := F)).scopedBufs_V facts d (cV i) (jV i), SparseCore.Cfg.scopedSems0_V (Val := Elt F) d (cV i) (jV i), ownSems0_V, ownBufs_V]
  have run := fun σ => runs_body (F := F) (B := B₀) (d := d) (i := i) (R := Rest d i O W fa fb) (σ := σ) (A := aV) (A' := bV)
    (hkb := Memref.isWhole_whole _) (hpa := Memref.isWhole_whole _) (r0 := cc0_scoped0) (r1 := cc0_scoped1) (Q := fun _ => Left d i O W)
    fun σ' hP hQ => runs_copies d i O W hO fa fb σ' (Memref.isWhole_whole _) (Memref.isWhole_whole _) hP hQ
  unfold Runs at run
  iintro ⟨#Hlv, -, ⟨Ha, Hb⟩, ⟨⟨%f0, H0⟩, ⟨%f1, H1⟩, ⟨%f2, H2⟩, ⟨%f3, H3⟩, ⟨%f4, Hc⟩, Hbufs⟩, ⟨HsA, HsB, Hsems⟩, HO⟩
  iapply (run ⟨fun | 0 => wordsOf (n := 8192) f0 | 1 => wordsOf (n := 8192) f1 | 2 => wordsOf (n := 8192) f2 | 3 => wordsOf (n := 8192) f3, wordsOf (n := 4096) f4⟩)
  unfold Hold
  ihave H0 := (own_whole (F := F) d i cc0_scratch0 f0) $$ H0
  ihave H1 := (own_whole (F := F) d i cc0_scratch1 f1) $$ H1
  ihave H2 := (own_whole (F := F) d i cc0_scratch2 f2) $$ H2
  ihave H3 := (own_whole (F := F) d i cc0_scratch3 f3) $$ H3
  ihave Hc := (own_whole (F := F) d i cc0_scratch4 f4) $$ Hc
  have e0 := arr_wordsOf (F := F) (n := 8192) f0
  have e1 := arr_wordsOf (F := F) (n := 8192) f1
  have e2 := arr_wordsOf (F := F) (n := 8192) f2
  have e3 := arr_wordsOf (F := F) (n := 8192) f3
  have e4 := arr_wordsOf (F := F) (n := 4096) f4
  isplitl [H0 H1 H2 H3]
  · isplitl [H0]
    · iapply (Entails.of_eq (congrArg (fun x => owns (SparseCore.V d (cV i) (jV i)) s0V fullShare x) e0.symm)) $$ H0
    isplitl [H1]
    · iapply (Entails.of_eq (congrArg (fun x => owns (SparseCore.V d (cV i) (jV i)) s1V fullShare x) e1.symm)) $$ H1
    isplitl [H2]
    · iapply (Entails.of_eq (congrArg (fun x => owns (SparseCore.V d (cV i) (jV i)) s2V fullShare x) e2.symm)) $$ H2
    iapply (Entails.of_eq (congrArg (fun x => owns (SparseCore.V d (cV i) (jV i)) s3V fullShare x) e3.symm)) $$ H3
  isplitl [Hc]
  · iapply (Entails.of_eq (congrArg (fun x => owns (SparseCore.V d (cV i) (jV i)) hV fullShare x) e4.symm)) $$ Hc
  isplitr; · iexact Hlv
  isplitl [Ha]; · iexact Ha
  isplitl [Hb]; · iexact Hb
  isplitl [HsA]; · iexact HsA
  isplitl [HsB]; · iexact HsB
  isplitl [Hsems]; · iexact Hsems
  isplitl [Hbufs]; · iexact Hbufs
  iexact HO

end Tile

end Cert.Proof
end
-- ==== Proof.Launch.lean ====
/-
  The program's run: the argument unchanged, the first result the permutations, the second their inverses, every
  semaphore back at zero.
-/
module

public import proofs.«01_k».proof.Proof.Tile

@[expose] public section

noncomputable section

namespace Cert.Proof

open Cert.KernelIdeal Cert.KernelIdeal.Gen Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

local notation "aV" => (Memref.whole Cert.KernelIdeal.main_v0_0_scv : Memref Cert.KernelIdeal.sig Kind.scVector Space.hbm Cert.KernelIdeal.S32x8192 EltTy.i32)
local notation "bV" => (Memref.whole Cert.KernelIdeal.main_v0_1_scv : Memref Cert.KernelIdeal.sig Kind.scVector Space.hbm Cert.KernelIdeal.S32x8192 EltTy.i32)
local notation "s0V" => (Memref.whole Cert.KernelIdeal.cc0_scratch0 : Memref Cert.KernelIdeal.sig Kind.scVector Space.vmem Cert.KernelIdeal.S8192 EltTy.i32)
local notation "s1V" => (Memref.whole Cert.KernelIdeal.cc0_scratch1 : Memref Cert.KernelIdeal.sig Kind.scVector Space.vmem Cert.KernelIdeal.S8192 EltTy.i32)
local notation "s2V" => (Memref.whole Cert.KernelIdeal.cc0_scratch2 : Memref Cert.KernelIdeal.sig Kind.scVector Space.vmem Cert.KernelIdeal.S8192 EltTy.i32)
local notation "s3V" => (Memref.whole Cert.KernelIdeal.cc0_scratch3 : Memref Cert.KernelIdeal.sig Kind.scVector Space.vmem Cert.KernelIdeal.S8192 EltTy.i32)
local notation "hV" => (Memref.whole Cert.KernelIdeal.cc0_scratch4 : Memref Cert.KernelIdeal.sig Kind.scVector Space.vmem Cert.KernelIdeal.S4096 EltTy.i32)

/-! ## What the handshakes carry -/

/-- Row `r` of both results, at given contents. -/
abbrev rowPts (d : Dev nD) (r : ℕ) (fa : Buf (Elt F) (aLoc d)) (fb : Buf (Elt F) (bLoc d)) : sProp (MM F) :=
  iprop((aLoc d ↦[rowSet r]{fullShare} fa) ∗ (bLoc d ↦[rowSet r]{fullShare} fb))

/-- The sixteen rows of a SparseCore's tiles. -/
abbrev corePts (d : Dev nD) (c : ℕ) (fa : Buf (Elt F) (aLoc d)) (fb : Buf (Elt F) (bLoc d)) : sProp (MM F) :=
  bigSep Finset.univ fun s : Fin 16 => rowPts d (s.val * 2 + c) fa fb

/-- The call hands each SparseCore its tiles' rows as they are, and each tile its row; back come the permutations
    and the inverses. -/
def P : (K (F := F)).Pay (nD := nD) (Val := Elt F) (Name := ℕ) (U := UU) where
  st := fun q d c => match q with | 0 => corePts d c.val (m (aLoc d)) (m (bLoc d))
  dn := fun q d c => match q with | 0 => corePts d c.val perms invs
  go := fun q d c i => match q with | 0 => rowPts d (i.val * 2 + c.val) (m (aLoc d)) (m (bLoc d))
  td := fun q d c i => match q with | 0 => rowPts d (i.val * 2 + c.val) perms invs
  x := fun _ _ => iprop(emp)

instance P_storable : (P (F := F) m).IsStorable where
  st q d c := match q with
    | 0 => (inferInstance : BI.Storable (upEmb : UEmb _ (MM F)) (corePts d c.val (m (aLoc d)) (m (bLoc d))))
  dn q d c := match q with
    | 0 => (inferInstance : BI.Storable (upEmb : UEmb _ (MM F)) (corePts d c.val perms invs))
  go q d c i := match q with
    | 0 => (inferInstance : BI.Storable (upEmb : UEmb _ (MM F)) (rowPts d (i.val * 2 + c.val) (m (aLoc d)) (m (bLoc d))))
  td q d c i := match q with
    | 0 => (inferInstance : BI.Storable (upEmb : UEmb _ (MM F)) (rowPts d (i.val * 2 + c.val) perms invs))

/-! ## The tiles' obligation -/

/-- The coordinates of a tile's program. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its coordinates. -/
theorem defs₀_vector (c : Fin τ.nSC) (s : Fin τ.nSub) :
    defs₀ (F := F) (.scVector c s) 0 ()
      = SparseCore.onTile hcore0 hsub0 (fun c s => cc0__sc_body (coordsV c s)
          aV (Memref.isWhole_whole _) bV (Memref.isWhole_whole _) s0V (Memref.isWhole_whole _) s1V (Memref.isWhole_whole _)
          s2V (Memref.isWhole_whole _) s3V (Memref.isWhole_whole _) hV (Memref.isWhole_whole _) cc0_scoped0 cc0_scoped1) ⟨⟩ c s := rfl

omit [FloatOps F] in
/-- What a tile's run leaves behind is what the launch asks of it. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, given its two rows, runs to its end and leaves the row's values in them. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) O W hO (m (aLoc d)) (m (bLoc d))).trans (wp_mono frame _ _ fun _ => obl_post)

/-! ## The rows split and join -/

/-- A core and a subcore. -/
abbrev rowOf (t : Fin 2 × Fin 16) : ℕ := t.2.val * 2 + t.1.val

/-- The rows of different tiles have no element in common. -/
theorem rows_disjoint : ∀ t ∈ (Finset.univ : Finset (Fin 2 × Fin 16)), ∀ t' ∈ (Finset.univ : Finset (Fin 2 × Fin 16)), t ≠ t' →
    Disjoint (rowSet (rowOf t)) (rowSet (rowOf t')) := fun t _ t' _ h => Finset.disjoint_left.mpr fun x hx hx' => h (by
  rw [mem_rowSet] at hx hx'
  have e : rowOf t = rowOf t' := hx.symm.trans hx'
  have h1 := t.1.isLt
  have h2 := t'.1.isLt
  simp only [rowOf] at e
  exact Prod.ext (Fin.ext (by omega)) (Fin.ext (by omega)))

/-- The tiles' rows make up the whole result. -/
theorem rows_cover : (Finset.univ : Finset (Fin 2 × Fin 16)).biUnion (fun t => rowSet (rowOf t)) = Finset.univ := by
  ext x
  have hx : (x 0).val < 32 := (x 0).isLt
  simp only [Finset.mem_biUnion, Finset.mem_univ, true_and, iff_true]
  exact ⟨(⟨(x 0).val % 2, by omega⟩, ⟨(x 0).val / 2, by omega⟩), mem_rowSet.mpr (by simp only [rowOf]; omega)⟩

omit [FloatOps F] in
/-- A whole result is its rows, core by core. -/
theorem a_rows (d : Dev nD) (f : Buf (Elt F) (aLoc d)) :
    (aLoc d ↦{fullShare} f : sProp (MM F))
      = bigSep Finset.univ fun c : Fin 2 => bigSep Finset.univ fun s : Fin 16 => aLoc d ↦[rowSet (s.val * 2 + c.val)]{fullShare} f := by
  rw [← bigSep_univ_prod (fun t : Fin 2 × Fin 16 => (aLoc d ↦[rowSet (rowOf t)]{fullShare} f : sProp (MM F))),
    ← pointsTo_biUnion Finset.univ (ℓ := aLoc d) (fun t => rowSet (rowOf t)) rows_disjoint, rows_cover]

omit [FloatOps F] in
/-- The second result, held whole, is its rows, held by the tiles. -/
theorem b_rows (d : Dev nD) (f : Buf (Elt F) (bLoc d)) :
    (bLoc d ↦{fullShare} f : sProp (MM F))
      = bigSep Finset.univ fun c : Fin 2 => bigSep Finset.univ fun s : Fin 16 => bLoc d ↦[rowSet (s.val * 2 + c.val)]{fullShare} f := by
  rw [← bigSep_univ_prod (fun t : Fin 2 × Fin 16 => (bLoc d ↦[rowSet (rowOf t)]{fullShare} f : sProp (MM F))),
    ← pointsTo_biUnion Finset.univ (ℓ := bLoc d) (fun t => rowSet (rowOf t)) rows_disjoint, rows_cover]

omit [FloatOps F] in
/-- Both results are what the two SparseCores hold. -/
theorem cores_eq (d : Dev nD) (fa : Buf (Elt F) (aLoc d)) (fb : Buf (Elt F) (bLoc d)) :
    (bigSep Finset.univ fun c : Fin 2 => corePts d c.val fa fb) = iprop((aLoc d ↦{fullShare} fa) ∗ (bLoc d ↦{fullShare} fb)) := by
  rw [a_rows, b_rows, ← bigSep_sep']
  refine bigSep_congr fun c _ => ?_
  rw [← bigSep_sep']

/-- A SparseCore's share of the two results splits among its tiles, and comes together again afterwards. -/
theorem vecSplit : (K (F := F)).VecSplit' (P m) 0 := by
  intro d c
  show corePts d c.val (m (aLoc d)) (m (bLoc d)) ⊢ |={Set.univ}=> iprop(
      (bigSep Finset.univ fun i : Fin 16 => rowPts d (i.val * 2 + c.val) (m (aLoc d)) (m (bLoc d)))
      ∗ ((bigSep Finset.univ fun i : Fin 16 => rowPts d (i.val * 2 + c.val) perms invs) -∗ corePts d c.val perms invs))
  iintro H; imodintro
  isplitl [H]; · iexact H
  iintro H; iexact H

/-! ## The launch -/

/-- The ghost state at the start. -/
def u₀ : UU := (initOf (K (F := F)).hsCells (K (F := F)).hsToks, 1)

omit [FloatOps F] in
/-- Nothing, many times over, is nothing. -/
theorem bigSep_emp' {I : Type} (s : Finset I) : (bigSep s fun _ => iprop(emp)) = (iprop(emp) : sProp (MM F)) := bigSep_emp_const s

/-- The ghost state at the start yields the handshakes' first state. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

omit [FloatOps F] in
/-- The program's arrays are the argument and the two results. -/
theorem unscopedBufs_eq (d : Dev nD) (W : (b : Ref sig .tc) → Buf (Elt F) ((d.tc : Thread nD τ).loc b)) :
    (unscopedBufs d W : sProp (MM F)) = iprop((zLoc d ↦{fullShare} W main_arg0) ∗ (aLoc d ↦{fullShare} W main_v0_0) ∗ bLoc d ↦{fullShare} W main_v0_1) := by
  unfold unscopedBufs
  rw [show (Finset.univ.filter fun b : Ref sig .tc => ¬ b.isScoped) = {main_arg0, main_v0_0, main_v0_1} by decide,
    SparseCore.bigSep_insert' (by decide), SparseCore.bigSep_insert' (by decide), bigSep_singleton]

/-- What the launch hands out is the two results, whole. -/
theorem st0_eq (d : Dev nD) : (bigSep Finset.univ fun c : Fin ((K (F := F)).nCore 0) => (P m).st 0 d c)
    = iprop((aLoc d ↦{fullShare} m (aLoc d)) ∗ (bLoc d ↦{fullShare} m (bLoc d))) := cores_eq d _ _
/-- What the launch takes back is the two results with the permutations and their inverses. -/
theorem dn0_eq (d : Dev nD) : (bigSep Finset.univ fun c : Fin ((K (F := F)).nCore 0) => (P m).dn 0 d c)
    = iprop((aLoc d ↦{fullShare} perms) ∗ (bLoc d ↦{fullShare} invs)) := cores_eq d _ _

/-- At the end the argument is as it was and the two results hold the permutations and their inverses. -/
abbrev FIN (d : Dev nD) : sProp (MM F) := iprop((zLoc d ↦{fullShare} m (zLoc d)) ∗ (aLoc d ↦{fullShare} perms) ∗ (bLoc d ↦{fullShare} invs))

/-- The program on a device: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hz, Ha, Ho⟩, Hts, -⟩, -⟩
  iapply ((K (F := F)).wp_run (D (F := F)) 𝒱 (EH := EH) (P := P m) κ d 0) $$ [Hst Hz Ha Ho Hb Hts]
  isplitr; · iexact Hctx
  isplitl [Hst]; · iexact Hst
  isplitl [Ha Ho]
  · rw [st0_eq]
    isplitl [Ha]; · iexact Ha
    iexact Ho
  iintro ⟨Hst, Hdn⟩
  ihave Hdn' := (Entails.of_eq (dn0_eq m d)) $$ Hdn
  icases Hdn' with ⟨Ha, Ho⟩
  imodintro
  isplitl [Hst]; · iexact Hst
  isplitr [Hb Hts]
  · isplitl [Hz]; · iexact Hz
    isplitl [Ha]; · iexact Ha
    iexact Ho
  isplitl [Hb] <;> iassumption

/-- The same, of a final state of the memory. -/
def fq (d : Dev nD) (s' : Phys nD τ sig (Elt F)) : Prop :=
  s'.mem.mem (zLoc d) = m (zLoc d) ∧ s'.mem.mem (aLoc d) = (perms : S32x8192.Idx → BitVec 32) ∧ s'.mem.mem (bLoc d) = (invs : S32x8192.Idx → BitVec 32)

set_option maxRecDepth 16384 in
/-- What is held at the end tells what the memory contains. -/
theorem hfin (d : Dev nD) (s' : Phys nD τ sig (Elt F)) : iprop(FIN m d ∗ SI s') ⊢ (⌜fq m d s'⌝ : sProp (MM F)) := by
  iintro ⟨⟨Hz, Ha, Hb⟩, HSI⟩
  ihave H := (persistent_entails_right (SI_pointsTo_agree (st := s') (ℓ := zLoc d) (I := Finset.univ) (q := fullShare) (f := m (zLoc d)))) $$ [HSI Hz]
  · isplitl [HSI] <;> iassumption
  icases H with ⟨%h1, HSI, -⟩
  ihave H := (persistent_entails_right (SI_pointsTo_agree (st := s') (ℓ := aLoc d) (I := Finset.univ) (q := fullShare) (f := perms))) $$ [HSI Ha]
  · isplitl [HSI] <;> iassumption
  icases H with ⟨%h2, HSI, -⟩
  ihave H := (SI_pointsTo_agree (st := s') (ℓ := bLoc d) (I := Finset.univ) (q := fullShare) (f := invs)) $$ [HSI Hb]
  · isplitl [HSI] <;> iassumption
  icases H with %h3
  ipureintro; exact ⟨funext fun i => h1 i (Finset.mem_univ i), funext fun i => h2 i (Finset.mem_univ i), funext fun i => h3 i (Finset.mem_univ i)⟩

/-- What the run ends in. -/
def QC : PUnit × MemSt nD τ sig (Elt F) → Prop := fun r =>
  (∀ c : Dev nD, r.2.mem (zLoc c) = m (zLoc c) ∧ r.2.mem (aLoc c) = (perms : S32x8192.Idx → BitVec 32) ∧ r.2.mem (bLoc c) = (invs : S32x8192.Idx → BitVec 32))
    ∧ r.2.sem = fun _ => 0

/-- The program's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
end
-- ==== Proof.Hash.lean ====
/-
  The reference's hashes, read at an index: each of its five unrolled hashes is the word hash.
-/
module

public import proofs.«01_k».proof.Proof.Value
public import proofs.«01_k».proof.Proof.Gen.ReferenceIdeal.Run

@[expose] public section

namespace Cert.Proof

open Idealize.ShloMosaic Cert.ReferenceIdeal Cert.ReferenceIdeal.Gen Cert.ReferenceIdeal.Value

/-- Four rounds of the first kind, one at a time. -/
theorem odd_of {e c : BitVec 32} (a1 b1 a2 b2 a3 b3 a4 : BitVec 32) (h1 : a1 = e + c) (k1 : b1 = (c <<< 13#32 ||| c >>> 19#32) ^^^ a1)
    (h2 : a2 = a1 + b1) (k2 : b2 = (b1 <<< 15#32 ||| b1 >>> 17#32) ^^^ a2) (h3 : a3 = a2 + b2)
    (k3 : b3 = (b2 <<< 26#32 ||| b2 >>> 6#32) ^^^ a3) (h4 : a4 = a3 + b3) :
    oddS (e, c) = (a4, (b3 <<< 6#32 ||| b3 >>> 26#32) ^^^ a4) := by
  subst h1 k1 h2 k2 h3 k3 h4; rfl

/-- Four rounds of the second kind, one at a time. -/
theorem even_of {e c : BitVec 32} (a1 b1 a2 b2 a3 b3 a4 : BitVec 32) (h1 : a1 = e + c) (k1 : b1 = (c <<< 17#32 ||| c >>> 15#32) ^^^ a1)
    (h2 : a2 = a1 + b1) (k2 : b2 = (b1 <<< 29#32 ||| b1 >>> 3#32) ^^^ a2) (h3 : a3 = a2 + b2)
    (k3 : b3 = (b2 <<< 16#32 ||| b2 >>> 16#32) ^^^ a3) (h4 : a4 = a3 + b3) :
    evenS (e, c) = (a4, (b3 <<< 24#32 ||| b3 >>> 8#32) ^^^ a4) := by
  subst h1 k1 h2 k2 h3 k3 h4; rfl

/-- The hash from its five groups of rounds. -/
theorem tf_of {k1 k2 k3 x c1 c2 c3 c4 c5 p1 p2 p3 p4 p5 q1 q2 q3 q4 q5 : BitVec 32} (hk : k3 = keyS k1 k2)
    (h1 : c1 = x + k2) (g1 : oddS (k1, c1) = (p1, q1)) (h2 : c2 = q1 + k3 + 1#32) (g2 : evenS (p1 + k2, c2) = (p2, q2))
    (h3 : c3 = q2 + k1 + 2#32) (g3 : oddS (p2 + k3, c3) = (p3, q3)) (h4 : c4 = q3 + k2 + 3#32) (g4 : evenS (p3 + k1, c4) = (p4, q4))
    (h5 : c5 = q4 + k3 + 4#32) (g5 : oddS (p4 + k2, c5) = (p5, q5)) : (p5 + k3, q5 + k1 + 5#32) = tfS k1 k2 x := by
  subst hk h1 h2 h3 h4 h5
  unfold tfS
  rw [g1]
  simp only [injS]
  rw [g2]
  dsimp only
  rw [g3]
  dsimp only
  rw [g4]
  dsimp only
  rw [g5]

/-- An array's word at an index. -/
abbrev rd (s : Shape) (v : IVec s 32) (j : s.Idx) : BitVec 32 := v j

section
variable {F : FTy → Type} [FloatOps F] (V : Valuation τ sig (Elt F))

/-- The rows' keys. -/
theorem hash_rows (j : S32.Idx) :
    ((rd S32 (res_main_v163 V) j + (rd S32 (broadcastInDim S32 ![] bcast_S_S32 (res_main_v2 V)) j) : BitVec 32), (((rd S32 (res_main_v162 V) j <<< 6#32 ||| rd S32 (res_main_v162 V) j >>> 26#32) ^^^ rd S32 (res_main_v163 V) j) + 0#32 + 5#32 : BitVec 32)) = tfS 0#32 42#32 (BitVec.ofNat 32 (j 0).val) :=
  tf_of (k1 := 0#32) (k2 := 42#32) (k3 := (rd S32 (broadcastInDim S32 ![] bcast_S_S32 (res_main_v2 V)) j)) (x := (BitVec.ofNat 32 (j 0).val))
    (p1 := (rd S32 (res_main_v27 V) j)) (q1 := ((rd S32 (res_main_v26 V) j) <<< 6#32 ||| (rd S32 (res_main_v26 V) j) >>> 26#32) ^^^ (rd S32 (res_main_v27 V) j))
    (p2 := (rd S32 (res_main_v61 V) j)) (q2 := ((rd S32 (res_main_v60 V) j) <<< 24#32 ||| (rd S32 (res_main_v60 V) j) >>> 8#32) ^^^ (rd S32 (res_main_v61 V) j))
    (p3 := (rd S32 (res_main_v95 V) j)) (q3 := ((rd S32 (res_main_v94 V) j) <<< 6#32 ||| (rd S32 (res_main_v94 V) j) >>> 26#32) ^^^ (rd S32 (res_main_v95 V) j))
    (p4 := (rd S32 (res_main_v129 V) j)) (q4 := ((rd S32 (res_main_v128 V) j) <<< 24#32 ||| (rd S32 (res_main_v128 V) j) >>> 8#32) ^^^ (rd S32 (res_main_v129 V) j))
    (p5 := (rd S32 (res_main_v163 V) j)) (q5 := ((rd S32 (res_main_v162 V) j) <<< 6#32 ||| (rd S32 (res_main_v162 V) j) >>> 26#32) ^^^ (rd S32 (res_main_v163 V) j))
    (c1 := (rd S32 (res_main_v5 V) j)) rfl rfl
    (odd_of (rd S32 (res_main_v6 V) j) (rd S32 (res_main_v12 V) j) (rd S32 (res_main_v13 V) j) (rd S32 (res_main_v19 V) j) (rd S32 (res_main_v20 V) j) (rd S32 (res_main_v26 V) j) (rd S32 (res_main_v27 V) j) rfl rfl rfl rfl rfl rfl rfl)
    (c2 := (rd S32 (res_main_v39 V) j)) rfl
    (even_of (rd S32 (res_main_v40 V) j) (rd S32 (res_main_v46 V) j) (rd S32 (res_main_v47 V) j) (rd S32 (res_main_v53 V) j) (rd S32 (res_main_v54 V) j) (rd S32 (res_main_v60 V) j) (rd S32 (res_main_v61 V) j) rfl rfl rfl rfl rfl rfl rfl)
    (c3 := (rd S32 (res_main_v73 V) j)) rfl
    (odd_of (rd S32 (res_main_v74 V) j) (rd S32 (res_main_v80 V) j) (rd S32 (res_main_v81 V) j) (rd S32 (res_main_v87 V) j) (rd S32 (res_main_v88 V) j) (rd S32 (res_main_v94 V) j) (rd S32 (res_main_v95 V) j) rfl rfl rfl rfl rfl rfl rfl)
    (c4 := (rd S32 (res_main_v107 V) j)) rfl
    (even_of (rd S32 (res_main_v108 V) j) (rd S32 (res_main_v114 V) j) (rd S32 (res_main_v115 V) j) (rd S32 (res_main_v121 V) j) (rd S32 (res_main_v122 V) j) (rd S32 (res_main_v128 V) j) (rd S32 (res_main_v129 V) j) rfl rfl rfl rfl rfl rfl rfl)
    (c5 := (rd S32 (res_main_v141 V) j)) rfl
    (odd_of (rd S32 (res_main_v142 V) j) (rd S32 (res_main_v148 V) j) (rd S32 (res_main_v149 V) j) (rd S32 (res_main_v155 V) j) (rd S32 (res_main_v156 V) j) (rd S32 (res_main_v162 V) j) (rd S32 (res_main_v163 V) j) rfl rfl rfl rfl rfl rfl rfl)

/-- The first split. -/
theorem hash_split1 (j : S32x2.Idx) :
    ((rd S32x2 (res_main_v356 V) j : BitVec 32), (rd S32x2 (res_main_v360 V) j : BitVec 32)) = tfS (rd S32x2 (broadcastInDim S32x2 ![0, 1] bcast_S32x1_S32x2_0_1 (res_main_v180 V)) j) (rd S32x2 (broadcastInDim S32x2 ![0, 1] bcast_S32x1_S32x2_0_1 (res_main_v181 V)) j) (BitVec.ofNat 32 (j 1).val) :=
  tf_of (k1 := (rd S32x2 (broadcastInDim S32x2 ![0, 1] bcast_S32x1_S32x2_0_1 (res_main_v180 V)) j)) (k2 := (rd S32x2 (broadcastInDim S32x2 ![0, 1] bcast_S32x1_S32x2_0_1 (res_main_v181 V)) j)) (k3 := (rd S32x2 (broadcastInDim S32x2 ![0, 1] bcast_S32x1_S32x2_0_1 (res_main_v186 V)) j)) (x := (BitVec.ofNat 32 (j 1).val))
    (p1 := (rd S32x2 (res_main_v212 V) j)) (q1 := ((rd S32x2 (res_main_v211 V) j) <<< 6#32 ||| (rd S32x2 (res_main_v211 V) j) >>> 26#32) ^^^ (rd S32x2 (res_main_v212 V) j))
    (p2 := (rd S32x2 (res_main_v246 V) j)) (q2 := ((rd S32x2 (res_main_v245 V) j) <<< 24#32 ||| (rd S32x2 (res_main_v245 V) j) >>> 8#32) ^^^ (rd S32x2 (res_main_v246 V) j))
    (p3 := (rd S32x2 (res_main_v280 V) j)) (q3 := ((rd S32x2 (res_main_v279 V) j) <<< 6#32 ||| (rd S32x2 (res_main_v279 V) j) >>> 26#32) ^^^ (rd S32x2 (res_main_v280 V) j))
    (p4 := (rd S32x2 (res_main_v314 V) j)) (q4 := ((rd S32x2 (res_main_v313 V) j) <<< 24#32 ||| (rd S32x2 (res_main_v313 V) j) >>> 8#32) ^^^ (rd S32x2 (res_main_v314 V) j))
    (p5 := (rd S32x2 (res_main_v348 V) j)) (q5 := ((rd S32x2 (res_main_v347 V) j) <<< 6#32 ||| (rd S32x2 (res_main_v347 V) j) >>> 26#32) ^^^ (rd S32x2 (res_main_v348 V) j))
    (c1 := (rd S32x2 (res_main_v190 V) j)) rfl rfl
    (odd_of (rd S32x2 (res_main_v191 V) j) (rd S32x2 (res_main_v197 V) j) (rd S32x2 (res_main_v198 V) j) (rd S32x2 (res_main_v204 V) j) (rd S32x2 (res_main_v205 V) j) (rd S32x2 (res_main_v211 V) j) (rd S32x2 (res_main_v212 V) j) rfl rfl rfl rfl rfl rfl rfl)
    (c2 := (rd S32x2 (res_main_v224 V) j)) rfl
    (even_of (rd S32x2 (res_main_v225 V) j) (rd S32x2 (res_main_v231 V) j) (rd S32x2 (res_main_v232 V) j) (rd S32x2 (res_main_v238 V) j) (rd S32x2 (res_main_v239 V) j) (rd S32x2 (res_main_v245 V) j) (rd S32x2 (res_main_v246 V) j) rfl rfl rfl rfl rfl rfl rfl)
    (c3 := (rd S32x2 (res_main_v258 V) j)) rfl
    (odd_of (rd S32x2 (res_main_v259 V) j) (rd S32x2 (res_main_v265 V) j) (rd S32x2 (res_main_v266 V) j) (rd S32x2 (res_main_v272 V) j) (rd S32x2 (res_main_v273 V) j) (rd S32x2 (res_main_v279 V) j) (rd S32x2 (res_main_v280 V) j) rfl rfl rfl rfl rfl rfl rfl)
    (c4 := (rd S32x2 (res_main_v292 V) j)) rfl
    (even_of (rd S32x2 (res_main_v293 V) j) (rd S32x2 (res_main_v299 V) j) (rd S32x2 (res_main_v300 V) j) (rd S32x2 (res_main_v306 V) j) (rd S32x2 (res_main_v307 V) j) (rd S32x2 (res_main_v313 V) j) (rd S32x2 (res_main_v314 V) j) rfl rfl rfl rfl rfl rfl rfl)
    (c5 := (rd S32x2 (res_main_v326 V) j)) rfl
    (odd_of (rd S32x2 (res_main_v327 V) j) (rd S32x2 (res_main_v333 V) j) (rd S32x2 (res_main_v334 V) j) (rd S32x2 (res_main_v340 V) j) (rd S32x2 (res_main_v341 V) j) (rd S32x2 (res_main_v347 V) j) (rd S32x2 (res_main_v348 V) j) rfl rfl rfl rfl rfl rfl rfl)

/-- The second split. -/
theorem hash_split2 (j : S32x2.Idx) :
    ((rd S32x2 (res_main_v721 V) j : BitVec 32), (rd S32x2 (res_main_v725 V) j : BitVec 32)) = tfS (rd S32x2 (broadcastInDim S32x2 ![0, 1] bcast_S32x1_S32x2_0_1 (res_main_v545 V)) j) (rd S32x2 (broadcastInDim S32x2 ![0, 1] bcast_S32x1_S32x2_0_1 (res_main_v546 V)) j) (BitVec.ofNat 32 (j 1).val) :=
  tf_of (k1 := (rd S32x2 (broadcastInDim S32x2 ![0, 1] bcast_S32x1_S32x2_0_1 (res_main_v545 V)) j)) (k2 := (rd S32x2 (broadcastInDim S32x2 ![0, 1] bcast_S32x1_S32x2_0_1 (res_main_v546 V)) j)) (k3 := (rd S32x2 (broadcastInDim S32x2 ![0, 1] bcast_S32x1_S32x2_0_1 (res_main_v551 V)) j)) (x := (BitVec.ofNat 32 (j 1).val))
    (p1 := (rd S32x2 (res_main_v577 V) j)) (q1 := ((rd S32x2 (res_main_v576 V) j) <<< 6#32 ||| (rd S32x2 (res_main_v576 V) j) >>> 26#32) ^^^ (rd S32x2 (res_main_v577 V) j))
    (p2 := (rd S32x2 (res_main_v611 V) j)) (q2 := ((rd S32x2 (res_main_v610 V) j) <<< 24#32 ||| (rd S32x2 (res_main_v610 V) j) >>> 8#32) ^^^ (rd S32x2 (res_main_v611 V) j))
    (p3 := (rd S32x2 (res_main_v645 V) j)) (q3 := ((rd S32x2 (res_main_v644 V) j) <<< 6#32 ||| (rd S32x2 (res_main_v644 V) j) >>> 26#32) ^^^ (rd S32x2 (res_main_v645 V) j))
    (p4 := (rd S32x2 (res_main_v679 V) j)) (q4 := ((rd S32x2 (res_main_v678 V) j) <<< 24#32 ||| (rd S32x2 (res_main_v678 V) j) >>> 8#32) ^^^ (rd S32x2 (res_main_v679 V) j))
    (p5 := (rd S32x2 (res_main_v713 V) j)) (q5 := ((rd S32x2 (res_main_v712 V) j) <<< 6#32 ||| (rd S32x2 (res_main_v712 V) j) >>> 26#32) ^^^ (rd S32x2 (res_main_v713 V) j))
    (c1 := (rd S32x2 (res_main_v555 V) j)) rfl rfl
    (odd_of (rd S32x2 (res_main_v556 V) j) (rd S32x2 (res_main_v562 V) j) (rd S32x2 (res_main_v563 V) j) (rd S32x2 (res_main_v569 V) j) (rd S32x2 (res_main_v570 V) j) (rd S32x2 (res_main_v576 V) j) (rd S32x2 (res_main_v577 V) j) rfl rfl rfl rfl rfl rfl rfl)
    (c2 := (rd S32x2 (res_main_v589 V) j)) rfl
    (even_of (rd S32x2 (res_main_v590 V) j) (rd S32x2 (res_main_v596 V) j) (rd S32x2 (res_main_v597 V) j) (rd S32x2 (res_main_v603 V) j) (rd S32x2 (res_main_v604 V) j) (rd S32x2 (res_main_v610 V) j) (rd S32x2 (res_main_v611 V) j) rfl rfl rfl rfl rfl rfl rfl)
    (c3 := (rd S32x2 (res_main_v623 V) j)) rfl
    (odd_of (rd S32x2 (res_main_v624 V) j) (rd S32x2 (res_main_v630 V) j) (rd S32x2 (res_main_v631 V) j) (rd S32x2 (res_main_v637 V) j) (rd S32x2 (res_main_v638 V) j) (rd S32x2 (res_main_v644 V) j) (rd S32x2 (res_main_v645 V) j) rfl rfl rfl rfl rfl rfl rfl)
    (c4 := (rd S32x2 (res_main_v657 V) j)) rfl
    (even_of (rd S32x2 (res_main_v658 V) j) (rd S32x2 (res_main_v664 V) j) (rd S32x2 (res_main_v665 V) j) (rd S32x2 (res_main_v671 V) j) (rd S32x2 (res_main_v672 V) j) (rd S32x2 (res_main_v678 V) j) (rd S32x2 (res_main_v679 V) j) rfl rfl rfl rfl rfl rfl rfl)
    (c5 := (rd S32x2 (res_main_v691 V) j)) rfl
    (odd_of (rd S32x2 (res_main_v692 V) j) (rd S32x2 (res_main_v698 V) j) (rd S32x2 (res_main_v699 V) j) (rd S32x2 (res_main_v705 V) j) (rd S32x2 (res_main_v706 V) j) (rd S32x2 (res_main_v712 V) j) (rd S32x2 (res_main_v713 V) j) rfl rfl rfl rfl rfl rfl rfl)

/-- The first round's words, before they are combined. -/
theorem hash_bits1 (j : S32x8192.Idx) :
    ((rd S32x8192 (res_main_v530 V) j + (rd S32x8192 (broadcastInDim S32x8192 ![0, 1] bcast_S32x1_S32x8192_0_1 (res_main_v369 V)) j) : BitVec 32), (((rd S32x8192 (res_main_v529 V) j <<< 6#32 ||| rd S32x8192 (res_main_v529 V) j >>> 26#32) ^^^ rd S32x8192 (res_main_v530 V) j) + (rd S32x8192 (broadcastInDim S32x8192 ![0, 1] bcast_S32x1_S32x8192_0_1 (res_main_v365 V)) j) + 5#32 : BitVec 32)) = tfS (rd S32x8192 (broadcastInDim S32x8192 ![0, 1] bcast_S32x1_S32x8192_0_1 (res_main_v365 V)) j) (rd S32x8192 (broadcastInDim S32x8192 ![0, 1] bcast_S32x1_S32x8192_0_1 (res_main_v366 V)) j) (BitVec.ofNat 32 (j 1).val) :=
  tf_of (k1 := (rd S32x8192 (broadcastInDim S32x8192 ![0, 1] bcast_S32x1_S32x8192_0_1 (res_main_v365 V)) j)) (k2 := (rd S32x8192 (broadcastInDim S32x8192 ![0, 1] bcast_S32x1_S32x8192_0_1 (res_main_v366 V)) j)) (k3 := (rd S32x8192 (broadcastInDim S32x8192 ![0, 1] bcast_S32x1_S32x8192_0_1 (res_main_v369 V)) j)) (x := (BitVec.ofNat 32 (j 1).val))
    (p1 := (rd S32x8192 (res_main_v394 V) j)) (q1 := ((rd S32x8192 (res_main_v393 V) j) <<< 6#32 ||| (rd S32x8192 (res_main_v393 V) j) >>> 26#32) ^^^ (rd S32x8192 (res_main_v394 V) j))
    (p2 := (rd S32x8192 (res_main_v428 V) j)) (q2 := ((rd S32x8192 (res_main_v427 V) j) <<< 24#32 ||| (rd S32x8192 (res_main_v427 V) j) >>> 8#32) ^^^ (rd S32x8192 (res_main_v428 V) j))
    (p3 := (rd S32x8192 (res_main_v462 V) j)) (q3 := ((rd S32x8192 (res_main_v461 V) j) <<< 6#32 ||| (rd S32x8192 (res_main_v461 V) j) >>> 26#32) ^^^ (rd S32x8192 (res_main_v462 V) j))
    (p4 := (rd S32x8192 (res_main_v496 V) j)) (q4 := ((rd S32x8192 (res_main_v495 V) j) <<< 24#32 ||| (rd S32x8192 (res_main_v495 V) j) >>> 8#32) ^^^ (rd S32x8192 (res_main_v496 V) j))
    (p5 := (rd S32x8192 (res_main_v530 V) j)) (q5 := ((rd S32x8192 (res_main_v529 V) j) <<< 6#32 ||| (rd S32x8192 (res_main_v529 V) j) >>> 26#32) ^^^ (rd S32x8192 (res_main_v530 V) j))
    (c1 := (rd S32x8192 (res_main_v372 V) j)) rfl rfl
    (odd_of (rd S32x8192 (res_main_v373 V) j) (rd S32x8192 (res_main_v379 V) j) (rd S32x8192 (res_main_v380 V) j) (rd S32x8192 (res_main_v386 V) j) (rd S32x8192 (res_main_v387 V) j) (rd S32x8192 (res_main_v393 V) j) (rd S32x8192 (res_main_v394 V) j) rfl rfl rfl rfl rfl rfl rfl)
    (c2 := (rd S32x8192 (res_main_v406 V) j)) rfl
    (even_of (rd S32x8192 (res_main_v407 V) j) (rd S32x8192 (res_main_v413 V) j) (rd S32x8192 (res_main_v414 V) j) (rd S32x8192 (res_main_v420 V) j) (rd S32x8192 (res_main_v421 V) j) (rd S32x8192 (res_main_v427 V) j) (rd S32x8192 (res_main_v428 V) j) rfl rfl rfl rfl rfl rfl rfl)
    (c3 := (rd S32x8192 (res_main_v440 V) j)) rfl
    (odd_of (rd S32x8192 (res_main_v441 V) j) (rd S32x8192 (res_main_v447 V) j) (rd S32x8192 (res_main_v448 V) j) (rd S32x8192 (res_main_v454 V) j) (rd S32x8192 (res_main_v455 V) j) (rd S32x8192 (res_main_v461 V) j) (rd S32x8192 (res_main_v462 V) j) rfl rfl rfl rfl rfl rfl rfl)
    (c4 := (rd S32x8192 (res_main_v474 V) j)) rfl
    (even_of (rd S32x8192 (res_main_v475 V) j) (rd S32x8192 (res_main_v481 V) j) (rd S32x8192 (res_main_v482 V) j) (rd S32x8192 (res_main_v488 V) j) (rd S32x8192 (res_main_v489 V) j) (rd S32x8192 (res_main_v495 V) j) (rd S32x8192 (res_main_v496 V) j) rfl rfl rfl rfl rfl rfl rfl)
    (c5 := (rd S32x8192 (res_main_v508 V) j)) rfl
    (odd_of (rd S32x8192 (res_main_v509 V) j) (rd S32x8192 (res_main_v515 V) j) (rd S32x8192 (res_main_v516 V) j) (rd S32x8192 (res_main_v522 V) j) (rd S32x8192 (res_main_v523 V) j) (rd S32x8192 (res_main_v529 V) j) (rd S32x8192 (res_main_v530 V) j) rfl rfl rfl rfl rfl rfl rfl)

/-- The second round's words, before they are combined. -/
theorem hash_bits2 (j : S32x8192.Idx) :
    ((rd S32x8192 (res_main_v895 V) j + (rd S32x8192 (broadcastInDim S32x8192 ![0, 1] bcast_S32x1_S32x8192_0_1 (res_main_v734 V)) j) : BitVec 32), (((rd S32x8192 (res_main_v894 V) j <<< 6#32 ||| rd S32x8192 (res_main_v894 V) j >>> 26#32) ^^^ rd S32x8192 (res_main_v895 V) j) + (rd S32x8192 (broadcastInDim S32x8192 ![0, 1] bcast_S32x1_S32x8192_0_1 (res_main_v730 V)) j) + 5#32 : BitVec 32)) = tfS (rd S32x8192 (broadcastInDim S32x8192 ![0, 1] bcast_S32x1_S32x8192_0_1 (res_main_v730 V)) j) (rd S32x8192 (broadcastInDim S32x8192 ![0, 1] bcast_S32x1_S32x8192_0_1 (res_main_v731 V)) j) (BitVec.ofNat 32 (j 1).val) :=
  tf_of (k1 := (rd S32x8192 (broadcastInDim S32x8192 ![0, 1] bcast_S32x1_S32x8192_0_1 (res_main_v730 V)) j)) (k2 := (rd S32x8192 (broadcastInDim S32x8192 ![0, 1] bcast_S32x1_S32x8192_0_1 (res_main_v731 V)) j)) (k3 := (rd S32x8192 (broadcastInDim S32x8192 ![0, 1] bcast_S32x1_S32x8192_0_1 (res_main_v734 V)) j)) (x := (BitVec.ofNat 32 (j 1).val))
    (p1 := (rd S32x8192 (res_main_v759 V) j)) (q1 := ((rd S32x8192 (res_main_v758 V) j) <<< 6#32 ||| (rd S32x8192 (res_main_v758 V) j) >>> 26#32) ^^^ (rd S32x8192 (res_main_v759 V) j))
    (p2 := (rd S32x8192 (res_main_v793 V) j)) (q2 := ((rd S32x8192 (res_main_v792 V) j) <<< 24#32 ||| (rd S32x8192 (res_main_v792 V) j) >>> 8#32) ^^^ (rd S32x8192 (res_main_v793 V) j))
    (p3 := (rd S32x8192 (res_main_v827 V) j)) (q3 := ((rd S32x8192 (res_main_v826 V) j) <<< 6#32 ||| (rd S32x8192 (res_main_v826 V) j) >>> 26#32) ^^^ (rd S32x8192 (res_main_v827 V) j))
    (p4 := (rd S32x8192 (res_main_v861 V) j)) (q4 := ((rd S32x8192 (res_main_v860 V) j) <<< 24#32 ||| (rd S32x8192 (res_main_v860 V) j) >>> 8#32) ^^^ (rd S32x8192 (res_main_v861 V) j))
    (p5 := (rd S32x8192 (res_main_v895 V) j)) (q5 := ((rd S32x8192 (res_main_v894 V) j) <<< 6#32 ||| (rd S32x8192 (res_main_v894 V) j) >>> 26#32) ^^^ (rd S32x8192 (res_main_v895 V) j))
    (c1 := (rd S32x8192 (res_main_v737 V) j)) rfl rfl
    (odd_of (rd S32x8192 (res_main_v738 V) j) (rd S32x8192 (res_main_v744 V) j) (rd S32x8192 (res_main_v745 V) j) (rd S32x8192 (res_main_v751 V) j) (rd S32x8192 (res_main_v752 V) j) (rd S32x8192 (res_main_v758 V) j) (rd S32x8192 (res_main_v759 V) j) rfl rfl rfl rfl rfl rfl rfl)
    (c2 := (rd S32x8192 (res_main_v771 V) j)) rfl
    (even_of (rd S32x8192 (res_main_v772 V) j) (rd S32x8192 (res_main_v778 V) j) (rd S32x8192 (res_main_v779 V) j) (rd S32x8192 (res_main_v785 V) j) (rd S32x8192 (res_main_v786 V) j) (rd S32x8192 (res_main_v792 V) j) (rd S32x8192 (res_main_v793 V) j) rfl rfl rfl rfl rfl rfl rfl)
    (c3 := (rd S32x8192 (res_main_v805 V) j)) rfl
    (odd_of (rd S32x8192 (res_main_v806 V) j) (rd S32x8192 (res_main_v812 V) j) (rd S32x8192 (res_main_v813 V) j) (rd S32x8192 (res_main_v819 V) j) (rd S32x8192 (res_main_v820 V) j) (rd S32x8192 (res_main_v826 V) j) (rd S32x8192 (res_main_v827 V) j) rfl rfl rfl rfl rfl rfl rfl)
    (c4 := (rd S32x8192 (res_main_v839 V) j)) rfl
    (even_of (rd S32x8192 (res_main_v840 V) j) (rd S32x8192 (res_main_v846 V) j) (rd S32x8192 (res_main_v847 V) j) (rd S32x8192 (res_main_v853 V) j) (rd S32x8192 (res_main_v854 V) j) (rd S32x8192 (res_main_v860 V) j) (rd S32x8192 (res_main_v861 V) j) rfl rfl rfl rfl rfl rfl rfl)
    (c5 := (rd S32x8192 (res_main_v873 V) j)) rfl
    (odd_of (rd S32x8192 (res_main_v874 V) j) (rd S32x8192 (res_main_v880 V) j) (rd S32x8192 (res_main_v881 V) j) (rd S32x8192 (res_main_v887 V) j) (rd S32x8192 (res_main_v888 V) j) (rd S32x8192 (res_main_v894 V) j) (rd S32x8192 (res_main_v895 V) j) rfl rfl rfl rfl rfl rfl rfl)

end

end Cert.Proof
-- ==== Proof.RefWords.lean ====
/-
  The reference's random words: its keys, its splits and its two arrays of words are those of the word hash.
-/
module

public import proofs.«01_k».proof.Proof.Hash

@[expose] public section

namespace Cert.Proof

open Idealize.ShloMosaic Cert.ReferenceIdeal Cert.ReferenceIdeal.Gen Cert.ReferenceIdeal.Value

section
variable {F : FTy → Type} [FloatOps F] (V : Valuation τ sig (Elt F))

/-- The first words of the rows' keys. -/
theorem keyB_fst (j : S32x2.Idx) : rd S32x2 (broadcastInDim S32x2 ![0, 1] bcast_S32x1_S32x2_0_1 (res_main_v180 V)) j = (keyB (j 0).val).1 :=
  congrArg Prod.fst (hash_rows V _)
/-- The second words of the rows' keys. -/
theorem keyB_snd (j : S32x2.Idx) : rd S32x2 (broadcastInDim S32x2 ![0, 1] bcast_S32x1_S32x2_0_1 (res_main_v181 V)) j = (keyB (j 0).val).2 :=
  congrArg Prod.snd (hash_rows V _)

/-- The first split of a row's key. -/
theorem split1 (j : S32x2.Idx) : (rd S32x2 (res_main_v356 V) j, rd S32x2 (res_main_v360 V) j) = tfS (keyB (j 0).val).1 (keyB (j 0).val).2 (BitVec.ofNat 32 (j 1).val) := by
  rw [← keyB_fst V j, ← keyB_snd V j]; exact hash_split1 V j

/-- An index of a column cast to a vector. -/
theorem cast_col (i : S32.Idx) (k : S32x1.Idx) (hk : (k 0).val = (i 0).val) (h : S32x1.ShapeCasts S32) {α : Type} (x : S32x1.Idx → α) :
    shapeCast S32 x h i = x k := by
  unfold shapeCast
  refine congrArg x (Shape.reshapeEquiv_eq_of_rowMajor h ?_)
  rw [Shape.rowMajor_val_two, Shape.rowMajor_val_one]
  have h1 : (k 1).val = 0 := by have := (k 1).isLt; change (k 1).val < 1 at this; omega
  show (k 0).val * 1 + (k 1).val = (i 0).val
  omega

/-- The index of row `b` and column `q` of the splits. -/
def pairAt (b : Fin 32) (q : Fin 2) : S32x2.Idx := fun a => match a with | ⟨0, _⟩ => b | ⟨1, _⟩ => q

/-- A split's second column, spread over the rows. -/
theorem spread_col {α : Type} (x : S32x2.Idx → α) (j : S32x8192.Idx) :
    broadcastInDim S32x8192 ![0, 1] bcast_S32x1_S32x8192_0_1 (extractStridedSlice S32x1 ![0, 1] x slices_S32x2_S32x1_0_1) j = x (pairAt (j 0) 1) :=
  congrArg x (funext fun a => Fin.ext (match a with
    | ⟨0, _⟩ => Nat.zero_add _
    | ⟨1, _⟩ => rfl))

/-- A split's first column, spread over the columns. -/
theorem first_col {α : Type} (x : S32x2.Idx → α) (j : S32x2.Idx) :
    broadcastInDim S32x2 ![0, 1] bcast_S32x1_S32x2_0_1 (broadcastInDim S32x1 ![0] bcast_S32_S32x1_0
      (shapeCast S32 (extractStridedSlice S32x1 ![0, 0] x slices_S32x2_S32x1_0_0) shapeCasts_S32x1_S32)) j = x (pairAt (j 0) 0) :=
  (cast_col _ (fun a => match a with | ⟨0, _⟩ => (j 0 : Fin 32) | ⟨1, _⟩ => (0 : Fin 1)) rfl shapeCasts_S32x1_S32 _).trans
    (congrArg x (funext fun a => Fin.ext (match a with
      | ⟨0, _⟩ => Nat.zero_add _
      | ⟨1, _⟩ => rfl)))

/-- The first round's key, its first word. -/
theorem key1_fst (j : S32x8192.Idx) : rd S32x8192 (broadcastInDim S32x8192 ![0, 1] bcast_S32x1_S32x8192_0_1 (res_main_v365 V)) j = (key1 (j 0).val).1 := by
  have h := congrArg Prod.fst (split1 V (pairAt (j 0) 1))
  exact (spread_col (res_main_v356 V) j).trans h
/-- The first round's key, its second word. -/
theorem key1_snd (j : S32x8192.Idx) : rd S32x8192 (broadcastInDim S32x8192 ![0, 1] bcast_S32x1_S32x8192_0_1 (res_main_v366 V)) j = (key1 (j 0).val).2 := by
  have h := congrArg Prod.snd (split1 V (pairAt (j 0) 1))
  exact (spread_col (res_main_v360 V) j).trans h

/-- The first round's words. -/
theorem words1 (j : S32x8192.Idx) : rd S32x8192 (res_main_v543 V) j = bits1 (j 0).val (j 1).val := by
  have h := (hash_bits1 V j).trans (show _ = tfS (key1 (j 0).val).1 (key1 (j 0).val).2 (BitVec.ofNat 32 (j 1).val) by rw [key1_fst, key1_snd])
  unfold bits1 tfBitsS
  rw [← h]
  rfl

/-- The key the second round starts from, its first word. -/
theorem keyN_fst (j : S32x2.Idx) : rd S32x2 (broadcastInDim S32x2 ![0, 1] bcast_S32x1_S32x2_0_1 (res_main_v545 V)) j = (keyN (j 0).val).1 := by
  have h := congrArg Prod.fst (split1 V (pairAt (j 0) 0))
  exact (first_col (res_main_v356 V) j).trans h
/-- The key the second round starts from, its second word. -/
theorem keyN_snd (j : S32x2.Idx) : rd S32x2 (broadcastInDim S32x2 ![0, 1] bcast_S32x1_S32x2_0_1 (res_main_v546 V)) j = (keyN (j 0).val).2 := by
  have h := congrArg Prod.snd (split1 V (pairAt (j 0) 0))
  exact (first_col (res_main_v360 V) j).trans h

/-- The second split of a row's key. -/
theorem split2 (j : S32x2.Idx) : (rd S32x2 (res_main_v721 V) j, rd S32x2 (res_main_v725 V) j) = tfS (keyN (j 0).val).1 (keyN (j 0).val).2 (BitVec.ofNat 32 (j 1).val) := by
  rw [← keyN_fst V j, ← keyN_snd V j]; exact hash_split2 V j

/-- The second round's key, its first word. -/
theorem key2_fst (j : S32x8192.Idx) : rd S32x8192 (broadcastInDim S32x8192 ![0, 1] bcast_S32x1_S32x8192_0_1 (res_main_v730 V)) j = (key2 (j 0).val).1 := by
  have h := congrArg Prod.fst (split2 V (pairAt (j 0) 1))
  exact (spread_col (res_main_v721 V) j).trans h
/-- The second round's key, its second word. -/
theorem key2_snd (j : S32x8192.Idx) : rd S32x8192 (broadcastInDim S32x8192 ![0, 1] bcast_S32x1_S32x8192_0_1 (res_main_v731 V)) j = (key2 (j 0).val).2 := by
  have h := congrArg Prod.snd (split2 V (pairAt (j 0) 1))
  exact (spread_col (res_main_v725 V) j).trans h

/-- The second round's words. -/
theorem words2 (j : S32x8192.Idx) : rd S32x8192 (res_main_v908 V) j = bits2 (j 0).val (j 1).val := by
  have h := (hash_bits2 V j).trans (show _ = tfS (key2 (j 0).val).1 (key2 (j 0).val).2 (BitVec.ofNat 32 (j 1).val) by rw [key2_fst, key2_snd])
  unfold bits2 tfBitsS
  rw [← h]
  rfl

end

end Cert.Proof
-- ==== Proof.Sorts.lean ====
/-
  A stable sort's positions: item `p` lands at its rank.
-/
module

public import proofs.«01_k».proof.Proof.Value
public import Idealize.ShloMosaic.Lib.SortFacts

@[expose] public section

namespace Cert.Proof

open Idealize.ShloMosaic

/-- An increasing map of the first `n` numbers into themselves moves none. -/
theorem mono_id {n : ℕ} {f : ℕ → ℕ} (hl : ∀ i < n, f i < n) (hm : ∀ i j, i < j → j < n → f i < f j) {i : ℕ} (hi : i < n) : f i = i := by
  have step : ∀ k i, i + k < n → f i + k ≤ f (i + k) := by
    intro k
    induction k with
    | zero => intro i _; simp
    | succ k ih =>
      intro i h
      have h1 := ih i (by omega)
      have h2 := hm (i + k) (i + (k + 1)) (by omega) h
      omega
  have h1 := step i 0 (by omega)
  have h2 := step (n - 1 - i) i (by omega)
  have h3 := hl (i + (n - 1 - i)) (by omega)
  rw [Nat.zero_add] at h1
  omega

section
variable {n : ℕ} (G : Fin n → ℕ)

/-- Insertion before the later items keeps the order of key, then number. -/
theorem insert_ordered (R : Fin n → Fin n → Bool) (hR : ∀ a b, R a b = true ↔ G a < G b) (a : Fin n) (l : List (Fin n)) (ha : ∀ b ∈ l, a < b)
    (hl : l.Pairwise fun b c => G b < G c ∨ (G b = G c ∧ b < c)) :
    (insertBefore R a l).Pairwise fun b c => G b < G c ∨ (G b = G c ∧ b < c) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · exact .inl ((hR _ _).mp h)
      · exact hl.1 c hc'
    · rename_i h
      have hab : G a ≤ G b := not_lt.mp fun e => h ((hR _ _).mpr e)
      have hb : a < b := ha b List.mem_cons_self
      refine List.pairwise_cons.mpr ⟨fun c hc => ?_, List.pairwise_cons.mpr hl⟩
      rcases List.mem_cons.mp hc with rfl | hc'
      · omega
      · have := hl.1 c hc'
        omega

/-- A stable sort orders by key, then number. -/
theorem stable_ordered (R : Fin n → Fin n → Bool) (hR : ∀ a b, R a b = true ↔ G a < G b) (l : List (Fin n)) (hl : l.Pairwise (· < ·)) :
    (stableSort R l).Pairwise fun b c => G b < G c ∨ (G b = G c ∧ b < c) := by
  induction l with
  | nil => exact List.Pairwise.nil
  | cons a l ih =>
    rw [List.pairwise_cons] at hl
    unfold stableSort
    exact insert_ordered G R hR a _ (fun b hb => hl.1 b ((perm_stableSort R l).mem_iff.mp hb)) (ih hl.2)

/-- In a stable sort, what comes earlier has a smaller key, or an equal one and an earlier origin. -/
theorem sortedFrom_ordered (R : Fin n → Fin n → Bool) (hR : ∀ a b, R a b = true ↔ G a < G b) {i j : Fin n} (hij : i < j) :
    G (sortedFrom R i) < G (sortedFrom R j) ∨ (G (sortedFrom R i) = G (sortedFrom R j) ∧ sortedFrom R i < sortedFrom R j) := by
  have hp := List.pairwise_iff_get.mp (stable_ordered G R hR (List.finRange n) (List.pairwise_lt_finRange n))
  unfold sortedFrom
  exact hp _ _ (show i.val < j.val from hij)

end

/-- What a stable sort puts at place `k` is the item of rank `k`. -/
theorem srt_sortedFrom {n : ℕ} (g : ℕ → ℕ) (R : Fin n → Fin n → Bool) (hR : ∀ a b, R a b = true ↔ g a.val < g b.val) (k : Fin n) :
    srt n g (sortedFrom R k).val = k.val := by
  let f : ℕ → ℕ := fun i => if h : i < n then srt n g (sortedFrom R ⟨i, h⟩).val else 0
  have hf : ∀ i (h : i < n), f i = srt n g (sortedFrom R ⟨i, h⟩).val := fun i h => dif_pos h
  have h := mono_id (n := n) (f := f) (fun i h => by rw [hf i h]; exact srt_lt (Fin.isLt _))
    (fun i j hij hj => by
      rw [hf i (hij.trans hj), hf j hj, srt_mono (Fin.isLt _) (Fin.isLt _)]
      exact sortedFrom_ordered (fun a => g a.val) R hR (i := ⟨i, hij.trans hj⟩) (j := ⟨j, hj⟩) hij) k.isLt
  rw [hf k.val k.isLt] at h
  exact h

/-- So the item that a stable sort puts at item `p`'s rank is `p`. -/
theorem sortedFrom_srt {n : ℕ} (g : ℕ → ℕ) (R : Fin n → Fin n → Bool) (hR : ∀ a b, R a b = true ↔ g a.val < g b.val) {p : ℕ} (hp : p < n)
    (k : Fin n) (hk : k.val = srt n g p) : (sortedFrom R k).val = p :=
  srt_inj _ (Fin.isLt _) _ hp ((srt_sortedFrom g R hR k).trans hk)

/-- A one-to-one numbering is its own rank. -/
theorem srt_self {n : ℕ} {g e : ℕ → ℕ} (hl : ∀ p < n, g p < n) (he : ∀ y < n, e y < n) (hge : ∀ y < n, g (e y) = y) (heg : ∀ p < n, e (g p) = p)
    {p : ℕ} (hp : p < n) : srt n g p = g p := by
  have h := mono_id (n := n) (f := fun y => srt n g (e y)) (fun y hy => srt_lt (he y hy))
    (fun i j hij hj => by
      rw [srt_mono (he i (hij.trans hj)) (he j hj), hge i (hij.trans hj), hge j hj]; exact .inl hij) (hl p hp)
  simp only [heg p hp] at h
  exact h

end Cert.Proof
-- ==== Proof.RefValue.lean ====
/-
  The reference's results: the permutations, and their inverses.
-/
module

public import proofs.«01_k».proof.Proof.RefWords
public import proofs.«01_k».proof.Proof.Sorts
public import proofs.«01_k».proof.Proof.Tile

@[expose] public section

noncomputable section

namespace Cert.Proof

open Idealize.ShloMosaic Cert.ReferenceIdeal Cert.ReferenceIdeal.Gen Cert.ReferenceIdeal.Value

/-- The index of row `b`, column `k`. -/
def cellAt (b : Fin 32) (k : Fin 8192) : S32x8192.Idx := fun a => match a with | ⟨0, _⟩ => b | ⟨1, _⟩ => k

/-- An index is its row and its column. -/
theorem eq_cellAt (j : S32x8192.Idx) : j = cellAt (j 0) (j 1) := funext fun a => match a with | ⟨0, _⟩ => rfl | ⟨1, _⟩ => rfl

/-- A row's other cells. -/
theorem along_cellAt (b : Fin 32) (k q : Fin 8192) (h : 1 < S32x8192.rank) : (cellAt b k).along ⟨1, h⟩ q = cellAt b q :=
  funext fun a => match a with
    | ⟨0, _⟩ => Function.update_of_ne (by intro e; exact absurd (congrArg Fin.val e) Nat.zero_ne_one) _ _
    | ⟨1, _⟩ => Function.update_self _ _ _

/-- A number below `n`, as one of the first `n`. -/
theorem below {n a : ℕ} (h : a < n) : ∃ q : Fin n, q.val = a := ⟨⟨a, h⟩, rfl⟩

/-- A sort of each row by a key: what it puts at the rank of item `p` is item `p`'s second word. -/
theorem sort_at (cmp : BitVec 32 × BitVec 32 → BitVec 32 × BitVec 32 → BitVec 1) (x y : S32x8192.Idx → BitVec 32) (b : Fin 32) (g : ℕ → ℕ)
    (hcmp : ∀ k k' : Fin 8192, (cmp (x (cellAt b k), y (cellAt b k)) (x (cellAt b k'), y (cellAt b k')) == 1#1) = true ↔ g k.val < g k'.val)
    (k p : Fin 8192) (hk : k.val = srt 8192 g p.val) : (Host.sort2 S32x8192 1 cmp x y).2 (cellAt b k) = y (cellAt b p) := by
  have h1 : 1 < S32x8192.rank := Nat.one_lt_two
  let R : Fin 8192 → Fin 8192 → Bool := fun q q' => cmp (x ((cellAt b k).along ⟨1, h1⟩ q), y ((cellAt b k).along ⟨1, h1⟩ q))
    (x ((cellAt b k).along ⟨1, h1⟩ q'), y ((cellAt b k).along ⟨1, h1⟩ q')) == 1#1
  have hR : ∀ q q', R q q' = true ↔ g q.val < g q'.val := fun q q' => by
    show (cmp _ _ == 1#1) = true ↔ _
    rw [along_cellAt, along_cellAt]; exact hcmp q q'
  have hq : sortedFrom R k = p := Fin.ext (sortedFrom_srt g R hR p.isLt k hk)
  unfold Host.sort2
  rw [dif_pos h1]
  exact (congrArg (fun q => y ((cellAt b k).along ⟨1, h1⟩ q)) hq).trans (congrArg y (along_cellAt b k p h1))

/-- The unsigned order of words, as the sort's comparison reads it. -/
theorem ult_iff (a b : BitVec 32) : (IntOp.cmpi .ult a b == 1#1) = true ↔ a.toNat < b.toNat := by
  by_cases h : a.toNat < b.toNat
  · simp [IntOp.cmpi, BitVec.ult, h]
  · simp [IntOp.cmpi, BitVec.ult, h]

/-- A small number, read signed. -/
theorem toInt_small {n : ℕ} (h : n < 8192) : (BitVec.ofNat 32 n).toInt = n := by
  rw [BitVec.toInt_eq_toNat_of_lt (by rw [BitVec.toNat_ofNat]; omega), BitVec.toNat_ofNat, Nat.mod_eq_of_lt (by omega)]

/-- The signed order of small numbers. -/
theorem slt_iff {m n : ℕ} (hm : m < 8192) (hn : n < 8192) : (IntOp.cmpi .slt (BitVec.ofNat 32 m) (BitVec.ofNat 32 n) == 1#1) = true ↔ m < n := by
  by_cases h : m < n
  · simp [IntOp.cmpi, BitVec.slt, toInt_small hm, toInt_small hn, h]
  · simp [IntOp.cmpi, BitVec.slt, toInt_small hm, toInt_small hn, h]

/-- The permutation inverts its inverse, so a sort by it ranks each item at its own place. -/
theorem srt_permN (b : ℕ) {p : ℕ} (hp : p < 8192) : srt 8192 (permN b) p = permN b p := by
  have h1 : ∀ p < 8192, permN b p < 8192 := fun _ _ => permN_lt
  have h2 : ∀ p < 8192, dest b p < 8192 := fun _ h => dest_lt h
  have h3 : ∀ p < 8192, permN b (dest b p) = p := fun _ h => permN_dest h
  have h4 : ∀ p < 8192, dest b (permN b p) = p := fun _ h => dest_permN h
  exact srt_self h1 h2 h3 h4 hp

/-- A place as the rank of a rank. -/
theorem dest_eq (b p : ℕ) : dest b p = srt 8192 (fun p => (bits2 b p).toNat) (ord (bits1 b) p) := by
  unfold dest
  generalize ord (bits1 b) p = q
  unfold ord
  rfl

section
variable {F : FTy → Type} [FloatOps F] (V : Valuation τ sig (Elt F))

/-- After the first sort, the place of item `p` holds `p`. -/
theorem first_sorted (b : Fin 32) (k p : Fin 8192) (hk : k.val = ord (bits1 b.val) p.val) :
    rd S32x8192 (res_main_v544_1 V) (cellAt b k) = BitVec.ofNat 32 p.val :=
  sort_at comparator_i32_i32_d1 (res_main_v543 V) (res_main_v179 V) b (fun p => (bits1 b.val p).toNat)
    (fun k k' => by
      have e : ∀ k : Fin 8192, rd S32x8192 (res_main_v543 V) (cellAt b k) = bits1 b.val k.val := fun k => words1 V (cellAt b k)
      show (IntOp.cmpi .ult (rd S32x8192 (res_main_v543 V) (cellAt b k)) (rd S32x8192 (res_main_v543 V) (cellAt b k')) == 1#1) = true ↔ _
      rw [e, e]
      exact ult_iff _ _) k p hk

/-- The second sort's result is the permutations. -/
theorem second_sorted : ((Host.sort2 S32x8192 1 comparator_i32_i32_d1 (res_main_v908 V) (res_main_v544_1 V)).2 : S32x8192.Idx → BitVec 32) = perms := by
  funext j
  obtain ⟨b, k, rfl⟩ : ∃ b k, j = cellAt b k := ⟨j 0, j 1, eq_cellAt j⟩
  obtain ⟨p, hp⟩ : ∃ p : Fin 8192, p.val = permN b.val k.val := below (permN_lt (b := b.val) (n := k.val))
  obtain ⟨q, hq⟩ : ∃ q : Fin 8192, q.val = ord (bits1 b.val) p.val := below (ord_lt (g := bits1 b.val) p.isLt)
  have hk : k.val = srt 8192 (fun p => (bits2 b.val p).toNat) q.val := by
    rw [hq, ← dest_eq, hp, dest_permN k.isLt]
  have h := sort_at comparator_i32_i32_d1 (res_main_v908 V) (res_main_v544_1 V) b (fun p => (bits2 b.val p).toNat)
    (fun k k' => by
      have e : ∀ k : Fin 8192, rd S32x8192 (res_main_v908 V) (cellAt b k) = bits2 b.val k.val := fun k => words2 V (cellAt b k)
      show (IntOp.cmpi .ult (rd S32x8192 (res_main_v908 V) (cellAt b k)) (rd S32x8192 (res_main_v908 V) (cellAt b k')) == 1#1) = true ↔ _
      rw [e, e]
      exact ult_iff _ _) k q hk
  rw [h]
  refine (first_sorted V b q p hq).trans ?_
  rw [hp]
  rfl

/-- An `and` over ones is one. -/
theorem fold_ones {α : Type} (f : α → BitVec 1) (l : List α) (h : ∀ a, f a = 1#1) : l.foldl (fun r n => IntOp.andi r (f n)) 1#1 = 1#1 := by
  induction l with
  | nil => rfl
  | cons a l ih => rw [List.foldl_cons, h a]; exact ih

/-- So is an `and` over an axis. -/
theorem reduce_ones (x : S32x8192x1.Idx → BitVec 1) (h : ∀ i, x i = 1#1) :
    Host.reduce IntOp.andi x (constantI S_ 1 1#1) reducesTo_S32x8192x1_S32x8192_d2 h_S_ = fun _ => 1#1 := by
  funext j
  unfold Host.reduce
  exact fold_ones (fun n => x (S32x8192x1.rowMajor.symm n)) _ fun n => h _

/-- The permutations as a table of indices. -/
def permIdx : IVec S32x8192x1 32 := broadcastInDim S32x8192x1 ![0, 1] bcast_S32x8192_S32x8192x1_0_1 perms

/-- The gather's index at a place is the permutation's value there. -/
theorem permIdx_at (i : S32x8192x1.Idx) : permIdx i = BitVec.ofNat 32 (permN (i 0).val (i 1).val) := rfl

/-- No index is negative, so none is wrapped. -/
theorem wrapped : (res_main_call0_v4 V : IVec S32x8192x1 32) = permIdx := by
  have h : (res_main_v913 V : IVec S32x8192x1 32) = permIdx := by
    unfold res_main_v913 permIdx
    rw [second_sorted]
  unfold res_main_call0_v4
  rw [h]
  funext i
  show Scalar.select (IntOp.cmpi .slt (permIdx i) (BitVec.ofNat 32 0)) _ (permIdx i) = permIdx i
  have : IntOp.cmpi .slt (permIdx i) (BitVec.ofNat 32 0) ≠ 1#1 := by
    intro e
    rw [permIdx_at] at e
    have := (slt_iff permN_lt (by omega : 0 < 8192)).mp (by rw [e]; rfl)
    omega
  exact if_neg this

/-- Every index is in range. -/
theorem in_range (i : S32x8192x1.Idx) (w : BitVec 32) (hw : w = 8191#32) :
    IntOp.andi (IntOp.cmpi .sge (permIdx i) 0#32) (IntOp.cmpi .sle (permIdx i) w) = 1#1 := by
  have h := permN_lt (b := (i 0).val) (n := (i 1).val)
  rw [permIdx_at, hw]
  have h1 : IntOp.cmpi .sge (BitVec.ofNat 32 (permN (i 0).val (i 1).val)) 0#32 = 1#1 := by
    simp [IntOp.cmpi, BitVec.sle, toInt_small h]
  have h2 : IntOp.cmpi .sle (BitVec.ofNat 32 (permN (i 0).val (i 1).val)) 8191#32 = 1#1 := by
    have : (8191#32).toInt = 8191 := by decide
    have h3 : permN (i 0).val (i 1).val ≤ 8191 := by omega
    simp only [IntOp.cmpi, BitVec.sle, toInt_small h, this]
    simp [h3]
  rw [h1, h2]; rfl

/-- So the test that every index is in range holds everywhere. -/
theorem all_in_range : Host.reduce IntOp.andi
    (andi (cmpi .sge permIdx (broadcastInDim S32x8192x1 ![] bcast_S_S32x8192x1 (constantI S_ 32 0#32)))
      (cmpi .sle permIdx (broadcastInDim S32x8192x1 ![0, 1, 2] bcast_S1x1x1_S32x8192x1_0_1_2
        (broadcastInDim S1x1x1 ![2] bcast_S1_S1x1x1_2 (constantI S1 32 8191#32)))))
    (constantI S_ 1 1#1) reducesTo_S32x8192x1_S32x8192_d2 h_S_ = fun _ => 1#1 :=
  reduce_ones _ fun i => in_range i 8191#32 rfl

/-- The table of numbers, read at an index, is the index's place in its row. -/
theorem table_at (i : S32x8192x1.Idx) :
    broadcastInDim S32x8192x1 ![0, 1, 2] bcast_S1x8192x1_S32x8192x1_0_1_2 (shapeCast S1x8192x1 (iotaInDim S8192 32 0) shapeCasts_S8192_S1x8192x1) i
      = BitVec.ofNat 32 (i 1).val := by
  show BitVec.ofNat 32 _ = _
  refine congrArg (BitVec.ofNat 32) ?_
  have e := Shape.reshapeEquiv_eq_of_rowMajor (s := S8192) (s' := S1x8192x1) shapeCasts_S8192_S1x8192x1
    (x := fun a => match a with | ⟨0, _⟩ => (0 : Fin 1) | ⟨1, _⟩ => (i 1 : Fin 8192) | ⟨2, _⟩ => (0 : Fin 1))
    (y := fun a => match a with | ⟨0, _⟩ => (i 1 : Fin 8192)) (by
      rw [Shape.rowMajor_val_three, Shape.rowMajor_val_one]
      show (i 1).val = (0 * 8192 + (i 1).val) * 1 + 0
      omega)
  have e' : (fun a : Fin S1x8192x1.rank => if h1 : S1x8192x1.size a = 1 then (⟨0, by omega⟩ : Fin (S1x8192x1.size a))
      else ⟨(i ((![0, 1, 2] : Fin 3 → Fin 3) a)).val, by
        rcases bcast_S1x8192x1_S32x8192x1_0_1_2.2 a with h2 | h2
        · exact absurd h2 h1
        · rw [h2]; exact (i ((![0, 1, 2] : Fin 3 → Fin 3) a)).isLt⟩)
      = fun a => match a with | ⟨0, _⟩ => (0 : Fin 1) | ⟨1, _⟩ => (i 1 : Fin 8192) | ⟨2, _⟩ => (0 : Fin 1) :=
    funext fun a => match a with | ⟨0, _⟩ => rfl | ⟨1, _⟩ => rfl | ⟨2, _⟩ => rfl
  exact (congrArg (fun z => ((Shape.reshapeEquiv shapeCasts_S8192_S1x8192x1 z : S8192.Idx) 0).val) e').trans (congrArg (fun z : S8192.Idx => (z 0).val) e)

/-- The gather's place in the table: the index it reads, kept within the row. -/
theorem gather_place (j : S32x8192x1.Idx) :
    ((gather_S32x8192x1_S32x8192x1_S32x8192x1_2_1_0_0_1_2_111.operandIdx j permIdx) 1).val = permN (j 0).val (j 1).val := by
  show GatherDims.start _ j permIdx 1 + GatherDims.batchCoord _ j 1 + GatherDims.offCoord _ j 1 = _
  rw [GatherDims.batchCoord_eq_zero _ _ _ (by decide), GatherDims.offCoord_eq_zero _ _ _ (by decide)]
  unfold GatherDims.start
  rw [dif_pos (show (1 : Fin 3) ∈ gather_S32x8192x1_S32x8192x1_S32x8192x1_2_1_0_0_1_2_111.startIndexMap from List.mem_singleton.mpr rfl)]
  rw [permIdx_at, toInt_small permN_lt]
  have h := permN_lt (b := (j 0).val) (n := (j 1).val)
  show min ((permN (j 0).val (j 1).val : ℤ)).toNat (8192 - 1) + 0 + 0 = _
  rw [Int.toNat_natCast]
  omega

/-- Choosing where every test holds. -/
theorem select_ones {s : Shape} {α : Type} (a b : s.Idx → α) (i : s.Idx) : select (fun _ => 1#1) a b i = a i := by
  unfold select Scalar.select
  exact if_pos rfl

/-- What the gather brings is the permutations again. -/
theorem gathered : (res_main_v915 V : S32x8192.Idx → BitVec 32) = perms := by
  unfold res_main_v915
  rw [wrapped, all_in_range]
  funext j
  obtain ⟨b, k, rfl⟩ : ∃ b k, j = cellAt b k := ⟨j 0, j 1, eq_cellAt j⟩
  have e := Shape.reshapeEquiv_eq_of_rowMajor (s := S32x8192x1) (s' := S32x8192) shapeCasts_S32x8192x1_S32x8192
    (x := cellAt b k) (y := fun a => match a with | ⟨0, _⟩ => (b : Fin 32) | ⟨1, _⟩ => (k : Fin 8192) | ⟨2, _⟩ => (0 : Fin 1)) (by
      rw [Shape.rowMajor_val_three, Shape.rowMajor_val_two]
      show (b.val * 8192 + k.val) * 1 + 0 = b.val * 8192 + k.val
      omega)
  refine (congrArg _ e).trans ?_
  refine (select_ones _ _ _).trans ?_
  refine (table_at _).trans ?_
  rw [gather_place]
  rfl

/-- The last sort's result is the inverses. -/
theorem last_sorted : ((Host.sort2 S32x8192 1 comparator_i32_i32_d1_2 (res_main_v915 V) (res_main_call1_v0 V)).2 : S32x8192.Idx → BitVec 32) = invs := by
  rw [gathered]
  funext j
  obtain ⟨b, k, rfl⟩ : ∃ b k, j = cellAt b k := ⟨j 0, j 1, eq_cellAt j⟩
  obtain ⟨p, hp⟩ : ∃ p : Fin 8192, p.val = dest b.val k.val := below (dest_lt (b := b.val) k.isLt)
  have hk : k.val = srt 8192 (permN b.val) p.val := by rw [srt_permN b.val p.isLt, hp, permN_dest k.isLt]
  have h := sort_at comparator_i32_i32_d1_2 perms (res_main_call1_v0 V) b (permN b.val)
    (fun k k' => slt_iff permN_lt permN_lt) k p hk
  rw [h]
  show BitVec.ofNat 32 p.val = _
  rw [hp]
  rfl

end

end Cert.Proof
end
-- ==== Proof.RefRun.lean ====
/-
  The reference's run, over the reals and over the machine's words: the permutations and their inverses.
-/
module

public import proofs.«01_k».proof.Defs
public import proofs.«01_k».proof.Proof.RefValue

@[expose] public section

noncomputable section

namespace Cert.Proof

open Idealize.ShloMosaic Idealize.SL.Sem

/-- The reference's run, at any reading of the floats. -/
theorem run_referenceIdeal {F : FTy → Type} [FloatOps F] (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v909_1) = perms
        ∧ r.2.mem ((c.tc : Thread Cert.ReferenceIdeal.nD Cert.ReferenceIdeal.τ).loc Cert.ReferenceIdeal.main_v916) = invs
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h c => ⟨(h c).1.trans (second_sorted _), (h c).2.1.trans (last_sorted _), (h c).2.2⟩)
    (Cert.ReferenceIdeal.Value.run (F := F) m ρ)

/-- The reference's facts over its vocabulary. -/
instance refFacts₀ : Cert.Reference.Facts₀ where
  bcast_S_S32 := @Cert.ReferenceIdeal.Gen.bcast_S_S32
  bcast_S8192_S32x8192_1 := @Cert.ReferenceIdeal.Gen.bcast_S8192_S32x8192_1
  bcast_S32_S32x1_0 := @Cert.ReferenceIdeal.Gen.bcast_S32_S32x1_0
  bcast_S2_S1x2_1 := @Cert.ReferenceIdeal.Gen.bcast_S2_S1x2_1
  bcast_S_S32x1 := @Cert.ReferenceIdeal.Gen.bcast_S_S32x1
  bcast_S32x1_S32x2_0_1 := @Cert.ReferenceIdeal.Gen.bcast_S32x1_S32x2_0_1
  bcast_S1x2_S32x2_0_1 := @Cert.ReferenceIdeal.Gen.bcast_S1x2_S32x2_0_1
  bcast_S_S32x2 := @Cert.ReferenceIdeal.Gen.bcast_S_S32x2
  slices_S32x2_S32x1_0_0 := @Cert.ReferenceIdeal.Gen.slices_S32x2_S32x1_0_0
  shapeCasts_S32x1_S32 := @Cert.ReferenceIdeal.Gen.shapeCasts_S32x1_S32
  slices_S32x2_S32x1_0_1 := @Cert.ReferenceIdeal.Gen.slices_S32x2_S32x1_0_1
  bcast_S32x1_S32x8192_0_1 := @Cert.ReferenceIdeal.Gen.bcast_S32x1_S32x8192_0_1
  bcast_S_S32x8192 := @Cert.ReferenceIdeal.Gen.bcast_S_S32x8192
  shapeCasts_S8192_S1x8192x1 := @Cert.ReferenceIdeal.Gen.shapeCasts_S8192_S1x8192x1
  bcast_S1x8192x1_S32x8192x1_0_1_2 := @Cert.ReferenceIdeal.Gen.bcast_S1x8192x1_S32x8192x1_0_1_2
  bcast_S32x8192_S32x8192x1_0_1 := @Cert.ReferenceIdeal.Gen.bcast_S32x8192_S32x8192x1_0_1
  bcast_S_S32x8192x1 := @Cert.ReferenceIdeal.Gen.bcast_S_S32x8192x1
  bcast_S1_S1x1x1_2 := @Cert.ReferenceIdeal.Gen.bcast_S1_S1x1x1_2
  bcast_S1x1x1_S32x8192x1_0_1_2 := @Cert.ReferenceIdeal.Gen.bcast_S1x1x1_S32x8192x1_0_1_2
  reducesTo_S32x8192x1_S32x8192_d2 := @Cert.ReferenceIdeal.Gen.reducesTo_S32x8192x1_S32x8192_d2
  h_S_ := @Cert.ReferenceIdeal.Gen.h_S_
  shapeCasts_S32x8192x1_S32x8192 := @Cert.ReferenceIdeal.Gen.shapeCasts_S32x8192x1_S32x8192
  gather_S32x8192x1_S32x8192x1_S32x8192x1_2_1_0_0_1_2_111_wf := @Cert.ReferenceIdeal.Gen.gather_S32x8192x1_S32x8192x1_S32x8192x1_2_1_0_0_1_2_111_wf

/-- The reference's facts. -/
instance refFacts : Cert.Reference.Facts where

set_option maxHeartbeats 8000000 in
/-- The reference's run over the machine's words. -/
theorem run_reference (m : (ℓ : Loc Cert.Reference.nD Cert.Reference.τ Cert.Reference.sig) → Buf (Elt Bits) ℓ)
    (ρ : Dev Cert.Reference.nD → PrngReg) :
    θ_run (Cert.Reference.defs (F := Bits)) (onTc (τ := Cert.Reference.τ) (Cert.Reference.main (F := Bits))) ⟨m, fun _ => 0, ρ⟩
      fun r => ∀ c : Dev Cert.Reference.nD,
        r.2.mem ((c.tc : Thread Cert.Reference.nD Cert.Reference.τ).loc Cert.Reference.main_v909_1) = perms
        ∧ r.2.mem ((c.tc : Thread Cert.Reference.nD Cert.Reference.τ).loc Cert.Reference.main_v916) = invs
        ∧ r.2.mem ((c.tc : Thread Cert.Reference.nD Cert.Reference.τ).loc Cert.Reference.main_arg0)
          = m ((c.tc : Thread Cert.Reference.nD Cert.Reference.τ).loc Cert.Reference.main_arg0) :=
  run_referenceIdeal (F := Bits) m ρ

end Cert.Proof
end
-- ==== Proof.Frames.lean ====
/-
  The frames: both readings of the kernel and of the reference run, leave their argument as it was and every
  semaphore at zero.
-/
module

public import proofs.«01_k».proof.Defs
public import proofs.«01_k».proof.Proof.Launch
public import proofs.«01_k».proof.Proof.Gen.Kernel
public import proofs.«01_k».proof.Proof.RefRun
public import Idealize.ShloMosaic.Lib.Quiescent

@[expose] public section

noncomputable section

namespace Cert.Proof

open Idealize.ShloMosaic Idealize.SL.Sem

/-- The kernel's run leaves its argument and its semaphores as it must. -/
theorem frame_kernel : Cert.quiescent_Kernel := fun m ρ _ =>
  (θ_run Cert.KernelIdeal.defs _ _).mono (fun _ h => ⟨fun c => (h.1 c).1, h.2⟩) (run_main (F := Bits) m ρ)

/-- So does its reading over the reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference's run, read over the reals, leaves its argument as it was; it has no semaphores. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (run_referenceIdeal (F := Ideal) m ρ)

/-- So does the reference's run over the machine's words. -/
theorem frame_reference : Cert.quiescent_Reference := fun m ρ _ =>
  (θ_run Cert.Reference.defs _ _).mono (fun r h => ⟨fun c => (h c).2.2, sem_eq_zero_of_no_sems (by decide) r.2⟩) (run_reference m ρ)

end Cert.Proof
end
-- ==== Proof.Values.lean ====
/-
  The kernel's results are the reference's.
-/
module

public import proofs.«01_k».proof.Defs
public import proofs.«01_k».proof.Proof.Launch
public import proofs.«01_k».proof.Proof.Gen.Kernel
public import proofs.«01_k».proof.Proof.RefRun

@[expose] public section

noncomputable section

namespace Cert.Proof

open Idealize.ShloMosaic Idealize.SL.Sem

/-- Over the reals, both end with the permutations and their inverses. -/
theorem values_ideal : Cert.algebraic_KernelIdeal_ReferenceIdeal := fun m g m' g' _ _ =>
  ⟨fun _ => perms, fun _ => invs,
    (θ_run Cert.KernelIdeal.defs _ _).mono (fun _ h c => ⟨(h.1 c).2.1, (h.1 c).2.2, (h.1 c).1⟩) (run_main (F := Ideal) m g),
    run_referenceIdeal (F := Ideal) m' g'⟩

/-- So do they over the machine's words. -/
theorem values_bits : Cert.bitexact_Kernel_Reference := fun m g m' g' _ _ =>
  ⟨fun _ => perms, fun _ => invs,
    (θ_run Cert.KernelIdeal.defs _ _).mono (fun _ h c => ⟨(h.1 c).2.1, (h.1 c).2.2, (h.1 c).1⟩) (run_main (F := Bits) m g),
    run_reference m' g'⟩

end Cert.Proof
end
-- ==== Proof.lean ====
/-
  The certificate's claims, put together: the frames of the four programs, and that the kernel's results are the
  reference's, over the reals and over the machine's words.
-/
module

public import proofs.«01_k».proof.Defs
public import proofs.«01_k».proof.Proof.Frames
public import proofs.«01_k».proof.Proof.Values

@[expose] public section

namespace Cert.Proof

/-- Everything the certificate claims. -/
theorem claim : Cert.Claim :=
  ⟨Cert.Kernel.Gen.facts, Cert.KernelIdeal.Gen.facts, Cert.ReferenceIdeal.Gen.facts, refFacts,
    frame_kernel, frame_kernelIdeal, frame_referenceIdeal, frame_reference, trivial, values_ideal, values_bits⟩

end Cert.Proof
